-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_proj [hPre_finite_proj : Cert.Pre_finite_proj.Facts] (m : (ℓ : Loc Cert.ProjIdeal.nD Cert.ProjIdeal.τ Cert.ProjIdeal.sig) → Buf (Elt Ideal) ℓ) : Prop :=
  ∀ c : Dev Cert.ProjIdeal.nD,
    (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))) = (fun _ => 1#1)

def Pre_ReferenceProjIdeal (m : (ℓ : Loc Cert.ReferenceProjIdeal.nD Cert.ReferenceProjIdeal.τ Cert.ReferenceProjIdeal.sig) → Buf (Elt Ideal) ℓ) : Prop :=
  True

def Pre_ReferenceProjIdeal_finite_proj [hPre_finite_proj : Cert.Pre_finite_proj.Facts] (m : (ℓ : Loc Cert.ReferenceProjIdeal.nD Cert.ReferenceProjIdeal.τ Cert.ReferenceProjIdeal.sig) → Buf (Elt Ideal) ℓ) : Prop :=
  ∀ c : Dev Cert.ReferenceProjIdeal.nD,
    (Cert.Pre_finite_proj.fn (F := Ideal) (m ((c.tc : Thread Cert.ReferenceProjIdeal.nD Cert.ReferenceProjIdeal.τ).loc Cert.ReferenceProjIdeal.main_arg0)) (m ((c.tc : Thread Cert.ReferenceProjIdeal.nD Cert.ReferenceProjIdeal.τ).loc Cert.ReferenceProjIdeal.main_arg1)) (m ((c.tc : Thread Cert.ReferenceProjIdeal.nD Cert.ReferenceProjIdeal.τ).loc Cert.ReferenceProjIdeal.main_arg2)) (m ((c.tc : Thread Cert.ReferenceProjIdeal.nD Cert.ReferenceProjIdeal.τ).loc Cert.ReferenceProjIdeal.main_arg3)) (m ((c.tc : Thread Cert.ReferenceProjIdeal.nD Cert.ReferenceProjIdeal.τ).loc Cert.ReferenceProjIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_finite_moe [hPre_finite_moe : Cert.Pre_finite_moe.Facts] (m : (ℓ : Loc Cert.MoeIdeal.nD Cert.MoeIdeal.τ Cert.MoeIdeal.sig) → Buf (Elt Ideal) ℓ) : Prop :=
  ∀ c : Dev Cert.MoeIdeal.nD,
    (Cert.Pre_finite_moe.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))) = (fun _ => 1#1)

def Pre_ReferenceMoeIdeal (m : (ℓ : Loc Cert.ReferenceMoeIdeal.nD Cert.ReferenceMoeIdeal.τ Cert.ReferenceMoeIdeal.sig) → Buf (Elt Ideal) ℓ) : Prop :=
  True

def Pre_ReferenceMoeIdeal_finite_moe [hPre_finite_moe : Cert.Pre_finite_moe.Facts] (m : (ℓ : Loc Cert.ReferenceMoeIdeal.nD Cert.ReferenceMoeIdeal.τ Cert.ReferenceMoeIdeal.sig) → Buf (Elt Ideal) ℓ) : Prop :=
  ∀ c : Dev Cert.ReferenceMoeIdeal.nD,
    (Cert.Pre_finite_moe.fn (F := Ideal) (m ((c.tc : Thread Cert.ReferenceMoeIdeal.nD Cert.ReferenceMoeIdeal.τ).loc Cert.ReferenceMoeIdeal.main_arg0)) (m ((c.tc : Thread Cert.ReferenceMoeIdeal.nD Cert.ReferenceMoeIdeal.τ).loc Cert.ReferenceMoeIdeal.main_arg1)) (m ((c.tc : Thread Cert.ReferenceMoeIdeal.nD Cert.ReferenceMoeIdeal.τ).loc Cert.ReferenceMoeIdeal.main_arg2)) (m ((c.tc : Thread Cert.ReferenceMoeIdeal.nD Cert.ReferenceMoeIdeal.τ).loc Cert.ReferenceMoeIdeal.main_arg3)) (m ((c.tc : Thread Cert.ReferenceMoeIdeal.nD Cert.ReferenceMoeIdeal.τ).loc Cert.ReferenceMoeIdeal.main_arg4)) (m ((c.tc : Thread Cert.ReferenceMoeIdeal.nD Cert.ReferenceMoeIdeal.τ).loc Cert.ReferenceMoeIdeal.main_arg5)) (m ((c.tc : Thread Cert.ReferenceMoeIdeal.nD Cert.ReferenceMoeIdeal.τ).loc Cert.ReferenceMoeIdeal.main_arg6)) (m ((c.tc : Thread Cert.ReferenceMoeIdeal.nD Cert.ReferenceMoeIdeal.τ).loc Cert.ReferenceMoeIdeal.main_arg7)) (m ((c.tc : Thread Cert.ReferenceMoeIdeal.nD Cert.ReferenceMoeIdeal.τ).loc Cert.ReferenceMoeIdeal.main_arg8)) (m ((c.tc : Thread Cert.ReferenceMoeIdeal.nD Cert.ReferenceMoeIdeal.τ).loc Cert.ReferenceMoeIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjIdeal_pre_finite_proj [hProjIdeal : Cert.ProjIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_proj m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4))
      ∧ r.2.sem = fun _ => 0)

def quiescent_ReferenceProjIdeal_pre_finite_proj [hReferenceProjIdeal : Cert.ReferenceProjIdeal.Facts] [hPre_finite_proj : Cert.Pre_finite_proj.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal_finite_proj m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10)
      ∧ r.2.mem ((c.tc : Thread Cert.ReferenceMergeIdeal.nD Cert.ReferenceMergeIdeal.τ).loc Cert.ReferenceMergeIdeal.main_arg11) = m ((c.tc : Thread Cert.ReferenceMergeIdeal.nD Cert.ReferenceMergeIdeal.τ).loc Cert.ReferenceMergeIdeal.main_arg11)
      ∧ r.2.mem ((c.tc : Thread Cert.ReferenceMergeIdeal.nD Cert.ReferenceMergeIdeal.τ).loc Cert.ReferenceMergeIdeal.main_arg12) = m ((c.tc : Thread Cert.ReferenceMergeIdeal.nD Cert.ReferenceMergeIdeal.τ).loc Cert.ReferenceMergeIdeal.main_arg12)
      ∧ r.2.mem ((c.tc : Thread Cert.ReferenceMergeIdeal.nD Cert.ReferenceMergeIdeal.τ).loc Cert.ReferenceMergeIdeal.main_arg13) = m ((c.tc : Thread Cert.ReferenceMergeIdeal.nD Cert.ReferenceMergeIdeal.τ).loc Cert.ReferenceMergeIdeal.main_arg13)
      ∧ r.2.mem ((c.tc : Thread Cert.ReferenceMergeIdeal.nD Cert.ReferenceMergeIdeal.τ).loc Cert.ReferenceMergeIdeal.main_arg14) = m ((c.tc : Thread Cert.ReferenceMergeIdeal.nD Cert.ReferenceMergeIdeal.τ).loc Cert.ReferenceMergeIdeal.main_arg14)
      ∧ r.2.mem ((c.tc : Thread Cert.ReferenceMergeIdeal.nD Cert.ReferenceMergeIdeal.τ).loc Cert.ReferenceMergeIdeal.main_arg15) = m ((c.tc : Thread Cert.ReferenceMergeIdeal.nD Cert.ReferenceMergeIdeal.τ).loc Cert.ReferenceMergeIdeal.main_arg15))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ r.2.sem = fun _ => 0)

def quiescent_MoeIdeal_pre_finite_moe [hMoeIdeal : Cert.MoeIdeal.Facts] [hPre_finite_moe : Cert.Pre_finite_moe.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_finite_moe m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ r.2.sem = fun _ => 0)

def quiescent_ReferenceMoeIdeal [hReferenceMoeIdeal : Cert.ReferenceMoeIdeal.Facts] : Prop :=
  ∀ (m : (ℓ : Loc Cert.ReferenceMoeIdeal.nD Cert.ReferenceMoeIdeal.τ Cert.ReferenceMoeIdeal.sig) → Buf (Elt Ideal) ℓ) (g : Dev Cert.ReferenceMoeIdeal.nD → PrngReg), Pre_ReferenceMoeIdeal m →
    θ_run (Cert.ReferenceMoeIdeal.defs (F := Ideal)) (onTc (τ := Cert.ReferenceMoeIdeal.τ) (Cert.ReferenceMoeIdeal.main (F := Ideal))) ⟨m, fun _ => 0, g⟩ (fun r => (∀ c : Dev Cert.ReferenceMoeIdeal.nD,
      r.2.mem ((c.tc : Thread Cert.ReferenceMoeIdeal.nD Cert.ReferenceMoeIdeal.τ).loc Cert.ReferenceMoeIdeal.main_arg0) = m ((c.tc : Thread Cert.ReferenceMoeIdeal.nD Cert.ReferenceMoeIdeal.τ).loc Cert.ReferenceMoeIdeal.main_arg0)
      ∧ r.2.mem ((c.tc : Thread Cert.ReferenceMoeIdeal.nD Cert.ReferenceMoeIdeal.τ).loc Cert.ReferenceMoeIdeal.main_arg1) = m ((c.tc : Thread Cert.ReferenceMoeIdeal.nD Cert.ReferenceMoeIdeal.τ).loc Cert.ReferenceMoeIdeal.main_arg1)
      ∧ r.2.mem ((c.tc : Thread Cert.ReferenceMoeIdeal.nD Cert.ReferenceMoeIdeal.τ).loc Cert.ReferenceMoeIdeal.main_arg2) = m ((c.tc : Thread Cert.ReferenceMoeIdeal.nD Cert.ReferenceMoeIdeal.τ).loc Cert.ReferenceMoeIdeal.main_arg2)
      ∧ r.2.mem ((c.tc : Thread Cert.ReferenceMoeIdeal.nD Cert.ReferenceMoeIdeal.τ).loc Cert.ReferenceMoeIdeal.main_arg3) = m ((c.tc : Thread Cert.ReferenceMoeIdeal.nD Cert.ReferenceMoeIdeal.τ).loc Cert.ReferenceMoeIdeal.main_arg3)
      ∧ r.2.mem ((c.tc : Thread Cert.ReferenceMoeIdeal.nD Cert.ReferenceMoeIdeal.τ).loc Cert.ReferenceMoeIdeal.main_arg4) = m ((c.tc : Thread Cert.ReferenceMoeIdeal.nD Cert.ReferenceMoeIdeal.τ).loc Cert.ReferenceMoeIdeal.main_arg4)
      ∧ r.2.mem ((c.tc : Thread Cert.ReferenceMoeIdeal.nD Cert.ReferenceMoeIdeal.τ).loc Cert.ReferenceMoeIdeal.main_arg5) = m ((c.tc : Thread Cert.ReferenceMoeIdeal.nD Cert.ReferenceMoeIdeal.τ).loc Cert.ReferenceMoeIdeal.main_arg5)
      ∧ r.2.mem ((c.tc : Thread Cert.ReferenceMoeIdeal.nD Cert.ReferenceMoeIdeal.τ).loc Cert.ReferenceMoeIdeal.main_arg6) = m ((c.tc : Thread Cert.ReferenceMoeIdeal.nD Cert.ReferenceMoeIdeal.τ).loc Cert.ReferenceMoeIdeal.main_arg6)
      ∧ r.2.mem ((c.tc : Thread Cert.ReferenceMoeIdeal.nD Cert.ReferenceMoeIdeal.τ).loc Cert.ReferenceMoeIdeal.main_arg7) = m ((c.tc : Thread Cert.ReferenceMoeIdeal.nD Cert.ReferenceMoeIdeal.τ).loc Cert.ReferenceMoeIdeal.main_arg7)
      ∧ r.2.mem ((c.tc : Thread Cert.ReferenceMoeIdeal.nD Cert.ReferenceMoeIdeal.τ).loc Cert.ReferenceMoeIdeal.main_arg8) = m ((c.tc : Thread Cert.ReferenceMoeIdeal.nD Cert.ReferenceMoeIdeal.τ).loc Cert.ReferenceMoeIdeal.main_arg8)
      ∧ r.2.mem ((c.tc : Thread Cert.ReferenceMoeIdeal.nD Cert.ReferenceMoeIdeal.τ).loc Cert.ReferenceMoeIdeal.main_arg9) = m ((c.tc : Thread Cert.ReferenceMoeIdeal.nD Cert.ReferenceMoeIdeal.τ).loc Cert.ReferenceMoeIdeal.main_arg9))
      ∧ r.2.sem = fun _ => 0)

def quiescent_ReferenceMoeIdeal_pre_finite_moe [hReferenceMoeIdeal : Cert.ReferenceMoeIdeal.Facts] [hPre_finite_moe : Cert.Pre_finite_moe.Facts] : Prop :=
  ∀ (m : (ℓ : Loc Cert.ReferenceMoeIdeal.nD Cert.ReferenceMoeIdeal.τ Cert.ReferenceMoeIdeal.sig) → Buf (Elt Ideal) ℓ) (g : Dev Cert.ReferenceMoeIdeal.nD → PrngReg), Pre_ReferenceMoeIdeal_finite_moe m →
    θ_run (Cert.ReferenceMoeIdeal.defs (F := Ideal)) (onTc (τ := Cert.ReferenceMoeIdeal.τ) (Cert.ReferenceMoeIdeal.main (F := Ideal))) ⟨m, fun _ => 0, g⟩ (fun r => (∀ c : Dev Cert.ReferenceMoeIdeal.nD,
      r.2.mem ((c.tc : Thread Cert.ReferenceMoeIdeal.nD Cert.ReferenceMoeIdeal.τ).loc Cert.ReferenceMoeIdeal.main_arg0) = m ((c.tc : Thread Cert.ReferenceMoeIdeal.nD Cert.ReferenceMoeIdeal.τ).loc Cert.ReferenceMoeIdeal.main_arg0)
      ∧ r.2.mem ((c.tc : Thread Cert.ReferenceMoeIdeal.nD Cert.ReferenceMoeIdeal.τ).loc Cert.ReferenceMoeIdeal.main_arg1) = m ((c.tc : Thread Cert.ReferenceMoeIdeal.nD Cert.ReferenceMoeIdeal.τ).loc Cert.ReferenceMoeIdeal.main_arg1)
      ∧ r.2.mem ((c.tc : Thread Cert.ReferenceMoeIdeal.nD Cert.ReferenceMoeIdeal.τ).loc Cert.ReferenceMoeIdeal.main_arg2) = m ((c.tc : Thread Cert.ReferenceMoeIdeal.nD Cert.ReferenceMoeIdeal.τ).loc Cert.ReferenceMoeIdeal.main_arg2)
      ∧ r.2.mem ((c.tc : Thread Cert.ReferenceMoeIdeal.nD Cert.ReferenceMoeIdeal.τ).loc Cert.ReferenceMoeIdeal.main_arg3) = m ((c.tc : Thread Cert.ReferenceMoeIdeal.nD Cert.ReferenceMoeIdeal.τ).loc Cert.ReferenceMoeIdeal.main_arg3)
      ∧ r.2.mem ((c.tc : Thread Cert.ReferenceMoeIdeal.nD Cert.ReferenceMoeIdeal.τ).loc Cert.ReferenceMoeIdeal.main_arg4) = m ((c.tc : Thread Cert.ReferenceMoeIdeal.nD Cert.ReferenceMoeIdeal.τ).loc Cert.ReferenceMoeIdeal.main_arg4)
      ∧ r.2.mem ((c.tc : Thread Cert.ReferenceMoeIdeal.nD Cert.ReferenceMoeIdeal.τ).loc Cert.ReferenceMoeIdeal.main_arg5) = m ((c.tc : Thread Cert.ReferenceMoeIdeal.nD Cert.ReferenceMoeIdeal.τ).loc Cert.ReferenceMoeIdeal.main_arg5)
      ∧ r.2.mem ((c.tc : Thread Cert.ReferenceMoeIdeal.nD Cert.ReferenceMoeIdeal.τ).loc Cert.ReferenceMoeIdeal.main_arg6) = m ((c.tc : Thread Cert.ReferenceMoeIdeal.nD Cert.ReferenceMoeIdeal.τ).loc Cert.ReferenceMoeIdeal.main_arg6)
      ∧ r.2.mem ((c.tc : Thread Cert.ReferenceMoeIdeal.nD Cert.ReferenceMoeIdeal.τ).loc Cert.ReferenceMoeIdeal.main_arg7) = m ((c.tc : Thread Cert.ReferenceMoeIdeal.nD Cert.ReferenceMoeIdeal.τ).loc Cert.ReferenceMoeIdeal.main_arg7)
      ∧ r.2.mem ((c.tc : Thread Cert.ReferenceMoeIdeal.nD Cert.ReferenceMoeIdeal.τ).loc Cert.ReferenceMoeIdeal.main_arg8) = m ((c.tc : Thread Cert.ReferenceMoeIdeal.nD Cert.ReferenceMoeIdeal.τ).loc Cert.ReferenceMoeIdeal.main_arg8)
      ∧ r.2.mem ((c.tc : Thread Cert.ReferenceMoeIdeal.nD Cert.ReferenceMoeIdeal.τ).loc Cert.ReferenceMoeIdeal.main_arg9) = m ((c.tc : Thread Cert.ReferenceMoeIdeal.nD Cert.ReferenceMoeIdeal.τ).loc Cert.ReferenceMoeIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Proj_ProjIdeal : Prop :=
  True

def algebraic_ProjIdeal_ReferenceProjIdeal_pre_finite_proj [hProjIdeal : Cert.ProjIdeal.Facts] [hReferenceProjIdeal : Cert.ReferenceProjIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_ProjIdeal_finite_proj m →
    (∀ c : Dev Cert.ProjIdeal.nD,
      m' ((c.tc : Thread Cert.ReferenceProjIdeal.nD Cert.ReferenceProjIdeal.τ).loc Cert.ReferenceProjIdeal.main_arg0) = m ((c.tc : Thread Cert.ProjIdeal.nD Cert.ProjIdeal.τ).loc Cert.ProjIdeal.main_arg0)
      ∧ m' ((c.tc : Thread Cert.ReferenceProjIdeal.nD Cert.ReferenceProjIdeal.τ).loc Cert.ReferenceProjIdeal.main_arg1) = m ((c.tc : Thread Cert.ProjIdeal.nD Cert.ProjIdeal.τ).loc Cert.ProjIdeal.main_arg1)
      ∧ m' ((c.tc : Thread Cert.ReferenceProjIdeal.nD Cert.ReferenceProjIdeal.τ).loc Cert.ReferenceProjIdeal.main_arg2) = m ((c.tc : Thread Cert.ProjIdeal.nD Cert.ProjIdeal.τ).loc Cert.ProjIdeal.main_arg2)
      ∧ m' ((c.tc : Thread Cert.ReferenceProjIdeal.nD Cert.ReferenceProjIdeal.τ).loc Cert.ReferenceProjIdeal.main_arg3) = m ((c.tc : Thread Cert.ProjIdeal.nD Cert.ProjIdeal.τ).loc Cert.ProjIdeal.main_arg3)
      ∧ m' ((c.tc : Thread Cert.ReferenceProjIdeal.nD Cert.ReferenceProjIdeal.τ).loc Cert.ReferenceProjIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v15_0)) (v1 : (c : Dev Cert.ProjIdeal.nD) → Buf (Elt Ideal) ((c.tc : Thread Cert.ProjIdeal.nD Cert.ProjIdeal.τ).loc Cert.ProjIdeal.main_v15_1)) (v2 : (c : Dev Cert.ProjIdeal.nD) → Buf (Elt Ideal) ((c.tc : Thread Cert.ProjIdeal.nD Cert.ProjIdeal.τ).loc Cert.ProjIdeal.main_v15_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v15_0) = v0 c
          ∧ r.2.mem ((c.tc : Thread Cert.ProjIdeal.nD Cert.ProjIdeal.τ).loc Cert.ProjIdeal.main_v15_1) = v1 c
          ∧ r.2.mem ((c.tc : Thread Cert.ProjIdeal.nD Cert.ProjIdeal.τ).loc Cert.ProjIdeal.main_v15_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v83) = v0 c
          ∧ r.2.mem ((c.tc : Thread Cert.ReferenceProjIdeal.nD Cert.ReferenceProjIdeal.τ).loc Cert.ReferenceProjIdeal.main_v86) = v1 c
          ∧ r.2.mem ((c.tc : Thread Cert.ReferenceProjIdeal.nD Cert.ReferenceProjIdeal.τ).loc Cert.ReferenceProjIdeal.main_v78) = v2 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4))

def preserves_Merge_MergeIdeal : Prop :=
  True

def algebraic_MergeIdeal_ReferenceMergeIdeal [hMergeIdeal : Cert.MergeIdeal.Facts] [hReferenceMergeIdeal : Cert.ReferenceMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_MergeIdeal m →
    (∀ c : Dev Cert.MergeIdeal.nD,
      m' ((c.tc : Thread Cert.ReferenceMergeIdeal.nD Cert.ReferenceMergeIdeal.τ).loc Cert.ReferenceMergeIdeal.main_arg0) = m ((c.tc : Thread Cert.MergeIdeal.nD Cert.MergeIdeal.τ).loc Cert.MergeIdeal.main_arg0)
      ∧ m' ((c.tc : Thread Cert.ReferenceMergeIdeal.nD Cert.ReferenceMergeIdeal.τ).loc Cert.ReferenceMergeIdeal.main_arg1) = m ((c.tc : Thread Cert.MergeIdeal.nD Cert.MergeIdeal.τ).loc Cert.MergeIdeal.main_arg1)
      ∧ m' ((c.tc : Thread Cert.ReferenceMergeIdeal.nD Cert.ReferenceMergeIdeal.τ).loc Cert.ReferenceMergeIdeal.main_arg2) = m ((c.tc : Thread Cert.MergeIdeal.nD Cert.MergeIdeal.τ).loc Cert.MergeIdeal.main_arg2)
      ∧ m' ((c.tc : Thread Cert.ReferenceMergeIdeal.nD Cert.ReferenceMergeIdeal.τ).loc Cert.ReferenceMergeIdeal.main_arg3) = m ((c.tc : Thread Cert.MergeIdeal.nD Cert.MergeIdeal.τ).loc Cert.MergeIdeal.main_arg3)
      ∧ m' ((c.tc : Thread Cert.ReferenceMergeIdeal.nD Cert.ReferenceMergeIdeal.τ).loc Cert.ReferenceMergeIdeal.main_arg4) = m ((c.tc : Thread Cert.MergeIdeal.nD Cert.MergeIdeal.τ).loc Cert.MergeIdeal.main_arg4)
      ∧ m' ((c.tc : Thread Cert.ReferenceMergeIdeal.nD Cert.ReferenceMergeIdeal.τ).loc Cert.ReferenceMergeIdeal.main_arg5) = m ((c.tc : Thread Cert.MergeIdeal.nD Cert.MergeIdeal.τ).loc Cert.MergeIdeal.main_arg5)
      ∧ m' ((c.tc : Thread Cert.ReferenceMergeIdeal.nD Cert.ReferenceMergeIdeal.τ).loc Cert.ReferenceMergeIdeal.main_arg6) = m ((c.tc : Thread Cert.MergeIdeal.nD Cert.MergeIdeal.τ).loc Cert.MergeIdeal.main_arg6)
      ∧ m' ((c.tc : Thread Cert.ReferenceMergeIdeal.nD Cert.ReferenceMergeIdeal.τ).loc Cert.ReferenceMergeIdeal.main_arg7) = m ((c.tc : Thread Cert.MergeIdeal.nD Cert.MergeIdeal.τ).loc Cert.MergeIdeal.main_arg7)
      ∧ m' ((c.tc : Thread Cert.ReferenceMergeIdeal.nD Cert.ReferenceMergeIdeal.τ).loc Cert.ReferenceMergeIdeal.main_arg8) = m ((c.tc : Thread Cert.MergeIdeal.nD Cert.MergeIdeal.τ).loc Cert.MergeIdeal.main_arg8)
      ∧ m' ((c.tc : Thread Cert.ReferenceMergeIdeal.nD Cert.ReferenceMergeIdeal.τ).loc Cert.ReferenceMergeIdeal.main_arg9) = m ((c.tc : Thread Cert.MergeIdeal.nD Cert.MergeIdeal.τ).loc Cert.MergeIdeal.main_arg9)
      ∧ m' ((c.tc : Thread Cert.ReferenceMergeIdeal.nD Cert.ReferenceMergeIdeal.τ).loc Cert.ReferenceMergeIdeal.main_arg10) = m ((c.tc : Thread Cert.MergeIdeal.nD Cert.MergeIdeal.τ).loc Cert.MergeIdeal.main_arg10)
      ∧ m' ((c.tc : Thread Cert.ReferenceMergeIdeal.nD Cert.ReferenceMergeIdeal.τ).loc Cert.ReferenceMergeIdeal.main_arg11) = m ((c.tc : Thread Cert.MergeIdeal.nD Cert.MergeIdeal.τ).loc Cert.MergeIdeal.main_arg11)
      ∧ m' ((c.tc : Thread Cert.ReferenceMergeIdeal.nD Cert.ReferenceMergeIdeal.τ).loc Cert.ReferenceMergeIdeal.main_arg12) = m ((c.tc : Thread Cert.MergeIdeal.nD Cert.MergeIdeal.τ).loc Cert.MergeIdeal.main_arg12)
      ∧ m' ((c.tc : Thread Cert.ReferenceMergeIdeal.nD Cert.ReferenceMergeIdeal.τ).loc Cert.ReferenceMergeIdeal.main_arg13) = m ((c.tc : Thread Cert.MergeIdeal.nD Cert.MergeIdeal.τ).loc Cert.MergeIdeal.main_arg13)
      ∧ m' ((c.tc : Thread Cert.ReferenceMergeIdeal.nD Cert.ReferenceMergeIdeal.τ).loc Cert.ReferenceMergeIdeal.main_arg14) = m ((c.tc : Thread Cert.MergeIdeal.nD Cert.MergeIdeal.τ).loc Cert.MergeIdeal.main_arg14)
      ∧ m' ((c.tc : Thread Cert.ReferenceMergeIdeal.nD Cert.ReferenceMergeIdeal.τ).loc Cert.ReferenceMergeIdeal.main_arg15) = m ((c.tc : Thread Cert.MergeIdeal.nD Cert.MergeIdeal.τ).loc Cert.MergeIdeal.main_arg15)) →
    ∃ (v0 : (c : Dev Cert.MergeIdeal.nD) → Buf (Elt Ideal) ((c.tc : Thread Cert.MergeIdeal.nD Cert.MergeIdeal.τ).loc Cert.MergeIdeal.main_v23_0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v23_0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v99) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9)
          ∧ r.2.mem ((c.tc : Thread Cert.ReferenceMergeIdeal.nD Cert.ReferenceMergeIdeal.τ).loc Cert.ReferenceMergeIdeal.main_arg10) = m' ((c.tc : Thread Cert.ReferenceMergeIdeal.nD Cert.ReferenceMergeIdeal.τ).loc Cert.ReferenceMergeIdeal.main_arg10)
          ∧ r.2.mem ((c.tc : Thread Cert.ReferenceMergeIdeal.nD Cert.ReferenceMergeIdeal.τ).loc Cert.ReferenceMergeIdeal.main_arg11) = m' ((c.tc : Thread Cert.ReferenceMergeIdeal.nD Cert.ReferenceMergeIdeal.τ).loc Cert.ReferenceMergeIdeal.main_arg11)
          ∧ r.2.mem ((c.tc : Thread Cert.ReferenceMergeIdeal.nD Cert.ReferenceMergeIdeal.τ).loc Cert.ReferenceMergeIdeal.main_arg12) = m' ((c.tc : Thread Cert.ReferenceMergeIdeal.nD Cert.ReferenceMergeIdeal.τ).loc Cert.ReferenceMergeIdeal.main_arg12)
          ∧ r.2.mem ((c.tc : Thread Cert.ReferenceMergeIdeal.nD Cert.ReferenceMergeIdeal.τ).loc Cert.ReferenceMergeIdeal.main_arg13) = m' ((c.tc : Thread Cert.ReferenceMergeIdeal.nD Cert.ReferenceMergeIdeal.τ).loc Cert.ReferenceMergeIdeal.main_arg13)
          ∧ r.2.mem ((c.tc : Thread Cert.ReferenceMergeIdeal.nD Cert.ReferenceMergeIdeal.τ).loc Cert.ReferenceMergeIdeal.main_arg14) = m' ((c.tc : Thread Cert.ReferenceMergeIdeal.nD Cert.ReferenceMergeIdeal.τ).loc Cert.ReferenceMergeIdeal.main_arg14)
          ∧ r.2.mem ((c.tc : Thread Cert.ReferenceMergeIdeal.nD Cert.ReferenceMergeIdeal.τ).loc Cert.ReferenceMergeIdeal.main_arg15) = m' ((c.tc : Thread Cert.ReferenceMergeIdeal.nD Cert.ReferenceMergeIdeal.τ).loc Cert.ReferenceMergeIdeal.main_arg15))

def preserves_Moe_MoeIdeal : Prop :=
  True

def algebraic_MoeIdeal_ReferenceMoeIdeal_pre_finite_moe [hMoeIdeal : Cert.MoeIdeal.Facts] [hReferenceMoeIdeal : Cert.ReferenceMoeIdeal.Facts] [hPre_finite_moe : Cert.Pre_finite_moe.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.ReferenceMoeIdeal.nD Cert.ReferenceMoeIdeal.τ Cert.ReferenceMoeIdeal.sig) → Buf (Elt Ideal) ℓ) (g' : Dev Cert.ReferenceMoeIdeal.nD → PrngReg), Pre_MoeIdeal_finite_moe m →
    (∀ c : Dev Cert.MoeIdeal.nD,
      m' ((c.tc : Thread Cert.ReferenceMoeIdeal.nD Cert.ReferenceMoeIdeal.τ).loc Cert.ReferenceMoeIdeal.main_arg0) = m ((c.tc : Thread Cert.MoeIdeal.nD Cert.MoeIdeal.τ).loc Cert.MoeIdeal.main_arg0)
      ∧ m' ((c.tc : Thread Cert.ReferenceMoeIdeal.nD Cert.ReferenceMoeIdeal.τ).loc Cert.ReferenceMoeIdeal.main_arg1) = m ((c.tc : Thread Cert.MoeIdeal.nD Cert.MoeIdeal.τ).loc Cert.MoeIdeal.main_arg1)
      ∧ m' ((c.tc : Thread Cert.ReferenceMoeIdeal.nD Cert.ReferenceMoeIdeal.τ).loc Cert.ReferenceMoeIdeal.main_arg2) = m ((c.tc : Thread Cert.MoeIdeal.nD Cert.MoeIdeal.τ).loc Cert.MoeIdeal.main_arg2)
      ∧ m' ((c.tc : Thread Cert.ReferenceMoeIdeal.nD Cert.ReferenceMoeIdeal.τ).loc Cert.ReferenceMoeIdeal.main_arg3) = m ((c.tc : Thread Cert.MoeIdeal.nD Cert.MoeIdeal.τ).loc Cert.MoeIdeal.main_arg3)
      ∧ m' ((c.tc : Thread Cert.ReferenceMoeIdeal.nD Cert.ReferenceMoeIdeal.τ).loc Cert.ReferenceMoeIdeal.main_arg4) = m ((c.tc : Thread Cert.MoeIdeal.nD Cert.MoeIdeal.τ).loc Cert.MoeIdeal.main_arg4)
      ∧ m' ((c.tc : Thread Cert.ReferenceMoeIdeal.nD Cert.ReferenceMoeIdeal.τ).loc Cert.ReferenceMoeIdeal.main_arg5) = m ((c.tc : Thread Cert.MoeIdeal.nD Cert.MoeIdeal.τ).loc Cert.MoeIdeal.main_arg5)
      ∧ m' ((c.tc : Thread Cert.ReferenceMoeIdeal.nD Cert.ReferenceMoeIdeal.τ).loc Cert.ReferenceMoeIdeal.main_arg6) = m ((c.tc : Thread Cert.MoeIdeal.nD Cert.MoeIdeal.τ).loc Cert.MoeIdeal.main_arg6)
      ∧ m' ((c.tc : Thread Cert.ReferenceMoeIdeal.nD Cert.ReferenceMoeIdeal.τ).loc Cert.ReferenceMoeIdeal.main_arg7) = m ((c.tc : Thread Cert.MoeIdeal.nD Cert.MoeIdeal.τ).loc Cert.MoeIdeal.main_arg7)
      ∧ m' ((c.tc : Thread Cert.ReferenceMoeIdeal.nD Cert.ReferenceMoeIdeal.τ).loc Cert.ReferenceMoeIdeal.main_arg8) = m ((c.tc : Thread Cert.MoeIdeal.nD Cert.MoeIdeal.τ).loc Cert.MoeIdeal.main_arg8)
      ∧ m' ((c.tc : Thread Cert.ReferenceMoeIdeal.nD Cert.ReferenceMoeIdeal.τ).loc Cert.ReferenceMoeIdeal.main_arg9) = m ((c.tc : Thread Cert.MoeIdeal.nD Cert.MoeIdeal.τ).loc Cert.MoeIdeal.main_arg9)) →
    ∃ (v0 : (c : Dev Cert.MoeIdeal.nD) → Buf (Elt Ideal) ((c.tc : Thread Cert.MoeIdeal.nD Cert.MoeIdeal.τ).loc Cert.MoeIdeal.main_v11)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v11) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ θ_run (Cert.ReferenceMoeIdeal.defs (F := Ideal)) (onTc (τ := Cert.ReferenceMoeIdeal.τ) (Cert.ReferenceMoeIdeal.main (F := Ideal))) ⟨m', fun _ => 0, g'⟩ (fun r => ∀ c : Dev Cert.ReferenceMoeIdeal.nD,
          r.2.mem ((c.tc : Thread Cert.ReferenceMoeIdeal.nD Cert.ReferenceMoeIdeal.τ).loc Cert.ReferenceMoeIdeal.main_v115) = v0 c
          ∧ r.2.mem ((c.tc : Thread Cert.ReferenceMoeIdeal.nD Cert.ReferenceMoeIdeal.τ).loc Cert.ReferenceMoeIdeal.main_arg0) = m' ((c.tc : Thread Cert.ReferenceMoeIdeal.nD Cert.ReferenceMoeIdeal.τ).loc Cert.ReferenceMoeIdeal.main_arg0)
          ∧ r.2.mem ((c.tc : Thread Cert.ReferenceMoeIdeal.nD Cert.ReferenceMoeIdeal.τ).loc Cert.ReferenceMoeIdeal.main_arg1) = m' ((c.tc : Thread Cert.ReferenceMoeIdeal.nD Cert.ReferenceMoeIdeal.τ).loc Cert.ReferenceMoeIdeal.main_arg1)
          ∧ r.2.mem ((c.tc : Thread Cert.ReferenceMoeIdeal.nD Cert.ReferenceMoeIdeal.τ).loc Cert.ReferenceMoeIdeal.main_arg2) = m' ((c.tc : Thread Cert.ReferenceMoeIdeal.nD Cert.ReferenceMoeIdeal.τ).loc Cert.ReferenceMoeIdeal.main_arg2)
          ∧ r.2.mem ((c.tc : Thread Cert.ReferenceMoeIdeal.nD Cert.ReferenceMoeIdeal.τ).loc Cert.ReferenceMoeIdeal.main_arg3) = m' ((c.tc : Thread Cert.ReferenceMoeIdeal.nD Cert.ReferenceMoeIdeal.τ).loc Cert.ReferenceMoeIdeal.main_arg3)
          ∧ r.2.mem ((c.tc : Thread Cert.ReferenceMoeIdeal.nD Cert.ReferenceMoeIdeal.τ).loc Cert.ReferenceMoeIdeal.main_arg4) = m' ((c.tc : Thread Cert.ReferenceMoeIdeal.nD Cert.ReferenceMoeIdeal.τ).loc Cert.ReferenceMoeIdeal.main_arg4)
          ∧ r.2.mem ((c.tc : Thread Cert.ReferenceMoeIdeal.nD Cert.ReferenceMoeIdeal.τ).loc Cert.ReferenceMoeIdeal.main_arg5) = m' ((c.tc : Thread Cert.ReferenceMoeIdeal.nD Cert.ReferenceMoeIdeal.τ).loc Cert.ReferenceMoeIdeal.main_arg5)
          ∧ r.2.mem ((c.tc : Thread Cert.ReferenceMoeIdeal.nD Cert.ReferenceMoeIdeal.τ).loc Cert.ReferenceMoeIdeal.main_arg6) = m' ((c.tc : Thread Cert.ReferenceMoeIdeal.nD Cert.ReferenceMoeIdeal.τ).loc Cert.ReferenceMoeIdeal.main_arg6)
          ∧ r.2.mem ((c.tc : Thread Cert.ReferenceMoeIdeal.nD Cert.ReferenceMoeIdeal.τ).loc Cert.ReferenceMoeIdeal.main_arg7) = m' ((c.tc : Thread Cert.ReferenceMoeIdeal.nD Cert.ReferenceMoeIdeal.τ).loc Cert.ReferenceMoeIdeal.main_arg7)
          ∧ r.2.mem ((c.tc : Thread Cert.ReferenceMoeIdeal.nD Cert.ReferenceMoeIdeal.τ).loc Cert.ReferenceMoeIdeal.main_arg8) = m' ((c.tc : Thread Cert.ReferenceMoeIdeal.nD Cert.ReferenceMoeIdeal.τ).loc Cert.ReferenceMoeIdeal.main_arg8)
          ∧ r.2.mem ((c.tc : Thread Cert.ReferenceMoeIdeal.nD Cert.ReferenceMoeIdeal.τ).loc Cert.ReferenceMoeIdeal.main_arg9) = m' ((c.tc : Thread Cert.ReferenceMoeIdeal.nD Cert.ReferenceMoeIdeal.τ).loc Cert.ReferenceMoeIdeal.main_arg9))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hReferenceProjIdeal : Cert.ReferenceProjIdeal.Facts) (hMerge : Cert.Merge.Facts) (hMergeIdeal : Cert.MergeIdeal.Facts) (hReferenceMergeIdeal : Cert.ReferenceMergeIdeal.Facts) (hMoe : Cert.Moe.Facts) (hMoeIdeal : Cert.MoeIdeal.Facts) (hReferenceMoeIdeal : Cert.ReferenceMoeIdeal.Facts) (hPre_finite : Cert.Pre_finite.Facts) (hPre_finite_proj : Cert.Pre_finite_proj.Facts) (hPre_finite_moe : Cert.Pre_finite_moe.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Proj (hProj := hProj)
    ∧ quiescent_ProjIdeal (hProjIdeal := hProjIdeal)
    ∧ quiescent_ProjIdeal_pre_finite_proj (hProjIdeal := hProjIdeal) (hPre_finite_proj := hPre_finite_proj)
    ∧ quiescent_ReferenceProjIdeal (hReferenceProjIdeal := hReferenceProjIdeal)
    ∧ quiescent_ReferenceProjIdeal_pre_finite_proj (hReferenceProjIdeal := hReferenceProjIdeal) (hPre_finite_proj := hPre_finite_proj)
    ∧ quiescent_Merge (hMerge := hMerge)
    ∧ quiescent_MergeIdeal (hMergeIdeal := hMergeIdeal)
    ∧ quiescent_ReferenceMergeIdeal (hReferenceMergeIdeal := hReferenceMergeIdeal)
    ∧ quiescent_Moe (hMoe := hMoe)
    ∧ quiescent_MoeIdeal (hMoeIdeal := hMoeIdeal)
    ∧ quiescent_MoeIdeal_pre_finite_moe (hMoeIdeal := hMoeIdeal) (hPre_finite_moe := hPre_finite_moe)
    ∧ quiescent_ReferenceMoeIdeal (hReferenceMoeIdeal := hReferenceMoeIdeal)
    ∧ quiescent_ReferenceMoeIdeal_pre_finite_moe (hReferenceMoeIdeal := hReferenceMoeIdeal) (hPre_finite_moe := hPre_finite_moe)
    ∧ preserves_Kernel_KernelIdeal
    ∧ algebraic_KernelIdeal_ReferenceIdeal_pre_finite (hKernelIdeal := hKernelIdeal) (hReferenceIdeal := hReferenceIdeal) (hPre_finite := hPre_finite)
    ∧ preserves_Proj_ProjIdeal
    ∧ algebraic_ProjIdeal_ReferenceProjIdeal_pre_finite_proj (hProjIdeal := hProjIdeal) (hReferenceProjIdeal := hReferenceProjIdeal) (hPre_finite_proj := hPre_finite_proj)
    ∧ preserves_Merge_MergeIdeal
    ∧ algebraic_MergeIdeal_ReferenceMergeIdeal (hMergeIdeal := hMergeIdeal) (hReferenceMergeIdeal := hReferenceMergeIdeal)
    ∧ preserves_Moe_MoeIdeal
    ∧ algebraic_MoeIdeal_ReferenceMoeIdeal_pre_finite_moe (hMoeIdeal := hMoeIdeal) (hReferenceMoeIdeal := hReferenceMoeIdeal) (hPre_finite_moe := hPre_finite_moe)
-- ==== Pre_finite.lean ====
abbrev S16384x3072 : Shape := ⟨2, ![16384, 3072]⟩
abbrev S16384x1024 : Shape := ⟨2, ![16384, 1024]⟩
abbrev S16384x128 : Shape := ⟨2, ![16384, 128]⟩
abbrev S128 : Shape := ⟨1, ![128]⟩
abbrev S16x1024x256 : Shape := ⟨3, ![16, 1024, 256]⟩
abbrev S16x256x1024 : Shape := ⟨3, ![16, 256, 1024]⟩
abbrev S_ : Shape := ⟨0, ![]⟩

class Facts : Prop where
  bitsLt_bf16_f32 : FTy.bits .bf16 < FTy.bits .f32
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S16384x3072 .bf16) (main_arg1 : FVec F S16384x1024 .bf16) (main_arg2 : FVec F S16384x128 .f32) (main_arg3 : FVec F S128 .f32) (main_arg4 : FVec F S16x1024x256 .f32) (main_arg5 : FVec F S16x1024x256 .f32) (main_arg6 : FVec F S16x256x1024 .f32) : IVec S_ 1 :=
  let main_v0 : FVec F S16384x3072 .f32 := (extf .f32 · bitsLt_bf16_f32) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  let main_c : IVec S_ 1 := constantI S_ 1 1#1
  let main_v4 : IVec S_ 1 := (fun x v => Host.reduce IntOp.andi x v reducesTo_S16384x3072_S_d0_1 h_S_) main_v3 main_c
  let main_v5 : FVec F S16384x128 .f32 := Host.absf main_arg2
  let main_cst_0 : FVec F S_ .f32 := constant S_ .f32 0x7F800000#32
  let main_v6 : FVec F S16384x128 .f32 := broadcastInDim S16384x128 ![] bcast_S_S16384x128 main_cst_0
  let main_v7 : IVec S16384x128 1 := cmpf .olt main_v5 main_v6
  let main_c_1 : IVec S_ 1 := constantI S_ 1 1#1
  let main_v8 : IVec S_ 1 := (fun x v => Host.reduce IntOp.andi x v reducesTo_S16384x128_S_d0_1 h_S_) main_v7 main_c_1
  let main_v9 : IVec S_ 1 := andi main_v4 main_v8
  main_v9
-- ==== Pre_finite_moe.lean ====
abbrev S16384x1024 : Shape := ⟨2, ![16384, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩

class Facts : Prop where
  bcast_S_S1024x4 : S_.BroadcastsInDim S1024x4 (![] : Fin 0 → Fin S1024x4.rank)
  reducesTo_S1024x4_S_d0_1 : S1024x4.ReducesTo [0, 1] S_
  h_S_ : 0 < S_.numel
  bcast_S_S4 : S_.BroadcastsInDim S4 (![] : Fin 0 → Fin S4.rank)
  reducesTo_S4_S_d0 : S4.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_arg0 : FVec F S16384x1024 .f32) (main_v8 : IVec S_ 1) (main_v12 : IVec S_ 1) (main_v15 : IVec S16 1) (main_c_5 : IVec S_ 1) : IVec S_ 1 :=
  let main_v16 : IVec S_ 1 := (fun x v => Host.reduce IntOp.andi x v reducesTo_S16_S_d0 h_S_) main_v15 main_c_5
  let main_v17 : IVec S_ 1 := andi main_v12 main_v16
  let main_v18 : IVec S_ 1 := andi main_v8 main_v17
  let main_v19 : FVec F S16384x1024 .f32 := Host.absf main_arg0
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v22 main_v18
  main_v23

def fn {F : FTy → Type} [FloatOps F] (main_arg0 : FVec F S16384x1024 .f32) (main_arg1 : FVec F S1024x4 .f32) (main_arg2 : FVec F S4 .f32) (main_arg3 : FVec F S1024x16 .f32) (main_arg4 : FVec F S16 .f32) (main_arg5 : FVec F S16x1024x256 .f32) (main_arg6 : FVec F S16x1024x256 .f32) (main_arg7 : FVec F S16x256x1024 .f32) (main_arg8 : FVec F S1024 .f32) (main_arg9 : FVec F S1024 .f32) : IVec S_ 1 :=
  let main_v0 : FVec F S1024x4 .f32 := Host.absf main_arg1
  let main_cst : FVec F S_ .f32 := constant S_ .f32 0x7F800000#32
  let main_v1 : FVec F S1024x4 .f32 := broadcastInDim S1024x4 ![] bcast_S_S1024x4 main_cst
  let main_v2 : IVec S1024x4 1 := cmpf .olt main_v0 main_v1
  let main_c : IVec S_ 1 := constantI S_ 1 1#1
  let main_v3 : IVec S_ 1 := (fun x v => Host.reduce IntOp.andi x v reducesTo_S1024x4_S_d0_1 h_S_) main_v2 main_c
  let main_v4 : FVec F S4 .f32 := Host.absf main_arg2
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S1024x16 .f32 := Host.absf main_arg3
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  let main_c_3 : IVec S_ 1 := constantI S_ 1 1#1
  let main_v12 : IVec S_ 1 := (fun x v => Host.reduce IntOp.andi x v reducesTo_S1024x16_S_d0_1 h_S_) main_v11 main_c_3
  let main_v13 : FVec F S16 .f32 := Host.absf main_arg4
  let main_cst_4 : FVec F S_ .f32 := constant S_ .f32 0x7F800000#32
  let main_v14 : FVec F S16 .f32 := broadcastInDim S16 ![] bcast_S_S16 main_cst_4
  let main_v15 : IVec S16 1 := cmpf .olt main_v13 main_v14
  let main_c_5 : IVec S_ 1 := constantI S_ 1 1#1
  fn_part1 (F := F) main_arg0 main_v8 main_v12 main_v15 main_c_5
-- ==== Pre_finite_proj.lean ====
abbrev S8x2048x1024 : Shape := ⟨3, ![8, 2048, 1024]⟩
abbrev S1024x8208 : Shape := ⟨2, ![1024, 8208]⟩
abbrev S4x3072 : Shape := ⟨2, ![4, 3072]⟩
abbrev S8 : Shape := ⟨1, ![8]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x8208 : S_.BroadcastsInDim S1024x8208 (![] : Fin 0 → Fin S1024x8208.rank)
  reducesTo_S1024x8208_S_d0_1 : S1024x8208.ReducesTo [0, 1] S_
  bcast_S_S4x3072 : S_.BroadcastsInDim S4x3072 (![] : Fin 0 → Fin S4x3072.rank)
  reducesTo_S4x3072_S_d0_1 : S4x3072.ReducesTo [0, 1] S_

variable [Facts]

def fn {F : FTy → Type} [FloatOps F] (main_arg0 : FVec F S8x2048x1024 .f32) (main_arg1 : FVec F S1024x8208 .f32) (main_arg2 : FVec F S4x3072 .f32) (main_arg3 : FVec F S8 .f32) (main_arg4 : FVec F S8 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x8208 .f32 := Host.absf main_arg1
  let main_cst_0 : FVec F S_ .f32 := constant S_ .f32 0x7F800000#32
  let main_v5 : FVec F S1024x8208 .f32 := broadcastInDim S1024x8208 ![] bcast_S_S1024x8208 main_cst_0
  let main_v6 : IVec S1024x8208 1 := cmpf .olt main_v4 main_v5
  let main_c_1 : IVec S_ 1 := constantI S_ 1 1#1
  let main_v7 : IVec S_ 1 := (fun x v => Host.reduce IntOp.andi x v reducesTo_S1024x8208_S_d0_1 h_S_) main_v6 main_c_1
  let main_v8 : IVec S_ 1 := andi main_v3 main_v7
  let main_v9 : FVec F S4x3072 .f32 := Host.absf main_arg2
  let main_cst_2 : FVec F S_ .f32 := constant S_ .f32 0x7F800000#32
  let main_v10 : FVec F S4x3072 .f32 := broadcastInDim S4x3072 ![] bcast_S_S4x3072 main_cst_2
  let main_v11 : IVec S4x3072 1 := cmpf .olt main_v9 main_v10
  let main_c_3 : IVec S_ 1 := constantI S_ 1 1#1
  let main_v12 : IVec S_ 1 := (fun x v => Host.reduce IntOp.andi x v reducesTo_S4x3072_S_d0_1 h_S_) main_v11 main_c_3
  let main_v13 : IVec S_ 1 := andi main_v8 main_v12
  main_v13
-- ==== Kernel.lean ====
abbrev S16384x3072 : Shape := ⟨2, ![16384, 3072]⟩
abbrev S16384x1024 : Shape := ⟨2, ![16384, 1024]⟩
abbrev S16384x128 : Shape := ⟨2, ![16384, 128]⟩
abbrev S128 : Shape := ⟨1, ![128]⟩
abbrev S16x1024x256 : Shape := ⟨3, ![16, 1024, 256]⟩
abbrev S16x256x1024 : Shape := ⟨3, ![16, 256, 1024]⟩
abbrev S1x128 : Shape := ⟨2, ![1, 128]⟩
abbrev S512x1024 : Shape := ⟨2, ![512, 1024]⟩
abbrev S512x128 : Shape := ⟨2, ![512, 128]⟩
abbrev S1x512x256 : Shape := ⟨3, ![1, 512, 256]⟩
abbrev S1x128x1024 : Shape := ⟨3, ![1, 128, 1024]⟩
abbrev S4x256x256 : Shape := ⟨3, ![4, 256, 256]⟩
abbrev S128x256 : Shape := ⟨2, ![128, 256]⟩
abbrev S256x256 : Shape := ⟨2, ![256, 256]⟩
abbrev S128x128 : Shape := ⟨2, ![128, 128]⟩
abbrev S1x256 : Shape := ⟨2, ![1, 256]⟩
abbrev S128x1 : Shape := ⟨2, ![128, 1]⟩
abbrev S1x1 : Shape := ⟨2, ![1, 1]⟩
abbrev S64x256 : Shape := ⟨2, ![64, 256]⟩
abbrev S32x256 : Shape := ⟨2, ![32, 256]⟩
abbrev S1x256x256 : Shape := ⟨3, ![1, 256, 256]⟩

abbrev nBuf : Space → Nat
  | .hbm => 12
  | .vmem => 26
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S16384x128, .f32⟩
  | .hbm, ⟨3, _⟩ => ⟨S128, .f32⟩
  | .hbm, ⟨4, _⟩ => ⟨S16x1024x256, .f32⟩
  | .hbm, ⟨5, _⟩ => ⟨S16x1024x256, .f32⟩
  | .hbm, ⟨6, _⟩ => ⟨S16x256x1024, .f32⟩
  | .hbm, ⟨7, _⟩ => ⟨S1x128, .f32⟩
  | .hbm, ⟨8, _⟩ => ⟨S16384x1024, .bf16⟩
  | .hbm, ⟨9, _⟩ => ⟨S16x1024x256, .bf16⟩
  | .hbm, ⟨10, _⟩ => ⟨S16x1024x256, .bf16⟩
  | .hbm, ⟨11, _⟩ => ⟨S16x256x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S1x128, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x128x1024, .f32⟩
  | .local _ .vmem, ⟨16, _⟩ => ⟨S1x128x1024, .f32⟩
  | .local _ .vmem, ⟨17, _⟩ => ⟨S512x1024, .bf16⟩
  | .local _ .vmem, ⟨18, _⟩ => ⟨S512x1024, .bf16⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x256, .bf16⟩
  | .local _ .vmem, ⟨23, _⟩ => ⟨S1x128x1024, .bf16⟩
  | .local _ .vmem, ⟨24, _⟩ => ⟨S1x128x1024, .bf16⟩
  | .local _ .vmem, ⟨25, _⟩ => ⟨S4x256x256, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli arg0 c4_i32_4
  let v20 : BitVec 32 := Scalar.addi v19 arg1
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli arg0 c4_i32_4
  let v20 : BitVec 32 := Scalar.addi v19 arg1
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli arg0 c4_i32_4
  let v20 : BitVec 32 := Scalar.addi v19 arg1
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli arg0 c4_i32_4
  let v20 : BitVec 32 := Scalar.addi v19 arg1
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli arg0 c4_i32_4
  let v20 : BitVec 32 := Scalar.addi v19 arg1
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli arg0 c4_i32_4
  let v20 : BitVec 32 := Scalar.addi v19 arg1
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S16384x3072 : Shape := ⟨2, ![16384, 3072]⟩
abbrev S16384x1024 : Shape := ⟨2, ![16384, 1024]⟩
abbrev S16384x128 : Shape := ⟨2, ![16384, 128]⟩
abbrev S128 : Shape := ⟨1, ![128]⟩
abbrev S16x1024x256 : Shape := ⟨3, ![16, 1024, 256]⟩
abbrev S16x256x1024 : Shape := ⟨3, ![16, 256, 1024]⟩
abbrev S8x2048x8x128 : Shape := ⟨4, ![8, 2048, 8, 128]⟩
abbrev S16384x8 : Shape := ⟨2, ![16384, 8]⟩
abbrev S8x2048x8 : Shape := ⟨3, ![8, 2048, 8]⟩
abbrev S_ : Shape := ⟨0, ![]⟩
abbrev S8x8x128x128 : Shape := ⟨4, ![8, 8, 128, 128]⟩
abbrev S8x1x8x128 : Shape := ⟨4, ![8, 1, 8, 128]⟩
abbrev S8x8x128 : Shape := ⟨3, ![8, 8, 128]⟩
abbrev S8x1x8 : Shape := ⟨3, ![8, 1, 8]⟩
abbrev S8x8 : Shape := ⟨2, ![8, 8]⟩
abbrev S8x8x1x1 : Shape := ⟨4, ![8, 8, 1, 1]⟩
abbrev S8x8x1 : Shape := ⟨3, ![8, 8, 1]⟩
abbrev S8x8x128x1 : Shape := ⟨4, ![8, 8, 128, 1]⟩
abbrev S8x8x1x128 : Shape := ⟨4, ![8, 8, 1, 128]⟩
abbrev S8x2048x8x1 : Shape := ⟨4, ![8, 2048, 8, 1]⟩
abbrev S1x1x1x128 : Shape := ⟨4, ![1, 1, 1, 128]⟩

abbrev nBuf : Space → Nat
  | .hbm => 145
  | .vmem => 0
  | .smem => 0
  | _ => 0

abbrev hbmTy0_0 (i : Nat) : BufTy := match i % 128 with
  | 0 => ⟨S16384x3072, .bf16⟩
  | 1 => ⟨S16384x1024, .bf16⟩
  | 2 => ⟨S16384x128, .f32⟩
  | 3 => ⟨S128, .f32⟩
  | 4 => ⟨S16x1024x256, .f32⟩
  | 5 => ⟨S16x1024x256, .f32⟩
  | 6 => ⟨S16x256x1024, .f32⟩
  | 7 => ⟨S16384x1024, .bf16⟩
  | 8 => ⟨S16384x1024, .f32⟩
  | 9 => ⟨S8x2048x8x128, .f32⟩
  | 10 => ⟨S16384x1024, .bf16⟩
  | 11 => ⟨S16384x1024, .f32⟩
  | 12 => ⟨S8x2048x8x128, .f32⟩
  | 13 => ⟨S16384x1024, .bf16⟩
  | 14 => ⟨S16384x1024, .f32⟩
  | 15 => ⟨S8x2048x8x128, .f32⟩
  | 16 => ⟨S16384x8, .f32⟩
  | 17 => ⟨S8x2048x8, .f32⟩
  | 18 => ⟨S16384x8, .f32⟩
  | 19 => ⟨S8x2048x8, .f32⟩
  | 20 => ⟨S_, .f32⟩
  | 21 => ⟨S8x8x128x128, .f32⟩
  | 22 => ⟨S_, .f32⟩
  | 23 => ⟨S8x2048x8x128, .f32⟩
  | 24 => ⟨S_, .i32⟩
  | 25 => ⟨S_, .i32⟩
  | 26 => ⟨S8x2048x8x128, .f32⟩
  | 27 => ⟨S8x2048x8x128, .f32⟩
  | 28 => ⟨S8x2048x8x128, .f32⟩
  | 29 => ⟨S8x2048x8, .f32⟩
  | 30 => ⟨S8x2048x8, .f32⟩
  | 31 => ⟨S_, .i32⟩
  | 32 => ⟨S_, .i32⟩
  | 33 => ⟨S8x8x128x128, .f32⟩
  | 34 => ⟨S8x2048x8x128, .f32⟩
  | 35 => ⟨S_, .i32⟩
  | 36 => ⟨S_, .i1⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S8x1x8x128, .f32⟩
  | 49 => ⟨S8x8x128, .f32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S8x1x8x128, .f32⟩
  | 60 => ⟨S8x8x128, .f32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S8x1x8x128, .f32⟩
  | 71 => ⟨S8x8x128, .f32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S8x1x8, .f32⟩
  | 81 => ⟨S8x8, .f32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S8x1x8, .f32⟩
  | 91 => ⟨S8x8, .f32⟩
  | 92 => ⟨S8x8, .f32⟩
  | 93 => ⟨S8x8x1x1, .f32⟩
  | 94 => ⟨S8x8x128x128, .f32⟩
  | 95 => ⟨S8x8x128x128, .f32⟩
  | 96 => ⟨S8x8x1, .f32⟩
  | 97 => ⟨S8x8x128, .f32⟩
  | 98 => ⟨S8x8x128, .f32⟩
  | 99 => ⟨S8x8x128, .f32⟩
  | 100 => ⟨S8x8x128, .f32⟩
  | 101 => ⟨S8x8x128x1, .f32⟩
  | 102 => ⟨S8x8x1x128, .f32⟩
  | 103 => ⟨S8x8x128x128, .f32⟩
  | 104 => ⟨S8x8x128x128, .f32⟩
  | 105 => ⟨S8x8x128x128, .f32⟩
  | 106 => ⟨S8x8x128x128, .f32⟩
  | 107 => ⟨S8x8x128, .f32⟩
  | 108 => ⟨S8x1x8x128, .f32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S8x2048x8x128, .f32⟩
  | 119 => ⟨S_, .i32⟩
  | 120 => ⟨S_, .i32⟩
  | 121 => ⟨S8x2048x8x128, .f32⟩
  | 122 => ⟨S_, .f32⟩
  | 123 => ⟨S8x2048x8, .f32⟩
  | 124 => ⟨S8x2048x8x1, .f32⟩
  | 125 => ⟨S_, .f32⟩
  | 126 => ⟨S8x2048x8x1, .f32⟩
  | 127 => ⟨S8x2048x8x1, .f32⟩
  | _ => ⟨S16384x3072, .bf16⟩

abbrev hbmTy0_1 (i : Nat) : BufTy := match i % 128 with
  | 0 => ⟨S_, .f32⟩
  | 1 => ⟨S8x2048x8x1, .f32⟩
  | 2 => ⟨S8x2048x8x1, .f32⟩
  | 3 => ⟨S8x2048x8x1, .f32⟩
  | 4 => ⟨S8x2048x8x128, .f32⟩
  | 5 => ⟨S8x2048x8x128, .f32⟩
  | 6 => ⟨S1x1x1x128, .f32⟩
  | 7 => ⟨S8x2048x8x128, .f32⟩
  | 8 => ⟨S8x2048x8x128, .f32⟩
  | 9 => ⟨S16384x1024, .f32⟩
  | 10 => ⟨S8x2048x8x128, .f32⟩
  | 11 => ⟨S8x2048x8x128, .f32⟩
  | 12 => ⟨S16384x1024, .f32⟩
  | 13 => ⟨S16384x1024, .bf16⟩
  | 14 => ⟨S16x1024x256, .bf16⟩
  | 15 => ⟨S16x1024x256, .bf16⟩
  | 16 => ⟨S16x256x1024, .bf16⟩
  | _ => ⟨S16384x3072, .bf16⟩

abbrev hbmTy (i : Nat) : BufTy := match i / 128 with
  | 0 => hbmTy0_0 i
  | 1 => hbmTy0_1 i
  | _ => ⟨S16384x3072, .bf16⟩

abbrev bufTy : (tb : Table) → Fin (tcTables nBuf tb) → BufTy
  | .hbm, ⟨i, _⟩ => hbmTy i
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_c : Ref sig .tc := ⟨.hbm, 24, rfl⟩
abbrev main_c_1 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev main_v15_5 : Ref sig .tc := ⟨.hbm, 31, rfl⟩
abbrev main_v15_6 : Ref sig .tc := ⟨.hbm, 32, rfl⟩
abbrev main_v15_7 : Ref sig .tc := ⟨.hbm, 33, rfl⟩
abbrev main_v15_8 : Ref sig .tc := ⟨.hbm, 34, rfl⟩
abbrev main_while0c_c_13 : Ref sig .tc := ⟨.hbm, 35, rfl⟩
abbrev main_while0c_v37 : Ref sig .tc := ⟨.hbm, 36, rfl⟩
abbrev main_while0b_c_13 : Ref sig .tc := ⟨.hbm, 37, rfl⟩
abbrev main_while0b_v37 : Ref sig .tc := ⟨.hbm, 38, rfl⟩
abbrev main_while0b_call0_c : Ref sig .tc := ⟨.hbm, 39, rfl⟩
abbrev main_while0b_call0_v0 : Ref sig .tc := ⟨.hbm, 40, rfl⟩
abbrev main_while0b_call0_v1 : Ref sig .tc := ⟨.hbm, 41, rfl⟩
abbrev main_while0b_call0_c_0 : Ref sig .tc := ⟨.hbm, 42, rfl⟩
abbrev main_while0b_call0_v2 : Ref sig .tc := ⟨.hbm, 43, rfl⟩
abbrev main_while0b_call0_v3 : Ref sig .tc := ⟨.hbm, 44, rfl⟩
abbrev main_while0b_call0_c_1 : Ref sig .tc := ⟨.hbm, 45, rfl⟩
abbrev main_while0b_call0_c_2 : Ref sig .tc := ⟨.hbm, 46, rfl⟩
abbrev main_while0b_call0_c_3 : Ref sig .tc := ⟨.hbm, 47, rfl⟩
abbrev main_while0b_call0_v4 : Ref sig .tc := ⟨.hbm, 48, rfl⟩
abbrev main_while0b_v38 : Ref sig .tc := ⟨.hbm, 49, rfl⟩
abbrev main_while0b_call1_c : Ref sig .tc := ⟨.hbm, 50, rfl⟩
abbrev main_while0b_call1_v0 : Ref sig .tc := ⟨.hbm, 51, rfl⟩
abbrev main_while0b_call1_v1 : Ref sig .tc := ⟨.hbm, 52, rfl⟩
abbrev main_while0b_call1_c_0 : Ref sig .tc := ⟨.hbm, 53, rfl⟩
abbrev main_while0b_call1_v2 : Ref sig .tc := ⟨.hbm, 54, rfl⟩
abbrev main_while0b_call1_v3 : Ref sig .tc := ⟨.hbm, 55, rfl⟩
abbrev main_while0b_call1_c_1 : Ref sig .tc := ⟨.hbm, 56, rfl⟩
abbrev main_while0b_call1_c_2 : Ref sig .tc := ⟨.hbm, 57, rfl⟩
abbrev main_while0b_call1_c_3 : Ref sig .tc := ⟨.hbm, 58, rfl⟩
abbrev main_while0b_call1_v4 : Ref sig .tc := ⟨.hbm, 59, rfl⟩
abbrev main_while0b_v39 : Ref sig .tc := ⟨.hbm, 60, rfl⟩
abbrev main_while0b_call2_c : Ref sig .tc := ⟨.hbm, 61, rfl⟩
abbrev main_while0b_call2_v0 : Ref sig .tc := ⟨.hbm, 62, rfl⟩
abbrev main_while0b_call2_v1 : Ref sig .tc := ⟨.hbm, 63, rfl⟩
abbrev main_while0b_call2_c_0 : Ref sig .tc := ⟨.hbm, 64, rfl⟩
abbrev main_while0b_call2_v2 : Ref sig .tc := ⟨.hbm, 65, rfl⟩
abbrev main_while0b_call2_v3 : Ref sig .tc := ⟨.hbm, 66, rfl⟩
abbrev main_while0b_call2_c_1 : Ref sig .tc := ⟨.hbm, 67, rfl⟩
abbrev main_while0b_call2_c_2 : Ref sig .tc := ⟨.hbm, 68, rfl⟩
abbrev main_while0b_call2_c_3 : Ref sig .tc := ⟨.hbm, 69, rfl⟩
abbrev main_while0b_call2_v4 : Ref sig .tc := ⟨.hbm, 70, rfl⟩
abbrev main_while0b_v40 : Ref sig .tc := ⟨.hbm, 71, rfl⟩
abbrev main_while0b_call3_c : Ref sig .tc := ⟨.hbm, 72, rfl⟩
abbrev main_while0b_call3_v0 : Ref sig .tc := ⟨.hbm, 73, rfl⟩
abbrev main_while0b_call3_v1 : Ref sig .tc := ⟨.hbm, 74, rfl⟩
abbrev main_while0b_call3_c_0 : Ref sig .tc := ⟨.hbm, 75, rfl⟩
abbrev main_while0b_call3_v2 : Ref sig .tc := ⟨.hbm, 76, rfl⟩
abbrev main_while0b_call3_v3 : Ref sig .tc := ⟨.hbm, 77, rfl⟩
abbrev main_while0b_call3_c_1 : Ref sig .tc := ⟨.hbm, 78, rfl⟩
abbrev main_while0b_call3_c_2 : Ref sig .tc := ⟨.hbm, 79, rfl⟩
abbrev main_while0b_call3_v4 : Ref sig .tc := ⟨.hbm, 80, rfl⟩
abbrev main_while0b_v41 : Ref sig .tc := ⟨.hbm, 81, rfl⟩
abbrev main_while0b_call4_c : Ref sig .tc := ⟨.hbm, 82, rfl⟩
abbrev main_while0b_call4_v0 : Ref sig .tc := ⟨.hbm, 83, rfl⟩
abbrev main_while0b_call4_v1 : Ref sig .tc := ⟨.hbm, 84, rfl⟩
abbrev main_while0b_call4_c_0 : Ref sig .tc := ⟨.hbm, 85, rfl⟩
abbrev main_while0b_call4_v2 : Ref sig .tc := ⟨.hbm, 86, rfl⟩
abbrev main_while0b_call4_v3 : Ref sig .tc := ⟨.hbm, 87, rfl⟩
abbrev main_while0b_call4_c_1 : Ref sig .tc := ⟨.hbm, 88, rfl⟩
abbrev main_while0b_call4_c_2 : Ref sig .tc := ⟨.hbm, 89, rfl⟩
abbrev main_while0b_call4_v4 : Ref sig .tc := ⟨.hbm, 90, rfl⟩
abbrev main_while0b_v42 : Ref sig .tc := ⟨.hbm, 91, rfl⟩
abbrev main_while0b_v43 : Ref sig .tc := ⟨.hbm, 92, rfl⟩
abbrev main_while0b_v44 : Ref sig .tc := ⟨.hbm, 93, rfl⟩
abbrev main_while0b_v45 : Ref sig .tc := ⟨.hbm, 94, rfl⟩
abbrev main_while0b_v46 : Ref sig .tc := ⟨.hbm, 95, rfl⟩
abbrev main_while0b_v47 : Ref sig .tc := ⟨.hbm, 96, rfl⟩
abbrev main_while0b_v48 : Ref sig .tc := ⟨.hbm, 97, rfl⟩
abbrev main_while0b_v49 : Ref sig .tc := ⟨.hbm, 98, rfl⟩
abbrev main_while0b_v50 : Ref sig .tc := ⟨.hbm, 99, rfl⟩
abbrev main_while0b_v51 : Ref sig .tc := ⟨.hbm, 100, rfl⟩
abbrev main_while0b_v52 : Ref sig .tc := ⟨.hbm, 101, rfl⟩
abbrev main_while0b_v53 : Ref sig .tc := ⟨.hbm, 102, rfl⟩
abbrev main_while0b_v54 : Ref sig .tc := ⟨.hbm, 103, rfl⟩
abbrev main_while0b_v55 : Ref sig .tc := ⟨.hbm, 104, rfl⟩
abbrev main_while0b_v56 : Ref sig .tc := ⟨.hbm, 105, rfl⟩
abbrev main_while0b_v57 : Ref sig .tc := ⟨.hbm, 106, rfl⟩
abbrev main_while0b_v58 : Ref sig .tc := ⟨.hbm, 107, rfl⟩
abbrev main_while0b_call5_v0 : Ref sig .tc := ⟨.hbm, 108, rfl⟩
abbrev main_while0b_call5_c : Ref sig .tc := ⟨.hbm, 109, rfl⟩
abbrev main_while0b_call5_v1 : Ref sig .tc := ⟨.hbm, 110, rfl⟩
abbrev main_while0b_call5_v2 : Ref sig .tc := ⟨.hbm, 111, rfl⟩
abbrev main_while0b_call5_c_0 : Ref sig .tc := ⟨.hbm, 112, rfl⟩
abbrev main_while0b_call5_v3 : Ref sig .tc := ⟨.hbm, 113, rfl⟩
abbrev main_while0b_call5_v4 : Ref sig .tc := ⟨.hbm, 114, rfl⟩
abbrev main_while0b_call5_c_1 : Ref sig .tc := ⟨.hbm, 115, rfl⟩
abbrev main_while0b_call5_c_2 : Ref sig .tc := ⟨.hbm, 116, rfl⟩
abbrev main_while0b_call5_c_3 : Ref sig .tc := ⟨.hbm, 117, rfl⟩
abbrev main_while0b_v59 : Ref sig .tc := ⟨.hbm, 118, rfl⟩
abbrev main_while0b_c_14 : Ref sig .tc := ⟨.hbm, 119, rfl⟩
abbrev main_while0b_v60 : Ref sig .tc := ⟨.hbm, 120, rfl⟩
abbrev main_v16 : Ref sig .tc := ⟨.hbm, 121, rfl⟩
abbrev main_cst_2 : Ref sig .tc := ⟨.hbm, 122, rfl⟩
abbrev main_v17 : Ref sig .tc := ⟨.hbm, 123, rfl⟩
abbrev main_v18 : Ref sig .tc := ⟨.hbm, 124, rfl⟩
abbrev main_cst_3 : Ref sig .tc := ⟨.hbm, 125, rfl⟩
abbrev main_v19 : Ref sig .tc := ⟨.hbm, 126, rfl⟩
abbrev main_v20 : Ref sig .tc := ⟨.hbm, 127, rfl⟩
abbrev main_cst_4 : Ref sig .tc := ⟨.hbm, 128, rfl⟩
abbrev main_v21 : Ref sig .tc := ⟨.hbm, 129, rfl⟩
abbrev main_v22 : Ref sig .tc := ⟨.hbm, 130, rfl⟩
abbrev main_v23 : Ref sig .tc := ⟨.hbm, 131, rfl⟩
abbrev main_v24 : Ref sig .tc := ⟨.hbm, 132, rfl⟩
abbrev main_v25 : Ref sig .tc := ⟨.hbm, 133, rfl⟩
abbrev main_v26 : Ref sig .tc := ⟨.hbm, 134, rfl⟩
abbrev main_v27 : Ref sig .tc := ⟨.hbm, 135, rfl⟩
abbrev main_v28 : Ref sig .tc := ⟨.hbm, 136, rfl⟩
abbrev main_v29 : Ref sig .tc := ⟨.hbm, 137, rfl⟩
abbrev main_v30 : Ref sig .tc := ⟨.hbm, 138, rfl⟩
abbrev main_v31 : Ref sig .tc := ⟨.hbm, 139, rfl⟩
abbrev main_v32 : Ref sig .tc := ⟨.hbm, 140, rfl⟩
abbrev main_v33 : Ref sig .tc := ⟨.hbm, 141, rfl⟩
abbrev main_v34 : Ref sig .tc := ⟨.hbm, 142, rfl⟩
abbrev main_v35 : Ref sig .tc := ⟨.hbm, 143, rfl⟩
abbrev main_v36 : Ref sig .tc := ⟨.hbm, 144, rfl⟩

abbrev nD : Nat := 1
abbrev τ : Topo := Topo.v7x

variable {F : FTy → Type} [FloatOps F]

abbrev main_while0_count : Scf.Loop 32 := ⟨0#32, 2048#32, 1#32⟩
-- ==== Proj.lean ====
abbrev S8x2048x1024 : Shape := ⟨3, ![8, 2048, 1024]⟩
abbrev S1024x8208 : Shape := ⟨2, ![1024, 8208]⟩
abbrev S4x3072 : Shape := ⟨2, ![4, 3072]⟩
abbrev S8 : Shape := ⟨1, ![8]⟩
abbrev S16384x1024 : Shape := ⟨2, ![16384, 1024]⟩
abbrev S1024x3072 : Shape := ⟨2, ![1024, 3072]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S2x128 : Shape := ⟨2, ![2, 128]⟩
abbrev S16384x3072 : Shape := ⟨2, ![16384, 3072]⟩
abbrev S16384x128 : Shape := ⟨2, ![16384, 128]⟩
abbrev S1032x3072 : Shape := ⟨2, ![1032, 3072]⟩
abbrev S8x3072 : Shape := ⟨2, ![8, 3072]⟩
abbrev S1024x256 : Shape := ⟨2, ![1024, 256]⟩
abbrev S4x128 : Shape := ⟨2, ![4, 128]⟩
abbrev S1024 : Shape := ⟨1, ![1024]⟩
abbrev S1024x1 : Shape := ⟨2, ![1024, 1]⟩

abbrev nBuf : Space → Nat
  | .hbm => 29
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024x8208, .f32⟩
  | .hbm, ⟨2, _⟩ => ⟨S4x3072, .f32⟩
  | .hbm, ⟨3, _⟩ => ⟨S8, .f32⟩
  | .hbm, ⟨4, _⟩ => ⟨S8, .f32⟩
  | .hbm, ⟨5, _⟩ => ⟨S16384x1024, .f32⟩
  | .hbm, ⟨6, _⟩ => ⟨S1024x3072, .f32⟩
  | .hbm, ⟨7, _⟩ => ⟨S1024x3072, .bf16⟩
  | .hbm, ⟨8, _⟩ => ⟨S1024x1024, .f32⟩
  | .hbm, ⟨9, _⟩ => ⟨S1024x1024, .bf16⟩
  | .hbm, ⟨10, _⟩ => ⟨S1024x16, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S8, .f32⟩
  | .hbm, ⟨16, _⟩ => ⟨S8, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S1x128, .f32⟩
  | .hbm, ⟨25, _⟩ => ⟨S2x128, .f32⟩
  | .hbm, ⟨26, _⟩ => ⟨S16384x3072, .bf16⟩
  | .hbm, ⟨27, _⟩ => ⟨S16384x1024, .bf16⟩
  | .hbm, ⟨28, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1024x1024, .bf16⟩
  | .local _ .vmem, ⟨4, _⟩ => ⟨S1024x128, .bf16⟩
  | .local _ .vmem, ⟨5, _⟩ => ⟨S4x3072, .f32⟩
  | .local _ .vmem, ⟨6, _⟩ => ⟨S2x128, .f32⟩
  | .local _ .vmem, ⟨7, _⟩ => ⟨S1024x3072, .bf16⟩
  | .local _ .vmem, ⟨8, _⟩ => ⟨S1024x3072, .bf16⟩
  | .local _ .vmem, ⟨9, _⟩ => ⟨S1024x1024, .bf16⟩
  | .local _ .vmem, ⟨10, _⟩ => ⟨S1024x1024, .bf16⟩
  | .local _ .vmem, ⟨11, _⟩ => ⟨S1024x128, .f32⟩
  | .local _ .vmem, ⟨12, _⟩ => ⟨S1024x128, .f32⟩
  | .local _ .vmem, ⟨13, _⟩ => ⟨S1032x3072, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_c_1 : Ref sig .tc := ⟨.hbm, 20, rfl⟩
abbrev main_call2_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceProjIdeal.lean ====
abbrev S8x2048x1024 : Shape := ⟨3, ![8, 2048, 1024]⟩
abbrev S1024x8208 : Shape := ⟨2, ![1024, 8208]⟩
abbrev S4x3072 : Shape := ⟨2, ![4, 3072]⟩
abbrev S8 : Shape := ⟨1, ![8]⟩
abbrev S8x2048x8208 : Shape := ⟨3, ![8, 2048, 8208]⟩
abbrev S8x2048x3072 : Shape := ⟨3, ![8, 2048, 3072]⟩
abbrev S8x2048x8 : Shape := ⟨3, ![8, 2048, 8]⟩
abbrev S_ : Shape := ⟨0, ![]⟩
abbrev S8x2051x3072 : Shape := ⟨3, ![8, 2051, 3072]⟩
abbrev S1x3072 : Shape := ⟨2, ![1, 3072]⟩
abbrev S3072 : Shape := ⟨1, ![3072]⟩
abbrev S1x1x3072 : Shape := ⟨3, ![1, 1, 3072]⟩
abbrev S8x2048x8x128 : Shape := ⟨4, ![8, 2048, 8, 128]⟩
abbrev S8x2048x8x1 : Shape := ⟨4, ![8, 2048, 8, 1]⟩
abbrev S1x1x8 : Shape := ⟨3, ![1, 1, 8]⟩
abbrev S8x2048x112 : Shape := ⟨3, ![8, 2048, 112]⟩
abbrev S8x2048x128 : Shape := ⟨3, ![8, 2048, 128]⟩
abbrev S16384x128 : Shape := ⟨2, ![16384, 128]⟩
abbrev S16384x1024 : Shape := ⟨2, ![16384, 1024]⟩
abbrev S16384x3072 : Shape := ⟨2, ![16384, 3072]⟩

abbrev nBuf : Space → Nat
  | .hbm => 132
  | .vmem => 0
  | .smem => 0
  | _ => 0

abbrev hbmTy0_0 (i : Nat) : BufTy := match i % 128 with
  | 0 => ⟨S8x2048x1024, .f32⟩
  | 1 => ⟨S1024x8208, .f32⟩
  | 2 => ⟨S4x3072, .f32⟩
  | 3 => ⟨S8, .f32⟩
  | 4 => ⟨S8, .f32⟩
  | 5 => ⟨S8x2048x8208, .f32⟩
  | 6 => ⟨S8x2048x3072, .f32⟩
  | 7 => ⟨S8x2048x1024, .f32⟩
  | 8 => ⟨S8x2048x8, .f32⟩
  | 9 => ⟨S8x2048x8, .f32⟩
  | 10 => ⟨S_, .i32⟩
  | 11 => ⟨S_, .f32⟩
  | 12 => ⟨S8x2051x3072, .f32⟩
  | 13 => ⟨S1x3072, .f32⟩
  | 14 => ⟨S3072, .f32⟩
  | 15 => ⟨S8x2048x3072, .f32⟩
  | 16 => ⟨S1x1x3072, .f32⟩
  | 17 => ⟨S8x2048x3072, .f32⟩
  | 18 => ⟨S8x2048x3072, .f32⟩
  | 19 => ⟨S_, .f32⟩
  | 20 => ⟨S8x2048x3072, .f32⟩
  | 21 => ⟨S8x2048x3072, .f32⟩
  | 22 => ⟨S1x3072, .f32⟩
  | 23 => ⟨S3072, .f32⟩
  | 24 => ⟨S8x2048x3072, .f32⟩
  | 25 => ⟨S1x1x3072, .f32⟩
  | 26 => ⟨S8x2048x3072, .f32⟩
  | 27 => ⟨S8x2048x3072, .f32⟩
  | 28 => ⟨S8x2048x3072, .f32⟩
  | 29 => ⟨S1x3072, .f32⟩
  | 30 => ⟨S3072, .f32⟩
  | 31 => ⟨S8x2048x3072, .f32⟩
  | 32 => ⟨S1x1x3072, .f32⟩
  | 33 => ⟨S8x2048x3072, .f32⟩
  | 34 => ⟨S8x2048x3072, .f32⟩
  | 35 => ⟨S8x2048x3072, .f32⟩
  | 36 => ⟨S1x3072, .f32⟩
  | 37 => ⟨S3072, .f32⟩
  | 38 => ⟨S8x2048x3072, .f32⟩
  | 39 => ⟨S1x1x3072, .f32⟩
  | 40 => ⟨S8x2048x3072, .f32⟩
  | 41 => ⟨S8x2048x3072, .f32⟩
  | 42 => ⟨S8x2048x3072, .f32⟩
  | 43 => ⟨S8x2048x3072, .f32⟩
  | 44 => ⟨S8x2048x3072, .f32⟩
  | 45 => ⟨S_, .f32⟩
  | 46 => ⟨S8x2048x3072, .f32⟩
  | 47 => ⟨S8x2048x3072, .f32⟩
  | 48 => ⟨S_, .f32⟩
  | 49 => ⟨S8x2048x3072, .f32⟩
  | 50 => ⟨S8x2048x3072, .f32⟩
  | 51 => ⟨S8x2048x3072, .f32⟩
  | 52 => ⟨S8x2048x1024, .f32⟩
  | 53 => ⟨S8x2048x8x128, .f32⟩
  | 54 => ⟨S8x2048x8x128, .f32⟩
  | 55 => ⟨S_, .f32⟩
  | 56 => ⟨S8x2048x8, .f32⟩
  | 57 => ⟨S8x2048x8x1, .f32⟩
  | 58 => ⟨S_, .f32⟩
  | 59 => ⟨S8x2048x8x1, .f32⟩
  | 60 => ⟨S8x2048x8x1, .f32⟩
  | 61 => ⟨S8x2048x8x1, .f32⟩
  | 62 => ⟨S8x2048x8x128, .f32⟩
  | 63 => ⟨S8x2048x8x128, .f32⟩
  | 64 => ⟨S_, .f32⟩
  | 65 => ⟨S8x2048x8x128, .f32⟩
  | 66 => ⟨S8x2048x8x128, .f32⟩
  | 67 => ⟨S8x2048x1024, .f32⟩
  | 68 => ⟨S8x2048x8x128, .f32⟩
  | 69 => ⟨S8x2048x8x128, .f32⟩
  | 70 => ⟨S_, .f32⟩
  | 71 => ⟨S8x2048x8, .f32⟩
  | 72 => ⟨S8x2048x8x1, .f32⟩
  | 73 => ⟨S_, .f32⟩
  | 74 => ⟨S8x2048x8x1, .f32⟩
  | 75 => ⟨S8x2048x8x1, .f32⟩
  | 76 => ⟨S8x2048x8x1, .f32⟩
  | 77 => ⟨S8x2048x8x128, .f32⟩
  | 78 => ⟨S8x2048x8x128, .f32⟩
  | 79 => ⟨S8x2048x1024, .f32⟩
  | 80 => ⟨S8x2048x8x128, .f32⟩
  | 81 => ⟨S8, .f32⟩
  | 82 => ⟨S8, .f32⟩
  | 83 => ⟨S1x1x8, .f32⟩
  | 84 => ⟨S8x2048x8, .f32⟩
  | 85 => ⟨S8x2048x8, .f32⟩
  | 86 => ⟨S_, .f32⟩
  | 87 => ⟨S8x2048x8, .f32⟩
  | 88 => ⟨S8x2048x8, .f32⟩
  | 89 => ⟨S8x2048x8, .f32⟩
  | 90 => ⟨S8x2048x8, .f32⟩
  | 91 => ⟨S8x2048x8, .i1⟩
  | 92 => ⟨S8x2048x8, .f32⟩
  | 93 => ⟨S8x2048x8, .f32⟩
  | 94 => ⟨S8x2048x8, .f32⟩
  | 95 => ⟨S8x2048x8, .f32⟩
  | 96 => ⟨S8x2048x8, .f32⟩
  | 97 => ⟨S8x2048x8, .f32⟩
  | 98 => ⟨S8x2048x8, .f32⟩
  | 99 => ⟨S8x2048x8, .f32⟩
  | 100 => ⟨S1x1x8, .f32⟩
  | 101 => ⟨S8x2048x8, .f32⟩
  | 102 => ⟨S8x2048x8, .f32⟩
  | 103 => ⟨S8x2048x8, .f32⟩
  | 104 => ⟨S8x2048x8, .f32⟩
  | 105 => ⟨S_, .f32⟩
  | 106 => ⟨S8x2048x8, .f32⟩
  | 107 => ⟨S8x2048x8, .f32⟩
  | 108 => ⟨S_, .f32⟩
  | 109 => ⟨S8x2048x8, .f32⟩
  | 110 => ⟨S8x2048x8, .f32⟩
  | 111 => ⟨S_, .f32⟩
  | 112 => ⟨S8x2048x112, .f32⟩
  | 113 => ⟨S8x2048x112, .f32⟩
  | 114 => ⟨S8x2048x128, .f32⟩
  | 115 => ⟨S16384x128, .f32⟩
  | 116 => ⟨S16384x1024, .f32⟩
  | 117 => ⟨S16384x1024, .f32⟩
  | 118 => ⟨S16384x1024, .f32⟩
  | 119 => ⟨S16384x3072, .f32⟩
  | 120 => ⟨S16384x3072, .bf16⟩
  | 121 => ⟨S8x2048x1024, .f32⟩
  | 122 => ⟨S8x2048x1024, .f32⟩
  | 123 => ⟨S_, .f32⟩
  | 124 => ⟨S8x2048x1024, .f32⟩
  | 125 => ⟨S8x2048x1024, .f32⟩
  | 126 => ⟨S_, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S8x2048x1024, .f32⟩
  | 2 => ⟨S16384x1024, .f32⟩
  | 3 => ⟨S16384x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_0 : Ref sig .tc := ⟨.hbm, 55, rfl⟩
abbrev main_v39 : Ref sig .tc := ⟨.hbm, 56, rfl⟩
abbrev main_v40 : Ref sig .tc := ⟨.hbm, 57, rfl⟩
abbrev main_cst_1 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_2 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_3 : Ref sig .tc := ⟨.hbm, 70, rfl⟩
abbrev main_v51 : Ref sig .tc := ⟨.hbm, 71, rfl⟩
abbrev main_v52 : Ref sig .tc := ⟨.hbm, 72, rfl⟩
abbrev main_cst_4 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_5 : Ref sig .tc := ⟨.hbm, 105, rfl⟩
abbrev main_v71 : Ref sig .tc := ⟨.hbm, 106, rfl⟩
abbrev main_v72 : Ref sig .tc := ⟨.hbm, 107, rfl⟩
abbrev main_cst_6 : Ref sig .tc := ⟨.hbm, 108, rfl⟩
abbrev main_v73 : Ref sig .tc := ⟨.hbm, 109, rfl⟩
abbrev main_v74 : Ref sig .tc := ⟨.hbm, 110, rfl⟩
abbrev main_cst_7 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_call3_v0 : Ref sig .tc := ⟨.hbm, 121, rfl⟩
abbrev main_call3_v1 : Ref sig .tc := ⟨.hbm, 122, rfl⟩
abbrev main_call3_cst : Ref sig .tc := ⟨.hbm, 123, rfl⟩
abbrev main_call3_v2 : Ref sig .tc := ⟨.hbm, 124, rfl⟩
abbrev main_call3_v3 : Ref sig .tc := ⟨.hbm, 125, rfl⟩
abbrev main_call3_cst_0 : Ref sig .tc := ⟨.hbm, 126, rfl⟩
abbrev main_call3_v4 : Ref sig .tc := ⟨.hbm, 127, rfl⟩
abbrev main_call3_v5 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩

abbrev nD : Nat := 1
abbrev τ : Topo := Topo.v7x

variable {F : FTy → Type} [FloatOps F]
-- ==== Merge.lean ====
abbrev S8x2048x1024 : Shape := ⟨3, ![8, 2048, 1024]⟩
abbrev S16384x1024 : Shape := ⟨2, ![16384, 1024]⟩
abbrev S1024x8208 : Shape := ⟨2, ![1024, 8208]⟩
abbrev S1024x1024 : Shape := ⟨2, ![1024, 1024]⟩
abbrev S1024 : Shape := ⟨1, ![1024]⟩
abbrev S8x128x128 : Shape := ⟨3, ![8, 128, 128]⟩
abbrev S8x128 : Shape := ⟨2, ![8, 128]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S1024x2048 : Shape := ⟨2, ![1024, 2048]⟩
abbrev S1024x20 : Shape := ⟨2, ![1024, 20]⟩
abbrev S_ : Shape := ⟨0, ![]⟩
abbrev S1024x128 : Shape := ⟨2, ![1024, 128]⟩
abbrev S1024x256 : Shape := ⟨2, ![1024, 256]⟩
abbrev S20 : Shape := ⟨1, ![20]⟩
abbrev S1x20 : Shape := ⟨2, ![1, 20]⟩
abbrev S1x128 : Shape := ⟨2, ![1, 128]⟩
abbrev S1x1024 : Shape := ⟨2, ![1, 1024]⟩
abbrev S128x8 : Shape := ⟨2, ![128, 8]⟩
abbrev S16384x128 : Shape := ⟨2, ![16384, 128]⟩
abbrev S32x1x512 : Shape := ⟨3, ![32, 1, 512]⟩
abbrev S32x1x128 : Shape := ⟨3, ![32, 1, 128]⟩
abbrev S512x1024 : Shape := ⟨2, ![512, 1024]⟩
abbrev S512x128 : Shape := ⟨2, ![512, 128]⟩
abbrev S1x1x512 : Shape := ⟨3, ![1, 1, 512]⟩
abbrev S1x1x128 : Shape := ⟨3, ![1, 1, 128]⟩
abbrev S128x512 : Shape := ⟨2, ![128, 512]⟩
abbrev S512x256 : Shape := ⟨2, ![512, 256]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S1x512 : Shape := ⟨2, ![1, 512]⟩
abbrev S512x512 : Shape := ⟨2, ![512, 512]⟩
abbrev S4x512 : Shape := ⟨2, ![4, 512]⟩
abbrev S8x512 : Shape := ⟨2, ![8, 512]⟩
abbrev S1x1 : Shape := ⟨2, ![1, 1]⟩
abbrev S1 : Shape := ⟨1, ![1]⟩

abbrev nBuf : Space → Nat
  | .hbm => 47
  | .vmem => 29
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .bf16⟩
  | .hbm, ⟨2, _⟩ => ⟨S1024x8208, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8x128x128, .f32⟩
  | .hbm, ⟨7, _⟩ => ⟨S8x128, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x4, .f32⟩
  | .hbm, ⟨13, _⟩ => ⟨S4, .f32⟩
  | .hbm, ⟨14, _⟩ => ⟨S1024x16, .f32⟩
  | .hbm, ⟨15, _⟩ => ⟨S16, .f32⟩
  | .hbm, ⟨16, _⟩ => ⟨S16384x1024, .f32⟩
  | .hbm, ⟨17, _⟩ => ⟨S1024x2048, .f32⟩
  | .hbm, ⟨18, _⟩ => ⟨S1024x2048, .bf16⟩
  | .hbm, ⟨19, _⟩ => ⟨S1024x2048, .f32⟩
  | .hbm, ⟨20, _⟩ => ⟨S1024x2048, .bf16⟩
  | .hbm, ⟨21, _⟩ => ⟨S1024x20, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S1024x128, .bf16⟩
  | .hbm, ⟨26, _⟩ => ⟨S1024x128, .f32⟩
  | .hbm, ⟨27, _⟩ => ⟨S1024x128, .f32⟩
  | .hbm, ⟨28, _⟩ => ⟨S1024x128, .bf16⟩
  | .hbm, ⟨29, _⟩ => ⟨S1024x256, .bf16⟩
  | .hbm, ⟨30, _⟩ => ⟨S20, .f32⟩
  | .hbm, ⟨31, _⟩ => ⟨S1x20, .f32⟩
  | .hbm, ⟨32, _⟩ => ⟨S_, .i32⟩
  | .hbm, ⟨33, _⟩ => ⟨S_, .f32⟩
  | .hbm, ⟨34, _⟩ => ⟨S1x128, .f32⟩
  | .hbm, ⟨35, _⟩ => ⟨S1x1024, .f32⟩
  | .hbm, ⟨36, _⟩ => ⟨S1x1024, .f32⟩
  | .hbm, ⟨37, _⟩ => ⟨S128x8, .f32⟩
  | .hbm, ⟨38, _⟩ => ⟨S1024x1024, .bf16⟩
  | .hbm, ⟨39, _⟩ => ⟨S1024x1024, .bf16⟩
  | .hbm, ⟨40, _⟩ => ⟨S1024x1024, .bf16⟩
  | .hbm, ⟨41, _⟩ => ⟨S1x1024, .f32⟩
  | .hbm, ⟨42, _⟩ => ⟨S1x1024, .f32⟩
  | .hbm, ⟨43, _⟩ => ⟨S16384x1024, .f32⟩
  | .hbm, ⟨44, _⟩ => ⟨S16384x128, .f32⟩
  | .hbm, ⟨45, _⟩ => ⟨S32x1x512, .i32⟩
  | .hbm, ⟨46, _⟩ => ⟨S32x1x128, .i32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x256, .bf16⟩
  | .local _ .vmem, ⟨16, _⟩ => ⟨S1x128, .f32⟩
  | .local _ .vmem, ⟨17, _⟩ => ⟨S512x1024, .f32⟩
  | .local _ .vmem, ⟨18, _⟩ => ⟨S512x1024, .f32⟩
  | .local _ .vmem, ⟨19, _⟩ => ⟨S512x128, .f32⟩
  | .local _ .vmem, ⟨20, _⟩ => ⟨S512x128, .f32⟩
  | .local _ .vmem, ⟨21, _⟩ => ⟨S1x1x512, .i32⟩
  | .local _ .vmem, ⟨22, _⟩ => ⟨S1x1x512, .i32⟩
  | .local _ .vmem, ⟨23, _⟩ => ⟨S1x1x128, .i32⟩
  | .local _ .vmem, ⟨24, _⟩ => ⟨S1x1x128, .i32⟩
  | .local _ .vmem, ⟨25, _⟩ => ⟨S128x512, .f32⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_0 : Ref sig .tc := ⟨.hbm, 32, rfl⟩
abbrev main_call1_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23_0 : Ref sig .tc := ⟨.hbm, 43, rfl⟩
abbrev main_v23_1 : Ref sig .tc := ⟨.hbm, 44, rfl⟩
abbrev main_v23_2 : Ref sig .tc := ⟨.hbm, 45, rfl⟩
abbrev main_v23_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x512 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x128 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceMergeIdeal.lean ====
abbrev S8x2048x1024 : Shape := ⟨3, ![8, 2048, 1024]⟩
abbrev S16384x1024 : Shape := ⟨2, ![16384, 1024]⟩
abbrev S1024x8208 : Shape := ⟨2, ![1024, 8208]⟩
abbrev S1024x1024 : Shape := ⟨2, ![1024, 1024]⟩
abbrev S1024 : Shape := ⟨1, ![1024]⟩
abbrev S8x128x128 : Shape := ⟨3, ![8, 128, 128]⟩
abbrev S8x128 : Shape := ⟨2, ![8, 128]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S1024x4096 : Shape := ⟨2, ![1024, 4096]⟩
abbrev S8x2048x4096 : Shape := ⟨3, ![8, 2048, 4096]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x16x128x8x128 : Shape := ⟨5, ![8, 16, 128, 8, 128]⟩
abbrev S8x8x16x128x128 : Shape := ⟨5, ![8, 8, 16, 128, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 137
  | .vmem => 0
  | .smem => 0
  | _ => 0

abbrev hbmTy0_0 (i : Nat) : BufTy := match i % 128 with
  | 0 => ⟨S8x2048x1024, .f32⟩
  | 1 => ⟨S16384x1024, .bf16⟩
  | 2 => ⟨S1024x8208, .f32⟩
  | 3 => ⟨S1024x1024, .f32⟩
  | 4 => ⟨S1024, .f32⟩
  | 5 => ⟨S1024, .f32⟩
  | 6 => ⟨S8x128x128, .f32⟩
  | 7 => ⟨S8x128, .f32⟩
  | 8 => ⟨S1024x1024, .f32⟩
  | 9 => ⟨S1024x1024, .f32⟩
  | 10 => ⟨S1024, .f32⟩
  | 11 => ⟨S1024, .f32⟩
  | 12 => ⟨S1024x4, .f32⟩
  | 13 => ⟨S4, .f32⟩
  | 14 => ⟨S1024x16, .f32⟩
  | 15 => ⟨S16, .f32⟩
  | 16 => ⟨S1024x4096, .f32⟩
  | 17 => ⟨S8x2048x4096, .f32⟩
  | 18 => ⟨S8x2048x2048, .f32⟩
  | 19 => ⟨S8x2048x1024, .f32⟩
  | 20 => ⟨S8x2048x1024, .f32⟩
  | 21 => ⟨S_, .f32⟩
  | 22 => ⟨S8x2048x2048, .f32⟩
  | 23 => ⟨S8x2048x2048, .f32⟩
  | 24 => ⟨S8x2048x2048, .f32⟩
  | 25 => ⟨S_, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x1024, .f32⟩
  | 31 => ⟨S8x2048x1024, .f32⟩
  | 32 => ⟨S_, .f32⟩
  | 33 => ⟨S8x2048, .f32⟩
  | 34 => ⟨S8x2048x1, .f32⟩
  | 35 => ⟨S_, .f32⟩
  | 36 => ⟨S8x2048x1, .f32⟩
  | 37 => ⟨S8x2048x1, .f32⟩
  | 38 => ⟨S8x2048x1024, .f32⟩
  | 39 => ⟨S8x2048x1024, .f32⟩
  | 40 => ⟨S8x2048x1024, .f32⟩
  | 41 => ⟨S_, .f32⟩
  | 42 => ⟨S8x2048, .f32⟩
  | 43 => ⟨S8x2048x1, .f32⟩
  | 44 => ⟨S_, .f32⟩
  | 45 => ⟨S8x2048x1, .f32⟩
  | 46 => ⟨S8x2048x1, .f32⟩
  | 47 => ⟨S_, .f32⟩
  | 48 => ⟨S8x2048x1, .f32⟩
  | 49 => ⟨S8x2048x1, .f32⟩
  | 50 => ⟨S8x2048x1, .f32⟩
  | 51 => ⟨S8x2048x1024, .f32⟩
  | 52 => ⟨S8x2048x1024, .f32⟩
  | 53 => ⟨S1x1x1024, .f32⟩
  | 54 => ⟨S8x2048x1024, .f32⟩
  | 55 => ⟨S8x2048x1024, .f32⟩
  | 56 => ⟨S1x1x1024, .f32⟩
  | 57 => ⟨S8x2048x1024, .f32⟩
  | 58 => ⟨S8x2048x1024, .f32⟩
  | 59 => ⟨S128, .i32⟩
  | 60 => ⟨S128x1, .i32⟩
  | 61 => ⟨S128, .i32⟩
  | 62 => ⟨S1x128, .i32⟩
  | 63 => ⟨S128x128, .i32⟩
  | 64 => ⟨S128x128, .i32⟩
  | 65 => ⟨S128x128, .i1⟩
  | 66 => ⟨S_, .f32⟩
  | 67 => ⟨S_, .f32⟩
  | 68 => ⟨S8x128x128, .i1⟩
  | 69 => ⟨S8x128x128, .f32⟩
  | 70 => ⟨S8x128x128, .f32⟩
  | 71 => ⟨S8x16x128x8x128, .f32⟩
  | 72 => ⟨S8x8x16x128x128, .f32⟩
  | 73 => ⟨S8x16x128x8x128, .f32⟩
  | 74 => ⟨S128x8, .f32⟩
  | 75 => ⟨S128x8x1, .f32⟩
  | 76 => ⟨S1x1x128x8x1, .f32⟩
  | 77 => ⟨S8x16x128x8x128, .f32⟩
  | 78 => ⟨S8x16x128x8x128, .f32⟩
  | 79 => ⟨S8x2048x1024, .f32⟩
  | 80 => ⟨S8x2048x1024, .f32⟩
  | 81 => ⟨S8x2048x1024, .f32⟩
  | 82 => ⟨S16384x1024, .f32⟩
  | 83 => ⟨S8x2048x1024, .f32⟩
  | 84 => ⟨S8x2048x1024, .f32⟩
  | 85 => ⟨S8x2048x1024, .f32⟩
  | 86 => ⟨S8x2048x1024, .f32⟩
  | 87 => ⟨S_, .f32⟩
  | 88 => ⟨S8x2048x1024, .f32⟩
  | 89 => ⟨S8x2048x1024, .f32⟩
  | 90 => ⟨S_, .f32⟩
  | 91 => ⟨S8x2048x1024, .f32⟩
  | 92 => ⟨S8x2048x1024, .f32⟩
  | 93 => ⟨S8x2048x1024, .f32⟩
  | 94 => ⟨S8x2048x1024, .f32⟩
  | 95 => ⟨S8x2048x1024, .f32⟩
  | 96 => ⟨S_, .f32⟩
  | 97 => ⟨S8x2048x1024, .f32⟩
  | 98 => ⟨S8x2048x1024, .f32⟩
  | 99 => ⟨S_, .f32⟩
  | 100 => ⟨S8x2048x1024, .f32⟩
  | 101 => ⟨S8x2048x1024, .f32⟩
  | 102 => ⟨S8x2048x1024, .f32⟩
  | 103 => ⟨S8x2048x1024, .f32⟩
  | 104 => ⟨S8x2048x1024, .f32⟩
  | 105 => ⟨S_, .f32⟩
  | 106 => ⟨S8x2048x1024, .f32⟩
  | 107 => ⟨S8x2048x1024, .f32⟩
  | 108 => ⟨S8x2048x1024, .f32⟩
  | 109 => ⟨S_, .f32⟩
  | 110 => ⟨S8x2048, .f32⟩
  | 111 => ⟨S8x2048x1, .f32⟩
  | 112 => ⟨S_, .f32⟩
  | 113 => ⟨S8x2048x1, .f32⟩
  | 114 => ⟨S8x2048x1, .f32⟩
  | 115 => ⟨S8x2048x1024, .f32⟩
  | 116 => ⟨S8x2048x1024, .f32⟩
  | 117 => ⟨S8x2048x1024, .f32⟩
  | 118 => ⟨S_, .f32⟩
  | 119 => ⟨S8x2048, .f32⟩
  | 120 => ⟨S8x2048x1, .f32⟩
  | 121 => ⟨S_, .f32⟩
  | 122 => ⟨S8x2048x1, .f32⟩
  | 123 => ⟨S8x2048x1, .f32⟩
  | 124 => ⟨S_, .f32⟩
  | 125 => ⟨S8x2048x1, .f32⟩
  | 126 => ⟨S8x2048x1, .f32⟩
  | 127 => ⟨S8x2048x1, .f32⟩
  | _ => ⟨S8x2048x1024, .f32⟩

abbrev hbmTy0_1 (i : Nat) : BufTy := match i % 128 with
  | 0 => ⟨S8x2048x1024, .f32⟩
  | 1 => ⟨S8x2048x1024, .f32⟩
  | 2 => ⟨S1x1x1024, .f32⟩
  | 3 => ⟨S8x2048x1024, .f32⟩
  | 4 => ⟨S8x2048x1024, .f32⟩
  | 5 => ⟨S1x1x1024, .f32⟩
  | 6 => ⟨S8x2048x1024, .f32⟩
  | 7 => ⟨S8x2048x1024, .f32⟩
  | 8 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_7 : Ref sig .tc := ⟨.hbm, 87, rfl⟩
abbrev main_v60 : Ref sig .tc := ⟨.hbm, 88, rfl⟩
abbrev main_v61 : Ref sig .tc := ⟨.hbm, 89, rfl⟩
abbrev main_cst_8 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_9 : Ref sig .tc := ⟨.hbm, 96, rfl⟩
abbrev main_v67 : Ref sig .tc := ⟨.hbm, 97, rfl⟩
abbrev main_v68 : Ref sig .tc := ⟨.hbm, 98, rfl⟩
abbrev main_cst_10 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_11 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_12 : Ref sig .tc := ⟨.hbm, 109, rfl⟩
abbrev main_v77 : Ref sig .tc := ⟨.hbm, 110, rfl⟩
abbrev main_v78 : Ref sig .tc := ⟨.hbm, 111, rfl⟩
abbrev main_cst_13 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_14 : Ref sig .tc := ⟨.hbm, 118, rfl⟩
abbrev main_v84 : Ref sig .tc := ⟨.hbm, 119, rfl⟩
abbrev main_v85 : Ref sig .tc := ⟨.hbm, 120, rfl⟩
abbrev main_cst_15 : Ref sig .tc := ⟨.hbm, 121, rfl⟩
abbrev main_v86 : Ref sig .tc := ⟨.hbm, 122, rfl⟩
abbrev main_v87 : Ref sig .tc := ⟨.hbm, 123, rfl⟩
abbrev main_cst_16 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩

abbrev nD : Nat := 1
abbrev τ : Topo := Topo.v7x

variable {F : FTy → Type} [FloatOps F]
-- ==== Moe.lean ====
abbrev S16384x1024 : Shape := ⟨2, ![16384, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S1024x20 : Shape := ⟨2, ![1024, 20]⟩
abbrev S_ : Shape := ⟨0, ![]⟩
abbrev S1024x128 : Shape := ⟨2, ![1024, 128]⟩
abbrev S20 : Shape := ⟨1, ![20]⟩
abbrev S1x20 : Shape := ⟨2, ![1, 20]⟩
abbrev S1x128 : Shape := ⟨2, ![1, 128]⟩
abbrev S4096x1024 : Shape := ⟨2, ![4096, 1024]⟩
abbrev S1x1024 : Shape := ⟨2, ![1, 1024]⟩
abbrev S256x1024 : Shape := ⟨2, ![256, 1024]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩

abbrev nBuf : Space → Nat
  | .hbm => 26
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x4, .f32⟩
  | .hbm, ⟨2, _⟩ => ⟨S4, .f32⟩
  | .hbm, ⟨3, _⟩ => ⟨S1024x16, .f32⟩
  | .hbm, ⟨4, _⟩ => ⟨S16, .f32⟩
  | .hbm, ⟨5, _⟩ => ⟨S16x1024x256, .f32⟩
  | .hbm, ⟨6, _⟩ => ⟨S16x1024x256, .f32⟩
  | .hbm, ⟨7, _⟩ => ⟨S16x256x1024, .f32⟩
  | .hbm, ⟨8, _⟩ => ⟨S1024, .f32⟩
  | .hbm, ⟨9, _⟩ => ⟨S1024, .f32⟩
  | .hbm, ⟨10, _⟩ => ⟨S1024x20, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S20, .f32⟩
  | .hbm, ⟨15, _⟩ => ⟨S1x20, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S16x256x1024, .bf16⟩
  | .hbm, ⟨20, _⟩ => ⟨S4096x1024, .bf16⟩
  | .hbm, ⟨21, _⟩ => ⟨S16x1024x256, .bf16⟩
  | .hbm, ⟨22, _⟩ => ⟨S16x1024x256, .bf16⟩
  | .hbm, ⟨23, _⟩ => ⟨S1x1024, .f32⟩
  | .hbm, ⟨24, _⟩ => ⟨S1x1024, .f32⟩
  | .hbm, ⟨25, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1024x128, .f32⟩
  | .local _ .vmem, ⟨3, _⟩ => ⟨S1x128, .f32⟩
  | .local _ .vmem, ⟨4, _⟩ => ⟨S16x1024x256, .bf16⟩
  | .local _ .vmem, ⟨5, _⟩ => ⟨S16x1024x256, .bf16⟩
  | .local _ .vmem, ⟨6, _⟩ => ⟨S4096x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x4096, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMoeIdeal.lean ====
abbrev S16384x1024 : Shape := ⟨2, ![16384, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S16384x4 : Shape := ⟨2, ![16384, 4]⟩
abbrev S1x4 : Shape := ⟨2, ![1, 4]⟩
abbrev S16384x16 : Shape := ⟨2, ![16384, 16]⟩
abbrev S1x16 : Shape := ⟨2, ![1, 16]⟩
abbrev S16384x4x4 : Shape := ⟨3, ![16384, 4, 4]⟩
abbrev S_ : Shape := ⟨0, ![]⟩
abbrev S16384 : Shape := ⟨1, ![16384]⟩
abbrev S16384x1 : Shape := ⟨2, ![16384, 1]⟩
abbrev S16384x4x1 : Shape := ⟨3, ![16384, 4, 1]⟩
abbrev S16384x1x4 : Shape := ⟨3, ![16384, 1, 4]⟩
abbrev S4x1 : Shape := ⟨2, ![4, 1]⟩
abbrev S4x4 : Shape := ⟨2, ![4, 4]⟩
abbrev S1x4x4 : Shape := ⟨3, ![1, 4, 4]⟩
abbrev S16384x4x4x1 : Shape := ⟨4, ![16384, 4, 4, 1]⟩
abbrev S16384x4x1x4 : Shape := ⟨4, ![16384, 4, 1, 4]⟩
abbrev S16384x4x4x4 : Shape := ⟨4, ![16384, 4, 4, 4]⟩
abbrev S1x1x4x4 : Shape := ⟨4, ![1, 1, 4, 4]⟩
abbrev S16384x16x256 : Shape := ⟨3, ![16384, 16, 256]⟩
abbrev S16384x16x1 : Shape := ⟨3, ![16384, 16, 1]⟩
abbrev S1x1024 : Shape := ⟨2, ![1, 1024]⟩

abbrev nBuf : Space → Nat
  | .hbm => 163
  | .vmem => 0
  | .smem => 0
  | _ => 0

abbrev hbmTy0_0 (i : Nat) : BufTy := match i % 128 with
  | 0 => ⟨S16384x1024, .f32⟩
  | 1 => ⟨S1024x4, .f32⟩
  | 2 => ⟨S4, .f32⟩
  | 3 => ⟨S1024x16, .f32⟩
  | 4 => ⟨S16, .f32⟩
  | 5 => ⟨S16x1024x256, .f32⟩
  | 6 => ⟨S16x1024x256, .f32⟩
  | 7 => ⟨S16x256x1024, .f32⟩
  | 8 => ⟨S1024, .f32⟩
  | 9 => ⟨S1024, .f32⟩
  | 10 => ⟨S16384x4, .f32⟩
  | 11 => ⟨S1x4, .f32⟩
  | 12 => ⟨S16384x4, .f32⟩
  | 13 => ⟨S16384x4, .f32⟩
  | 14 => ⟨S16384x16, .f32⟩
  | 15 => ⟨S1x16, .f32⟩
  | 16 => ⟨S16384x16, .f32⟩
  | 17 => ⟨S16384x16, .f32⟩
  | 18 => ⟨S16384x4x4, .f32⟩
  | 19 => ⟨S_, .f32⟩
  | 20 => ⟨S16384, .f32⟩
  | 21 => ⟨S16384x1, .f32⟩
  | 22 => ⟨S16384x4, .f32⟩
  | 23 => ⟨S16384x4, .f32⟩
  | 24 => ⟨S16384x4, .f32⟩
  | 25 => ⟨S_, .f32⟩
  | 26 => ⟨S16384, .f32⟩
  | 27 => ⟨S16384x1, .f32⟩
  | 28 => ⟨S16384x4, .f32⟩
  | 29 => ⟨S16384x4, .f32⟩
  | 30 => ⟨S_, .f32⟩
  | 31 => ⟨S16384x4, .f32⟩
  | 32 => ⟨S16384x4x1, .f32⟩
  | 33 => ⟨S16384x4x4, .f32⟩
  | 34 => ⟨S16384x4x4, .f32⟩
  | 35 => ⟨S16384x4x4, .f32⟩
  | 36 => ⟨S_, .f32⟩
  | 37 => ⟨S16384x4, .f32⟩
  | 38 => ⟨S16384x4x1, .f32⟩
  | 39 => ⟨S16384x4x4, .f32⟩
  | 40 => ⟨S16384x4x4, .f32⟩
  | 41 => ⟨S4, .i32⟩
  | 42 => ⟨S16384x4x1, .f32⟩
  | 43 => ⟨S16384x1x4, .f32⟩
  | 44 => ⟨S16384x4x4, .f32⟩
  | 45 => ⟨S16384x4x4, .f32⟩
  | 46 => ⟨S16384x4x4, .i1⟩
  | 47 => ⟨S16384x4x4, .f32⟩
  | 48 => ⟨S16384x4x4, .f32⟩
  | 49 => ⟨S16384x4x4, .i1⟩
  | 50 => ⟨S1x4, .i32⟩
  | 51 => ⟨S4x1, .i32⟩
  | 52 => ⟨S4x4, .i32⟩
  | 53 => ⟨S4x4, .i32⟩
  | 54 => ⟨S4x4, .i1⟩
  | 55 => ⟨S1x4x4, .i1⟩
  | 56 => ⟨S16384x4x4, .i1⟩
  | 57 => ⟨S16384x4x4, .i1⟩
  | 58 => ⟨S16384x4x4, .i1⟩
  | 59 => ⟨S_, .f32⟩
  | 60 => ⟨S_, .f32⟩
  | 61 => ⟨S16384x4x4, .f32⟩
  | 62 => ⟨S16384x4x4, .f32⟩
  | 63 => ⟨S16384x4x4, .f32⟩
  | 64 => ⟨S16384x4x4, .f32⟩
  | 65 => ⟨S_, .f32⟩
  | 66 => ⟨S16384x4, .f32⟩
  | 67 => ⟨S_, .f32⟩
  | 68 => ⟨S16384x4, .f32⟩
  | 69 => ⟨S16384x4, .i1⟩
  | 70 => ⟨S_, .f32⟩
  | 71 => ⟨S_, .f32⟩
  | 72 => ⟨S16384x4, .f32⟩
  | 73 => ⟨S16384x4, .f32⟩
  | 74 => ⟨S4, .i32⟩
  | 75 => ⟨S16384x4x4x1, .f32⟩
  | 76 => ⟨S16384x4x1x4, .f32⟩
  | 77 => ⟨S16384x4x4x4, .f32⟩
  | 78 => ⟨S16384x4x4x4, .f32⟩
  | 79 => ⟨S16384x4x4x4, .i1⟩
  | 80 => ⟨S16384x4x4x4, .f32⟩
  | 81 => ⟨S16384x4x4x4, .f32⟩
  | 82 => ⟨S16384x4x4x4, .i1⟩
  | 83 => ⟨S1x4, .i32⟩
  | 84 => ⟨S4x1, .i32⟩
  | 85 => ⟨S4x4, .i32⟩
  | 86 => ⟨S4x4, .i32⟩
  | 87 => ⟨S4x4, .i1⟩
  | 88 => ⟨S1x1x4x4, .i1⟩
  | 89 => ⟨S16384x4x4x4, .i1⟩
  | 90 => ⟨S16384x4x4x4, .i1⟩
  | 91 => ⟨S16384x4x4x4, .i1⟩
  | 92 => ⟨S_, .f32⟩
  | 93 => ⟨S_, .f32⟩
  | 94 => ⟨S16384x4x4x4, .f32⟩
  | 95 => ⟨S16384x4x4x4, .f32⟩
  | 96 => ⟨S16384x4x4x4, .f32⟩
  | 97 => ⟨S16384x4x4x4, .f32⟩
  | 98 => ⟨S_, .f32⟩
  | 99 => ⟨S16384x4x4, .f32⟩
  | 100 => ⟨S_, .f32⟩
  | 101 => ⟨S16384x4x4, .f32⟩
  | 102 => ⟨S16384x4x4, .i1⟩
  | 103 => ⟨S_, .f32⟩
  | 104 => ⟨S_, .f32⟩
  | 105 => ⟨S16384x4x4, .f32⟩
  | 106 => ⟨S16384x4x4, .f32⟩
  | 107 => ⟨S_, .f32⟩
  | 108 => ⟨S16384x4, .f32⟩
  | 109 => ⟨S16384x4x1, .f32⟩
  | 110 => ⟨S16384x4x4, .f32⟩
  | 111 => ⟨S16384x4x4, .f32⟩
  | 112 => ⟨S16384x4x1, .f32⟩
  | 113 => ⟨S16384x4x4, .f32⟩
  | 114 => ⟨S16384x4x4, .f32⟩
  | 115 => ⟨S16384x16, .f32⟩
  | 116 => ⟨S16384x16x256, .f32⟩
  | 117 => ⟨S16384x16x256, .f32⟩
  | 118 => ⟨S16384x16x256, .f32⟩
  | 119 => ⟨S_, .f32⟩
  | 120 => ⟨S16384x16x256, .f32⟩
  | 121 => ⟨S16384x16x256, .f32⟩
  | 122 => ⟨S_, .f32⟩
  | 123 => ⟨S16384x16x256, .f32⟩
  | 124 => ⟨S16384x16x256, .f32⟩
  | 125 => ⟨S16384x16x256, .f32⟩
  | 126 => ⟨S16384x16x256, .f32⟩
  | 127 => ⟨S16384x16x256, .f32⟩
  | _ => ⟨S16384x1024, .f32⟩

abbrev hbmTy0_1 (i : Nat) : BufTy := match i % 128 with
  | 0 => ⟨S16384x16x1, .f32⟩
  | 1 => ⟨S16384x16x256, .f32⟩
  | 2 => ⟨S16384x16x256, .f32⟩
  | 3 => ⟨S16384x1024, .f32⟩
  | 4 => ⟨S_, .f32⟩
  | 5 => ⟨S16384x1024, .f32⟩
  | 6 => ⟨S16384x1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S16384x1024, .f32⟩
  | 15 => ⟨S16384x1024, .f32⟩
  | 16 => ⟨S16384x1024, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S16384x1, .f32⟩
  | 27 => ⟨S16384x1024, .f32⟩
  | 28 => ⟨S16384x1024, .f32⟩
  | 29 => ⟨S1x1024, .f32⟩
  | 30 => ⟨S16384x1024, .f32⟩
  | 31 => ⟨S16384x1024, .f32⟩
  | 32 => ⟨S1x1024, .f32⟩
  | 33 => ⟨S16384x1024, .f32⟩
  | 34 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_cst_4 : Ref sig .tc := ⟨.hbm, 60, rfl⟩
abbrev main_call0_v0 : Ref sig .tc := ⟨.hbm, 61, rfl⟩
abbrev main_call0_v1 : Ref sig .tc := ⟨.hbm, 62, rfl⟩
abbrev main_v45 : Ref sig .tc := ⟨.hbm, 63, rfl⟩
abbrev main_v46 : Ref sig .tc := ⟨.hbm, 64, rfl⟩
abbrev main_cst_5 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_call1_v0 : Ref sig .tc := ⟨.hbm, 71, rfl⟩
abbrev main_call1_v1 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_8 : Ref sig .tc := ⟨.hbm, 92, rfl⟩
abbrev main_cst_9 : Ref sig .tc := ⟨.hbm, 93, rfl⟩
abbrev main_call2_v0 : Ref sig .tc := ⟨.hbm, 94, rfl⟩
abbrev main_call2_v1 : Ref sig .tc := ⟨.hbm, 95, rfl⟩
abbrev main_v69 : Ref sig .tc := ⟨.hbm, 96, rfl⟩
abbrev main_v70 : Ref sig .tc := ⟨.hbm, 97, rfl⟩
abbrev main_cst_10 : Ref sig .tc := ⟨.hbm, 98, rfl⟩
abbrev main_v71 : Ref sig .tc := ⟨.hbm, 99, rfl⟩
abbrev main_cst_11 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_call3_v0 : Ref sig .tc := ⟨.hbm, 104, rfl⟩
abbrev main_call3_v1 : Ref sig .tc := ⟨.hbm, 105, rfl⟩
abbrev main_v74 : Ref sig .tc := ⟨.hbm, 106, rfl⟩
abbrev main_cst_13 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call4_v0 : Ref sig .tc := ⟨.hbm, 117, rfl⟩
abbrev main_call4_v1 : Ref sig .tc := ⟨.hbm, 118, rfl⟩
abbrev main_call4_cst : Ref sig .tc := ⟨.hbm, 119, rfl⟩
abbrev main_call4_v2 : Ref sig .tc := ⟨.hbm, 120, rfl⟩
abbrev main_call4_v3 : Ref sig .tc := ⟨.hbm, 121, rfl⟩
abbrev main_call4_cst_0 : Ref sig .tc := ⟨.hbm, 122, rfl⟩
abbrev main_call4_v4 : Ref sig .tc := ⟨.hbm, 123, rfl⟩
abbrev main_call4_v5 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_14 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_15 : Ref sig .tc := ⟨.hbm, 136, rfl⟩
abbrev main_v94 : Ref sig .tc := ⟨.hbm, 137, rfl⟩
abbrev main_v95 : Ref sig .tc := ⟨.hbm, 138, rfl⟩
abbrev main_cst_16 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_17 : Ref sig .tc := ⟨.hbm, 145, rfl⟩
abbrev main_v101 : Ref sig .tc := ⟨.hbm, 146, rfl⟩
abbrev main_v102 : Ref sig .tc := ⟨.hbm, 147, rfl⟩
abbrev main_cst_18 : Ref sig .tc := ⟨.hbm, 148, rfl⟩
abbrev main_v103 : Ref sig .tc := ⟨.hbm, 149, rfl⟩
abbrev main_v104 : Ref sig .tc := ⟨.hbm, 150, rfl⟩
abbrev main_cst_19 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩

abbrev nD : Nat := 1
abbrev τ : Topo := Topo.v7x

variable {F : FTy → Type} [FloatOps F]
-- ==== Proof.Unit.lean ====
/- One UNIT of the kernel — one chunk of 128 tokens for one pair of heads — as a function of what the
   unit loads: the chunk's rows of `q`, `k`, `v`, of the gates and of the output gate, and the pair's
   carried state. The definitions hold over any float carrier and follow the order of the kernel's own
   operations, so that the values of the generated run ARE these functions at the sixteen units
   (Pieces.lean). -/
module

public import proofs.«01_k».proof.Proof.Gen.KernelIdeal.Skeleton

@[expose] public section

noncomputable section

namespace Cert.KernelIdeal.Own

open Idealize.ShloMosaic Idealize.SL.Sem Cert.KernelIdeal Cert.KernelIdeal.Gen

variable {F : FTy → Type} [FloatOps F]

/-! ## The split of a 32-bit value in two 16-bit parts -/

/-- The high part: the value rounded to 16 bits. -/
def hi {s : Shape} (x : FVec F s .f32) : FVec F s .bf16 := truncf .bf16 x bitsLt_bf16_f32

/-- The low part: what the rounding left, rounded. -/
def lo {s : Shape} (x : FVec F s .f32) : FVec F s .bf16 :=
  truncf .bf16 (subf x (extf .f32 (hi x) bitsLt_bf16_f32)) bitsLt_bf16_f32

/-- The zero block of 16-bit values. -/
def zb (F : FTy → Type) [FloatOps F] (s : Shape) : FVec F s .bf16 := broadcast s (Scalar.ofBits (F := F) .bf16 0x0000#16)

/-- The zero block of 32-bit values. -/
def zf (F : FTy → Type) [FloatOps F] (s : Shape) : FVec F s .f32 := broadcast s (Scalar.ofBits (F := F) .f32 0x00000000#32)

/-! ## Lane masks -/

/-- The lanes of block `n` of 32 lanes, in a block of 32 rows. -/
def lane32 (n : BitVec 32) : IVec S32x256 1 :=
  cmpi .eq (shrui (iota .tc S32x256 32 [1] iota_S32x256_d1_w32) (broadcast S32x256 5#32)) (broadcast S32x256 n)

/-- The lanes of block `n` of 64 lanes, in a block of 64 rows. -/
def lane64 (n : BitVec 32) : IVec S64x256 1 :=
  cmpi .eq (shrui (iota .tc S64x256 32 [1] iota_S64x256_d1_w32) (broadcast S64x256 6#32)) (broadcast S64x256 n)

/-- The lanes of the even blocks of 32 lanes. -/
def even32 : IVec S32x256 1 :=
  cmpi .slt (andi (iota .tc S32x256 32 [1] iota_S32x256_d1_w32) (broadcast S32x256 63#32)) (broadcast S32x256 32#32)

/-- The lanes of the even blocks of 64 lanes. -/
def even64 : IVec S64x256 1 :=
  cmpi .slt (andi (iota .tc S64x256 32 [1] iota_S64x256_d1_w32) (broadcast S64x256 127#32)) (broadcast S64x256 64#32)

/-- The identity of each of the eight 32-lane blocks. -/
def eye32 : FVec F S32x256 .f32 :=
  sitofp .f32 (extui 32 (cmpi .eq (iota .tc S32x256 32 [0] iota_S32x256_d0_w32)
    (andi (iota .tc S32x256 32 [1] iota_S32x256_d1_w32) (broadcast S32x256 31#32))) natLt_1_32)

/-! ## Block-diagonal right operands -/

/-- The eight 32-lane blocks of `x` on the diagonal of a square. -/
def bd32 (x : FVec F S32x256 .bf16) : FVec F S256x256 .bf16 :=
  concatenate S256x256 0 [⟨S32x256, select (lane32 0#32) x (zb F _)⟩, ⟨S32x256, select (lane32 1#32) x (zb F _)⟩,
    ⟨S32x256, select (lane32 2#32) x (zb F _)⟩, ⟨S32x256, select (lane32 3#32) x (zb F _)⟩,
    ⟨S32x256, select (lane32 4#32) x (zb F _)⟩, ⟨S32x256, select (lane32 5#32) x (zb F _)⟩,
    ⟨S32x256, select (lane32 6#32) x (zb F _)⟩, ⟨S32x256, select (lane32 7#32) x (zb F _)⟩]
    concatenates_S32x256_S32x256_S32x256_S32x256_S32x256_S32x256_S32x256_S32x256_S256x256_d0

/-- The even 32-lane blocks of `x`, each in the rows of the block after it. -/
def odd32 (x : FVec F S32x256 .bf16) : FVec F S256x256 .bf16 :=
  concatenate S256x256 0 [⟨S32x256, zb F _⟩, ⟨S32x256, select (lane32 0#32) x (zb F _)⟩,
    ⟨S32x256, zb F _⟩, ⟨S32x256, select (lane32 2#32) x (zb F _)⟩,
    ⟨S32x256, zb F _⟩, ⟨S32x256, select (lane32 4#32) x (zb F _)⟩,
    ⟨S32x256, zb F _⟩, ⟨S32x256, select (lane32 6#32) x (zb F _)⟩]
    concatenates_S32x256_S32x256_S32x256_S32x256_S32x256_S32x256_S32x256_S32x256_S256x256_d0

/-- The four 64-lane blocks of `x` on the diagonal of a square. -/
def bd64 (x : FVec F S64x256 .bf16) : FVec F S256x256 .bf16 :=
  concatenate S256x256 0 [⟨S64x256, select (lane64 0#32) x (zb F _)⟩, ⟨S64x256, select (lane64 1#32) x (zb F _)⟩,
    ⟨S64x256, select (lane64 2#32) x (zb F _)⟩, ⟨S64x256, select (lane64 3#32) x (zb F _)⟩]
    concatenates_S64x256_S64x256_S64x256_S64x256_S256x256_d0

/-- The even 64-lane blocks of `x`, each in the rows of the block after it. -/
def odd64 (x : FVec F S64x256 .bf16) : FVec F S256x256 .bf16 :=
  concatenate S256x256 0 [⟨S64x256, zb F _⟩, ⟨S64x256, select (lane64 0#32) x (zb F _)⟩,
    ⟨S64x256, zb F _⟩, ⟨S64x256, select (lane64 2#32) x (zb F _)⟩]
    concatenates_S64x256_S64x256_S64x256_S64x256_S256x256_d0

/-- The two 128-lane halves of `x` on the diagonal of a square. -/
def bd128 (x : FVec F S128x256 .bf16) : FVec F S256x256 .bf16 :=
  concatenate S256x256 0 [⟨S128x256, select k0_pay9 x (zb F _)⟩, ⟨S128x256, select k0_pay9 (zb F _) x⟩]
    concatenates_S128x256_S128x256_S256x256_d0

/-! ## Products of split values -/

/-- Two blocks of 32 rows, one above the other. -/
def cat2 (x y : FVec F S32x256 .bf16) : FVec F S64x256 .bf16 :=
  concatenate S64x256 0 [⟨S32x256, x⟩, ⟨S32x256, y⟩] concatenates_S32x256_S32x256_S64x256_d0

/-- Four blocks of 32 rows. -/
def cat4 (x y z w : FVec F S32x256 .bf16) : FVec F S128x256 .bf16 :=
  concatenate S128x256 0 [⟨S32x256, x⟩, ⟨S32x256, y⟩, ⟨S32x256, z⟩, ⟨S32x256, w⟩]
    concatenates_S32x256_S32x256_S32x256_S32x256_S128x256_d0

/-- The plain product of 32 rows. -/
def mm32 (x : FVec F S32x256 .bf16) (y : FVec F S256x256 .bf16) : FVec F S32x256 .f32 :=
  matmul dot_S32x256_S256x256_S32x256_1_0_0_1_n_n none x y (constant S32x256 .f32 0x00000000#32)

/-- The plain product of 64 rows. -/
def mm64 (x : FVec F S64x256 .bf16) (y : FVec F S256x256 .bf16) : FVec F S64x256 .f32 :=
  matmul dot_S64x256_S256x256_S64x256_1_0_0_1_n_n none x y (constant S64x256 .f32 0x00000000#32)

/-- The plain product of 128 rows. -/
def mm128 (x : FVec F S128x256 .bf16) (y : FVec F S256x256 .bf16) : FVec F S128x256 .f32 :=
  matmul dot_S128x256_S256x256_S128x256_1_0_0_1_n_n none x y (constant S128x256 .f32 0x00000000#32)

/-- The plain product of 256 rows. -/
def mm256 (x : FVec F S256x256 .bf16) (y : FVec F S256x256 .bf16) : FVec F S256x256 .f32 :=
  matmul dot_S256x256_S256x256_S256x256_1_0_0_1_n_n none x y (constant S256x256 .f32 0x00000000#32)

/-- The product of 32 split rows with a split square, without low times low. -/
def dot32 (a : FVec F S32x256 .f32) (bh bl : FVec F S256x256 .bf16) : FVec F S32x256 .f32 :=
  addf (addf (extractStridedSlice S32x256 ![0, 0] (mm64 (cat2 (hi a) (lo a)) bh) slices_S64x256_o0_0_S32x256)
    (extractStridedSlice S32x256 ![32, 0] (mm64 (cat2 (hi a) (lo a)) bh) slices_S64x256_o32_0_S32x256))
    (mm32 (hi a) bl)

/-- The first of two such products made together. -/
def dotA (a b : FVec F S32x256 .f32) (bh bl : FVec F S256x256 .bf16) : FVec F S32x256 .f32 :=
  addf (addf (extractStridedSlice S32x256 ![0, 0] (mm128 (cat4 (hi a) (hi b) (lo a) (lo b)) bh) slices_S128x256_o0_0_S32x256)
    (extractStridedSlice S32x256 ![64, 0] (mm128 (cat4 (hi a) (hi b) (lo a) (lo b)) bh) slices_S128x256_o64_0_S32x256))
    (extractStridedSlice S32x256 ![0, 0] (mm64 (cat2 (hi a) (hi b)) bl) slices_S64x256_o0_0_S32x256)

/-- The second of two such products made together. -/
def dotB (a b : FVec F S32x256 .f32) (bh bl : FVec F S256x256 .bf16) : FVec F S32x256 .f32 :=
  addf (addf (extractStridedSlice S32x256 ![32, 0] (mm128 (cat4 (hi a) (hi b) (lo a) (lo b)) bh) slices_S128x256_o32_0_S32x256)
    (extractStridedSlice S32x256 ![96, 0] (mm128 (cat4 (hi a) (hi b) (lo a) (lo b)) bh) slices_S128x256_o96_0_S32x256))
    (extractStridedSlice S32x256 ![32, 0] (mm64 (cat2 (hi a) (hi b)) bl) slices_S64x256_o32_0_S32x256)

/-- The product of 64 split rows with a split square, without low times low. -/
def dot64 (a : FVec F S64x256 .f32) (bh bl : FVec F S256x256 .bf16) : FVec F S64x256 .f32 :=
  addf (addf (extractStridedSlice S64x256 ![0, 0] (mm128 (concatenate S128x256 0 [⟨S64x256, hi a⟩, ⟨S64x256, lo a⟩] concatenates_S64x256_S64x256_S128x256_d0) bh) slices_S128x256_o0_0_S64x256)
    (extractStridedSlice S64x256 ![64, 0] (mm128 (concatenate S128x256 0 [⟨S64x256, hi a⟩, ⟨S64x256, lo a⟩] concatenates_S64x256_S64x256_S128x256_d0) bh) slices_S128x256_o64_0_S64x256))
    (mm64 (hi a) bl)

/-! ## The inverse of a unit-lower triangular matrix -/

/-- The two 64-row diagonal blocks of each head, packed in lanes. -/
def diag64 (a : FVec F S128x256 .f32) : FVec F S64x256 .f32 :=
  select even64 (extractStridedSlice S64x256 ![0, 0] a slices_S128x256_o0_0_S64x256)
    (extractStridedSlice S64x256 ![64, 0] a slices_S128x256_o64_0_S64x256)

/-- The two 32-row diagonal blocks of each 64-row block, packed in lanes. -/
def diag32 (a : FVec F S64x256 .f32) : FVec F S32x256 .f32 :=
  select even32 (extractStridedSlice S32x256 ![0, 0] a slices_S64x256_o0_0_S32x256)
    (extractStridedSlice S32x256 ![32, 0] a slices_S64x256_o32_0_S32x256)

/-- The square of the packed blocks. -/
def sq32 (n : FVec F S32x256 .f32) : FVec F S32x256 .f32 := dot32 n (bd32 (hi n)) (bd32 (lo n))

/-- One doubling step: `t + t n`. -/
def stepT (t n : FVec F S32x256 .f32) : FVec F S32x256 .f32 := addf t (dotA t n (bd32 (hi n)) (bd32 (lo n)))

/-- The next power: `n n`, made together with `t n`. -/
def stepN (t n : FVec F S32x256 .f32) : FVec F S32x256 .f32 := dotB t n (bd32 (hi n)) (bd32 (lo n))

/-- The last doubling step, which needs no next power. -/
def stepL (t n : FVec F S32x256 .f32) : FVec F S32x256 .f32 := addf t (dot32 t (bd32 (hi n)) (bd32 (lo n)))

/-- The inverses of the eight 32-row blocks `1 - n`. -/
def inv32 (n : FVec F S32x256 .f32) : FVec F S32x256 .f32 :=
  let t0 := addf eye32 n
  let n2 := sq32 n
  let t1 := stepT t0 n2
  let n4 := stepN t0 n2
  let t2 := stepT t1 n4
  let n8 := stepN t1 n4
  let t3 := stepT t2 n8
  let n16 := stepN t2 n8
  stepL t3 n16

/-- The 64-row inverses from the 32-row ones and the 64-row blocks `a`. -/
def grow32 (t : FVec F S32x256 .f32) (a : FVec F S64x256 .f32) : FVec F S64x256 .f32 :=
  let n21 := select even32 (extractStridedSlice S32x256 ![32, 0] a slices_S64x256_o32_0_S32x256) (zf F _)
  let x21 := dot32 n21 (bd32 (hi t)) (bd32 (lo t))
  let t21 := dot32 t (odd32 (hi x21)) (odd32 (lo x21))
  concatenate S64x256 0 [⟨S32x256, select even32 t (zf F _)⟩, ⟨S32x256, select even32 t21 t⟩]
    concatenates_S32x256_S32x256_S64x256_d0

/-- The 128-row inverses from the 64-row ones and the 128-row blocks `a`. -/
def grow64 (t : FVec F S64x256 .f32) (a : FVec F S128x256 .f32) : FVec F S128x256 .f32 :=
  let n21 := select even64 (extractStridedSlice S64x256 ![64, 0] a slices_S128x256_o64_0_S64x256) (zf F _)
  let x21 := dot64 n21 (bd64 (hi t)) (bd64 (lo t))
  let t21 := dot64 t (odd64 (hi x21)) (odd64 (lo x21))
  concatenate S128x256 0 [⟨S64x256, select even64 t (zf F _)⟩, ⟨S64x256, select even64 t21 t⟩]
    concatenates_S64x256_S64x256_S128x256_d0

/-- The inverses of the two heads' `1 - a`. -/
def inv128 (a : FVec F S128x256 .f32) : FVec F S128x256 .f32 :=
  grow64 (grow32 (inv32 (diag32 (diag64 a))) (diag64 a)) a

/-! ## What a unit makes of its loads -/

/-- Two columns, each along 128 lanes. -/
def cols (j0 j1 : Nat) (h0 : S128x128.Slices ![0, j0] S128x1) (h1 : S128x128.Slices ![0, j1] S128x1)
    (a : FVec F S128x128 .f32) : FVec F S128x256 .f32 :=
  concatenate S128x256 1 [
    ⟨S128x128, broadcastTo S128x128 (shapeCast S128x1 (extractStridedSlice S128x1 ![0, j0] a h0) shapeCasts_S128x1_S128x1) broadcasts_S128x1_S128x128⟩,
    ⟨S128x128, broadcastTo S128x128 (shapeCast S128x1 (extractStridedSlice S128x1 ![0, j1] a h1) shapeCasts_S128x1_S128x1) broadcasts_S128x1_S128x128⟩]
    concatenates_S128x128_S128x128_S128x256_d1

/-- The slice lies in the matrix, for each of the four pairs. -/
theorem sl_g0 (p : Fin 4) : S128x128.Slices ![0, 2 * p.val] S128x1 := by revert p; decide
/-- The slice lies in the matrix, for each of the four pairs. -/
theorem sl_g1 (p : Fin 4) : S128x128.Slices ![0, 2 * p.val + 1] S128x1 := by revert p; decide
/-- The slice lies in the matrix, for each of the four pairs. -/
theorem sl_b0 (p : Fin 4) : S128x128.Slices ![0, 8 + 2 * p.val] S128x1 := by revert p; decide
/-- The slice lies in the matrix, for each of the four pairs. -/
theorem sl_b1 (p : Fin 4) : S128x128.Slices ![0, 8 + 2 * p.val + 1] S128x1 := by revert p; decide
/-- The slice lies in the matrix, for each of the four pairs. -/
theorem sl_r0 (p : Fin 4) : S128x128.Slices ![2 * p.val, 0] S1x128 := by revert p; decide
/-- The slice lies in the matrix, for each of the four pairs. -/
theorem sl_r1 (p : Fin 4) : S128x128.Slices ![2 * p.val + 1, 0] S1x128 := by revert p; decide
/-- The slice lies in the matrix, for each of the four pairs. -/
theorem sl_l0 (p : Fin 4) : S128x128.Slices ![127, 2 * p.val] S1x1 := by revert p; decide
/-- The slice lies in the matrix, for each of the four pairs. -/
theorem sl_l1 (p : Fin 4) : S128x128.Slices ![127, 2 * p.val + 1] S1x1 := by revert p; decide

/-- The pair's running sums of the log-decays, along rows. -/
def gCol (p : Fin 4) (gb : FVec F S128x128 .f32) : FVec F S128x256 .f32 :=
  cols (2 * p.val) (2 * p.val + 1) (sl_g0 p) (sl_g1 p) (k0_pay16 gb)

/-- The pair's step sizes, along rows. -/
def beta (p : Fin 4) (gb : FVec F S128x128 .f32) : FVec F S128x256 .f32 :=
  cols (8 + 2 * p.val) (8 + 2 * p.val + 1) (sl_b0 p) (sl_b1 p) gb

/-- The pair's running sums of the log-decays, along lanes. -/
def gRow (p : Fin 4) (gb : FVec F S128x128 .f32) : FVec F S1x256 .f32 :=
  concatenate S1x256 1 [
    ⟨S1x128, extractStridedSlice S1x128 ![2 * p.val, 0] (k0_pay17 gb) (sl_r0 p)⟩,
    ⟨S1x128, extractStridedSlice S1x128 ![2 * p.val + 1, 0] (k0_pay17 gb) (sl_r1 p)⟩] concatenates_S1x128_S1x128_S1x256_d1

/-- The pair's last running sums. -/
def gLast (p : Fin 4) (gb : FVec F S128x128 .f32) : FVec F S1x256 .f32 :=
  concatenate S1x256 1 [
    ⟨S1x128, broadcastTo S1x128 (shapeCast S1x1 (extractStridedSlice S1x1 ![127, 2 * p.val] (k0_pay16 gb) (sl_l0 p)) shapeCasts_S1x1_S1x1) broadcasts_S1x1_S1x128⟩,
    ⟨S1x128, broadcastTo S1x128 (shapeCast S1x1 (extractStridedSlice S1x1 ![127, 2 * p.val + 1] (k0_pay16 gb) (sl_l1 p)) shapeCasts_S1x1_S1x1) broadcasts_S1x1_S1x128⟩]
    concatenates_S1x128_S1x128_S1x256_d1

/-- The decay from one token of the chunk to a later one. -/
def decay (p : Fin 4) (gb : FVec F S128x128 .f32) : FVec F S128x256 .f32 :=
  select k0_pay11 (exp (select k0_pay11 (subf (gCol p gb) (broadcastTo S128x256 (gRow p gb) broadcasts_S1x256_S128x256)) (zf F _))) (zf F _)

/-- The keys times the step sizes. -/
def kBeta (p : Fin 4) (gb : FVec F S128x128 .f32) (k : FVec F S128x256 .bf16) : FVec F S128x256 .f32 :=
  mulf (extf .f32 k bitsLt_bf16_f32) (beta p gb)

/-- Keys with keys (upper half) and queries with keys (lower half). -/
def aq (p : Fin 4) (gb : FVec F S128x128 .f32) (q k : FVec F S128x256 .bf16) : FVec F S256x256 .f32 :=
  matmul dot_S256x256_S256x256_S256x256_1_1_0_0_n_n none
    (truncf .bf16 (concatenate S256x256 0 [⟨S128x256, kBeta p gb k⟩, ⟨S128x256, extf .f32 q bitsLt_bf16_f32⟩] concatenates_S128x256_S128x256_S256x256_d0) bitsLt_bf16_f32)
    (bd128 k) (constant S256x256 .f32 0x00000000#32)

/-- The strictly lower matrix whose `1 - a` is inverted. -/
def negA (p : Fin 4) (gb : FVec F S128x128 .f32) (q k : FVec F S128x256 .bf16) : FVec F S128x256 .f32 :=
  select k0_pay12 (subf (zf F _) (mulf (extractStridedSlice S128x256 ![0, 0] (aq p gb q k) slices_S256x256_o0_0_S128x256) (decay p gb))) (zf F _)

/-- Queries with keys, decayed. -/
def qk (p : Fin 4) (gb : FVec F S128x128 .f32) (q k : FVec F S128x256 .bf16) : FVec F S128x256 .bf16 :=
  truncf .bf16 (mulf (extractStridedSlice S128x256 ![128, 0] (aq p gb q k) slices_S256x256_o128_0_S128x256) (decay p gb)) bitsLt_bf16_f32

/-- The values times the step sizes, on the diagonal of a square. -/
def vb (p : Fin 4) (gb : FVec F S128x128 .f32) (v : FVec F S128x256 .bf16) : FVec F S256x256 .bf16 :=
  bd128 (truncf .bf16 (mulf (extf .f32 v bitsLt_bf16_f32) (beta p gb)) bitsLt_bf16_f32)

/-- The keys times step sizes and decays, on the diagonal of a square. -/
def kbe (p : Fin 4) (gb : FVec F S128x128 .f32) (k : FVec F S128x256 .bf16) : FVec F S256x256 .bf16 :=
  bd128 (truncf .bf16 (mulf (kBeta p gb k) (exp (gCol p gb))) bitsLt_bf16_f32)

/-- The queries times the decays. -/
def qExp (p : Fin 4) (gb : FVec F S128x128 .f32) (q : FVec F S128x256 .bf16) : FVec F S128x256 .bf16 :=
  truncf .bf16 (mulf (extf .f32 q bitsLt_bf16_f32) (exp (gCol p gb))) bitsLt_bf16_f32

/-- The keys times the decays to the chunk's end. -/
def kDec (p : Fin 4) (gb : FVec F S128x128 .f32) (k : FVec F S128x256 .bf16) : FVec F S128x256 .bf16 :=
  truncf .bf16 (mulf (extf .f32 k bitsLt_bf16_f32) (exp (subf (broadcastTo S128x256 (gLast p gb) broadcasts_S1x256_S128x256) (gCol p gb)))) bitsLt_bf16_f32

/-- The pair's inverses. -/
def tInv (p : Fin 4) (gb : FVec F S128x128 .f32) (q k : FVec F S128x256 .bf16) : FVec F S128x256 .bf16 :=
  hi (inv128 (negA p gb q k))

/-- The inverse times the values. -/
def uMat (p : Fin 4) (gb : FVec F S128x128 .f32) (q k v : FVec F S128x256 .bf16) : FVec F S128x256 .f32 :=
  mm128 (tInv p gb q k) (vb p gb v)

/-- The inverse times the keys. -/
def wMat (p : Fin 4) (gb : FVec F S128x128 .f32) (q k : FVec F S128x256 .bf16) : FVec F S128x256 .bf16 :=
  hi (mm128 (tInv p gb q k) (kbe p gb k))

/-- The state read by the inverse's keys (upper half) and by the queries (lower half). -/
def wsQs (p : Fin 4) (gb : FVec F S128x128 .f32) (q k : FVec F S128x256 .bf16) (st : FVec F S256x256 .f32) : FVec F S256x256 .f32 :=
  mm256 (concatenate S256x256 0 [⟨S128x256, wMat p gb q k⟩, ⟨S128x256, qExp p gb q⟩] concatenates_S128x256_S128x256_S256x256_d0) (hi st)

/-- The chunk's corrected values: what each token adds to the state. -/
def vNew (p : Fin 4) (gb : FVec F S128x128 .f32) (q k v : FVec F S128x256 .bf16) (st : FVec F S256x256 .f32) : FVec F S128x256 .bf16 :=
  hi (subf (uMat p gb q k v) (extractStridedSlice S128x256 ![0, 0] (wsQs p gb q k st) slices_S256x256_o0_0_S128x256))

/-- The chunk's outputs before the norm. -/
def out (p : Fin 4) (gb : FVec F S128x128 .f32) (q k v : FVec F S128x256 .bf16) (st : FVec F S256x256 .f32) : FVec F S128x256 .f32 :=
  addf (extractStridedSlice S128x256 ![128, 0] (wsQs p gb q k st) slices_S256x256_o128_0_S128x256)
    (mm128 (qk p gb q k) (bd128 (vNew p gb q k v st)))

/-- The pair's state after the chunk. -/
def stNew (p : Fin 4) (gb : FVec F S128x128 .f32) (q k v : FVec F S128x256 .bf16) (st : FVec F S256x256 .f32) : FVec F S256x256 .f32 :=
  select k0_pay13 (addf (mulf st (broadcastTo S256x256 (exp (gLast p gb)) broadcasts_S1x256_S256x256))
    (matmul dot_S128x256_S128x256_S256x256_0_0_1_1_n_n none (kDec p gb k) (vNew p gb q k v st) (constant S256x256 .f32 0x00000000#32))) (zf F _)

/-- The mean over one half of the lanes, along that half. -/
def mean128 (x : FVec F S128x128 .f32) : FVec F S128x128 .f32 :=
  broadcastTo S128x128 (shapeCast S128x1 (divf (shapeCast S128x1 (multiReduction .add [1] S128 x 0x00000000#32 reduces_S128x128_S128 (.inl rfl) rfl) shapeCasts_S128_S128x1)
    (broadcast S128x1 (Scalar.ofBits .f32 0x43000000#32))) shapeCasts_S128x1_S128x1) broadcasts_S128x1_S128x128

/-- The normed and gated outputs. -/
def normed (ng : FVec F S1x256 .f32) (sz : FVec F S128x256 .bf16) (o : FVec F S128x256 .f32) : FVec F S128x256 .bf16 :=
  truncf .bf16 (mulf (mulf (mulf o (rsqrt (addf (concatenate S128x256 1 [
    ⟨S128x128, mean128 (extractStridedSlice S128x128 ![0, 0] (mulf o o) slices_S128x256_o0_0_S128x128)⟩,
    ⟨S128x128, mean128 (extractStridedSlice S128x128 ![0, 128] (mulf o o) slices_S128x256_o0_128_S128x128)⟩] concatenates_S128x128_S128x128_S128x256_d1)
    (broadcast S128x256 (Scalar.ofBits .f32 0x358637BD#32))))) (broadcastTo S128x256 ng broadcasts_S1x256_S128x256)) (extf .f32 sz bitsLt_bf16_f32)) bitsLt_bf16_f32

end Cert.KernelIdeal.Own
-- ==== Proof.Pieces.lean ====
/- The stores of the generated run are the unit functions of Unit.lean: sixteen pieces of the result
   (four chunks by four head pairs) and four pieces of the carried state, in both cases of the kernel
   (a sequence's first block, which starts from a zero state, and a later block). -/
module
public import proofs.«01_k».proof.Proof.Unit
public import proofs.«01_k».proof.Proof.Gen.KernelIdeal.Frame
@[expose] public section

open Idealize.ShloMosaic Idealize.SL.Sem Cert.KernelIdeal Cert.KernelIdeal.Gen
set_option maxRecDepth 16384
noncomputable section
namespace Cert.KernelIdeal.Own
variable {F : FTy → Type} [FloatOps F]

/-- A chunk of a head pair lies in the block. -/
theorem inbQ (ci p : Fin 4) : ∀ a, (![128 * ci.val, 256 * p.val] : Fin 2 → Nat) a + S128x256.size a ≤ S512x1024.size a := by
  revert ci p; decide
/-- A chunk's decays and step sizes lie in the block. -/
theorem inbG (ci : Fin 4) : ∀ a, (![128 * ci.val, 0] : Fin 2 → Nat) a + S128x128.size a ≤ S512x128.size a := by
  revert ci; decide
/-- A pair's state lies in the carried state. -/
theorem inbS (p : Fin 4) : ∀ a, (![p.val, 0, 0] : Fin 3 → Nat) a + S1x256x256.size a ≤ S4x256x256.size a := by
  revert p; decide

/-- The rows of chunk `ci` and the lanes of pair `p`. -/
def rq (ci p : Fin 4) : Rect S512x1024 := Rect.unit ![128 * ci.val, 256 * p.val] S128x256.size (inbQ ci p)
/-- The place of a chunk's decays and step sizes. -/
def rg (ci : Fin 4) : Rect S512x128 := Rect.unit ![128 * ci.val, 0] S128x128.size (inbG ci)
/-- The place of a pair's state. -/
def rs (p : Fin 4) : Rect S4x256x256 := Rect.unit ![p.val, 0, 0] S1x256x256.size (inbS p)

/-- The carried state of pair `p` before chunk `n`, from the loaded state. -/
def chain (p : Fin 4) (gb : Fin 4 → FVec F S128x128 .f32) (q k v : Fin 4 → FVec F S128x256 .bf16)
    (st : FVec F S256x256 .f32) : Nat → FVec F S256x256 .f32
  | 0 => st
  | n + 1 => stNew p (gb (Fin.ofNat 4 n)) (q (Fin.ofNat 4 n)) (k (Fin.ofNat 4 n)) (v (Fin.ofNat 4 n)) (chain p gb q k v st n)

section
variable (arg2 : Memref sig .tc .vmem S512x1024 .bf16) (harg2 : arg2.IsWhole)
/-- A pair's piece of a chunk as the kernel reads it. -/
abbrev lq (x : Vec F S512x1024 .bf16) (p ci : Fin 4) : FVec F S128x256 .bf16 := View.readAt (Elt F) arg2.view (rq ci p).toLoadRect (harg2.unread x)
end
/-- A chunk's decays and step sizes as the kernel reads them. -/
abbrev lg (arg : Memref sig .tc .vmem S512x128 .f32) (harg : arg.IsWhole) (x : Vec F S512x128 .f32) (ci : Fin 4) : FVec F S128x128 .f32 := View.readAt (Elt F) arg.view (rg ci).toLoadRect (harg.unread x)
/-- A pair's carried state as the kernel reads it. -/
abbrev ls (arg : Memref sig .tc .vmem S4x256x256 .f32) (harg : arg.IsWhole) (x : Vec F S4x256x256 .f32) (p : Fin 4) : FVec F S256x256 .f32 := k0_pay1455 (View.readAt (Elt F) arg.view (rs p).toLoadRect (harg.unread x))

section
variable (c : Dev nD) (i : grid0.Coords)
  (arg2 : Memref sig .tc .vmem S512x1024 .bf16) (harg2 : arg2.IsWhole)
  (arg3 : Memref sig .tc .vmem S512x1024 .bf16) (harg3 : arg3.IsWhole)
  (arg4 : Memref sig .tc .vmem S512x1024 .bf16) (harg4 : arg4.IsWhole)
  (arg5 : Memref sig .tc .vmem S512x128 .f32) (harg5 : arg5.IsWhole)
  (arg6 : Memref sig .tc .vmem S512x1024 .bf16) (harg6 : arg6.IsWhole)
  (arg7 : Memref sig .tc .vmem S1x128 .f32) (harg7 : arg7.IsWhole)
  (arg8 : Memref sig .tc .vmem S1x512x256 .f32) (harg8 : arg8.IsWhole)
  (arg9 : Memref sig .tc .vmem S1x512x256 .f32) (harg9 : arg9.IsWhole)
  (arg10 : Memref sig .tc .vmem S1x128x1024 .f32) (harg10 : arg10.IsWhole)
  (arg11 : Memref sig .tc .vmem S512x1024 .bf16) (harg11 : arg11.IsWhole)
  (arg12 : Memref sig .tc .vmem S1x512x256 .bf16) (harg12 : arg12.IsWhole)
  (arg13 : Memref sig .tc .vmem S1x512x256 .bf16) (harg13 : arg13.IsWhole)
  (arg14 : Memref sig .tc .vmem S1x128x1024 .bf16) (harg14 : arg14.IsWhole)
  (arg15 : Memref sig .tc .vmem S4x256x256 .f32) (harg15 : arg15.IsWhole)
  (x0 x1 x2 : Vec F S512x1024 .bf16) (x3 : Vec F S512x128 .f32) (x4 : Vec F S512x1024 .bf16) (x5 : Vec F S1x128 .f32)
  (x6 x7 : Vec F S1x512x256 .f32) (x8 : Vec F S1x128x1024 .f32) (xs0 : Vec F S4x256x256 .f32)

/-- The norm weights as the kernel reads them. -/
abbrev lng (arg7 : Memref sig .tc .vmem S1x128 .f32) (harg7 : arg7.IsWhole) (x5 : Vec F S1x128 .f32) : FVec F S1x256 .f32 :=
  k0_pay15 (View.readAt (Elt F) arg7.view (Rect.unit ![0, 0] S1x128.size inb_S1x128_S1x128_0_0).toLoadRect (harg7.unread x5))
    (View.readAt (Elt F) arg7.view (Rect.unit ![0, 0] S1x128.size inb_S1x128_S1x128_0_0).toLoadRect (harg7.unread x5))

/-- What is stored of one chunk of one pair. -/
def piece (gb : Fin 4 → FVec F S128x128 .f32) (q k v sz : Fin 4 → Fin 4 → FVec F S128x256 .bf16) (ng : FVec F S1x256 .f32)
    (st : Fin 4 → FVec F S256x256 .f32) (ci p : Fin 4) : View.Piece (Elt F) S512x1024 .bf16 :=
  ⟨rq ci p, normed ng (sz p ci) (out p (gb ci) (q p ci) (k p ci) (v p ci) (chain p gb (q p) (k p) (v p) (st p) ci.val))⟩

/-- What is stored of one pair's state. -/
def spiece (gb : Fin 4 → FVec F S128x128 .f32) (q k v : Fin 4 → Fin 4 → FVec F S128x256 .bf16)
    (st : Fin 4 → FVec F S256x256 .f32) (p : Fin 4) : View.Piece (Elt F) S4x256x256 .f32 :=
  ⟨rs p, k0_pay1 (chain p gb (q p) (k p) (v p) (st p) 4)⟩

/-- The sixteen stores of the result, the last one first. -/
def pieces (gb : Fin 4 → FVec F S128x128 .f32) (q k v sz : Fin 4 → Fin 4 → FVec F S128x256 .bf16) (ng : FVec F S1x256 .f32)
    (st : Fin 4 → FVec F S256x256 .f32) : List (View.Piece (Elt F) S512x1024 .bf16) :=
  let P := piece gb q k v sz ng st
  [P 3 3, P 3 2, P 3 1, P 3 0, P 2 3, P 2 2, P 2 1, P 2 0, P 1 3, P 1 2, P 1 1, P 1 0, P 0 3, P 0 2, P 0 1, P 0 0]

/-- A later block's stores of the result. -/
theorem piecesB (hc : ¬ cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs0).1
      = pieces (lg arg5 harg5 x3) (lq arg2 harg2 x0) (lq arg3 harg3 x1) (lq arg4 harg4 x2) (lq arg6 harg6 x4) (lng arg7 harg7 x5) (ls arg15 harg15 xs0) := rfl

/-- A later block's stores of the carried state. -/
theorem spiecesB (hc : ¬ cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 xs0).2.2.2.2.1
      = (let P := spiece (lg arg5 harg5 x3) (lq arg2 harg2 x0) (lq arg3 harg3 x1) (lq arg4 harg4 x2) (ls arg15 harg15 xs0)
        [P 3, P 2, P 1, P 0]) := rfl

/-- The zero fill of the carried state. -/
def zpiece (F : FTy → Type) [FloatOps F] : View.Piece (Elt F) S4x256x256 .f32 :=
  ⟨Rect.unit ![0, 0, 0] S4x256x256.size inb_S4x256x256_S4x256x256_0_0_0, k0_pay8⟩

/-- The state a first block reads back after its zero fill. -/
def lz (arg15 : Memref sig .tc .vmem S4x256x256 .f32) (p : Fin 4) : FVec F S256x256 .f32 :=
  k0_pay1455 (View.readCov arg15.view [zpiece F] (rs p).toLoadRect)

/-- A first block's stores of the result. -/
theorem piecesA (hc : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8).1
      = pieces (lg arg5 harg5 x3) (lq arg2 harg2 x0) (lq arg3 harg3 x1) (lq arg4 harg4 x2) (lq arg6 harg6 x4) (lng arg7 harg7 x5) (lz arg15) := rfl

/-- A first block's stores of the carried state. -/
theorem spiecesA (hc : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8).2.2.2.2.1
      = (let P := spiece (lg arg5 harg5 x3) (lq arg2 harg2 x0) (lq arg3 harg3 x1) (lq arg4 harg4 x2) (lz arg15)
        [P 3, P 2, P 1, P 0, zpiece F]) := rfl
end
end Cert.KernelIdeal.Own
-- ==== Proof.Math.lean ====
/- The mathematics, over the real numbers alone: sums over packed blocks, the inverse of `1 - n` for a
   strictly lower triangular `n` by doubling and by growing blocks, and the gated delta rule of one
   chunk in closed form. -/
module

public import Mathlib.Data.Matrix.Mul
public import Mathlib.LinearAlgebra.Matrix.Notation
public import Mathlib.Algebra.BigOperators.Fin
public import Mathlib.Algebra.BigOperators.Intervals
public import Mathlib.Analysis.SpecialFunctions.Exp
public import Mathlib.Tactic.Ring
public import Mathlib.Tactic.Linarith
public import Mathlib.Tactic.Abel
public import Mathlib.Tactic.NoncommRing

@[expose] public section

noncomputable section

namespace Cert.DeltaMath

open Finset

/-! ## Sums over blocks -/

/-- A sum over `s * n` places is the sum over `n` blocks of the sums over their `s` places. -/
theorem sum_blocks (s : ℕ) (f : ℕ → ℝ) : ∀ n : ℕ, ∑ k ∈ range (s * n), f k = ∑ h ∈ range n, ∑ j ∈ range s, f (s * h + j)
  | 0 => by simp
  | n + 1 => by rw [Nat.mul_succ, sum_range_add, sum_range_succ, sum_blocks s f n]

/-- A sum over blocks whose terms vanish off block `b` is the sum over block `b`. -/
theorem sum_block (s n b : ℕ) (hb : b < n) (f : ℕ → ℝ) (hf : ∀ h j, h < n → j < s → h ≠ b → f (s * h + j) = 0) :
    ∑ k ∈ range (s * n), f k = ∑ j ∈ range s, f (s * b + j) := by
  rw [sum_blocks, sum_eq_single b]
  · intro h hh hne
    exact sum_eq_zero fun j hj => hf h j (mem_range.mp hh) (mem_range.mp hj) hne
  · intro h
    exact absurd (mem_range.mpr hb) h

/-- A sum whose terms vanish from `m` on stops at `m`. -/
theorem sum_upto (n m : ℕ) (h : m ≤ n) (f : ℕ → ℝ) (hf : ∀ j, m ≤ j → f j = 0) : ∑ j ∈ range n, f j = ∑ j ∈ range m, f j := by
  obtain ⟨d, rfl⟩ := Nat.exists_eq_add_of_le h
  rw [sum_range_add, add_eq_left]
  exact sum_eq_zero fun j _ => hf _ (by omega)

/-! ## Square matrices read from functions of two indices -/

/-- The `s` by `s` matrix of a function's first entries. -/
def toM (s : ℕ) (f : ℕ → ℕ → ℝ) : Matrix (Fin s) (Fin s) ℝ := fun i j => f i j

/-- `T` is a left inverse of `1 - N` on the first `s` rows and columns. -/
def LInv (s : ℕ) (T N : ℕ → ℕ → ℝ) : Prop :=
  ∀ r c, r < s → c < s → T r c - ∑ j ∈ range s, T r j * N j c = if r = c then 1 else 0

/-- `T` is the inverse of `1 - N` as matrices. -/
theorem lInv_iff (s : ℕ) (T N : ℕ → ℕ → ℝ) : LInv s T N ↔ toM s T * (1 - toM s N) = 1 := by
  constructor
  · intro h
    ext i j
    have := h i j i.isLt j.isLt
    rw [Matrix.mul_sub, Matrix.mul_one, Matrix.sub_apply, Matrix.mul_apply, Matrix.one_apply]
    rw [sum_range] at this
    simpa [toM, Fin.ext_iff] using this
  · intro h r c hr hc
    have := congrFun (congrFun h ⟨r, hr⟩) ⟨c, hc⟩
    rw [Matrix.mul_sub, Matrix.mul_one, Matrix.sub_apply, Matrix.mul_apply, Matrix.one_apply] at this
    rw [sum_range]
    simpa [toM, Fin.ext_iff] using this

/-- Applying a left inverse: from `(1 - N) x = y` follows `T y = x`. -/
theorem LInv.apply {s : ℕ} {T N : ℕ → ℕ → ℝ} (h : LInv s T N) (x : ℕ → ℝ) (r : ℕ) (hr : r < s) :
    ∑ j ∈ range s, T r j * (x j - ∑ i ∈ range s, N j i * x i) = x r := by
  have e : ∑ j ∈ range s, T r j * (x j - ∑ i ∈ range s, N j i * x i)
      = ∑ c ∈ range s, (T r c - ∑ j ∈ range s, T r j * N j c) * x c := by
    simp only [mul_sub, sub_mul, sum_sub_distrib]
    congr 1
    simp only [mul_sum, sum_mul]
    rw [sum_comm]
    exact sum_congr rfl fun _ _ => sum_congr rfl fun _ _ => by ring
  rw [e, sum_eq_single r]
  · rw [h r r hr hr]; simp
  · intro c hc hne
    rw [h r c hr (mem_range.mp hc), if_neg (Ne.symm hne), zero_mul]
  · intro hn
    exact absurd (mem_range.mpr hr) hn

/-- Powers of a strictly lower triangular matrix move down a diagonal each. -/
theorem pow_lower {s : ℕ} (N : Matrix (Fin s) (Fin s) ℝ) (hN : ∀ r c : Fin s, r.val ≤ c.val → N r c = 0) :
    ∀ (k : ℕ) (r c : Fin s), r.val < c.val + k → (N ^ k) r c = 0
  | 0, r, c, h => by
    rw [pow_zero, Matrix.one_apply, if_neg]
    intro e; subst e; omega
  | k + 1, r, c, h => by
    rw [pow_succ, Matrix.mul_apply]
    refine sum_eq_zero fun j _ => ?_
    by_cases hj : r.val < j.val + k
    · rw [pow_lower N hN k r j hj, zero_mul]
    · rw [hN j c (by omega), mul_zero]

/-- The doubling product: five factors give `1 - N ^ 32`. -/
theorem doubling {s : ℕ} (N : Matrix (Fin s) (Fin s) ℝ) :
    let T0 := 1 + N
    let N2 := N * N
    let T1 := T0 + T0 * N2
    let N4 := N2 * N2
    let T2 := T1 + T1 * N4
    let N8 := N4 * N4
    let T3 := T2 + T2 * N8
    let N16 := N8 * N8
    (T3 + T3 * N16) * (1 - N) = 1 - N ^ 32 := by
  intro T0 N2 T1 N4 T2 N8 T3 N16
  have e2 : N2 = N ^ 2 := (sq N).symm
  have e4 : N4 = N ^ 4 := by show N2 * N2 = _; rw [e2, ← pow_add]
  have e8 : N8 = N ^ 8 := by show N4 * N4 = _; rw [e4, ← pow_add]
  have e16 : N16 = N ^ 16 := by show N8 * N8 = _; rw [e8, ← pow_add]
  have step : ∀ (T : Matrix (Fin s) (Fin s) ℝ) (p : ℕ), T * (1 - N) = 1 - N ^ p →
      (T + T * N ^ p) * (1 - N) = 1 - N ^ (p + p) := by
    intro T p h
    have hc : N ^ p * (1 - N) = (1 - N) * N ^ p := by
      rw [mul_sub, sub_mul, mul_one, one_mul, ← pow_succ, ← pow_succ']
    calc (T + T * N ^ p) * (1 - N) = T * (1 - N) + T * (N ^ p * (1 - N)) := by rw [add_mul, mul_assoc]
      _ = (1 - N ^ p) + (1 - N ^ p) * N ^ p := by rw [hc, ← mul_assoc, h]
      _ = 1 - N ^ (p + p) := by rw [sub_mul, one_mul, ← pow_add]; abel
  have h0 : T0 * (1 - N) = 1 - N ^ 2 := by
    show (1 + N) * (1 - N) = _
    rw [mul_sub, mul_one, add_mul, one_mul, sq]; abel
  have h1 := step T0 2 h0
  have h2 := step (T0 + T0 * N ^ 2) 4 h1
  have h3 := step _ 8 h2
  have h4 := step _ 16 h3
  simp only [T3, T2, T1, e2, e4, e8, e16]
  exact h4

/-! ## Packed blocks -/

/-- Block `h` of `s` lanes. -/
def blk (s : ℕ) (f : ℕ → ℕ → ℝ) (h : ℕ) : ℕ → ℕ → ℝ := fun r c => f r (s * h + c)

/-- The product of packed blocks, block by block. -/
def pm (s : ℕ) (f g : ℕ → ℕ → ℝ) : ℕ → ℕ → ℝ := fun r l => ∑ j ∈ range s, f r (s * (l / s) + j) * g j l

/-- The block of a lane. -/
theorem div_blk (s h c : ℕ) (hc : c < s) : (s * h + c) / s = h := by
  rw [Nat.mul_add_div (by omega), Nat.div_eq_of_lt hc, Nat.add_zero]

/-- The lane within its block. -/
theorem mod_blk (s h c : ℕ) (hc : c < s) : (s * h + c) % s = c := by
  rw [Nat.mul_add_mod, Nat.mod_eq_of_lt hc]

/-- A block of a packed product is the product of the blocks. -/
theorem blk_pm (s : ℕ) (f g : ℕ → ℕ → ℝ) (h : ℕ) : toM s (blk s (pm s f g) h) = toM s (blk s f h) * toM s (blk s g h) := by
  ext i j
  rw [Matrix.mul_apply]
  simp only [toM, blk, pm, div_blk s h j j.isLt]
  rw [sum_range]

/-- A block of a sum is the sum of the blocks. -/
theorem blk_add (s : ℕ) (f g : ℕ → ℕ → ℝ) (h : ℕ) :
    toM s (blk s (fun r l => f r l + g r l) h) = toM s (blk s f h) + toM s (blk s g h) := rfl

/-- The packed identities. -/
def eyeR (s : ℕ) : ℕ → ℕ → ℝ := fun r l => if r = l % s then 1 else 0

/-- A block of the packed identities is the identity. -/
theorem blk_eye (s h : ℕ) : toM s (blk s (eyeR s) h) = 1 := by
  ext i j
  simp only [toM, blk, eyeR, mod_blk s h j j.isLt, Matrix.one_apply, Fin.ext_iff]

/-- The inverses of packed `1 - n` by doubling. -/
def inv32R (n : ℕ → ℕ → ℝ) : ℕ → ℕ → ℝ :=
  let t0 := fun r l => eyeR 32 r l + n r l
  let n2 := pm 32 n n
  let t1 := fun r l => t0 r l + pm 32 t0 n2 r l
  let n4 := pm 32 n2 n2
  let t2 := fun r l => t1 r l + pm 32 t1 n4 r l
  let n8 := pm 32 n4 n4
  let t3 := fun r l => t2 r l + pm 32 t2 n8 r l
  let n16 := pm 32 n8 n8
  fun r l => t3 r l + pm 32 t3 n16 r l

/-- Strictly lower triangular on the first `s` rows and columns. -/
def Lower (s : ℕ) (N : ℕ → ℕ → ℝ) : Prop := ∀ r c, r < s → c < s → r ≤ c → N r c = 0

/-- The doubling inverts each strictly lower block of 32 rows. -/
theorem inv32R_spec (n : ℕ → ℕ → ℝ) (h : ℕ) (hn : Lower 32 (blk 32 n h)) : LInv 32 (blk 32 (inv32R n) h) (blk 32 n h) := by
  rw [lInv_iff]
  have e : toM 32 (blk 32 n h) ^ 32 = 0 := by
    ext r c
    exact pow_lower _ (fun r c hrc => hn r c r.isLt c.isLt hrc) 32 r c (by omega)
  have d := doubling (toM 32 (blk 32 n h))
  simp only [e, sub_zero] at d
  refine Eq.trans ?_ d
  simp only [inv32R, blk_add, blk_pm, blk_eye]

/-- The two diagonal blocks of each `2 s` by `2 s` block, packed. -/
def diagR (s : ℕ) (a : ℕ → ℕ → ℝ) : ℕ → ℕ → ℝ := fun r l => if l / s % 2 = 0 then a r l else a (s + r) l

/-- The lower left block of each `2 s` by `2 s` block. -/
def lowR (s : ℕ) (a : ℕ → ℕ → ℝ) : ℕ → ℕ → ℝ := fun r l => if l / s % 2 = 0 then a (s + r) l else 0

/-- Each even block of `x` from the left by the block of `t` after it. -/
def pmOdd (s : ℕ) (t x : ℕ → ℕ → ℝ) : ℕ → ℕ → ℝ := fun r l =>
  if l / s % 2 = 0 then ∑ j ∈ range s, t r (s * (l / s + 1) + j) * x j l else 0

/-- The inverses of the double blocks from those of the blocks. -/
def growR (s : ℕ) (t a : ℕ → ℕ → ℝ) : ℕ → ℕ → ℝ :=
  let t21 := pmOdd s t (pm s (lowR s a) t)
  fun r l => if r < s then (if l / s % 2 = 0 then t r l else 0) else (if l / s % 2 = 0 then t21 (r - s) l else t (r - s) l)

/-- From the inverses of the two diagonal halves, the inverse of a strictly lower block of twice the size. -/
theorem growR_spec (s : ℕ) (t a : ℕ → ℕ → ℝ) (h : ℕ) (ha : Lower (2 * s) (blk (2 * s) a h))
    (h0 : LInv s (blk s t (2 * h)) (blk s (diagR s a) (2 * h)))
    (h1 : LInv s (blk s t (2 * h + 1)) (blk s (diagR s a) (2 * h + 1))) :
    LInv (2 * s) (blk (2 * s) (growR s t a) h) (blk (2 * s) a h) := by
  -- the four blocks of `a` and of the grown inverse
  have dv0 : ∀ c, c < s → (2 * s * h + c) / s = 2 * h := fun c hc => by
    rw [show 2 * s * h + c = s * (2 * h) + c by ring]; exact div_blk s _ c hc
  have dv1 : ∀ c, c < s → (2 * s * h + (s + c)) / s = 2 * h + 1 := fun c hc => by
    rw [show 2 * s * h + (s + c) = s * (2 * h + 1) + c by ring]; exact div_blk s _ c hc
  have ev : 2 * h % 2 = 0 := by omega
  have od : ¬ (2 * h + 1) % 2 = 0 := by omega
  have aN0 : ∀ r c, c < s → blk (2 * s) a h r c = blk s (diagR s a) (2 * h) r c := fun r c hc => by
    simp only [blk, diagR]
    rw [div_blk s _ c hc, if_pos ev]; congr 1; ring
  have aN1 : ∀ r c, c < s → blk (2 * s) a h (s + r) (s + c) = blk s (diagR s a) (2 * h + 1) r c := fun r c hc => by
    simp only [blk, diagR]
    rw [div_blk s _ c hc, if_neg od]; congr 1; ring
  have T00 : ∀ r c, r < s → c < s → blk (2 * s) (growR s t a) h r c = blk s t (2 * h) r c := fun r c hr hc => by
    simp only [blk, growR]
    rw [if_pos hr, dv0 c hc, if_pos ev]; congr 1; ring
  have T01 : ∀ r c, r < s → c < s → blk (2 * s) (growR s t a) h r (s + c) = 0 := fun r c hr hc => by
    simp only [blk, growR]
    rw [if_pos hr, dv1 c hc, if_neg od]
  have T11 : ∀ r c, c < s → blk (2 * s) (growR s t a) h (s + r) (s + c) = blk s t (2 * h + 1) r c := fun r c hc => by
    simp only [blk, growR]
    rw [if_neg (by omega), dv1 c hc, if_neg od, Nat.add_sub_cancel_left]; congr 1; ring
  have T10 : ∀ r c, c < s → blk (2 * s) (growR s t a) h (s + r) c
      = ∑ k ∈ range s, blk s t (2 * h + 1) r k * ∑ j ∈ range s, blk (2 * s) a h (s + k) j * blk s t (2 * h) j c := fun r c hc => by
    simp only [blk, growR, pmOdd, pm, lowR]
    rw [if_neg (by omega), dv0 c hc, if_pos ev, if_pos ev, Nat.add_sub_cancel_left]
    refine sum_congr rfl fun k _ => ?_
    congr 1
    refine sum_congr rfl fun j hj => ?_
    rw [div_blk s _ j (mem_range.mp hj), if_pos ev]
    congr 2 <;> ring
  have A01 : ∀ r c, r < s → c < s → blk (2 * s) a h r (s + c) = 0 := fun r c hr hc => ha r (s + c) (by omega) (by omega) (by omega)
  intro r c hr hc
  rw [show 2 * s = s + s by ring] at hr hc ⊢
  rw [show s + s = 2 * s by ring, show range (2 * s) = range (s + s) by rw [two_mul], sum_range_add]
  by_cases hrs : r < s
  · have z : ∑ j ∈ range s, blk (2 * s) (growR s t a) h r (s + j) * blk (2 * s) a h (s + j) c = 0 :=
      sum_eq_zero fun j hj => by rw [T01 r j hrs (mem_range.mp hj), zero_mul]
    rw [z, add_zero]
    by_cases hcs : c < s
    · rw [← h0 r c hrs hcs, T00 r c hrs hcs]
      congr 1
      exact sum_congr rfl fun j hj => by rw [T00 r j hrs (mem_range.mp hj), aN0 j c hcs]
    · obtain ⟨c', rfl⟩ := Nat.exists_eq_add_of_le (not_lt.mp hcs)
      rw [T01 r c' hrs (by omega), sum_eq_zero, sub_zero, if_neg (by omega)]
      intro j hj
      rw [A01 j c' (mem_range.mp hj) (by omega), mul_zero]
  · obtain ⟨r', rfl⟩ := Nat.exists_eq_add_of_le (not_lt.mp hrs)
    have hr' : r' < s := by omega
    by_cases hcs : c < s
    · rw [if_neg (by omega), T10 r' c hcs]
      have e1 : ∑ j ∈ range s, blk (2 * s) (growR s t a) h (s + r') j * blk (2 * s) a h j c
          = ∑ k ∈ range s, blk s t (2 * h + 1) r' k * ∑ i ∈ range s, blk (2 * s) a h (s + k) i
              * ∑ j ∈ range s, blk s t (2 * h) i j * blk s (diagR s a) (2 * h) j c := by
        simp only [mul_sum]
        rw [sum_congr rfl fun j hj => by rw [T10 r' j (mem_range.mp hj), sum_mul]]
        simp only [mul_sum, sum_mul]
        rw [sum_comm]
        refine sum_congr rfl fun k _ => ?_
        rw [sum_comm]
        refine sum_congr rfl fun i _ => sum_congr rfl fun j _ => ?_
        rw [aN0 j c hcs]; ring
      have e2 : ∑ j ∈ range s, blk (2 * s) (growR s t a) h (s + r') (s + j) * blk (2 * s) a h (s + j) c
          = ∑ k ∈ range s, blk s t (2 * h + 1) r' k * blk (2 * s) a h (s + k) c :=
        sum_congr rfl fun j hj => by rw [T11 r' j (mem_range.mp hj)]
      rw [e1, e2, ← sum_add_distrib, ← sum_sub_distrib]
      refine sum_eq_zero fun k hk => ?_
      have e3 : blk (2 * s) a h (s + k) c = ∑ i ∈ range s, blk (2 * s) a h (s + k) i
          * (blk s t (2 * h) i c - ∑ j ∈ range s, blk s t (2 * h) i j * blk s (diagR s a) (2 * h) j c) := by
        rw [sum_eq_single c]
        · rw [h0 c c hcs hcs, if_pos rfl, mul_one]
        · intro i hi hne
          rw [h0 i c (mem_range.mp hi) hcs, if_neg hne, mul_zero]
        · intro hn; exact absurd (mem_range.mpr hcs) hn
      simp only [mul_sub, sum_sub_distrib] at e3
      rw [e3]; ring
    · obtain ⟨c', rfl⟩ := Nat.exists_eq_add_of_le (not_lt.mp hcs)
      have hc' : c' < s := by omega
      have z : ∑ j ∈ range s, blk (2 * s) (growR s t a) h (s + r') j * blk (2 * s) a h j (s + c') = 0 :=
        sum_eq_zero fun j hj => by rw [A01 j c' (mem_range.mp hj) hc', mul_zero]
      rw [z, zero_add, T11 r' c' hc']
      have := h1 r' c' hr' hc'
      rw [if_congr (show s + r' = s + c' ↔ r' = c' by omega) rfl rfl, ← this]
      congr 1
      exact sum_congr rfl fun j hj => by rw [T11 r' j (mem_range.mp hj), aN1 j c' hc']

/-- The inverses of the two heads' `1 - a`, as the kernel makes them. -/
def inv128R (a : ℕ → ℕ → ℝ) : ℕ → ℕ → ℝ := growR 64 (growR 32 (inv32R (diagR 32 (diagR 64 a))) (diagR 64 a)) a

/-- The diagonal halves of a strictly lower block are strictly lower. -/
theorem lower_diagR (s : ℕ) (a : ℕ → ℕ → ℝ) (h : ℕ) (ha : Lower (2 * s) (blk (2 * s) a (h / 2))) : Lower s (blk s (diagR s a) h) := by
  intro r c hr hc hrc
  simp only [blk, diagR]
  rw [div_blk s h c hc]
  split_ifs with hp
  · have := ha r c (by omega) (by omega) hrc
    rw [← this]; simp only [blk]; congr 1
    have : s * h = 2 * s * (h / 2) := by
      conv_lhs => rw [← Nat.div_add_mod h 2, hp]
      ring
    omega
  · have := ha (s + r) (s + c) (by omega) (by omega) (by omega)
    rw [← this]; simp only [blk]; congr 1
    have : s * h = 2 * s * (h / 2) + s := by
      conv_lhs => rw [← Nat.div_add_mod h 2, show h % 2 = 1 by omega]
      ring
    omega

/-- For strictly lower triangular heads the kernel's matrix is the left inverse. -/
theorem inv128R_spec (a : ℕ → ℕ → ℝ) (ha : ∀ h, h < 2 → Lower 128 (blk 128 a h)) (h : ℕ) (hh : h < 2) :
    LInv 128 (blk 128 (inv128R a) h) (blk 128 a h) := by
  have l64 : ∀ h, h < 4 → Lower 64 (blk 64 (diagR 64 a) h) := fun h hh => lower_diagR 64 a h (ha (h / 2) (by omega))
  have l32 : ∀ h, h < 8 → Lower 32 (blk 32 (diagR 32 (diagR 64 a)) h) := fun h hh => lower_diagR 32 _ h (l64 (h / 2) (by omega))
  have i32 : ∀ h, h < 8 → LInv 32 (blk 32 (inv32R (diagR 32 (diagR 64 a))) h) (blk 32 (diagR 32 (diagR 64 a)) h) :=
    fun h hh => inv32R_spec _ h (l32 h hh)
  have i64 : ∀ h, h < 4 → LInv 64 (blk 64 (growR 32 (inv32R (diagR 32 (diagR 64 a))) (diagR 64 a)) h) (blk 64 (diagR 64 a) h) :=
    fun h hh => growR_spec 32 _ _ h (l64 h hh) (i32 _ (by omega)) (i32 _ (by omega))
  exact growR_spec 64 _ _ h (ha h hh) (i64 _ (by omega)) (i64 _ (by omega))

/-! ## The gated delta rule of one head -/

/-- What one token adds: its value minus what the decayed state already holds at its key, times the step size. -/
def dlt (k v : ℕ → ℝ) (g b : ℝ) (S : ℕ → ℕ → ℝ) : ℕ → ℝ := fun c =>
  b * (v c - ∑ i ∈ range 128, k i * (Real.exp g * S i c))

/-- One token: the state decays and the token's key takes up what it adds. -/
def stp (k v : ℕ → ℝ) (g b : ℝ) (S : ℕ → ℕ → ℝ) : ℕ → ℕ → ℝ := fun i c =>
  Real.exp g * S i c + k i * dlt k v g b S c

/-- The state after `n` tokens. -/
def run (k v : ℕ → ℕ → ℝ) (g b : ℕ → ℝ) (S : ℕ → ℕ → ℝ) : ℕ → ℕ → ℕ → ℝ
  | 0 => S
  | n + 1 => stp (k n) (v n) (g n) (b n) (run k v g b S n)

/-- The tokens from `m` on, from the state after `m` tokens. -/
theorem run_add (k v : ℕ → ℕ → ℝ) (g b : ℕ → ℝ) (S : ℕ → ℕ → ℝ) (m : ℕ) : ∀ n : ℕ,
    run (fun r => k (m + r)) (fun r => v (m + r)) (fun r => g (m + r)) (fun r => b (m + r)) (run k v g b S m) n = run k v g b S (m + n)
  | 0 => rfl
  | n + 1 => by
    show stp _ _ _ _ (run _ _ _ _ _ n) = stp _ _ _ _ (run k v g b S (m + n))
    rw [run_add k v g b S m n]
    rfl

/-- The update of token `j` of a run. -/
def upd (k v : ℕ → ℕ → ℝ) (g b : ℕ → ℝ) (S : ℕ → ℕ → ℝ) (j : ℕ) : ℕ → ℝ := dlt (k j) (v j) (g j) (b j) (run k v g b S j)

/-- The log-decay of the first `n` tokens. -/
def acc (g : ℕ → ℝ) (n : ℕ) : ℝ := ∑ j ∈ range n, g j

/-- The state after `n` tokens in closed form. -/
theorem run_closed (k v : ℕ → ℕ → ℝ) (g b : ℕ → ℝ) (S : ℕ → ℕ → ℝ) : ∀ (n i c : ℕ),
    run k v g b S n i c = Real.exp (acc g n) * S i c
      + ∑ j ∈ range n, Real.exp (acc g n - acc g (j + 1)) * k j i * upd k v g b S j c
  | 0, i, c => by simp [run, acc]
  | n + 1, i, c => by
    show Real.exp (g n) * run k v g b S n i c + k n i * upd k v g b S n c = _
    have ha : acc g (n + 1) = g n + acc g n := by rw [acc, sum_range_succ, acc, add_comm]
    rw [run_closed k v g b S n i c, sum_range_succ, sub_self, Real.exp_zero, one_mul, mul_add, ← mul_assoc, mul_sum, ← add_assoc]
    congr 1
    congr 1
    · rw [ha, Real.exp_add]
    · refine sum_congr rfl fun j _ => ?_
      rw [ha, add_sub_assoc, Real.exp_add]; ring

/-- The strictly lower triangular matrix of a chunk, between tokens. -/
def chunkN (k : ℕ → ℕ → ℝ) (g b : ℕ → ℝ) : ℕ → ℕ → ℝ := fun r j =>
  if j < r then 0 - (∑ c ∈ range 128, k r c * b r * k j c) * Real.exp (acc g (r + 1) - acc g (j + 1)) else 0

/-- The updates solve the chunk's triangular system. -/
theorem upd_solves (k v : ℕ → ℕ → ℝ) (g b : ℕ → ℝ) (S : ℕ → ℕ → ℝ) (r c : ℕ) (hr : r < 128) :
    upd k v g b S r c - ∑ j ∈ range 128, chunkN k g b r j * upd k v g b S j c
      = v r c * b r - ∑ i ∈ range 128, k r i * b r * Real.exp (acc g (r + 1)) * S i c := by
  have ha : acc g (r + 1) = g r + acc g r := by rw [acc, sum_range_succ, acc, add_comm]
  have e1 : ∑ j ∈ range 128, chunkN k g b r j * upd k v g b S j c
      = ∑ j ∈ range r, chunkN k g b r j * upd k v g b S j c :=
    sum_upto 128 r hr.le _ fun j hj => by rw [chunkN, if_neg (by omega), zero_mul]
  have e2 : ∀ j ∈ range r, chunkN k g b r j * upd k v g b S j c
      = - ∑ i ∈ range 128, b r * (k r i * (Real.exp (g r) * (Real.exp (acc g r - acc g (j + 1)) * k j i * upd k v g b S j c))) := by
    intro j hj
    rw [chunkN, if_pos (mem_range.mp hj), ha, add_sub_assoc, Real.exp_add, zero_sub, neg_mul, neg_inj]
    simp only [sum_mul]
    exact sum_congr rfl fun i _ => by ring
  rw [e1, sum_congr rfl e2, sum_neg_distrib, sub_neg_eq_add, sum_comm]
  have e3 : upd k v g b S r c = b r * v r c - ∑ i ∈ range 128, b r * (k r i * (Real.exp (g r) * run k v g b S r i c)) := by
    simp only [upd, dlt, mul_sub, mul_sum]
  rw [e3]
  have e4 : ∀ i ∈ range 128, b r * (k r i * (Real.exp (g r) * run k v g b S r i c))
      = k r i * b r * Real.exp (acc g (r + 1)) * S i c
        + ∑ j ∈ range r, b r * (k r i * (Real.exp (g r) * (Real.exp (acc g r - acc g (j + 1)) * k j i * upd k v g b S j c))) := by
    intro i _
    rw [run_closed, mul_add, mul_add, mul_add, ha, Real.exp_add]
    simp only [mul_sum]
    congr 1; ring
  rw [sum_congr rfl e4, sum_add_distrib]
  ring

/-- A left inverse of the chunk's matrix gives the updates. -/
theorem vnew_eq (k v : ℕ → ℕ → ℝ) (g b : ℕ → ℝ) (S T : ℕ → ℕ → ℝ) (hT : LInv 128 T (chunkN k g b)) (r c : ℕ) (hr : r < 128) :
    (∑ j ∈ range 128, T r j * (v j c * b j))
      - ∑ i ∈ range 128, (∑ j ∈ range 128, T r j * (k j i * b j * Real.exp (acc g (j + 1)))) * S i c = upd k v g b S r c := by
  rw [← hT.apply (fun j => upd k v g b S j c) r hr]
  have e : ∑ j ∈ range 128, T r j * (upd k v g b S j c - ∑ i ∈ range 128, chunkN k g b j i * upd k v g b S i c)
      = ∑ j ∈ range 128, T r j * (v j c * b j - ∑ i ∈ range 128, k j i * b j * Real.exp (acc g (j + 1)) * S i c) :=
    sum_congr rfl fun j hj => congrArg _ (upd_solves k v g b S j c (mem_range.mp hj))
  rw [e]
  simp only [mul_sub, sum_sub_distrib]
  congr 1
  simp only [mul_sum, sum_mul]
  rw [sum_comm]
  exact sum_congr rfl fun _ _ => sum_congr rfl fun _ _ => by ring

/-- The chunk's output rows read the running state. -/
theorem out_eq (q : ℕ → ℝ) (k v : ℕ → ℕ → ℝ) (g b : ℕ → ℝ) (S : ℕ → ℕ → ℝ) (r c : ℕ) (hr : r < 128) :
    (∑ i ∈ range 128, q i * Real.exp (acc g (r + 1)) * S i c)
      + ∑ j ∈ range 128, ((∑ i ∈ range 128, q i * k j i) * (if j ≤ r then Real.exp (acc g (r + 1) - acc g (j + 1)) else 0)) * upd k v g b S j c
      = ∑ i ∈ range 128, q i * run k v g b S (r + 1) i c := by
  have e1 : ∑ j ∈ range 128, ((∑ i ∈ range 128, q i * k j i) * (if j ≤ r then Real.exp (acc g (r + 1) - acc g (j + 1)) else 0)) * upd k v g b S j c
      = ∑ j ∈ range (r + 1), (∑ i ∈ range 128, q i * k j i) * Real.exp (acc g (r + 1) - acc g (j + 1)) * upd k v g b S j c := by
    rw [sum_upto 128 (r + 1) (by omega) _ fun j hj => by rw [if_neg (by omega), mul_zero, zero_mul]]
    exact sum_congr rfl fun j hj => by rw [if_pos (by have := mem_range.mp hj; omega)]
  rw [e1]
  simp only [run_closed, mul_add, sum_add_distrib]
  congr 1
  · exact sum_congr rfl fun _ _ => by ring
  · simp only [mul_sum, sum_mul]
    rw [sum_comm]
    exact sum_congr rfl fun _ _ => sum_congr rfl fun _ _ => by ring

/-- The state after the chunk. -/
theorem state_eq (k v : ℕ → ℕ → ℝ) (g b : ℕ → ℝ) (S : ℕ → ℕ → ℝ) (i c : ℕ) :
    S i c * Real.exp (acc g 128) + ∑ j ∈ range 128, k j i * Real.exp (acc g 128 - acc g (j + 1)) * upd k v g b S j c
      = run k v g b S 128 i c := by
  rw [run_closed, mul_comm]
  congr 1
  exact sum_congr rfl fun _ _ => by ring

end Cert.DeltaMath
-- ==== Proof.Mat.lean ====
/- The kernel's operations on matrices of REAL entries at the exact model: each maps real matrices to
   the real matrix its mathematics names. `mat n m f` is the matrix of the first `n` rows and `m`
   columns of the real function `f`. -/
module

public import proofs.«01_k».proof.Proof.Unit
public import proofs.«01_k».proof.Proof.Math
public import Idealize.ShloMosaic.Lib.Pointwise
public import Idealize.ShloMosaic.Lib.IdealHost

@[expose] public section

noncomputable section

namespace Cert.KernelIdeal.Own

open Idealize.ShloMosaic Idealize.SL.Sem Cert.KernelIdeal Cert.KernelIdeal.Gen Idealize.ShloMosaic.Pointwise
open Cert.DeltaMath Finset

/-- The matrix of real entries `f`. -/
def mat {φ : FTy} (n m : ℕ) (f : ℕ → ℕ → ℝ) : FVec Ideal ⟨2, ![n, m]⟩ φ := fun i => ((f (i 0).val (i 1).val : ℝ) : EReal)

/-- The mask of the places that satisfy `P`. -/
def msk (n m : ℕ) (P : ℕ → ℕ → Prop) [∀ r l, Decidable (P r l)] : IVec ⟨2, ![n, m]⟩ 1 :=
  fun i => if P (i 0).val (i 1).val then 1#1 else 0#1

/-- Two real matrices that agree inside their bounds are one. -/
theorem mat_congr {φ : FTy} {n m : ℕ} {f g : ℕ → ℕ → ℝ} (h : ∀ r l, r < n → l < m → f r l = g r l) :
    (mat n m f : FVec Ideal _ φ) = mat n m g := by
  funext i
  show ((f (i 0).val (i 1).val : ℝ) : EReal) = ((g (i 0).val (i 1).val : ℝ) : EReal)
  rw [h _ _ (i 0).isLt (i 1).isLt]

/-- A real matrix at an index. -/
theorem mat_apply {φ : FTy} {n m : ℕ} (f : ℕ → ℕ → ℝ) (r : Fin n) (l : Fin m) :
    (mat n m f : FVec Ideal _ φ) (ix2 r l) = ((f r.val l.val : ℝ) : EReal) := rfl

/-- A finite sum of reals, read as extended reals. -/
theorem coe_sum (n : ℕ) (f : ℕ → ℝ) : ∑ k : Fin n, ((f k.val : ℝ) : EReal) = ((∑ k ∈ range n, f k : ℝ) : EReal) := by
  rw [← Fin.sum_univ_eq_sum_range]
  exact (map_sum (⟨⟨Real.toEReal, EReal.coe_zero⟩, EReal.coe_add⟩ : ℝ →+ EReal) (fun k : Fin n => f k.val) Finset.univ).symm

/-! ## Elementwise -/

section elementwise
variable {n m : ℕ} (f g : ℕ → ℕ → ℝ)

/-- Rounding keeps a real matrix. -/
theorem hi_mat : hi (mat n m f : FVec Ideal _ .f32) = mat n m f := rfl
/-- Narrowing keeps a real matrix. -/
theorem trunc_mat (h : FTy.bits .bf16 < FTy.bits .f32) : truncf .bf16 (mat n m f : FVec Ideal _ .f32) h = mat n m f := rfl
/-- Widening keeps a real matrix. -/
theorem ext_mat (h : FTy.bits .bf16 < FTy.bits .f32) : extf .f32 (mat n m f : FVec Ideal _ .bf16) h = mat n m f := rfl

/-- Rounding leaves nothing of a real matrix. -/
theorem lo_mat : lo (mat n m f : FVec Ideal _ .f32) = mat n m (fun _ _ => 0) := by
  funext j
  simp [lo, hi, mat, subf, extf, truncf, ← EReal.coe_sub]

/-- The zero block is a real matrix. -/
theorem zb_mat : zb Ideal ⟨2, ![n, m]⟩ = mat n m (fun _ _ => 0) := by
  funext j
  simp [zb, mat, broadcast]

/-- The zero block is a real matrix. -/
theorem zf_mat : zf Ideal ⟨2, ![n, m]⟩ = mat n m (fun _ _ => 0) := by
  funext j
  simp [zf, mat, broadcast]

/-- Sums. -/
theorem add_mat {φ : FTy} : addf (mat n m f : FVec Ideal _ φ) (mat n m g) = mat n m (fun r l => f r l + g r l) := by
  funext j
  simp [mat, addf]

/-- Differences. -/
theorem sub_mat {φ : FTy} : subf (mat n m f : FVec Ideal _ φ) (mat n m g) = mat n m (fun r l => f r l - g r l) := by
  funext j
  simp [mat, subf]

/-- Products by element. -/
theorem mul_mat {φ : FTy} : mulf (mat n m f : FVec Ideal _ φ) (mat n m g) = mat n m (fun r l => f r l * g r l) := by
  funext j
  simp [mat, mulf]

/-- Exponentials. -/
theorem exp_mat {φ : FTy} : exp (mat n m f : FVec Ideal _ φ) = mat n m (fun r l => Real.exp (f r l)) := by
  funext j
  simp [mat, exp]

/-- A choice by a mask. -/
theorem select_mat {φ : FTy} (P : ℕ → ℕ → Prop) [∀ r l, Decidable (P r l)] :
    select (msk n m P) (mat n m f : FVec Ideal _ φ) (mat n m g) = mat n m (fun r l => if P r l then f r l else g r l) := by
  funext j
  simp only [select, msk, mat, Scalar.select]
  split_ifs <;> first | rfl | (exfalso; simp_all)

end elementwise

/-! ## Masks -/

/-- The mask of block `n` of 32 lanes. -/
theorem lane32_msk (n : ℕ) (hn : n < 8) : lane32 (BitVec.ofNat 32 n) = msk 32 256 (fun _ l => l / 32 = n) := by
  have key : ∀ n : Fin 8, ∀ l : Fin 256, IntOp.cmpi CmpIPredicate.eq (IntOp.shrui ArithUnit.vector (BitVec.ofNat 32 l.val) 5#32) (BitVec.ofNat 32 n.val)
      = if l.val / 32 = n.val then 1#1 else 0#1 := by decide +kernel
  funext j; idx_vars j
  pointwise [lane32]
  exact key ⟨n, hn⟩ _

/-- The mask of block `n` of 64 lanes. -/
theorem lane64_msk (n : ℕ) (hn : n < 4) : lane64 (BitVec.ofNat 32 n) = msk 64 256 (fun _ l => l / 64 = n) := by
  have key : ∀ n : Fin 4, ∀ l : Fin 256, IntOp.cmpi CmpIPredicate.eq (IntOp.shrui ArithUnit.vector (BitVec.ofNat 32 l.val) 6#32) (BitVec.ofNat 32 n.val)
      = if l.val / 64 = n.val then 1#1 else 0#1 := by decide +kernel
  funext j; idx_vars j
  pointwise [lane64]
  exact key ⟨n, hn⟩ _

/-- The mask of the even blocks of 32 lanes. -/
theorem even32_msk : even32 = msk 32 256 (fun _ l => l / 32 % 2 = 0) := by
  have key : ∀ l : Fin 256, IntOp.cmpi CmpIPredicate.slt (IntOp.andi (BitVec.ofNat 32 l.val) 63#32) 32#32
      = if l.val / 32 % 2 = 0 then 1#1 else 0#1 := by decide +kernel
  funext j; idx_vars j
  pointwise [even32]
  exact key _

/-- The mask of the even blocks of 64 lanes. -/
theorem even64_msk : even64 = msk 64 256 (fun _ l => l / 64 % 2 = 0) := by
  have key : ∀ l : Fin 256, IntOp.cmpi CmpIPredicate.slt (IntOp.andi (BitVec.ofNat 32 l.val) 127#32) 64#32
      = if l.val / 64 % 2 = 0 then 1#1 else 0#1 := by decide +kernel
  funext j; idx_vars j
  pointwise [even64]
  exact key _

/-- The mask of the first head. -/
theorem first_msk : k0_pay9 = msk 128 256 (fun _ l => l < 128) := by
  have key : ∀ l : Fin 256, IntOp.cmpi CmpIPredicate.slt (BitVec.ofNat 32 l.val) 128#32
      = if l.val < 128 then 1#1 else 0#1 := by decide +kernel
  funext j; idx_vars j
  pointwise [k0_pay9]
  exact key _

/-- The mask of the tokens up to the row. -/
theorem causal_msk : k0_pay11 = msk 128 256 (fun r l => l % 128 ≤ r) := by
  have key : ∀ r : Fin 128, ∀ l : Fin 256, IntOp.cmpi CmpIPredicate.sge (BitVec.ofNat 32 r.val)
      (Scalar.select (if l.val < 128 then 1#1 else 0#1) (BitVec.ofNat 32 l.val) (IntOp.subi (BitVec.ofNat 32 l.val) 128#32))
      = if l.val % 128 ≤ r.val then 1#1 else 0#1 := by decide +kernel
  funext j; idx_vars j
  pointwise [k0_pay11, k0_pay10, first_msk]
  exact key _ _

/-- The mask of the tokens before the row. -/
theorem strict_msk : k0_pay12 = msk 128 256 (fun r l => l % 128 < r) := by
  have key : ∀ r : Fin 128, ∀ l : Fin 256, IntOp.cmpi CmpIPredicate.sgt (BitVec.ofNat 32 r.val)
      (Scalar.select (if l.val < 128 then 1#1 else 0#1) (BitVec.ofNat 32 l.val) (IntOp.subi (BitVec.ofNat 32 l.val) 128#32))
      = if l.val % 128 < r.val then 1#1 else 0#1 := by decide +kernel
  funext j; idx_vars j
  pointwise [k0_pay12, k0_pay10, first_msk]
  exact key _ _

/-- The mask of the diagonal blocks. -/
theorem same_msk : k0_pay13 = msk 256 256 (fun r l => r / 128 = l / 128) := by
  have key : ∀ r : Fin 256, ∀ l : Fin 256, IntOp.xori (IntOp.xori (IntOp.cmpi CmpIPredicate.slt (BitVec.ofNat 32 r.val) 128#32)
      (IntOp.cmpi CmpIPredicate.slt (BitVec.ofNat 32 l.val) 128#32)) 1#1
      = if r.val / 128 = l.val / 128 then 1#1 else 0#1 := by decide +kernel
  funext j; idx_vars j
  pointwise [k0_pay13]
  exact key _ _

/-- A mask read as a number. -/
theorem sitofp_ite (P : Prop) [Decidable P] : (FloatOps.sitofp .f32 (BitVec.setWidth 32 (if P then 1#1 else 0#1)) : Ideal .f32)
    = (((if P then 1 else 0 : ℝ)) : EReal) := by
  split_ifs <;> simp [FloatOps.sitofp]

/-- The packed identities. -/
theorem eye32_mat : (eye32 : FVec Ideal _ _) = mat 32 256 (eyeR 32) := by
  have key : ∀ r : Fin 32, ∀ l : Fin 256, IntOp.cmpi CmpIPredicate.eq (BitVec.ofNat 32 r.val) (IntOp.andi (BitVec.ofNat 32 l.val) 31#32)
      = if r.val = l.val % 32 then 1#1 else 0#1 := by decide +kernel
  funext j; idx_vars j
  pointwise [eye32]
  rw [key]
  exact sitofp_ite _

/-- The triangle of ones. -/
theorem tri_mat : (k0_pay14 : FVec Ideal _ _) = mat 128 128 (fun r k => if k ≤ r then 1 else 0) := by
  have key : ∀ r : Fin 128, ∀ l : Fin 128, IntOp.cmpi CmpIPredicate.sge (BitVec.ofNat 32 r.val) (BitVec.ofNat 32 l.val)
      = if l.val ≤ r.val then 1#1 else 0#1 := by decide +kernel
  funext j; idx_vars j
  pointwise [k0_pay14]
  rw [key]
  exact sitofp_ite _

/-! ## Products -/

/-- The plain product of real functions over `n` places. -/
def mulR (n : ℕ) (f g : ℕ → ℕ → ℝ) : ℕ → ℕ → ℝ := fun r l => ∑ k ∈ range n, f r k * g k l

/-- A sum of products of reals. -/
theorem sum_mat (n : ℕ) (f g : ℕ → ℝ) : ∑ k : Fin n, ((f k.val : ℝ) : EReal) * ((g k.val : ℝ) : EReal) = ((∑ k ∈ range n, f k * g k : ℝ) : EReal) := by
  rw [← coe_sum]
  exact Finset.sum_congr rfl fun k _ => (EReal.coe_mul _ _).symm

/-- The plain product of 32 rows. -/
theorem mm32_mat (f g : ℕ → ℕ → ℝ) : mm32 (mat 32 256 f) (mat 256 256 g) = mat 32 256 (mulR 256 f g) := by
  funext j; idx_vars j
  pointwise [mm32]
  exact sum_mat 256 (fun k => f j0.val k) (fun k => g k j1.val)

/-- The plain product of 64 rows. -/
theorem mm64_mat (f g : ℕ → ℕ → ℝ) : mm64 (mat 64 256 f) (mat 256 256 g) = mat 64 256 (mulR 256 f g) := by
  funext j; idx_vars j
  pointwise [mm64]
  exact sum_mat 256 (fun k => f j0.val k) (fun k => g k j1.val)

/-- The plain product of 128 rows. -/
theorem mm128_mat (f g : ℕ → ℕ → ℝ) : mm128 (mat 128 256 f) (mat 256 256 g) = mat 128 256 (mulR 256 f g) := by
  funext j; idx_vars j
  pointwise [mm128]
  exact sum_mat 256 (fun k => f j0.val k) (fun k => g k j1.val)

/-- The plain product of 256 rows. -/
theorem mm256_mat (f g : ℕ → ℕ → ℝ) : mm256 (mat 256 256 f) (mat 256 256 g) = mat 256 256 (mulR 256 f g) := by
  funext j; idx_vars j
  pointwise [mm256]
  exact sum_mat 256 (fun k => f j0.val k) (fun k => g k j1.val)

/-- The product with the second factor transposed. -/
theorem nt_mat (f g : ℕ → ℕ → ℝ) : (matmul dot_S256x256_S256x256_S256x256_1_1_0_0_n_n none (mat 256 256 f : FVec Ideal _ .bf16) (mat 256 256 g : FVec Ideal _ .bf16) (constant S256x256 .f32 0x00000000#32) : FVec Ideal _ .f32)
    = mat 256 256 (fun r l => ∑ k ∈ range 256, f r k * g l k) := by
  funext j; idx_vars j
  pointwise
  exact sum_mat 256 (fun k => f j0.val k) (fun k => g j1.val k)

/-- The product with the first factor transposed. -/
theorem tn_mat (f g : ℕ → ℕ → ℝ) : (matmul dot_S128x256_S128x256_S256x256_0_0_1_1_n_n none (mat 128 256 f : FVec Ideal _ .bf16) (mat 128 256 g : FVec Ideal _ .bf16) (constant S256x256 .f32 0x00000000#32) : FVec Ideal _ .f32)
    = mat 256 256 (fun r l => ∑ k ∈ range 128, f k r * g k l) := by
  funext j; idx_vars j
  pointwise
  exact sum_mat 128 (fun k => f k j0.val) (fun k => g k j1.val)

/-- The running sums of a chunk: the triangle of ones times the columns. -/
theorem gcum_mat (f : ℕ → ℕ → ℝ) : k0_pay16 (mat 128 128 f : FVec Ideal _ .f32) = mat 128 128 (fun r c => ∑ k ∈ range 128, (if k ≤ r then 1 else 0) * f k c) := by
  rw [k0_pay16, tri_mat]
  funext j; idx_vars j
  pointwise
  exact sum_mat 128 (fun k => if k ≤ j0.val then 1 else 0) (fun k => f k j1.val)

/-! ## Blocks of rows -/

/-- An entry at equal indices. -/
theorem coe_congr (G : ℕ → ℕ → ℕ → ℝ) {a a' b b' l : ℕ} (ha : a = a') (hb : b = b') : ((G a b l : ℝ) : EReal) = ((G a' b' l : ℝ) : EReal) := by
  rw [ha, hb]

/-- Eight blocks of 32 rows. -/
theorem cat8_mat (G : ℕ → ℕ → ℕ → ℝ) {h} : (concatenate S256x256 0 [⟨S32x256, (mat 32 256 (G 0) : FVec Ideal _ .bf16)⟩, ⟨S32x256, (mat 32 256 (G 1) : FVec Ideal _ .bf16)⟩,
    ⟨S32x256, (mat 32 256 (G 2) : FVec Ideal _ .bf16)⟩, ⟨S32x256, (mat 32 256 (G 3) : FVec Ideal _ .bf16)⟩, ⟨S32x256, (mat 32 256 (G 4) : FVec Ideal _ .bf16)⟩,
    ⟨S32x256, (mat 32 256 (G 5) : FVec Ideal _ .bf16)⟩, ⟨S32x256, (mat 32 256 (G 6) : FVec Ideal _ .bf16)⟩, ⟨S32x256, (mat 32 256 (G 7) : FVec Ideal _ .bf16)⟩] h : FVec Ideal _ .bf16)
    = mat 256 256 (fun r l => G (r / 32) (r % 32) l) := by
  funext j; idx_vars j
  pointwise
  have hj := j0.isLt
  split_ifs <;> (rw [mat_apply, mat_apply]; exact coe_congr G (by omega) (by dsimp only; omega))

/-- Four blocks of 64 rows. -/
theorem cat4_64_mat (G : ℕ → ℕ → ℕ → ℝ) {h} : (concatenate S256x256 0 [⟨S64x256, (mat 64 256 (G 0) : FVec Ideal _ .bf16)⟩, ⟨S64x256, (mat 64 256 (G 1) : FVec Ideal _ .bf16)⟩,
    ⟨S64x256, (mat 64 256 (G 2) : FVec Ideal _ .bf16)⟩, ⟨S64x256, (mat 64 256 (G 3) : FVec Ideal _ .bf16)⟩] h : FVec Ideal _ .bf16)
    = mat 256 256 (fun r l => G (r / 64) (r % 64) l) := by
  funext j; idx_vars j
  pointwise
  have hj := j0.isLt
  split_ifs <;> (rw [mat_apply, mat_apply]; exact coe_congr G (by omega) (by dsimp only; omega))

/-- Four blocks of 32 rows, one below the other. -/
theorem cat4_mat (f g p q : ℕ → ℕ → ℝ) : cat4 (mat 32 256 f : FVec Ideal _ .bf16) (mat 32 256 g) (mat 32 256 p) (mat 32 256 q)
    = mat 128 256 (fun r l => if r < 32 then f r l else if r < 64 then g (r - 32) l else if r < 96 then p (r - 64) l else q (r - 96) l) := by
  funext j; idx_vars j
  pointwise [cat4, mat_apply]
  have hj := j0.isLt
  split_ifs <;> first | omega | rfl | (congr 3 <;> omega)

/-- Two blocks of 32 rows. -/
theorem cat2_mat (f g : ℕ → ℕ → ℝ) : cat2 (mat 32 256 f : FVec Ideal _ .bf16) (mat 32 256 g)
    = mat 64 256 (fun r l => if r < 32 then f r l else g (r - 32) l) := by
  funext j; idx_vars j
  pointwise [cat2, mat_apply]
  split_ifs <;> rfl

/-- Two blocks of 32 rows, 32-bit. -/
theorem catf32_mat (f g : ℕ → ℕ → ℝ) {h} : (concatenate S64x256 0 [⟨S32x256, (mat 32 256 f : FVec Ideal _ .f32)⟩, ⟨S32x256, (mat 32 256 g : FVec Ideal _ .f32)⟩] h : FVec Ideal _ .f32)
    = mat 64 256 (fun r l => if r < 32 then f r l else g (r - 32) l) := by
  funext j; idx_vars j
  pointwise [mat_apply]
  split_ifs <;> rfl

/-- Two blocks of 64 rows. -/
theorem cat64_mat (φ : FTy) (f g : ℕ → ℕ → ℝ) {h} : (concatenate S128x256 0 [⟨S64x256, (mat 64 256 f : FVec Ideal _ φ)⟩, ⟨S64x256, (mat 64 256 g : FVec Ideal _ φ)⟩] h : FVec Ideal _ φ)
    = mat 128 256 (fun r l => if r < 64 then f r l else g (r - 64) l) := by
  funext j; idx_vars j
  pointwise [mat_apply]
  split_ifs <;> rfl

/-- Two blocks of 128 rows. -/
theorem cat128_mat (φ : FTy) (f g : ℕ → ℕ → ℝ) {h} : (concatenate S256x256 0 [⟨S128x256, (mat 128 256 f : FVec Ideal _ φ)⟩, ⟨S128x256, (mat 128 256 g : FVec Ideal _ φ)⟩] h : FVec Ideal _ φ)
    = mat 256 256 (fun r l => if r < 128 then f r l else g (r - 128) l) := by
  funext j; idx_vars j
  pointwise [mat_apply]
  split_ifs <;> rfl

/-- A block of rows cut from a matrix of full lanes. -/
theorem slice_mat {φ : FTy} (n n' o m : ℕ) (f : ℕ → ℕ → ℝ) (h : (⟨2, ![n, m]⟩ : Shape).Slices ![o, 0] ⟨2, ![n', m]⟩) :
    extractStridedSlice ⟨2, ![n', m]⟩ ![o, 0] (mat n m f : FVec Ideal _ φ) h = mat n' m (fun r l => f (o + r) l) := by
  funext j
  simp [extractStridedSlice, mat]

end Cert.KernelIdeal.Own
-- ==== Proof.Inverse.lean ====
/- The kernel's inverse of a pair's two unit-lower triangular matrices, on real entries: it is the
   doubling and block recursion of Math.lean. -/
module

public import proofs.«01_k».proof.Proof.Mat

@[expose] public section

noncomputable section

namespace Cert.KernelIdeal.Own

open Idealize.ShloMosaic Idealize.SL.Sem Cert.KernelIdeal Cert.KernelIdeal.Gen
open Cert.DeltaMath Finset

/-! ## The right operands -/

/-- The packed blocks of `s` lanes on the diagonal of a square. -/
def bdR (s : ℕ) (f : ℕ → ℕ → ℝ) : ℕ → ℕ → ℝ := fun r l => if l / s = r / s then f (r % s) l else 0

/-- The even packed blocks of `s` lanes, each in the rows of the block after it. -/
def oddR (s : ℕ) (f : ℕ → ℕ → ℝ) : ℕ → ℕ → ℝ := fun r l => if r / s % 2 = 1 ∧ l / s + 1 = r / s then f (r % s) l else 0

/-- The zero function. -/
def zR : ℕ → ℕ → ℝ := fun _ _ => 0

/-- The lanes of one block of 32, the rest zero. -/
theorem sel32 (f : ℕ → ℕ → ℝ) (n : ℕ) (hn : n < 8) : select (lane32 (BitVec.ofNat 32 n)) (mat 32 256 f : FVec Ideal S32x256 .bf16) (zb Ideal S32x256)
    = mat 32 256 (fun r l => if l / 32 = n then f r l else 0) := by
  rw [lane32_msk n hn]
  exact (congrArg _ zb_mat).trans (select_mat f _ _)

/-- The lanes of one block of 64, the rest zero. -/
theorem sel64 (f : ℕ → ℕ → ℝ) (n : ℕ) (hn : n < 4) : select (lane64 (BitVec.ofNat 32 n)) (mat 64 256 f : FVec Ideal S64x256 .bf16) (zb Ideal S64x256)
    = mat 64 256 (fun r l => if l / 64 = n then f r l else 0) := by
  rw [lane64_msk n hn]
  exact (congrArg _ zb_mat).trans (select_mat f _ _)

/-- The zero block. -/
theorem zb32 : zb Ideal S32x256 = mat 32 256 zR := zb_mat
/-- The zero block. -/
theorem zb64 : zb Ideal S64x256 = mat 64 256 zR := zb_mat
/-- The zero block. -/
theorem zb128 : zb Ideal S128x256 = mat 128 256 zR := zb_mat

/-- The blocks of 32 lanes on the diagonal of a square. -/
theorem bd32_mat (f : ℕ → ℕ → ℝ) : bd32 (mat 32 256 f : FVec Ideal _ .bf16) = mat 256 256 (bdR 32 f) := by
  rw [bd32, sel32 f 0 (by omega), sel32 f 1 (by omega), sel32 f 2 (by omega), sel32 f 3 (by omega),
    sel32 f 4 (by omega), sel32 f 5 (by omega), sel32 f 6 (by omega), sel32 f 7 (by omega)]
  exact cat8_mat (fun n r l => if l / 32 = n then f r l else 0)

/-- Eight blocks of rows, each a real matrix. -/
theorem cat8_eq (G : ℕ → ℕ → ℕ → ℝ) {x0 x1 x2 x3 x4 x5 x6 x7 : FVec Ideal S32x256 .bf16} {h}
    (h0 : x0 = mat 32 256 (G 0)) (h1 : x1 = mat 32 256 (G 1)) (h2 : x2 = mat 32 256 (G 2)) (h3 : x3 = mat 32 256 (G 3))
    (h4 : x4 = mat 32 256 (G 4)) (h5 : x5 = mat 32 256 (G 5)) (h6 : x6 = mat 32 256 (G 6)) (h7 : x7 = mat 32 256 (G 7)) :
    (concatenate S256x256 0 [⟨S32x256, x0⟩, ⟨S32x256, x1⟩, ⟨S32x256, x2⟩, ⟨S32x256, x3⟩, ⟨S32x256, x4⟩, ⟨S32x256, x5⟩, ⟨S32x256, x6⟩, ⟨S32x256, x7⟩] h : FVec Ideal _ .bf16)
      = mat 256 256 (fun r l => G (r / 32) (r % 32) l) := by
  subst h0 h1 h2 h3 h4 h5 h6 h7
  exact cat8_mat G

/-- Four blocks of rows, each a real matrix. -/
theorem cat4_64_eq (G : ℕ → ℕ → ℕ → ℝ) {x0 x1 x2 x3 : FVec Ideal S64x256 .bf16} {h}
    (h0 : x0 = mat 64 256 (G 0)) (h1 : x1 = mat 64 256 (G 1)) (h2 : x2 = mat 64 256 (G 2)) (h3 : x3 = mat 64 256 (G 3)) :
    (concatenate S256x256 0 [⟨S64x256, x0⟩, ⟨S64x256, x1⟩, ⟨S64x256, x2⟩, ⟨S64x256, x3⟩] h : FVec Ideal _ .bf16)
      = mat 256 256 (fun r l => G (r / 64) (r % 64) l) := by
  subst h0 h1 h2 h3
  exact cat4_64_mat G

/-- The even blocks of 32 lanes, each in the rows of the block after it. -/
theorem odd32_mat (f : ℕ → ℕ → ℝ) : odd32 (mat 32 256 f : FVec Ideal _ .bf16) = mat 256 256 (oddR 32 f) := by
  have e (n : ℕ) (hn : n < 8) (h : n % 2 = 0) : select (lane32 (BitVec.ofNat 32 n)) (mat 32 256 f : FVec Ideal S32x256 .bf16) (zb Ideal S32x256)
      = mat 32 256 (fun r l => if (n + 1) % 2 = 1 ∧ l / 32 + 1 = n + 1 then f r l else 0) :=
    (sel32 f n hn).trans (mat_congr fun r l _ _ => if_congr (by omega) rfl rfl)
  have z (n : ℕ) (hn : n % 2 = 0) : zb Ideal S32x256 = mat 32 256 (fun r l => if n % 2 = 1 ∧ l / 32 + 1 = n then f r l else 0) :=
    zb32.trans (mat_congr fun r l _ _ => (if_neg (by omega)).symm)
  exact cat8_eq (fun n r l => if n % 2 = 1 ∧ l / 32 + 1 = n then f r l else 0) (z 0 rfl) (e 0 (by omega) rfl) (z 2 rfl) (e 2 (by omega) rfl)
    (z 4 rfl) (e 4 (by omega) rfl) (z 6 rfl) (e 6 (by omega) rfl)

/-- The blocks of 64 lanes on the diagonal of a square. -/
theorem bd64_mat (f : ℕ → ℕ → ℝ) : bd64 (mat 64 256 f : FVec Ideal _ .bf16) = mat 256 256 (bdR 64 f) := by
  rw [bd64, sel64 f 0 (by omega), sel64 f 1 (by omega), sel64 f 2 (by omega), sel64 f 3 (by omega)]
  exact cat4_64_mat (fun n r l => if l / 64 = n then f r l else 0)

/-- The even blocks of 64 lanes, each in the rows of the block after it. -/
theorem odd64_mat (f : ℕ → ℕ → ℝ) : odd64 (mat 64 256 f : FVec Ideal _ .bf16) = mat 256 256 (oddR 64 f) := by
  have e (n : ℕ) (hn : n < 4) (h : n % 2 = 0) : select (lane64 (BitVec.ofNat 32 n)) (mat 64 256 f : FVec Ideal S64x256 .bf16) (zb Ideal S64x256)
      = mat 64 256 (fun r l => if (n + 1) % 2 = 1 ∧ l / 64 + 1 = n + 1 then f r l else 0) :=
    (sel64 f n hn).trans (mat_congr fun r l _ _ => if_congr (by omega) rfl rfl)
  have z (n : ℕ) (hn : n % 2 = 0) : zb Ideal S64x256 = mat 64 256 (fun r l => if n % 2 = 1 ∧ l / 64 + 1 = n then f r l else 0) :=
    zb64.trans (mat_congr fun r l _ _ => (if_neg (by omega)).symm)
  exact cat4_64_eq (fun n r l => if n % 2 = 1 ∧ l / 64 + 1 = n then f r l else 0) (z 0 rfl) (e 0 (by omega) rfl) (z 2 rfl) (e 2 (by omega) rfl)

/-- The two halves on the diagonal of a square. -/
theorem bd128_mat (f : ℕ → ℕ → ℝ) : bd128 (mat 128 256 f : FVec Ideal _ .bf16) = mat 256 256 (bdR 128 f) := by
  have e0 : select k0_pay9 (mat 128 256 f : FVec Ideal S128x256 .bf16) (mat 128 256 zR) = mat 128 256 (fun r l => if l < 128 then f r l else 0) := by
    rw [first_msk]
    exact select_mat f zR _
  have e1 : select k0_pay9 (mat 128 256 zR : FVec Ideal S128x256 .bf16) (mat 128 256 f) = mat 128 256 (fun r l => if l < 128 then 0 else f r l) := by
    rw [first_msk]
    exact select_mat zR f _
  rw [bd128, zb128, e0, e1]
  refine (cat128_mat _ _ _).trans (mat_congr fun r l hr hl => ?_)
  simp only [bdR]
  by_cases h : r < 128
  · rw [if_pos h, Nat.mod_eq_of_lt h, Nat.div_eq_of_lt h]
    exact if_congr (by omega) rfl rfl
  · have e : r / 128 = 1 := by omega
    rw [if_neg h, e, show r % 128 = r - 128 by omega]
    by_cases h2 : l < 128
    · rw [if_pos h2, if_neg (by omega)]
    · rw [if_neg h2, if_pos (by omega)]

/-! ## The products -/

/-- A product with the zero function. -/
theorem mulR_zero (n : ℕ) (f : ℕ → ℕ → ℝ) : mulR n f zR = zR := by
  funext r l
  simp [mulR, zR]

/-- The zero function on the diagonal. -/
theorem bdR_zero (s : ℕ) : bdR s zR = zR := by
  funext r l
  simp [bdR, zR]

/-- The zero function below the diagonal. -/
theorem oddR_zero (s : ℕ) : oddR s zR = zR := by
  funext r l
  simp [oddR, zR]

/-- Rows by a block-diagonal square: the packed product. -/
theorem mulR_bdR (s n : ℕ) (f g : ℕ → ℕ → ℝ) (r l : ℕ) (hl : l < s * n) : mulR (s * n) f (bdR s g) r l = pm s f g r l := by
  have hs : 0 < s := Nat.pos_of_ne_zero (by rintro rfl; simp at hl)
  rw [mulR, sum_block s n (l / s) (Nat.div_lt_of_lt_mul hl)]
  · refine sum_congr rfl fun j hj => ?_
    have hj := mem_range.mp hj
    simp only [bdR]
    rw [div_blk s _ j hj, mod_blk s _ j hj, if_pos rfl]
  · intro h j _ hj hne
    simp only [bdR]
    rw [div_blk s _ j hj, if_neg (fun e => hne e.symm), mul_zero]

/-- Rows by the square of the even blocks, moved down by one. -/
theorem mulR_oddR (s n : ℕ) (f g : ℕ → ℕ → ℝ) (r l : ℕ) (hl : l < s * n) (hn : n % 2 = 0) : mulR (s * n) f (oddR s g) r l = pmOdd s f g r l := by
  have hs : 0 < s := Nat.pos_of_ne_zero (by rintro rfl; simp at hl)
  have hb : l / s < n := Nat.div_lt_of_lt_mul hl
  simp only [pmOdd]
  split_ifs with hp
  · rw [mulR, sum_block s n (l / s + 1) (by omega)]
    · refine sum_congr rfl fun j hj => ?_
      have hj := mem_range.mp hj
      simp only [oddR]
      rw [div_blk s _ j hj, mod_blk s _ j hj, if_pos ⟨by omega, rfl⟩]
    · intro h j _ hj hne
      simp only [oddR]
      rw [div_blk s _ j hj, if_neg (fun e => hne e.2.symm), mul_zero]
  · refine sum_eq_zero fun k _ => ?_
    simp only [oddR]
    rw [if_neg (by omega), mul_zero]

/-- The split product of 32 rows is the product, the low parts being zero. -/
theorem dot32_mat (f g : ℕ → ℕ → ℝ) : dot32 (mat 32 256 f) (mat 256 256 g) (mat 256 256 zR) = mat 32 256 (mulR 256 f g) := by
  simp only [dot32, hi_mat, lo_mat, cat2_mat, mm64_mat, mm32_mat, S32x256, S64x256, slice_mat, add_mat, mulR_zero]
  refine mat_congr fun r l hr hl => ?_
  simp [mulR, zR, hr]

/-- The first of two split products made together. -/
theorem dotA_mat (f f' g : ℕ → ℕ → ℝ) : dotA (mat 32 256 f) (mat 32 256 f') (mat 256 256 g) (mat 256 256 zR) = mat 32 256 (mulR 256 f g) := by
  simp only [dotA, hi_mat, lo_mat, cat2_mat, cat4_mat, mm64_mat, mm128_mat, S32x256, S64x256, S128x256, slice_mat, add_mat, mulR_zero]
  refine mat_congr fun r l hr hl => ?_
  simp [mulR, zR, hr, show ¬ (64 + r < 32) by omega, show 64 + r < 96 by omega]

/-- The second of two split products made together. -/
theorem dotB_mat (f f' g : ℕ → ℕ → ℝ) : dotB (mat 32 256 f) (mat 32 256 f') (mat 256 256 g) (mat 256 256 zR) = mat 32 256 (mulR 256 f' g) := by
  simp only [dotB, hi_mat, lo_mat, cat2_mat, cat4_mat, mm64_mat, mm128_mat, S32x256, S64x256, S128x256, slice_mat, add_mat, mulR_zero]
  refine mat_congr fun r l hr hl => ?_
  simp [mulR, zR, hr, show 32 + r < 64 by omega, show ¬ (96 + r < 32) by omega, show ¬ (96 + r < 64) by omega, show ¬ (96 + r < 96) by omega]

/-- The split product of 64 rows. -/
theorem dot64_mat (f g : ℕ → ℕ → ℝ) : dot64 (mat 64 256 f) (mat 256 256 g) (mat 256 256 zR) = mat 64 256 (mulR 256 f g) := by
  rw [dot64, hi_mat, lo_mat, cat64_mat]
  simp only [mm128_mat, mm64_mat, slice_mat, add_mat, mulR_zero, S64x256, S128x256]
  refine mat_congr fun r l hr hl => ?_
  simp [mulR, zR, hr]

/-- The low part of a real matrix is zero. -/
theorem lo_mat' {n m : ℕ} (f : ℕ → ℕ → ℝ) : lo (mat n m f : FVec Ideal _ .f32) = mat n m zR := lo_mat f

/-- The square of the packed blocks. -/
theorem sq32_mat (n : ℕ → ℕ → ℝ) : sq32 (mat 32 256 n) = mat 32 256 (pm 32 n n) := by
  rw [sq32, hi_mat, lo_mat', bd32_mat, bd32_mat, bdR_zero, dot32_mat]
  exact mat_congr fun r l _ hl => mulR_bdR 32 8 n n r l hl

/-- One doubling step. -/
theorem stepT_mat (t n : ℕ → ℕ → ℝ) : stepT (mat 32 256 t) (mat 32 256 n) = mat 32 256 (fun r l => t r l + pm 32 t n r l) := by
  rw [stepT, hi_mat, lo_mat', bd32_mat, bd32_mat, bdR_zero, dotA_mat]
  refine (add_mat _ _).trans ?_
  exact mat_congr fun r l _ hl => congrArg _ (mulR_bdR 32 8 t n r l hl)

/-- The next power. -/
theorem stepN_mat (t n : ℕ → ℕ → ℝ) : stepN (mat 32 256 t) (mat 32 256 n) = mat 32 256 (pm 32 n n) := by
  rw [stepN, hi_mat, lo_mat', bd32_mat, bd32_mat, bdR_zero, dotB_mat]
  exact mat_congr fun r l _ hl => mulR_bdR 32 8 n n r l hl

/-- The last doubling step. -/
theorem stepL_mat (t n : ℕ → ℕ → ℝ) : stepL (mat 32 256 t) (mat 32 256 n) = mat 32 256 (fun r l => t r l + pm 32 t n r l) := by
  rw [stepL, hi_mat, lo_mat', bd32_mat, bd32_mat, bdR_zero, dot32_mat]
  refine (add_mat _ _).trans ?_
  exact mat_congr fun r l _ hl => congrArg _ (mulR_bdR 32 8 t n r l hl)

/-! ## The inverse -/

/-- The inverses of the blocks of 32 rows. -/
theorem inv32_mat (n : ℕ → ℕ → ℝ) : inv32 (mat 32 256 n) = mat 32 256 (inv32R n) := by
  simp only [inv32, eye32_mat, S32x256, add_mat, sq32_mat, stepT_mat, stepN_mat, stepL_mat, inv32R]

/-- The diagonal halves of 128 rows. -/
theorem diag64_mat (a : ℕ → ℕ → ℝ) : diag64 (mat 128 256 a) = mat 64 256 (diagR 64 a) := by
  simp only [diag64, even64_msk, S64x256, S128x256, slice_mat, select_mat, Nat.zero_add]
  rfl

/-- The diagonal halves of 64 rows. -/
theorem diag32_mat (a : ℕ → ℕ → ℝ) : diag32 (mat 64 256 a) = mat 32 256 (diagR 32 a) := by
  simp only [diag32, even32_msk, S64x256, S32x256, slice_mat, select_mat, Nat.zero_add]
  rfl

/-- The inverses of 64 rows from those of 32. -/
theorem grow32_mat (t a : ℕ → ℕ → ℝ) : grow32 (mat 32 256 t) (mat 64 256 a) = mat 64 256 (growR 32 t a) := by
  have n21 : select even32 (extractStridedSlice S32x256 ![32, 0] (mat 64 256 a : FVec Ideal _ .f32) slices_S64x256_o32_0_S32x256) (zf Ideal _)
      = mat 32 256 (lowR 32 a) := by
    simp only [even32_msk, S64x256, S32x256, slice_mat, zf_mat, select_mat]
    rfl
  have x21 : dot32 (mat 32 256 (lowR 32 a)) (mat 256 256 (bdR 32 t)) (mat 256 256 zR) = mat 32 256 (pm 32 (lowR 32 a) t) := by
    rw [dot32_mat]
    exact mat_congr fun r l _ hl => mulR_bdR 32 8 _ t r l hl
  have t21 : dot32 (mat 32 256 t) (mat 256 256 (oddR 32 (pm 32 (lowR 32 a) t))) (mat 256 256 zR) = mat 32 256 (pmOdd 32 t (pm 32 (lowR 32 a) t)) := by
    rw [dot32_mat]
    exact mat_congr fun r l _ hl => mulR_oddR 32 8 t _ r l hl rfl
  rw [grow32, n21, hi_mat, lo_mat', bd32_mat, bd32_mat, bdR_zero, x21, hi_mat, lo_mat', odd32_mat, odd32_mat, oddR_zero, t21]
  have e0 : select even32 (mat 32 256 t : FVec Ideal S32x256 .f32) (zf Ideal _) = mat 32 256 (fun r l => if l / 32 % 2 = 0 then t r l else 0) := by
    simp only [even32_msk, S32x256, zf_mat, select_mat]
  have e1 (x : ℕ → ℕ → ℝ) : select even32 (mat 32 256 x : FVec Ideal S32x256 .f32) (mat 32 256 t) = mat 32 256 (fun r l => if l / 32 % 2 = 0 then x r l else t r l) := by
    simp only [even32_msk, S32x256, select_mat]
  rw [e0, e1]
  exact catf32_mat _ _

/-- The inverses of 128 rows from those of 64. -/
theorem grow64_mat (t a : ℕ → ℕ → ℝ) : grow64 (mat 64 256 t) (mat 128 256 a) = mat 128 256 (growR 64 t a) := by
  have n21 : select even64 (extractStridedSlice S64x256 ![64, 0] (mat 128 256 a : FVec Ideal _ .f32) slices_S128x256_o64_0_S64x256) (zf Ideal _)
      = mat 64 256 (lowR 64 a) := by
    simp only [even64_msk, S64x256, S128x256, slice_mat, zf_mat, select_mat]
    rfl
  have x21 : dot64 (mat 64 256 (lowR 64 a)) (mat 256 256 (bdR 64 t)) (mat 256 256 zR) = mat 64 256 (pm 64 (lowR 64 a) t) := by
    rw [dot64_mat]
    exact mat_congr fun r l _ hl => mulR_bdR 64 4 _ t r l hl
  have t21 : dot64 (mat 64 256 t) (mat 256 256 (oddR 64 (pm 64 (lowR 64 a) t))) (mat 256 256 zR) = mat 64 256 (pmOdd 64 t (pm 64 (lowR 64 a) t)) := by
    rw [dot64_mat]
    exact mat_congr fun r l _ hl => mulR_oddR 64 4 t _ r l hl rfl
  rw [grow64, n21, hi_mat, lo_mat', bd64_mat, bd64_mat, bdR_zero, x21, hi_mat, lo_mat', odd64_mat, odd64_mat, oddR_zero, t21]
  have e0 : select even64 (mat 64 256 t : FVec Ideal S64x256 .f32) (zf Ideal _) = mat 64 256 (fun r l => if l / 64 % 2 = 0 then t r l else 0) := by
    simp only [even64_msk, S64x256, zf_mat, select_mat]
  have e1 (x : ℕ → ℕ → ℝ) : select even64 (mat 64 256 x : FVec Ideal S64x256 .f32) (mat 64 256 t) = mat 64 256 (fun r l => if l / 64 % 2 = 0 then x r l else t r l) := by
    simp only [even64_msk, S64x256, select_mat]
  rw [e0, e1]
  exact cat64_mat _ _ _

/-- The kernel's inverse of real entries is the inverse of Math.lean. -/
theorem inv128_mat (a : ℕ → ℕ → ℝ) : inv128 (mat 128 256 a) = mat 128 256 (inv128R a) := by
  rw [inv128, diag64_mat, diag32_mat, inv32_mat, grow32_mat, grow64_mat, inv128R]

end Cert.KernelIdeal.Own
-- ==== Proof.UnitValue.lean ====
/- What a unit makes of REAL loads: the rows of the gated delta recurrence, and the state after the
   chunk. Two heads lie side by side in 256 lanes; head `h` of the pair holds lanes `128 h` to
   `128 h + 127`, and its state is the `h`-th diagonal block of the carried square. -/
module

public import proofs.«01_k».proof.Proof.Inverse

@[expose] public section

noncomputable section

namespace Cert.KernelIdeal.Own

open Idealize.ShloMosaic Idealize.SL.Sem Cert.KernelIdeal Cert.KernelIdeal.Gen Idealize.ShloMosaic.Pointwise
open Cert.DeltaMath Finset

/-- A pair's per-head functions side by side. -/
def pk (A : ℕ → ℕ → ℕ → ℝ) : ℕ → ℕ → ℝ := fun r l => A (l / 128) r (l % 128)

/-- The log-decays of head `h` of pair `p`. -/
def gH (p : ℕ) (gb : ℕ → ℕ → ℝ) (h : ℕ) : ℕ → ℝ := fun r => gb r (2 * p + h)

/-- The step sizes of head `h` of pair `p`. -/
def bH (p : ℕ) (gb : ℕ → ℕ → ℝ) (h : ℕ) : ℕ → ℝ := fun r => gb r (8 + 2 * p + h)

/-! ## Columns and rows of the gates -/

/-- The running sums of the columns. -/
theorem gcum_acc (gb : ℕ → ℕ → ℝ) : k0_pay16 (mat 128 128 gb : FVec Ideal _ .f32) = mat 128 128 (fun r c => acc (fun k => gb k c) (r + 1)) := by
  rw [gcum_mat]
  refine mat_congr fun r c hr hc => ?_
  rw [sum_upto 128 (r + 1) (by omega) _ (fun j hj => by rw [if_neg (by omega), zero_mul])]
  exact sum_congr rfl fun j hj => by rw [if_pos (by have := mem_range.mp hj; omega), one_mul]

/-- Two columns, each along 128 lanes, of a real matrix. -/
theorem cols_mat (j0 j1 : ℕ) (h0 : S128x128.Slices ![0, j0] S128x1) (h1 : S128x128.Slices ![0, j1] S128x1) (a : ℕ → ℕ → ℝ) :
    cols j0 j1 h0 h1 (mat 128 128 a : FVec Ideal _ .f32) = mat 128 256 (fun r l => if l < 128 then a r j0 else a r j1) := by
  funext j; idx_vars j
  pointwise [cols, mat]
  split_ifs <;> rfl

/-- The pair's running sums, along rows. -/
theorem gCol_mat (p : Fin 4) (gb : ℕ → ℕ → ℝ) : gCol p (mat 128 128 gb : FVec Ideal _ .f32) = mat 128 256 (fun r l => acc (gH p gb (l / 128)) (r + 1)) := by
  rw [gCol, gcum_acc, cols_mat]
  refine mat_congr fun r l hr hl => ?_
  split_ifs with h
  · rw [show l / 128 = 0 by omega]; rfl
  · rw [show l / 128 = 1 by omega]; rfl

/-- The pair's step sizes. -/
theorem beta_mat (p : Fin 4) (gb : ℕ → ℕ → ℝ) : beta p (mat 128 128 gb : FVec Ideal _ .f32) = mat 128 256 (fun r l => bH p gb (l / 128) r) := by
  rw [beta, cols_mat]
  refine mat_congr fun r l hr hl => ?_
  split_ifs with h
  · rw [show l / 128 = 0 by omega]; rfl
  · rw [show l / 128 = 1 by omega]; rfl

/-- The pair's running sums, along lanes. -/
theorem gRow_mat (p : Fin 4) (gb : ℕ → ℕ → ℝ) : gRow p (mat 128 128 gb : FVec Ideal _ .f32) = mat 1 256 (fun _ l => acc (gH p gb (l / 128)) (l % 128 + 1)) := by
  have e : gRow p (mat 128 128 gb : FVec Ideal _ .f32) = mat 1 256 (fun _ l => if l < 128 then acc (fun k => gb k (2 * p)) (l + 1)
      else acc (fun k => gb k (2 * p + 1)) (l - 128 + 1)) := by
    rw [gRow, k0_pay17, gcum_acc]
    funext j; idx_vars j
    pointwise [mat]
    split_ifs <;> simp
  rw [e]
  refine mat_congr fun r l hr hl => ?_
  split_ifs with h
  · rw [show l / 128 = 0 by omega, show l % 128 = l by omega]; rfl
  · rw [show l / 128 = 1 by omega, show l % 128 = l - 128 by omega]; rfl

/-- The pair's sums over the whole chunk. -/
theorem gLast_mat (p : Fin 4) (gb : ℕ → ℕ → ℝ) : gLast p (mat 128 128 gb : FVec Ideal _ .f32) = mat 1 256 (fun _ l => acc (gH p gb (l / 128)) 128) := by
  have e : gLast p (mat 128 128 gb : FVec Ideal _ .f32) = mat 1 256 (fun _ l => if l < 128 then acc (fun k => gb k (2 * p)) 128
      else acc (fun k => gb k (2 * p + 1)) 128) := by
    rw [gLast, gcum_acc]
    funext j; idx_vars j
    pointwise [mat]
    split_ifs with h <;> simp [h]
  rw [e]
  refine mat_congr fun r l hr hl => ?_
  split_ifs with h
  · rw [show l / 128 = 0 by omega]; rfl
  · rw [show l / 128 = 1 by omega]; rfl

/-- One row spread over 128 rows. -/
theorem spread128 (f : ℕ → ℕ → ℝ) : broadcastTo S128x256 (mat 1 256 f : FVec Ideal S1x256 .f32) broadcasts_S1x256_S128x256 = mat 128 256 (fun _ l => f 0 l) := by
  funext j; idx_vars j
  pointwise [mat]

/-- One row spread over 256 rows. -/
theorem spread256 (f : ℕ → ℕ → ℝ) : broadcastTo S256x256 (mat 1 256 f : FVec Ideal S1x256 .f32) broadcasts_S1x256_S256x256 = mat 256 256 (fun _ l => f 0 l) := by
  funext j; idx_vars j
  pointwise [mat]

/-! ## The unit's matrices -/

section
variable (p : Fin 4) (gb q k v : ℕ → ℕ → ℝ)

/-- The decays between the tokens of a chunk. -/
theorem decay_mat : decay p (mat 128 128 gb : FVec Ideal _ .f32) = mat 128 256 (fun r l =>
    if l % 128 ≤ r then Real.exp (acc (gH p gb (l / 128)) (r + 1) - acc (gH p gb (l / 128)) (l % 128 + 1)) else 0) := by
  rw [decay, gCol_mat, gRow_mat, spread128, causal_msk]
  simp only [S128x256, sub_mat, zf_mat, select_mat, exp_mat]
  refine mat_congr fun r l hr hl => ?_
  split_ifs <;> rfl

/-- The keys times the step sizes. -/
theorem kBeta_mat : kBeta p (mat 128 128 gb : FVec Ideal _ .f32) (mat 128 256 k) = mat 128 256 (fun r l => k r l * bH p gb (l / 128) r) := by
  rw [kBeta, beta_mat]
  exact mul_mat _ _

/-- A row by a row of the diagonal square, over the lanes of one head. -/
theorem sum_bdR (f g : ℕ → ℕ → ℝ) (r l : ℕ) (hl : l < 256) : ∑ m ∈ range 256, f r m * bdR 128 g l m
    = ∑ c ∈ range 128, f r (128 * (l / 128) + c) * g (l % 128) (128 * (l / 128) + c) := by
  rw [show (256 : ℕ) = 128 * 2 from rfl, sum_block 128 2 (l / 128) (by omega)]
  · refine sum_congr rfl fun j hj => ?_
    simp only [bdR]
    rw [div_blk 128 _ j (mem_range.mp hj), if_pos rfl]
  · intro h j _ hj hne
    simp only [bdR]
    rw [div_blk 128 _ j hj, if_neg hne, mul_zero]

/-- Keys with keys and queries with keys, as sums. -/
theorem aq_mat : aq p (mat 128 128 gb : FVec Ideal _ .f32) (mat 128 256 q) (mat 128 256 k) = mat 256 256 (fun r l =>
    if r < 128 then ∑ c ∈ range 128, blk 128 k (l / 128) r c * bH p gb (l / 128) r * blk 128 k (l / 128) (l % 128) c
    else ∑ c ∈ range 128, blk 128 q (l / 128) (r - 128) c * blk 128 k (l / 128) (l % 128) c) := by
  have e : concatenate S256x256 0 [⟨S128x256, (mat 128 256 (fun r l => k r l * bH p gb (l / 128) r) : FVec Ideal _ .f32)⟩,
      ⟨S128x256, extf .f32 (mat 128 256 q : FVec Ideal _ .bf16) bitsLt_bf16_f32⟩] concatenates_S128x256_S128x256_S256x256_d0
      = (mat 256 256 (fun r l => if r < 128 then k r l * bH p gb (l / 128) r else q (r - 128) l) : FVec Ideal _ .f32) := cat128_mat _ _ _
  rw [aq, kBeta_mat, e, trunc_mat, bd128_mat, nt_mat]
  refine mat_congr fun r l hr hl => ?_
  rw [sum_bdR (fun r l => if r < 128 then k r l * bH p gb (l / 128) r else q (r - 128) l) k r l hl]
  split_ifs with h
  · refine sum_congr rfl fun c hc => ?_
    simp only [if_pos h, blk, div_blk 128 _ c (mem_range.mp hc)]
  · refine sum_congr rfl fun c hc => ?_
    simp only [if_neg h, blk]

/-- The chunk's strictly lower matrices, side by side. -/
def nR : ℕ → ℕ → ℝ := pk fun h => chunkN (blk 128 k h) (gH p gb h) (bH p gb h)

/-- The matrix whose `1 - a` is inverted is each head's chunk matrix. -/
theorem negA_mat : negA p (mat 128 128 gb : FVec Ideal _ .f32) (mat 128 256 q) (mat 128 256 k) = mat 128 256 (nR p gb k) := by
  rw [negA, aq_mat, decay_mat, strict_msk]
  simp only [S128x256, S256x256, slice_mat, mul_mat, zf_mat, sub_mat, select_mat]
  refine mat_congr fun r l hr hl => ?_
  simp only [nR, pk, chunkN]
  refine if_ctx_congr Iff.rfl (fun h => ?_) fun _ => rfl
  rw [if_pos (by omega : 0 + r < 128), if_pos (by omega : l % 128 ≤ r), Nat.zero_add]

/-- Queries with keys, decayed. -/
theorem qk_mat : qk p (mat 128 128 gb : FVec Ideal _ .f32) (mat 128 256 q) (mat 128 256 k) = mat 128 256 (pk fun h r j =>
    (∑ i ∈ range 128, blk 128 q h r i * blk 128 k h j i) * (if j ≤ r then Real.exp (acc (gH p gb h) (r + 1) - acc (gH p gb h) (j + 1)) else 0)) := by
  rw [qk, aq_mat, decay_mat]
  simp only [S128x256, S256x256, slice_mat, mul_mat, trunc_mat]
  refine mat_congr fun r l hr hl => ?_
  simp only [pk]
  rw [if_neg (by omega : ¬ 128 + r < 128), Nat.add_sub_cancel_left]

/-- The values times the step sizes. -/
theorem vb_mat : vb p (mat 128 128 gb : FVec Ideal _ .f32) (mat 128 256 v) = mat 256 256 (bdR 128 fun r l => v r l * bH p gb (l / 128) r) := by
  rw [vb, beta_mat, ← bd128_mat]
  exact congrArg bd128 (mul_mat v (fun r l => bH p gb (l / 128) r) : (mulf (mat 128 256 v : FVec Ideal _ .f32) _) = _)

/-- The keys times step sizes and decays. -/
theorem kbe_mat : kbe p (mat 128 128 gb : FVec Ideal _ .f32) (mat 128 256 k)
    = mat 256 256 (bdR 128 fun r l => k r l * bH p gb (l / 128) r * Real.exp (acc (gH p gb (l / 128)) (r + 1))) := by
  rw [kbe, kBeta_mat, gCol_mat, ← bd128_mat]
  refine congrArg bd128 ?_
  simp only [S128x256, exp_mat, mul_mat, trunc_mat]

/-- The queries times the decays. -/
theorem qExp_mat : qExp p (mat 128 128 gb : FVec Ideal _ .f32) (mat 128 256 q) = mat 128 256 (fun r l => q r l * Real.exp (acc (gH p gb (l / 128)) (r + 1))) := by
  rw [qExp, gCol_mat]
  simp only [S128x256, exp_mat, ext_mat, mul_mat, trunc_mat]

/-- The keys times the decays to the chunk's end. -/
theorem kDec_mat : kDec p (mat 128 128 gb : FVec Ideal _ .f32) (mat 128 256 k)
    = mat 128 256 (fun r l => k r l * Real.exp (acc (gH p gb (l / 128)) 128 - acc (gH p gb (l / 128)) (r + 1))) := by
  rw [kDec, gCol_mat, gLast_mat, spread128]
  simp only [S128x256, sub_mat, exp_mat, ext_mat, mul_mat, trunc_mat]

/-- The pair's inverses. -/
theorem tInv_mat : tInv p (mat 128 128 gb : FVec Ideal _ .f32) (mat 128 256 q) (mat 128 256 k) = mat 128 256 (inv128R (nR p gb k)) := by
  rw [tInv, negA_mat, inv128_mat, hi_mat]

/-- The kernel's inverse inverts each head's chunk matrix. -/
theorem tInv_spec (h : ℕ) (hh : h < 2) : LInv 128 (blk 128 (inv128R (nR p gb k)) h) (chunkN (blk 128 k h) (gH p gb h) (bH p gb h)) := by
  have e : ∀ h r c, c < 128 → blk 128 (nR p gb k) h r c = chunkN (blk 128 k h) (gH p gb h) (bH p gb h) r c := fun h r c hc => by
    simp only [blk, nR, pk]
    rw [div_blk 128 h c hc, mod_blk 128 h c hc]
  intro r c hr hc
  rw [← inv128R_spec (nR p gb k) (fun h _ r c hr hc hrc => by rw [e h r c hc, chunkN, if_neg (by omega)]) h hh r c hr hc]
  refine congrArg _ (sum_congr rfl fun j hj => ?_)
  rw [e h j c hc]

/-- A packed block times a block-diagonal square is the packed product. -/
theorem mm_bd (f g : ℕ → ℕ → ℝ) : mm128 (mat 128 256 f) (mat 256 256 (bdR 128 g)) = mat 128 256 (pm 128 f g) := by
  rw [mm128_mat]
  exact mat_congr fun r l _ hl => mulR_bdR 128 2 f g r l hl

/-- The inverse times the values. -/
theorem uMat_mat : uMat p (mat 128 128 gb : FVec Ideal _ .f32) (mat 128 256 q) (mat 128 256 k) (mat 128 256 v)
    = mat 128 256 (pm 128 (inv128R (nR p gb k)) fun r l => v r l * bH p gb (l / 128) r) := by
  rw [uMat, tInv_mat, vb_mat, mm_bd]

/-- The inverse times the keys. -/
theorem wMat_mat : wMat p (mat 128 128 gb : FVec Ideal _ .f32) (mat 128 256 q) (mat 128 256 k)
    = mat 128 256 (pm 128 (inv128R (nR p gb k)) fun r l => k r l * bH p gb (l / 128) r * Real.exp (acc (gH p gb (l / 128)) (r + 1))) := by
  rw [wMat, tInv_mat, kbe_mat, mm_bd, hi_mat]

variable (S : ℕ → ℕ → ℕ → ℝ)

/-- The packed product read at one head. -/
theorem pm_pk (f : ℕ → ℕ → ℝ) (A : ℕ → ℕ → ℕ → ℝ) (r l : ℕ) : pm 128 f (pk A) r l = ∑ j ∈ range 128, blk 128 f (l / 128) r j * A (l / 128) j (l % 128) := rfl

/-- The state read by the inverse's keys and by the queries. -/
theorem wsQs_mat : wsQs p (mat 128 128 gb : FVec Ideal _ .f32) (mat 128 256 q) (mat 128 256 k) (mat 256 256 (bdR 128 (pk S)))
    = mat 256 256 (pm 128 (fun r l => if r < 128 then pm 128 (inv128R (nR p gb k)) (fun r l => k r l * bH p gb (l / 128) r * Real.exp (acc (gH p gb (l / 128)) (r + 1))) r l
        else q (r - 128) l * Real.exp (acc (gH p gb (l / 128)) (r - 128 + 1))) (pk S)) := by
  rw [wsQs, wMat_mat, qExp_mat, cat128_mat, hi_mat, mm256_mat]
  exact mat_congr fun r l _ hl => mulR_bdR 128 2 _ _ r l hl

/-- What each token of the chunk adds, per head. -/
def updH : ℕ → ℕ → ℕ → ℝ := fun h => upd (blk 128 k h) (blk 128 v h) (gH p gb h) (bH p gb h) (S h)

/-- The state after `n` tokens of the chunk, per head. -/
def runH (n : ℕ) : ℕ → ℕ → ℕ → ℝ := fun h => run (blk 128 k h) (blk 128 v h) (gH p gb h) (bH p gb h) (S h) n

/-- The corrected values are the updates of the token recurrence. -/
theorem vNew_mat : vNew p (mat 128 128 gb : FVec Ideal _ .f32) (mat 128 256 q) (mat 128 256 k) (mat 128 256 v) (mat 256 256 (bdR 128 (pk S)))
    = mat 128 256 (pk (updH p gb k v S)) := by
  rw [vNew, wsQs_mat, uMat_mat]
  simp only [S128x256, S256x256, slice_mat, sub_mat, hi_mat]
  refine mat_congr fun r l hr hl => ?_
  rw [pm_pk]
  have hc : l % 128 < 128 := Nat.mod_lt _ (by omega)
  have hd : 128 * (l / 128) + l % 128 = l := Nat.div_add_mod l 128
  show _ = upd (blk 128 k (l / 128)) (blk 128 v (l / 128)) (gH p gb (l / 128)) (bH p gb (l / 128)) (S (l / 128)) r (l % 128)
  rw [← vnew_eq _ _ _ _ _ _ (tInv_spec p gb k (l / 128) (by omega)) r (l % 128) hr]
  congr 1
  · refine sum_congr rfl fun j hj => ?_
    simp only [blk]
    rw [hd]
  · refine sum_congr rfl fun i hi => ?_
    have hi := mem_range.mp hi
    simp only [blk, pm, Nat.zero_add]
    rw [if_pos hr, div_blk 128 _ i hi]

/-- The unit's outputs before the norm: each row reads the state after its token. -/
theorem out_mat : out p (mat 128 128 gb : FVec Ideal _ .f32) (mat 128 256 q) (mat 128 256 k) (mat 128 256 v) (mat 256 256 (bdR 128 (pk S)))
    = mat 128 256 (pk fun h r c => ∑ i ∈ range 128, blk 128 q h r i * runH p gb k v S (r + 1) h i c) := by
  rw [out, vNew_mat, wsQs_mat, qk_mat, bd128_mat, mm_bd]
  simp only [S128x256, S256x256, slice_mat, add_mat]
  refine mat_congr fun r l hr hl => ?_
  have hc : l % 128 < 128 := Nat.mod_lt _ (by omega)
  rw [pm_pk, pm_pk]
  show _ = ∑ i ∈ range 128, blk 128 q (l / 128) r i * run (blk 128 k (l / 128)) (blk 128 v (l / 128)) (gH p gb (l / 128)) (bH p gb (l / 128)) (S (l / 128)) (r + 1) i (l % 128)
  rw [← out_eq _ _ _ _ _ _ r (l % 128) hr]
  congr 1
  · refine sum_congr rfl fun i hi => ?_
    have hi := mem_range.mp hi
    simp only [blk]
    rw [if_neg (by omega : ¬ 128 + r < 128), Nat.add_sub_cancel_left, div_blk 128 _ i hi]
  · refine sum_congr rfl fun j hj => ?_
    have hj := mem_range.mp hj
    simp only [blk, pk, updH]
    rw [div_blk 128 _ j hj, mod_blk 128 _ j hj]

/-- The pair's state after the chunk. -/
theorem stNew_mat : stNew p (mat 128 128 gb : FVec Ideal _ .f32) (mat 128 256 q) (mat 128 256 k) (mat 128 256 v) (mat 256 256 (bdR 128 (pk S)))
    = mat 256 256 (bdR 128 (pk (runH p gb k v S 128))) := by
  rw [stNew, vNew_mat, gLast_mat, kDec_mat, tn_mat, same_msk]
  have e : broadcastTo S256x256 (exp (mat 1 256 (fun _ l => acc (gH p gb (l / 128)) 128) : FVec Ideal S1x256 .f32)) broadcasts_S1x256_S256x256
      = mat 256 256 (fun _ l => Real.exp (acc (gH p gb (l / 128)) 128)) :=
    (congrArg (fun x => broadcastTo S256x256 x broadcasts_S1x256_S256x256) (exp_mat _)).trans (spread256 _)
  rw [e]
  simp only [S256x256, mul_mat, add_mat, zf_mat, select_mat]
  refine mat_congr fun r l hr hl => ?_
  simp only [bdR]
  refine if_ctx_congr ⟨fun h => h.symm, fun h => h.symm⟩ (fun h => ?_) fun _ => rfl
  have hm : r % 128 < 128 := Nat.mod_lt _ (by omega)
  have hd : 128 * (l / 128) + r % 128 = r := by omega
  rw [if_pos h]
  simp only [pk, runH]
  rw [← state_eq]
  congr 1
  refine sum_congr rfl fun j hj => ?_
  simp only [blk, updH]
  rw [hd, h]

end

end Cert.KernelIdeal.Own
-- ==== Proof.Block.lean ====
/- One grid point at the exact model, on REAL loads: what its stores leave in the result's block and
   in the carried state. -/
module

public import proofs.«01_k».proof.Proof.Pieces
public import proofs.«01_k».proof.Proof.UnitValue
public import Idealize.ShloMosaic.Lib.WholeRead
public import Idealize.ShloMosaic.Lib.VecWindow

@[expose] public section

noncomputable section

namespace Cert.KernelIdeal.Own

open Idealize.ShloMosaic Idealize.SL.Sem Cert.KernelIdeal Cert.KernelIdeal.Gen Idealize.ShloMosaic.Pointwise
open Cert.DeltaMath Finset

/-! ## Loads -/

/-- The load of a chunk's rows and a pair's lanes. -/
theorem lq_mat (arg : Memref sig .tc .vmem S512x1024 .bf16) (harg : arg.IsWhole) (f : ℕ → ℕ → ℝ) (p ci : Fin 4) :
    lq arg harg (mat 512 1024 f : FVec Ideal _ .bf16) p ci = mat 128 256 (fun r l => f (128 * ci.val + r) (256 * p.val + l)) := by
  funext j
  refine (harg.readAt_unread (Val := Elt Ideal) _ (rq ci p).toLoadRect j).trans ?_
  show ((f (128 * ci.val + 1 * (j 0).val) (256 * p.val + 1 * (j 1).val) : ℝ) : EReal) = _
  rw [one_mul, one_mul]
  rfl

/-- The load of a chunk's gates. -/
theorem lg_mat (arg : Memref sig .tc .vmem S512x128 .f32) (harg : arg.IsWhole) (f : ℕ → ℕ → ℝ) (ci : Fin 4) :
    lg arg harg (mat 512 128 f : FVec Ideal _ .f32) ci = mat 128 128 (fun r l => f (128 * ci.val + r) l) := by
  funext j
  refine (harg.readAt_unread (Val := Elt Ideal) _ (rg ci).toLoadRect j).trans ?_
  show ((f (128 * ci.val + 1 * (j 0).val) (0 + 1 * (j 1).val) : ℝ) : EReal) = _
  rw [one_mul, one_mul, zero_add]
  rfl

/-- The carried state of all eight heads: pair `p` holds heads `2 p` and `2 p + 1`. -/
def stV (S : ℕ → ℕ → ℕ → ℝ) : FVec Ideal S4x256x256 .f32 :=
  fun i => ((bdR 128 (pk fun h => S (2 * (i 0).val + h)) (i 1).val (i 2).val : ℝ) : EReal)

/-- A square read out of a block of one square. -/
theorem cast3 (x : FVec Ideal S1x256x256 .f32) (j : S256x256.Idx) : k0_pay1455 x j = x (ix3 0 (j 0) (j 1)) := by
  idx_vars j
  pointwise [k0_pay1455]

/-- A square stored as a block of one square. -/
theorem cast2 (x : FVec Ideal S256x256 .f32) (j : S1x256x256.Idx) : k0_pay1 x j = x (ix2 (j 1) (j 2)) := by
  idx_vars j
  pointwise [k0_pay1]

/-- The load of a pair's state. -/
theorem ls_mat (arg : Memref sig .tc .vmem S4x256x256 .f32) (harg : arg.IsWhole) (S : ℕ → ℕ → ℕ → ℝ) (p : Fin 4) :
    ls arg harg (stV S) p = mat 256 256 (bdR 128 (pk fun h => S (2 * p.val + h))) := by
  funext j
  refine (cast3 _ j).trans ?_
  refine (harg.readAt_unread _ _ _).trans ?_
  show ((bdR 128 (pk fun h => S (2 * (p.val + 1 * 0) + h)) (0 + 1 * (j 0).val) (0 + 1 * (j 1).val) : ℝ) : EReal) = _
  simp only [one_mul, mul_zero, add_zero, zero_add]
  rfl

/-- A first block starts from the zero state. -/
theorem lz_mat (arg : Memref sig .tc .vmem S4x256x256 .f32) (p : Fin 4) :
    (lz arg p : FVec Ideal _ .f32) = mat 256 256 (bdR 128 (pk fun _ _ _ => 0)) := by
  have e : ∀ y, arg.view.read (Elt Ideal) (arg.view.writes (Elt Ideal) arg.view.junk [zpiece Ideal]) y = (k0_pay8 : FVec Ideal _ .f32) y := fun y => by
    have := View.read_writes_cons_emb (Val := Elt Ideal) arg.view arg.view.junk (zpiece Ideal).1 (zpiece Ideal).2 [] y
    rw [show (zpiece Ideal).1.emb y = y from Rect.emb_unit_full (s := S4x256x256) (off := ![0, 0, 0]) inb_S4x256x256_S4x256x256_0_0_0 y] at this
    exact this
  funext j
  refine (cast3 _ j).trans ?_
  refine (e _).trans ?_
  have z : ∀ r l, bdR 128 (pk fun _ _ _ => 0) r l = 0 := fun r l => by unfold bdR pk; split_ifs <;> rfl
  show _ = ((bdR 128 (pk fun _ _ _ => 0) _ _ : ℝ) : EReal)
  rw [z]
  simp [k0_pay8, broadcast, shapeCast]

/-! ## The chain of chunks -/

/-- The recurrence of head `h` of pair `p` over the block's rows. -/
def runB (p : ℕ) (G K V : ℕ → ℕ → ℝ) (S : ℕ → ℕ → ℕ → ℝ) (h : ℕ) (n : ℕ) : ℕ → ℕ → ℝ :=
  run (fun r c => K r (128 * (2 * p + h) + c)) (fun r c => V r (128 * (2 * p + h) + c)) (fun r => G r (2 * p + h)) (fun r => G r (8 + (2 * p + h)))
    (S (2 * p + h)) n

section
variable (p : Fin 4) (G Q K V : ℕ → ℕ → ℝ) (S : ℕ → ℕ → ℕ → ℝ)

/-- The decays and step sizes of a chunk, as real matrices. -/
abbrev gm (ci : Fin 4) : FVec Ideal S128x128 .f32 := mat 128 128 (fun r l => G (128 * ci.val + r) l)
/-- A head pair's piece of a chunk, as real matrices. -/
abbrev qm (ci : Fin 4) : FVec Ideal S128x256 .bf16 := mat 128 256 (fun r l => Q (128 * ci.val + r) (256 * p.val + l))

/-- The state inside a chunk is the block's state at that token. -/
theorem runH_eq (ci : Fin 4) (n : ℕ) (h : ℕ) :
    runH p (fun r l => G (128 * ci.val + r) l) (fun r l => K (128 * ci.val + r) (256 * p.val + l)) (fun r l => V (128 * ci.val + r) (256 * p.val + l))
      (fun h => runB p G K V S h (128 * ci.val)) n h = runB p G K V S h (128 * ci.val + n) := by
  rw [runB, ← run_add]
  unfold runH blk gH bH runB
  have e : ∀ c, 256 * p.val + (128 * h + c) = 128 * (2 * p.val + h) + c := fun c => by ring
  have e2 : 8 + 2 * p.val + h = 8 + (2 * p.val + h) := by ring
  simp only [e, e2]

/-- The pair's state after `n` chunks holds the two heads' states on the diagonal. -/
theorem chain_mat : ∀ n : ℕ, n ≤ 4 →
    chain p (gm G) (qm p Q) (qm p K) (qm p V) (mat 256 256 (bdR 128 (pk fun h => S (2 * p.val + h)))) n
      = mat 256 256 (bdR 128 (pk fun h => runB p G K V S h (128 * n)))
  | 0, _ => rfl
  | n + 1, hn => by
    have hc : (Fin.ofNat 4 n).val = n := Nat.mod_eq_of_lt (by omega)
    rw [chain, chain_mat n (by omega)]
    refine (stNew_mat p _ _ _ _ _).trans ?_
    have e := fun h => runH_eq p G K V S (Fin.ofNat 4 n) 128 h
    rw [hc] at e
    rw [hc, show 128 * (n + 1) = 128 * n + 128 by ring]
    exact congrArg (fun A => mat 256 256 (bdR 128 (pk A))) (funext e)

/-- A unit's outputs in the block's terms. -/
theorem outB_mat (ci : Fin 4) :
    out p (gm G ci) (qm p Q ci) (qm p K ci) (qm p V ci) (chain p (gm G) (qm p Q) (qm p K) (qm p V) (mat 256 256 (bdR 128 (pk fun h => S (2 * p.val + h)))) ci.val)
      = mat 128 256 (pk fun h r c => ∑ i ∈ range 128, Q (128 * ci.val + r) (128 * (2 * p.val + h) + i) * runB p G K V S h (128 * ci.val + r + 1) i c) := by
  rw [chain_mat p G Q K V S ci.val (by omega)]
  refine (out_mat p _ _ _ _ _).trans ?_
  refine congrArg (fun A => mat 128 256 (pk A)) ?_
  funext h r c
  refine sum_congr rfl fun i _ => ?_
  rw [runH_eq]
  show Q _ (256 * p.val + (128 * h + i)) * _ = _
  rw [show 256 * p.val + (128 * h + i) = 128 * (2 * p.val + h) + i by ring, show 128 * ci.val + r + 1 = 128 * ci.val + (r + 1) by ring]
end

end Cert.KernelIdeal.Own
-- ==== Proof.Spec.lean ====
/- What the gated delta rule computes, over the real queries, keys, values `X` (three blocks of 1024
   columns) and gates `Y` (log-decays in the first eight columns, step sizes in the next eight):
   eight sequences of 2048 tokens, eight heads of 128 lanes. -/
module

public import proofs.«01_k».proof.Proof.Math
public import Idealize.ShloMosaic.PureOps.Ideal

@[expose] public section

noncomputable section

namespace Cert.DeltaMath

open Idealize.ShloMosaic Finset

/-- The state of head `h` of sequence `b` after `n` tokens. -/
def state (X Y : ℕ → ℕ → ℝ) (b h n : ℕ) : ℕ → ℕ → ℝ :=
  run (fun s i => X (2048 * b + s) (1024 + (128 * h + i))) (fun s c => X (2048 * b + s) (2048 + (128 * h + c)))
    (fun s => Y (2048 * b + s) h) (fun s => Y (2048 * b + s) (8 + h)) (fun _ _ => 0) n

/-- One more token. -/
theorem state_succ (X Y : ℕ → ℕ → ℝ) (b h n : ℕ) : state X Y b h (n + 1)
    = stp (fun i => X (2048 * b + n) (1024 + (128 * h + i))) (fun c => X (2048 * b + n) (2048 + (128 * h + c))) (Y (2048 * b + n) h) (Y (2048 * b + n) (8 + h))
        (state X Y b h n) := rfl

/-- The output of token `s`: its query against the state that already holds it. -/
def outv (X Y : ℕ → ℕ → ℝ) (b h s c : ℕ) : ℝ := ∑ i ∈ range 128, X (2048 * b + s) (128 * h + i) * state X Y b h (s + 1) i c

/-- A head's normed, weighted and gated output at lane `c`. -/
def headNorm (O : ℕ → ℝ) (w z : EReal) (c : ℕ) : EReal :=
  ((O c : ℝ) : EReal) * Ideal.rsqrt (Ideal.div (((∑ i ∈ range 128, O i * O i : ℝ) : ℝ) : EReal) (Ideal.ofBits .f32 1124073472#32) + Ideal.ofBits .f32 897988541#32) * w * z

end Cert.DeltaMath
-- ==== Proof.Point.lean ====
/- One grid point's result block and state, from real blocks. -/
module

public import proofs.«01_k».proof.Proof.Block
public import proofs.«01_k».proof.Proof.Spec

@[expose] public section

noncomputable section

namespace Cert.KernelIdeal.Own

open Idealize.ShloMosaic Idealize.SL.Sem Cert.KernelIdeal Cert.KernelIdeal.Gen Idealize.ShloMosaic.Pointwise
open Cert.DeltaMath Finset

/-- The normed, weighted and gated outputs of a pair, at head `l / 128` and lane `l % 128`. -/
theorem normed_real (ng : FVec Ideal S1x256 .f32) (sz : FVec Ideal S128x256 .bf16) (A : ℕ → ℕ → ℕ → ℝ) (r : Fin 128) (l : Fin 256) :
    normed ng sz (mat 128 256 (pk A)) (ix2 r l) = headNorm (A (l.val / 128) r.val) (ng (ix2 0 l)) (sz (ix2 r l)) (l.val % 128) := by
  pointwise [normed, mean128, mat]
  simp only [← EReal.coe_mul]
  unfold headNorm
  rw [← coe_sum 128 (fun i => A (l.val / 128) r.val i * A (l.val / 128) r.val i)]
  split_ifs with h
  · have e : ∀ x : Fin 128, pk A r.val x.val = A (l.val / 128) r.val x.val := fun x => by
      rw [pk, show x.val / 128 = l.val / 128 by omega, Nat.mod_eq_of_lt x.isLt]
    simp only [e]
    rfl
  · have e : ∀ x : Fin 128, pk A r.val (128 + x.val) = A (l.val / 128) r.val x.val := fun x => by
      rw [pk, show (128 + x.val) / 128 = l.val / 128 by omega, Nat.add_mod_left, Nat.mod_eq_of_lt x.isLt]
    simp only [e]
    rfl

/-- The norm weights, once for each head of the pair. -/
theorem lng_apply (arg7 : Memref sig .tc .vmem S1x128 .f32) (harg7 : arg7.IsWhole) (x5 : FVec Ideal S1x128 .f32) (l : Fin 256) :
    lng arg7 harg7 x5 (ix2 0 l) = x5 (ix2 0 ⟨l.val % 128, Nat.mod_lt _ (by decide)⟩) := by
  have e : (View.readAt (Elt Ideal) arg7.view (Rect.unit ![0, 0] S1x128.size inb_S1x128_S1x128_0_0).toLoadRect (harg7.unread x5) : FVec Ideal S1x128 .f32) = x5 := by
    funext j
    refine (harg7.readAt_unread (Val := Elt Ideal) _ (Rect.unit ![0, 0] S1x128.size inb_S1x128_S1x128_0_0).toLoadRect j).trans ?_
    exact congrArg x5 (Rect.emb_unit_full (s := S1x128) (off := ![0, 0]) inb_S1x128_S1x128_0_0 j)
  refine (congrArg (fun A => k0_pay15 A A (ix2 0 l)) e).trans ?_
  pointwise [k0_pay15]
  split_ifs with h
  · exact congrArg (fun i => x5 (ix2 0 i)) (Fin.ext (Nat.mod_eq_of_lt h).symm)
  all_goals exact congrArg (fun i => x5 (ix2 0 i)) (Fin.ext (by show l.val - 128 = l.val % 128; omega))

section
variable (v : View sig .tc .vmem S512x1024 .bf16) (f : v.ty.Contents (Elt Ideal))
  (G Q K V : ℕ → ℕ → ℝ) (S : ℕ → ℕ → ℕ → ℝ)
  (z : FVec Ideal S512x1024 .bf16) (w : FVec Ideal S1x128 .f32)

/-- The block's result at a row and lane. -/
def resB (y : S512x1024.Idx) : EReal :=
  headNorm (fun c => ∑ i ∈ range 128, Q (y 0).val (128 * ((y 1).val / 128) + i) *
      runB ((y 1).val / 256) G K V S ((y 1).val % 256 / 128) ((y 0).val + 1) i c)
    (w (ix2 0 ⟨(y 1).val % 128, Nat.mod_lt _ (by decide)⟩)) (z y) ((y 1).val % 128)

/-- A stored piece is the block's result on its rectangle. -/
theorem piece_real (arg7 : Memref sig .tc .vmem S1x128 .f32) (harg7 : arg7.IsWhole)
    (arg6 : Memref sig .tc .vmem S512x1024 .bf16) (harg6 : arg6.IsWhole) (ci p : Fin 4) (x : S128x256.Idx) :
    normed (lng arg7 harg7 w) (lq arg6 harg6 z p ci)
      (out p (gm G ci) (qm p Q ci) (qm p K ci) (qm p V ci) (chain p (gm G) (qm p Q) (qm p K) (qm p V) (mat 256 256 (bdR 128 (pk fun h => S (2 * p.val + h)))) ci.val)) x
      = resB G Q K V S z w ((rq ci p).emb x) := by
  rw [outB_mat]
  obtain ⟨r, l, rfl⟩ : ∃ (r : Fin 128) (l : Fin 256), x = ix2 r l := ⟨x 0, x 1, by funext a; fin_cases a <;> rfl⟩
  refine (normed_real _ _ _ r l).trans ?_
  rw [lng_apply]
  have e0 : ((rq ci p).emb (ix2 r l) 0).val = 128 * ci.val + r.val := by show 128 * ci.val + 1 * r.val = _; omega
  have e1 : ((rq ci p).emb (ix2 r l) 1).val = 256 * p.val + l.val := by show 256 * p.val + 1 * l.val = _; omega
  have ez : lq arg6 harg6 z p ci (ix2 r l) = z ((rq ci p).emb (ix2 r l)) := harg6.readAt_unread (Val := Elt Ideal) _ (rq ci p).toLoadRect (ix2 r l)
  unfold resB
  have h1 : (256 * p.val + l.val) % 128 = l.val % 128 := by omega
  have h2 : (256 * p.val + l.val) / 256 = p.val := by omega
  have h3 : (256 * p.val + l.val) % 256 / 128 = l.val / 128 := by omega
  have h4 : (256 * p.val + l.val) / 128 = 2 * p.val + l.val / 128 := by omega
  simp only [ez, e0, e1, h1, h2, h3, h4]

/-- The block's pieces, read back. -/
theorem block_real (arg7 : Memref sig .tc .vmem S1x128 .f32) (harg7 : arg7.IsWhole)
    (arg6 : Memref sig .tc .vmem S512x1024 .bf16) (harg6 : arg6.IsWhole)
    (gb : Fin 4 → FVec Ideal S128x128 .f32) (q k vv sz : Fin 4 → Fin 4 → FVec Ideal S128x256 .bf16) (ng : FVec Ideal S1x256 .f32)
    (st : Fin 4 → FVec Ideal S256x256 .f32)
    (hgb : gb = gm G) (hq : q = fun p => qm p Q) (hk : k = fun p => qm p K) (hv : vv = fun p => qm p V)
    (hsz : sz = lq arg6 harg6 z) (hng : ng = lng arg7 harg7 w)
    (hst : st = fun p => mat 256 256 (bdR 128 (pk fun h => S (2 * p.val + h)))) (y : S512x1024.Idx) :
    v.read (Elt Ideal) (v.writes (Elt Ideal) f (pieces gb q k vv sz ng st)) y = resB G Q K V S z w y := by
  subst hgb hq hk hv hsz hng hst
  have hp : ∀ P ∈ pieces (gm G) (fun p => qm p Q) (fun p => qm p K) (fun p => qm p V) (lq arg6 harg6 z) (lng arg7 harg7 w)
      (fun p => mat 256 256 (bdR 128 (pk fun h => S (2 * p.val + h)))), ∃ ci p, P = piece (gm G) (fun p => qm p Q) (fun p => qm p K) (fun p => qm p V) (lq arg6 harg6 z) (lng arg7 harg7 w)
      (fun p => mat 256 256 (bdR 128 (pk fun h => S (2 * p.val + h)))) ci p := by
    intro P hP
    simp only [pieces, List.mem_cons, List.mem_nil_iff, or_false] at hP
    rcases hP with h | h | h | h | h | h | h | h | h | h | h | h | h | h | h | h <;> exact ⟨_, _, h⟩
  refine View.read_writes_apply_of_pieces v f (resB G Q K V S z w) _ (fun P hP x => ?_) y ?_
  · obtain ⟨ci, p, rfl⟩ := hp P hP
    exact piece_real G Q K V S z w arg7 harg7 arg6 harg6 ci p x
  · refine View.cover_of_blocks _ ![128, 256] (by decide) (fun ix => ?_) y
    have hm : ∀ ci p : Fin 4, piece (gm G) (fun p => qm p Q) (fun p => qm p K) (fun p => qm p V) (lq arg6 harg6 z) (lng arg7 harg7 w)
      (fun p => mat 256 256 (bdR 128 (pk fun h => S (2 * p.val + h)))) ci p ∈ pieces (gm G) (fun p => qm p Q) (fun p => qm p K) (fun p => qm p V) (lq arg6 harg6 z) (lng arg7 harg7 w)
      (fun p => mat 256 256 (bdR 128 (pk fun h => S (2 * p.val + h)))) := by
      intro ci p
      simp only [pieces]
      fin_cases ci <;> fin_cases p <;> simp
    refine ⟨_, hm ⟨(ix 0).val, (ix 0).isLt⟩ ⟨(ix 1).val, (ix 1).isLt⟩, ?_, ?_, ?_⟩
    · intro a; fin_cases a
      · exact Nat.mul_comm _ _
      · exact Nat.mul_comm _ _
    · intro a; fin_cases a <;> rfl
    · intro a; rfl
end

/-- The four stores of the carried state, the last one first. -/
def spieces (gb : Fin 4 → FVec Ideal S128x128 .f32) (q k vv : Fin 4 → Fin 4 → FVec Ideal S128x256 .bf16)
    (st : Fin 4 → FVec Ideal S256x256 .f32) : List (View.Piece (Elt Ideal) S4x256x256 .f32) :=
  let P := spiece gb q k vv st
  [P 3, P 2, P 1, P 0]

/-- A stored piece of the state. -/
theorem spiece_real (G Q K V : ℕ → ℕ → ℝ) (S : ℕ → ℕ → ℕ → ℝ) (p : Fin 4) (x : S1x256x256.Idx) :
    k0_pay1 (chain p (gm G) (qm p Q) (qm p K) (qm p V) (mat 256 256 (bdR 128 (pk fun h => S (2 * p.val + h)))) 4) x
      = stV (fun H => runB (H / 2) G K V S (H % 2) 512) ((rs p).emb x) := by
  have e := chain_mat p G Q K V S 4 le_rfl
  refine (cast2 (chain p (gm G) (qm p Q) (qm p K) (qm p V) (mat 256 256 (bdR 128 (pk fun h => S (2 * p.val + h)))) 4) x).trans ?_
  refine (congrFun e _).trans ?_
  have x0 : (x 0).val = 0 := by have h : (x 0).val < 1 := (x 0).isLt; omega
  have e0 : ((rs p).emb x 0).val = p.val := by show p.val + 1 * (x 0).val = _; omega
  have e1 : ((rs p).emb x 1).val = (x 1).val := by show 0 + 1 * (x 1).val = _; omega
  have e2 : ((rs p).emb x 2).val = (x 2).val := by show 0 + 1 * (x 2).val = _; omega
  unfold stV
  rw [e0, e1, e2]
  show ((bdR 128 _ (x 1).val (x 2).val : ℝ) : EReal) = _
  unfold bdR
  split_ifs with h
  · unfold pk
    have hl : (x 2).val / 128 < 2 := by have h : (x 2).val < 256 := (x 2).isLt; omega
    beta_reduce
    rw [show (2 * p.val + (x 2).val / 128) / 2 = p.val by omega, show (2 * p.val + (x 2).val / 128) % 2 = (x 2).val / 128 by omega]
  · rfl

/-- The state's pieces, read back. -/
theorem state_real (v : View sig .tc .vmem S4x256x256 .f32) (f : v.ty.Contents (Elt Ideal)) (G Q K V : ℕ → ℕ → ℝ) (S : ℕ → ℕ → ℕ → ℝ)
    (gb : Fin 4 → FVec Ideal S128x128 .f32) (q k vv : Fin 4 → Fin 4 → FVec Ideal S128x256 .bf16)
    (st : Fin 4 → FVec Ideal S256x256 .f32)
    (hgb : gb = gm G) (hq : q = fun p => qm p Q) (hk : k = fun p => qm p K) (hv : vv = fun p => qm p V)
    (hst : st = fun p => mat 256 256 (bdR 128 (pk fun h => S (2 * p.val + h)))) :
    v.read (Elt Ideal) (v.writes (Elt Ideal) f (spieces gb q k vv st))
      = stV (fun H => runB (H / 2) G K V S (H % 2) 512) := by
  subst hgb hq hk hv hst
  funext y
  refine View.read_writes_apply_of_pieces v f (stV (fun H => runB (H / 2) G K V S (H % 2) 512)) _ (fun P hP x => ?_) y ?_
  · obtain ⟨p, rfl⟩ : ∃ p, P = spiece (gm G) (fun p => qm p Q) (fun p => qm p K) (fun p => qm p V)
        (fun p => mat 256 256 (bdR 128 (pk fun h => S (2 * p.val + h)))) p := by
      simp only [spieces, List.mem_cons, List.mem_nil_iff, or_false] at hP
      rcases hP with h | h | h | h <;> exact ⟨_, h⟩
    exact spiece_real G Q K V S p x
  · refine View.cover_of_blocks _ ![1, 256, 256] (by decide) (fun ix => ?_) y
    have hm : ∀ p : Fin 4, spiece (gm G) (fun p => qm p Q) (fun p => qm p K) (fun p => qm p V)
        (fun p => mat 256 256 (bdR 128 (pk fun h => S (2 * p.val + h)))) p ∈ spieces (gm G) (fun p => qm p Q) (fun p => qm p K) (fun p => qm p V)
        (fun p => mat 256 256 (bdR 128 (pk fun h => S (2 * p.val + h)))) := by
      intro p
      fin_cases p <;> simp [spieces]
    refine ⟨_, hm ⟨(ix 0).val, (ix 0).isLt⟩, ?_, ?_, ?_⟩
    · intro a; fin_cases a
      · exact (Nat.mul_one _).symm
      · have h : (ix 1).val < 1 := (ix 1).isLt
        show 0 = (ix 1).val * 256
        omega
      · have h : (ix 2).val < 1 := (ix 2).isLt
        show 0 = (ix 2).val * 256
        omega
    · intro a; fin_cases a <;> rfl
    · intro a; rfl

end Cert.KernelIdeal.Own
-- ==== Proof.Grid.lean ====
/- The kernel's results over its grid: thirty-two points, four blocks of 512 tokens of each of the
   eight sequences in order, the state carried from a sequence's block to its next. -/
module

public import proofs.«01_k».proof.Proof.Point
public import proofs.«01_k».proof.Proof.Gen.KernelIdeal.Value
public import Idealize.ShloMosaic.Lib.Pipeline.ValueKit

@[expose] public section

set_option maxRecDepth 16384

noncomputable section

namespace Cert.KernelIdeal.Own

open Idealize.ShloMosaic Idealize.SL.Sem Cert.KernelIdeal Cert.KernelIdeal.Gen Idealize.ShloMosaic.Pointwise
open Cert.DeltaMath Finset Cert.KernelIdeal.Value

/-- The input windows' block indices. -/
theorem idx_in : ∀ t : Fin cfg0.N, win0_0.index t = ![t.val, 0] ∧ win0_1.index t = ![t.val, 1] ∧ win0_2.index t = ![t.val, 2]
    ∧ win0_3.index t = ![t.val, 0] ∧ win0_4.index t = ![t.val, 0] ∧ win0_5.index t = ![0, 0] :=
  (by decide +kernel : ∀ t : Fin grid0.N, _)

section
variable (m : (ℓ : Loc nD τ sig) → Buf (Elt Ideal) ℓ) (c : Dev nD) (X Y : ℕ → ℕ → ℝ)

/-- Window 0's block of a point, read at an entry. -/
theorem blk0 (t : Fin cfg0.N) (y : S512x1024.Idx) (i : S16384x3072.Idx) (h0 : (i 0).val = 512 * t.val + (y 0).val) (h1 : (i 1).val = 0 + (y 1).val) :
    (iblk m c 0 t : FVec Ideal S512x1024 .bf16) y = (m ((c.tc : Thread nD τ).loc main_arg0) : FVec Ideal S16384x3072 .bf16) i := by
  blk_ext [iblk, V, idx_in t]

/-- Window 1's block of a point, read at an entry. -/
theorem blk1 (t : Fin cfg0.N) (y : S512x1024.Idx) (i : S16384x3072.Idx) (h0 : (i 0).val = 512 * t.val + (y 0).val) (h1 : (i 1).val = 1024 + (y 1).val) :
    (iblk m c 1 t : FVec Ideal S512x1024 .bf16) y = (m ((c.tc : Thread nD τ).loc main_arg0) : FVec Ideal S16384x3072 .bf16) i := by
  blk_ext [iblk, V, idx_in t]

/-- Window 2's block of a point, read at an entry. -/
theorem blk2 (t : Fin cfg0.N) (y : S512x1024.Idx) (i : S16384x3072.Idx) (h0 : (i 0).val = 512 * t.val + (y 0).val) (h1 : (i 1).val = 2048 + (y 1).val) :
    (iblk m c 2 t : FVec Ideal S512x1024 .bf16) y = (m ((c.tc : Thread nD τ).loc main_arg0) : FVec Ideal S16384x3072 .bf16) i := by
  blk_ext [iblk, V, idx_in t]

/-- Window 3's block of a point, read at an entry. -/
theorem blk3 (t : Fin cfg0.N) (y : S512x128.Idx) (i : S16384x128.Idx) (h0 : (i 0).val = 512 * t.val + (y 0).val) (h1 : (i 1).val = 0 + (y 1).val) :
    (iblk m c 3 t : FVec Ideal S512x128 .f32) y = (m ((c.tc : Thread nD τ).loc main_arg2) : FVec Ideal S16384x128 .f32) i := by
  blk_ext [iblk, V, idx_in t]

/-- Window 4's block of a point, read at an entry. -/
theorem blk4 (t : Fin cfg0.N) (y : S512x1024.Idx) (i : S16384x1024.Idx) (h0 : (i 0).val = 512 * t.val + (y 0).val) (h1 : (i 1).val = 0 + (y 1).val) :
    (iblk m c 4 t : FVec Ideal S512x1024 .bf16) y = (m ((c.tc : Thread nD τ).loc main_arg1) : FVec Ideal S16384x1024 .bf16) i := by
  blk_ext [iblk, V, idx_in t]

/-- The norm weights are the same block at every step. -/
theorem blk5 (t : Fin cfg0.N) (l : Fin 128) : (iblk m c 5 t : FVec Ideal S1x128 .f32) (ix2 0 l) = (m ((c.tc : Thread nD τ).loc main_arg3) : FVec Ideal S128 .f32) (ix1 l) := by
  blk_simp [iblk, V, idx_in t]
  entry_read
  pointwise
  refine congrArg _ (congrArg ix1 (Fin.ext ?_))
  show ((win0_5.blk t).view.emb (ix2 0 l) 1).val = l.val
  blk_simp [idx_in t]
end

section
variable (c : Dev nD) (i : grid0.Coords)
  (arg2 : Memref sig .tc .vmem S512x1024 .bf16) (harg2 : arg2.IsWhole)
  (arg3 : Memref sig .tc .vmem S512x1024 .bf16) (harg3 : arg3.IsWhole)
  (arg4 : Memref sig .tc .vmem S512x1024 .bf16) (harg4 : arg4.IsWhole)
  (arg5 : Memref sig .tc .vmem S512x128 .f32) (harg5 : arg5.IsWhole)
  (arg6 : Memref sig .tc .vmem S512x1024 .bf16) (harg6 : arg6.IsWhole)
  (arg7 : Memref sig .tc .vmem S1x128 .f32) (harg7 : arg7.IsWhole)
  (arg8 : Memref sig .tc .vmem S1x512x256 .f32) (harg8 : arg8.IsWhole)
  (arg9 : Memref sig .tc .vmem S1x512x256 .f32) (harg9 : arg9.IsWhole)
  (arg10 : Memref sig .tc .vmem S1x128x1024 .f32) (harg10 : arg10.IsWhole)
  (arg11 : Memref sig .tc .vmem S512x1024 .bf16) (harg11 : arg11.IsWhole)
  (arg12 : Memref sig .tc .vmem S1x512x256 .bf16) (harg12 : arg12.IsWhole)
  (arg13 : Memref sig .tc .vmem S1x512x256 .bf16) (harg13 : arg13.IsWhole)
  (arg14 : Memref sig .tc .vmem S1x128x1024 .bf16) (harg14 : arg14.IsWhole)
  (arg15 : Memref sig .tc .vmem S4x256x256 .f32) (harg15 : arg15.IsWhole)
  (x0 x1 x2 : Vec Ideal S512x1024 .bf16) (x3 : Vec Ideal S512x128 .f32) (x4 : Vec Ideal S512x1024 .bf16) (x5 : Vec Ideal S1x128 .f32)
  (x6 x7 : Vec Ideal S1x512x256 .f32) (x8 : Vec Ideal S1x128x1024 .f32)
  (G Q K V : ℕ → ℕ → ℝ) (S : ℕ → ℕ → ℕ → ℝ)
  (h0 : x0 = (mat 512 1024 Q : FVec Ideal _ .bf16)) (h1 : x1 = (mat 512 1024 K : FVec Ideal _ .bf16))
  (h2 : x2 = (mat 512 1024 V : FVec Ideal _ .bf16)) (h3 : x3 = (mat 512 128 G : FVec Ideal _ .f32))

include h0 h1 h2 h3 in
/-- A first block's result. -/
theorem resultA (hc : cond0_0 i) (y : S512x1024.Idx) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 y = resB G Q K V (fun _ _ _ => 0) x4 x5 y := by
  unfold out0_A_9
  rw [piecesA]
  exact block_real _ _ G Q K V (fun _ _ _ => 0) x4 x5 arg7 harg7 arg6 harg6 _ _ _ _ _ _ _
    (by subst h3; exact funext fun ci => lg_mat arg5 harg5 G ci)
    (by subst h0; exact funext fun p => funext fun ci => lq_mat arg2 harg2 Q p ci)
    (by subst h1; exact funext fun p => funext fun ci => lq_mat arg3 harg3 K p ci)
    (by subst h2; exact funext fun p => funext fun ci => lq_mat arg4 harg4 V p ci)
    rfl rfl (funext fun p => lz_mat arg15 p) y

include h0 h1 h2 h3 in
/-- The state a first block leaves. -/
theorem carriedA (hc : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 = stV (fun H => runB (H / 2) G K V (fun _ _ _ => 0) (H % 2) 512) := by
  unfold sout0_A_0
  rw [spiecesA]
  exact state_real _ (View.writes _ _ _ [zpiece Ideal]) G Q K V (fun _ _ _ => 0) _ _ _ _ _
    (by subst h3; exact funext fun ci => lg_mat arg5 harg5 G ci)
    (by subst h0; exact funext fun p => funext fun ci => lq_mat arg2 harg2 Q p ci)
    (by subst h1; exact funext fun p => funext fun ci => lq_mat arg3 harg3 K p ci)
    (by subst h2; exact funext fun p => funext fun ci => lq_mat arg4 harg4 V p ci)
    (funext fun p => lz_mat arg15 p)

include h0 h1 h2 h3 in
/-- A later block's result. -/
theorem resultB (hc : ¬ cond0_0 i) (y : S512x1024.Idx) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 (stV S) y = resB G Q K V S x4 x5 y := by
  unfold out0_B_9
  rw [piecesB]
  exact block_real _ _ G Q K V S x4 x5 arg7 harg7 arg6 harg6 _ _ _ _ _ _ _
    (by subst h3; exact funext fun ci => lg_mat arg5 harg5 G ci)
    (by subst h0; exact funext fun p => funext fun ci => lq_mat arg2 harg2 Q p ci)
    (by subst h1; exact funext fun p => funext fun ci => lq_mat arg3 harg3 K p ci)
    (by subst h2; exact funext fun p => funext fun ci => lq_mat arg4 harg4 V p ci)
    rfl rfl (funext fun p => ls_mat arg15 harg15 S p) y

include h0 h1 h2 h3 in
/-- The state a later block leaves. -/
theorem carriedB (hc : ¬ cond0_0 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 (stV S) = stV (fun H => runB (H / 2) G K V S (H % 2) 512) := by
  unfold sout0_B_0
  rw [spiecesB]
  exact state_real _ _ G Q K V S _ _ _ _ _
    (by subst h3; exact funext fun ci => lg_mat arg5 harg5 G ci)
    (by subst h0; exact funext fun p => funext fun ci => lq_mat arg2 harg2 Q p ci)
    (by subst h1; exact funext fun p => funext fun ci => lq_mat arg3 harg3 K p ci)
    (by subst h2; exact funext fun p => funext fun ci => lq_mat arg4 harg4 V p ci)
    (funext fun p => ls_mat arg15 harg15 S p)

end

section
variable (m : (ℓ : Loc nD τ sig) → Buf (Elt Ideal) ℓ) (c : Dev nD) (X Y : ℕ → ℕ → ℝ)
  (hX : (m ((c.tc : Thread nD τ).loc main_arg0) : FVec Ideal S16384x3072 .bf16) = fun i => ((X (i 0).val (i 1).val : ℝ) : EReal))
  (hY : (m ((c.tc : Thread nD τ).loc main_arg2) : FVec Ideal S16384x128 .f32) = fun i => ((Y (i 0).val (i 1).val : ℝ) : EReal))

include hX in
/-- Window 0's block in reals. -/
theorem real0 (t : Fin cfg0.N) : (iblk m c 0 t : FVec Ideal S512x1024 .bf16) = mat (φ := .bf16) 512 1024 (fun r l => X (512 * t.val + r) l) := by
  funext y
  have ht : t.val < 32 := N_0 ▸ t.isLt
  have y0 : (y 0).val < 512 := (y 0).isLt
  have y1 : (y 1).val < 1024 := (y 1).isLt
  refine (blk0 m c t y (ix2 ⟨512 * t.val + (y 0).val, by omega⟩ ⟨0 + (y 1).val, by omega⟩) rfl rfl).trans ?_
  rw [hX]
  show ((X (512 * t.val + (y 0).val) (0 + (y 1).val) : ℝ) : EReal) = _
  rw [zero_add]
  rfl

include hX in
/-- Window 1's block in reals. -/
theorem real1 (t : Fin cfg0.N) : (iblk m c 1 t : FVec Ideal S512x1024 .bf16) = mat (φ := .bf16) 512 1024 (fun r l => X (512 * t.val + r) (1024 + l)) := by
  funext y
  have ht : t.val < 32 := N_0 ▸ t.isLt
  have y0 : (y 0).val < 512 := (y 0).isLt
  have y1 : (y 1).val < 1024 := (y 1).isLt
  refine (blk1 m c t y (ix2 ⟨512 * t.val + (y 0).val, by omega⟩ ⟨1024 + (y 1).val, by omega⟩) rfl rfl).trans ?_
  rw [hX]
  rfl

include hX in
/-- Window 2's block in reals. -/
theorem real2 (t : Fin cfg0.N) : (iblk m c 2 t : FVec Ideal S512x1024 .bf16) = mat (φ := .bf16) 512 1024 (fun r l => X (512 * t.val + r) (2048 + l)) := by
  funext y
  have ht : t.val < 32 := N_0 ▸ t.isLt
  have y0 : (y 0).val < 512 := (y 0).isLt
  have y1 : (y 1).val < 1024 := (y 1).isLt
  refine (blk2 m c t y (ix2 ⟨512 * t.val + (y 0).val, by omega⟩ ⟨2048 + (y 1).val, by omega⟩) rfl rfl).trans ?_
  rw [hX]
  rfl

include hY in
/-- Window 3's block in reals. -/
theorem real3 (t : Fin cfg0.N) : (iblk m c 3 t : FVec Ideal S512x128 .f32) = mat (φ := .f32) 512 128 (fun r l => Y (512 * t.val + r) l) := by
  funext y
  have ht : t.val < 32 := N_0 ▸ t.isLt
  have y0 : (y 0).val < 512 := (y 0).isLt
  have y1 : (y 1).val < 128 := (y 1).isLt
  refine (blk3 m c t y (ix2 ⟨512 * t.val + (y 0).val, by omega⟩ ⟨0 + (y 1).val, by omega⟩) rfl rfl).trans ?_
  rw [hY]
  show ((Y (512 * t.val + (y 0).val) (0 + (y 1).val) : ℝ) : EReal) = _
  rw [zero_add]
  rfl

/-- A run over a block's rows is the sequence's state. -/
theorem runB_state (t H n : ℕ) :
    runB (H / 2) (fun r l => Y (512 * t + r) l) (fun r l => X (512 * t + r) (1024 + l)) (fun r l => X (512 * t + r) (2048 + l))
      (fun H => state X Y (t / 4) H (512 * (t % 4))) (H % 2) n = state X Y (t / 4) H (512 * (t % 4) + n) := by
  have e : ∀ r, 512 * t + r = 2048 * (t / 4) + (512 * (t % 4) + r) := fun r => by omega
  have eh : 2 * (H / 2) + H % 2 = H := by omega
  unfold runB
  simp only [e, eh]
  unfold state
  rw [← run_add]

include hX hY in
/-- The state after a point: its sequence's, after the point's last token. -/
theorem carried : ∀ (n : ℕ) (hn : n < cfg0.N),
    (outsAt0 m c n hn).2.2.2.2 = stV (fun H => state X Y (n / 4) H (512 * (n % 4) + 512))
  | n, hn => by
    by_cases h0 : n % 4 = 0
    · rw [outsAt0_A m c ⟨n, hn⟩ h0]
      dsimp only
      refine (carriedA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) scM0_0 (Memref.isWhole_whole _)
        (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩)
        (fun r l => Y (512 * n + r) l) (fun r l => X (512 * n + r) l) (fun r l => X (512 * n + r) (1024 + l)) (fun r l => X (512 * n + r) (2048 + l))
        (real0 m c X hX ⟨n, hn⟩) (real1 m c X hX ⟨n, hn⟩) (real2 m c X hX ⟨n, hn⟩) (real3 m c Y hY ⟨n, hn⟩) ((hcond0_0 ⟨n, hn⟩).mpr h0)).trans ?_
      congr 1
      funext H
      rw [← runB_state]
      rw [h0]
      rfl
    · rw [outsAt0_B m c ⟨n, hn⟩ h0]
      have hp := carried (n - 1) (by omega)
      rw [show (n - 1) / 4 = n / 4 by omega, show 512 * ((n - 1) % 4) + 512 = 512 * (n % 4) by omega] at hp
      dsimp only
      rw [hp]
      refine (carriedB c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) scM0_0 (Memref.isWhole_whole _)
        (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩)
        (fun r l => Y (512 * n + r) l) (fun r l => X (512 * n + r) l) (fun r l => X (512 * n + r) (1024 + l)) (fun r l => X (512 * n + r) (2048 + l)) (fun H => state X Y (n / 4) H (512 * (n % 4)))
        (real0 m c X hX ⟨n, hn⟩) (real1 m c X hX ⟨n, hn⟩) (real2 m c X hX ⟨n, hn⟩) (real3 m c Y hY ⟨n, hn⟩) (fun h => h0 ((hcond0_0 ⟨n, hn⟩).mp h))).trans ?_
      congr 1
      funext H
      exact runB_state X Y n H 512

include hX hY in
/-- The result block of a point. -/
theorem result (n : ℕ) (hn : n < cfg0.N) (y : S512x1024.Idx) :
    (outsAt0 m c n hn).1 y = resB (fun r l => Y (512 * n + r) l) (fun r l => X (512 * n + r) l) (fun r l => X (512 * n + r) (1024 + l))
      (fun r l => X (512 * n + r) (2048 + l)) (fun H => state X Y (n / 4) H (512 * (n % 4))) (iblk m c 4 ⟨n, hn⟩) (iblk m c 5 ⟨n, hn⟩) y := by
  by_cases h0 : n % 4 = 0
  · rw [outsAt0_A m c ⟨n, hn⟩ h0]
    refine (resultA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) scM0_0 (Memref.isWhole_whole _)
        (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩)
        (fun r l => Y (512 * n + r) l) (fun r l => X (512 * n + r) l) (fun r l => X (512 * n + r) (1024 + l)) (fun r l => X (512 * n + r) (2048 + l))
        (real0 m c X hX ⟨n, hn⟩) (real1 m c X hX ⟨n, hn⟩) (real2 m c X hX ⟨n, hn⟩) (real3 m c Y hY ⟨n, hn⟩) ((hcond0_0 ⟨n, hn⟩).mpr h0) y).trans ?_
    rw [h0]
    rfl
  · rw [outsAt0_B m c ⟨n, hn⟩ h0]
    have hp := carried m c X Y hX hY (n - 1) (by omega)
    rw [show (n - 1) / 4 = n / 4 by omega, show 512 * ((n - 1) % 4) + 512 = 512 * (n % 4) by omega] at hp
    dsimp only
    rw [hp]
    exact resultB c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) scM0_0 (Memref.isWhole_whole _)
        (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩)
        (fun r l => Y (512 * n + r) l) (fun r l => X (512 * n + r) l) (fun r l => X (512 * n + r) (1024 + l)) (fun r l => X (512 * n + r) (2048 + l)) (fun H => state X Y (n / 4) H (512 * (n % 4)))
        (real0 m c X hX ⟨n, hn⟩) (real1 m c X hX ⟨n, hn⟩) (real2 m c X hX ⟨n, hn⟩) (real3 m c Y hY ⟨n, hn⟩) (fun h => h0 ((hcond0_0 ⟨n, hn⟩).mp h)) y

include hX hY in
/-- The kernel's result. -/
theorem out9 (a0 : Fin 16384) (a1 : Fin 1024) :
    (G9 m c : FVec Ideal S16384x1024 .bf16) (ix2 a0 a1)
      = headNorm (outv X Y (a0.val / 2048) (a1.val / 128) (a0.val % 2048))
        ((m ((c.tc : Thread nD τ).loc main_arg3) : FVec Ideal S128 .f32) (ix1 ⟨a1.val % 128, Nat.mod_lt _ (by decide)⟩))
        ((m ((c.tc : Thread nD τ).loc main_arg1) : FVec Ideal S16384x1024 .bf16) (ix2 a0 a1)) (a1.val % 128) := by
  have hp : pt9Of (ix2 a0 a1) = a0.val / 512 := by
    show 1 * (a0.val / 512 - 0) + 1 * (a1.val / 1024 - 0) = _
    omega
  have hN : a0.val / 512 < cfg0.N := by have : cfg0.N = 32 := N_0; omega
  unfold G9
  rw [dif_pos (by rw [hp]; exact hN), fold0_congr m c _ _ _ (by rw [Nat.zero_add]; exact hN) hp, ← outsAt0_sweep m c _ hN, result m c X Y hX hY]
  have l0 : (loc9Of (ix2 a0 a1) 0).val = a0.val % 512 := rfl
  have l1 : (loc9Of (ix2 a0 a1) 1).val = a1.val := Nat.mod_eq_of_lt a1.isLt
  unfold resB
  rw [blk5]
  rw [blk4 m c ⟨a0.val / 512, hN⟩ (loc9Of (ix2 a0 a1)) (ix2 a0 a1) (by rw [l0]; show a0.val = 512 * (a0.val / 512) + a0.val % 512; omega) (by rw [l1]; show a1.val = 0 + a1.val; omega)]
  generalize loc9Of (ix2 a0 a1) = y at l0 l1
  simp only [l0, l1]
  congr 1
  funext cc
  unfold outv
  refine sum_congr rfl fun i _ => ?_
  have e := runB_state X Y (a0.val / 512) (a1.val / 128) (a0.val % 512 + 1)
  rw [show a1.val / 128 / 2 = a1.val / 256 by omega, show a1.val / 128 % 2 = a1.val % 256 / 128 by omega] at e
  rw [e, show a0.val / 512 / 4 = a0.val / 2048 by omega, show 512 * (a0.val / 512 % 4) + (a0.val % 512 + 1) = a0.val % 2048 + 1 by omega,
    show 512 * (a0.val / 512) + a0.val % 512 = 2048 * (a0.val / 2048) + a0.val % 2048 by omega]
end

end Cert.KernelIdeal.Own
-- ==== Proof.Casts.lean ====
/- The three cast weights: each grid point casts one block of each, and every entry of each weight is
   in exactly one block, so the kernel's last three results are the weights themselves. -/
module

public import proofs.«01_k».proof.Proof.Pieces
public import proofs.«01_k».proof.Proof.Gen.KernelIdeal.Value
public import Idealize.ShloMosaic.Lib.Pipeline.ValueKit

@[expose] public section

set_option maxRecDepth 16384

noncomputable section

namespace Cert.KernelIdeal.Own

open Idealize.ShloMosaic Idealize.SL.Sem Cert.KernelIdeal Cert.KernelIdeal.Gen Idealize.ShloMosaic.Pointwise Cert.KernelIdeal.Value

variable (m : (ℓ : Loc nD τ sig) → Buf (Elt Ideal) ℓ) (c : Dev nD)

/-- The weights' windows' block indices. -/
theorem idx_wt : ∀ t : Fin cfg0.N, win0_6.index t = ![t.val / 2, t.val % 2, 0] ∧ win0_7.index t = ![t.val / 2, t.val % 2, 0]
    ∧ win0_8.index t = ![t.val / 2, t.val % 2, 0] :=
  (by decide +kernel : ∀ t : Fin grid0.N, _)

/-- Every point leaves its block of the argument in result 1. -/
theorem cast10 (n : ℕ) (hn : n < cfg0.N) (y : S1x512x256.Idx) :
    (outsAt0 m c n hn).2.1 y = (iblk m c 6 ⟨n, hn⟩ : FVec Ideal S1x512x256 .f32) y := by
  by_cases h0 : n % 4 = 0
  · rw [outsAt0_A m c ⟨n, hn⟩ h0]
    dsimp only
    frame_out
    idx_vars y
    pointwise [k0_pay5]
  · rw [outsAt0_B m c ⟨n, hn⟩ h0]
    dsimp only
    frame_out
    idx_vars y
    pointwise [k0_pay5]

/-- Result 1 is its argument. -/
theorem out10 : (G10 m c : FVec Ideal S16x1024x256 .bf16) = fun i => (m ((c.tc : Thread nD τ).loc main_arg4) : FVec Ideal S16x1024x256 .f32) i := by
  funext i
  have i0 : (i 0).val < 16 := (i 0).isLt
  have i1 : (i 1).val < 1024 := (i 1).isLt
  have i2 : (i 2).val < 256 := (i 2).isLt
  have hp : pt10Of i = 2 * (i 0).val + (i 1).val / 512 := by
    show 2 * ((i 0).val / 1 - 0) + 1 * ((i 1).val / 512 - 0) + 1 * ((i 2).val / 256 - 0) = _
    omega
  have hN : 2 * (i 0).val + (i 1).val / 512 < cfg0.N := by have : cfg0.N = 32 := N_0; omega
  unfold G10
  rw [dif_pos (by rw [hp]; exact hN), fold0_congr m c _ _ _ (by rw [Nat.zero_add]; exact hN) hp, ← outsAt0_sweep m c _ hN, cast10 m c]
  have l0 : (loc10Of i 0).val = (i 0).val % 1 := rfl
  have l1 : (loc10Of i 1).val = (i 1).val % 512 := rfl
  have l2 : (loc10Of i 2).val = (i 2).val % 256 := rfl
  generalize loc10Of i = y at l0 l1 l2
  blk_ext [iblk, V, idx_wt ⟨2 * (i 0).val + (i 1).val / 512, hN⟩]

/-- Every point leaves its block of the argument in result 2. -/
theorem cast11 (n : ℕ) (hn : n < cfg0.N) (y : S1x512x256.Idx) :
    (outsAt0 m c n hn).2.2.1 y = (iblk m c 7 ⟨n, hn⟩ : FVec Ideal S1x512x256 .f32) y := by
  by_cases h0 : n % 4 = 0
  · rw [outsAt0_A m c ⟨n, hn⟩ h0]
    dsimp only
    frame_out
    idx_vars y
    pointwise [k0_pay6]
  · rw [outsAt0_B m c ⟨n, hn⟩ h0]
    dsimp only
    frame_out
    idx_vars y
    pointwise [k0_pay6]

/-- Result 2 is its argument. -/
theorem out11 : (G11 m c : FVec Ideal S16x1024x256 .bf16) = fun i => (m ((c.tc : Thread nD τ).loc main_arg5) : FVec Ideal S16x1024x256 .f32) i := by
  funext i
  have i0 : (i 0).val < 16 := (i 0).isLt
  have i1 : (i 1).val < 1024 := (i 1).isLt
  have i2 : (i 2).val < 256 := (i 2).isLt
  have hp : pt11Of i = 2 * (i 0).val + (i 1).val / 512 := by
    show 2 * ((i 0).val / 1 - 0) + 1 * ((i 1).val / 512 - 0) + 1 * ((i 2).val / 256 - 0) = _
    omega
  have hN : 2 * (i 0).val + (i 1).val / 512 < cfg0.N := by have : cfg0.N = 32 := N_0; omega
  unfold G11
  rw [dif_pos (by rw [hp]; exact hN), fold0_congr m c _ _ _ (by rw [Nat.zero_add]; exact hN) hp, ← outsAt0_sweep m c _ hN, cast11 m c]
  have l0 : (loc11Of i 0).val = (i 0).val % 1 := rfl
  have l1 : (loc11Of i 1).val = (i 1).val % 512 := rfl
  have l2 : (loc11Of i 2).val = (i 2).val % 256 := rfl
  generalize loc11Of i = y at l0 l1 l2
  blk_ext [iblk, V, idx_wt ⟨2 * (i 0).val + (i 1).val / 512, hN⟩]

/-- Every point leaves its block of the argument in result 3. -/
theorem cast12 (n : ℕ) (hn : n < cfg0.N) (y : S1x128x1024.Idx) :
    (outsAt0 m c n hn).2.2.2.1 y = (iblk m c 8 ⟨n, hn⟩ : FVec Ideal S1x128x1024 .f32) y := by
  by_cases h0 : n % 4 = 0
  · rw [outsAt0_A m c ⟨n, hn⟩ h0]
    dsimp only
    frame_out
    idx_vars y
    pointwise [k0_pay7]
  · rw [outsAt0_B m c ⟨n, hn⟩ h0]
    dsimp only
    frame_out
    idx_vars y
    pointwise [k0_pay7]

/-- Result 3 is its argument. -/
theorem out12 : (G12 m c : FVec Ideal S16x256x1024 .bf16) = fun i => (m ((c.tc : Thread nD τ).loc main_arg6) : FVec Ideal S16x256x1024 .f32) i := by
  funext i
  have i0 : (i 0).val < 16 := (i 0).isLt
  have i1 : (i 1).val < 256 := (i 1).isLt
  have i2 : (i 2).val < 1024 := (i 2).isLt
  have hp : pt12Of i = 2 * (i 0).val + (i 1).val / 128 := by
    show 2 * ((i 0).val / 1 - 0) + 1 * ((i 1).val / 128 - 0) + 1 * ((i 2).val / 1024 - 0) = _
    omega
  have hN : 2 * (i 0).val + (i 1).val / 128 < cfg0.N := by have : cfg0.N = 32 := N_0; omega
  unfold G12
  rw [dif_pos (by rw [hp]; exact hN), fold0_congr m c _ _ _ (by rw [Nat.zero_add]; exact hN) hp, ← outsAt0_sweep m c _ hN, cast12 m c]
  have l0 : (loc12Of i 0).val = (i 0).val % 1 := rfl
  have l1 : (loc12Of i 1).val = (i 1).val % 128 := rfl
  have l2 : (loc12Of i 2).val = (i 2).val % 1024 := rfl
  generalize loc12Of i = y at l0 l1 l2
  blk_ext [iblk, V, idx_wt ⟨2 * (i 0).val + (i 1).val / 128, hN⟩]

end Cert.KernelIdeal.Own
-- ==== Proof.RefValue.lean ====
/- One trip of the reference's loop over tokens at the exact model, on REAL carried arrays. -/
module

public import proofs.«01_k».proof.Proof.Gen.ReferenceIdeal.Run
public import proofs.«01_k».proof.Proof.Spec
public import Idealize.ShloMosaic.Lib.Pointwise
public import Idealize.ShloMosaic.Lib.IdealHost
public import Idealize.ShloMosaic.Lib.DynamicIndex

@[expose] public section

noncomputable section

namespace Cert.ReferenceIdeal.Own

open Idealize.ShloMosaic Idealize.SL.Sem Cert.ReferenceIdeal Cert.ReferenceIdeal.Gen Idealize.ShloMosaic.Pointwise
open Cert.DeltaMath Finset Cert.ReferenceIdeal.Value Idealize.ShloMosaic.StableHlo

/-- Arrays of real entries, by rank. -/
def r2 {a b : ℕ} (f : ℕ → ℕ → ℝ) : FVec Ideal ⟨2, ![a, b]⟩ .f32 := fun i => ((f (i 0).val (i 1).val : ℝ) : EReal)
/-- Rank 3. -/
def r3 {a b c : ℕ} (f : ℕ → ℕ → ℕ → ℝ) : FVec Ideal ⟨3, ![a, b, c]⟩ .f32 := fun i => ((f (i 0).val (i 1).val (i 2).val : ℝ) : EReal)
/-- Rank 4. -/
def r4 {a b c d : ℕ} (f : ℕ → ℕ → ℕ → ℕ → ℝ) : FVec Ideal ⟨4, ![a, b, c, d]⟩ .f32 :=
  fun i => ((f (i 0).val (i 1).val (i 2).val (i 3).val : ℝ) : EReal)

/-- A sum of real products is real. -/
theorem coe_sum (n : ℕ) (f : ℕ → ℝ) : ∑ k : Fin n, ((f k.val : ℝ) : EReal) = ((∑ k ∈ range n, f k : ℝ) : EReal) := by
  rw [← Fin.sum_univ_eq_sum_range]
  exact (map_sum (⟨⟨Real.toEReal, EReal.coe_zero⟩, EReal.coe_add⟩ : ℝ →+ EReal) (fun k : Fin n => f k.val) Finset.univ).symm

/-! ## The trip's parts -/

/-- The token's index as the program reads it. -/
abbrev wrap (t : IVec S_ 32) : IVec S_ 32 := select (cmpi .slt t (constantI S_ 32 0#32)) (addi (id t) (constantI S_ 32 2048#32)) t

/-- The starts of a rank-4 slice at the token. -/
abbrev starts4 (t : IVec S_ 32) : Fin 4 → Int := fun k =>
  (((![constantI S_ 32 0#32, wrap t, constantI S_ 32 0#32, constantI S_ 32 0#32] : Fin 4 → (⟨S_, .i32⟩ : BufTy).Contents (Elt Ideal))) k (Shape.Idx.first h_S_)).toInt

/-- The starts of a rank-3 slice at the token. -/
abbrev starts3 (t : IVec S_ 32) : Fin 3 → Int := fun k =>
  (((![constantI S_ 32 0#32, wrap t, constantI S_ 32 0#32] : Fin 3 → (⟨S_, .i32⟩ : BufTy).Contents (Elt Ideal))) k (Shape.Idx.first h_S_)).toInt

/-- The token's rows of a `[8, 2048, 8, 128]` array. -/
def at4 (x : FVec Ideal S8x2048x8x128 .f32) (t : IVec S_ 32) : FVec Ideal S8x8x128 .f32 :=
  shapeCast S8x8x128 (Host.dynamicSlice S8x1x8x128 x (starts4 t) sliceFits_S8x2048x8x128_S8x1x8x128) shapeCasts_S8x1x8x128_S8x8x128

/-- The token's rows of a `[8, 2048, 8]` array. -/
def at3 (x : FVec Ideal S8x2048x8 .f32) (t : IVec S_ 32) : FVec Ideal S8x8 .f32 :=
  shapeCast S8x8 (Host.dynamicSlice S8x1x8 x (starts3 t) sliceFits_S8x2048x8_S8x1x8) shapeCasts_S8x1x8_S8x8

/-- The decayed state. -/
def dec (S : FVec Ideal S8x8x128x128 .f32) (g : FVec Ideal S8x8 .f32) : FVec Ideal S8x8x128x128 .f32 :=
  mulf S (broadcastInDim S8x8x128x128 ![0, 1, 2, 3] bcast_S8x8x1x1_S8x8x128x128_0_1_2_3 (broadcastInDim S8x8x1x1 ![0, 1] bcast_S8x8_S8x8x1x1_0_1 (Host.exp g)))

/-- A row times a head's square. -/
def rowMul (q : FVec Ideal S8x8x128 .f32) (S : FVec Ideal S8x8x128x128 .f32) : FVec Ideal S8x8x128 .f32 :=
  Host.dotGeneral dot_S8x8x128_S8x8x128x128_S8x8x128_2_2_n_3_01_01 none q S

/-- The decayed state plus the key's outer product with the update. -/
def nxt (S : FVec Ideal S8x8x128x128 .f32) (k v : FVec Ideal S8x8x128 .f32) (b : FVec Ideal S8x8 .f32) : FVec Ideal S8x8x128x128 .f32 :=
  addf S (mulf (broadcastInDim S8x8x128x128 ![0, 1, 2, 3] bcast_S8x8x128x1_S8x8x128x128_0_1_2_3 (broadcastInDim S8x8x128x1 ![0, 1, 2] bcast_S8x8x128_S8x8x128x1_0_1_2 k)) (broadcastInDim S8x8x128x128 ![0, 1, 2, 3] bcast_S8x8x1x128_S8x8x128x128_0_1_2_3 (broadcastInDim S8x8x1x128 ![0, 1, 3] bcast_S8x8x128_S8x8x1x128_0_1_3 (mulf (broadcastInDim S8x8x128 ![0, 1, 2] bcast_S8x8x1_S8x8x128_0_1_2 (broadcastInDim S8x8x1 ![0, 1] bcast_S8x8_S8x8x1_0_1 b)) (subf v (rowMul k S))))))

/-- The outputs with the token's row written. -/
def put (O : FVec Ideal S8x2048x8x128 .f32) (o : FVec Ideal S8x8x128 .f32) (t : IVec S_ 32) : FVec Ideal S8x2048x8x128 .f32 :=
  Host.dynamicUpdateSlice O (broadcastInDim S8x1x8x128 ![0, 2, 3] bcast_S8x8x128_S8x1x8x128_0_2_3 o) (starts4 t) updateFits_S8x2048x8x128_S8x1x8x128

/-- The counter at `n`. -/
abbrev tn (n : ℕ) : IVec S_ 32 := constantI S_ 32 (BitVec.ofNat 32 n)

section
variable (n : ℕ) (hn : n < 2048)
include hn

/-- The index of token `n`, after the correction of negative indices, is `n`. -/
theorem wrap_tn (i : S_.Idx) : (wrap (tn n) i).toInt = (n : ℤ) := toInt_wrap_ofNat n (by omega)

/-- Token `n` of an array of head vectors. -/
theorem at4_real (f : ℕ → ℕ → ℕ → ℕ → ℝ) : at4 (r4 f) (tn n) = r3 (fun b h c => f b n h c) := by
  rw [at4, Host.dynamicSlice_eq_extractStridedSlice (s := S8x2048x8x128) S8x1x8x128 (r4 f) (starts4 (tn n)) ![0, n, 0, 0] _
    ⟨rfl, fun a => by fin_cases a <;> simp <;> omega⟩ (fun a => by fin_cases a; exacts [rfl, wrap_tn n hn _, rfl, rfl])]
  funext i; idx_vars i
  pointwise [r4, r3]

/-- Token `n` of an array of head numbers. -/
theorem at3_real (f : ℕ → ℕ → ℕ → ℝ) : at3 (r3 f) (tn n) = r2 (fun b h => f b n h) := by
  rw [at3, Host.dynamicSlice_eq_extractStridedSlice (s := S8x2048x8) S8x1x8 (r3 f) (starts3 (tn n)) ![0, n, 0] _
    ⟨rfl, fun a => by fin_cases a <;> simp <;> omega⟩ (fun a => by fin_cases a; exacts [rfl, wrap_tn n hn _, rfl])]
  funext i; idx_vars i
  pointwise [r3, r2]

/-- Writing token `n` changes token `n` only. -/
theorem put_real (f : ℕ → ℕ → ℕ → ℕ → ℝ) (g : ℕ → ℕ → ℕ → ℝ) :
    put (r4 f) (r3 g) (tn n) = r4 (fun b s h c => if s = n then g b h c else f b s h c) := by
  rw [put, Host.dynamicUpdateSlice_eq_updateSlice (s := S8x2048x8x128) (u := S8x1x8x128) (r4 f) _ (starts4 (tn n)) _ ![0, n, 0, 0]
    (fun a => by
      fin_cases a
      · rfl
      · show (min (max ((wrap (tn n) _).toInt) 0) ((2048 - 1 : ℕ) : ℤ)).toNat = n
        rw [wrap_tn n hn]; omega
      · rfl
      · rfl) ⟨rfl, fun a => by fin_cases a <;> simp <;> omega⟩]
  funext i; idx_vars i
  pointwise [r4, r3]
  by_cases h : i1.val = n
  · rw [dif_pos (by omega), if_pos h]
  · rw [dif_neg (by omega), if_neg h]
end

/-- The decayed state, on real arrays. -/
theorem dec_real (S : ℕ → ℕ → ℕ → ℕ → ℝ) (g : ℕ → ℕ → ℝ) : dec (r4 S) (r2 g) = r4 (fun b h i c => S b h i c * Real.exp (g b h)) := by
  funext i; idx_vars i
  pointwise [dec, r4, r2]
  rw [Ideal.exp_coe, EReal.coe_mul]

/-- A vector times the state, on real arrays. -/
theorem rowMul_real (q : ℕ → ℕ → ℕ → ℝ) (S : ℕ → ℕ → ℕ → ℕ → ℝ) :
    rowMul (r3 q) (r4 S) = r3 (fun b h c => ∑ i ∈ range 128, q b h i * S b h i c) := by
  funext i; idx_vars i
  pointwise [rowMul, r4, r3]
  simp only [← EReal.coe_mul]
  exact coe_sum 128 (fun x => q i0 i1 x * S i0 i1 x i2)

/-- The state after a token, on real arrays. -/
theorem nxt_real (S : ℕ → ℕ → ℕ → ℕ → ℝ) (k v : ℕ → ℕ → ℕ → ℝ) (b : ℕ → ℕ → ℝ) :
    nxt (r4 S) (r3 k) (r3 v) (r2 b) = r4 (fun e h i c => S e h i c + k e h i * (b e h * (v e h c - ∑ i ∈ range 128, k e h i * S e h i c))) := by
  rw [nxt, rowMul_real]
  funext i; idx_vars i
  pointwise [r4, r3, r2]
  rw [← EReal.coe_sub, ← EReal.coe_mul, ← EReal.coe_mul, ← EReal.coe_add]

/-- The loop's key vectors. -/
theorem v39_eq (V : Valuation τ sig (Elt Ideal)) : res_main_while0b_v39 V = at4 (V (Proc.devRef .tc main_v15_1)) (V (Proc.devRef .tc main_v15_6)) := rfl
/-- The loop's decayed state. -/
theorem v46_eq (V : Valuation τ sig (Elt Ideal)) : res_main_while0b_v46 V = dec (V (Proc.devRef .tc main_v15_7)) (at3 (V (Proc.devRef .tc main_v15_3)) (V (Proc.devRef .tc main_v15_6))) := rfl
/-- The loop's next state. -/
theorem v57_eq (V : Valuation τ sig (Elt Ideal)) : res_main_while0b_v57 V
    = nxt (res_main_while0b_v46 V) (res_main_while0b_v39 V) (at4 (V (Proc.devRef .tc main_v15_2)) (V (Proc.devRef .tc main_v15_6)))
        (at3 (V (Proc.devRef .tc main_v15_4)) (V (Proc.devRef .tc main_v15_6))) := rfl
/-- The loop's next outputs. -/
theorem s8_eq (V : Valuation τ sig (Elt Ideal)) : step_main_v15_8 V
    = put (V (Proc.devRef .tc main_v15_8)) (rowMul (at4 (V (Proc.devRef .tc main_v15_0)) (V (Proc.devRef .tc main_v15_6))) (res_main_while0b_v57 V)) (V (Proc.devRef .tc main_v15_6)) := rfl

/-! ## The loop -/

/-- What the carried buffers hold after `n` trips. -/
structure Inv (X Y : ℕ → ℕ → ℝ) (n : ℕ) (V : Valuation τ sig (Elt Ideal)) : Prop where
  q : V (Proc.devRef .tc main_v15_0) = (r4 fun b s h i => X (2048 * b + s) (128 * h + i) : FVec Ideal S8x2048x8x128 .f32)
  k : V (Proc.devRef .tc main_v15_1) = (r4 fun b s h i => X (2048 * b + s) (1024 + (128 * h + i)) : FVec Ideal S8x2048x8x128 .f32)
  v : V (Proc.devRef .tc main_v15_2) = (r4 fun b s h i => X (2048 * b + s) (2048 + (128 * h + i)) : FVec Ideal S8x2048x8x128 .f32)
  g : V (Proc.devRef .tc main_v15_3) = (r3 fun b s h => Y (2048 * b + s) h : FVec Ideal S8x2048x8 .f32)
  be : V (Proc.devRef .tc main_v15_4) = (r3 fun b s h => Y (2048 * b + s) (8 + h) : FVec Ideal S8x2048x8 .f32)
  t : V (Proc.devRef .tc main_v15_6) = tn n
  st : V (Proc.devRef .tc main_v15_7) = (r4 fun b h i c => state X Y b h n i c : FVec Ideal S8x8x128x128 .f32)
  o : V (Proc.devRef .tc main_v15_8) = (r4 fun b s h c => if s < n then outv X Y b h s c else 0 : FVec Ideal S8x2048x8x128 .f32)

variable {X Y : ℕ → ℕ → ℝ} {n : ℕ} {V : Valuation τ sig (Elt Ideal)}

/-- A trip's state is the recurrence's. -/
theorem Inv.state_next (I : Inv X Y n V) (hn : n < 2048) :
    res_main_while0b_v57 V = (r4 fun b h i c => state X Y b h (n + 1) i c : FVec Ideal S8x8x128x128 .f32) := by
  rw [v57_eq, v46_eq, v39_eq, I.k, I.t, I.st, I.g, I.v, I.be]
  refine (congrArg (fun A => nxt (dec _ A) _ _ _) (at3_real n hn _)).trans ?_
  rw [dec_real]
  refine (congrArg (fun A => nxt _ A _ _) (at4_real n hn _)).trans ?_
  refine (congrArg (fun A => nxt _ _ A _) (at4_real n hn _)).trans ?_
  refine (congrArg (fun A => nxt _ _ _ A) (at3_real n hn _)).trans ?_
  refine (nxt_real _ _ _ _).trans ?_
  refine congrArg r4 ?_
  funext b h i c
  rw [state_succ, stp, dlt, mul_comm (Real.exp _)]
  refine congrArg (fun A => _ + _ * (_ * (_ - A))) (sum_congr rfl fun j _ => ?_)
  rw [mul_comm (Real.exp _)]

/-- A trip keeps the invariant. -/
theorem Inv.step (I : Inv X Y n V) (hn : n < 2048) : Inv X Y (n + 1) (STEP V) where
  q := (STEP_main_v15_0 V).trans I.q
  k := (STEP_main_v15_1 V).trans I.k
  v := (STEP_main_v15_2 V).trans I.v
  g := (STEP_main_v15_3 V).trans I.g
  be := (STEP_main_v15_4 V).trans I.be
  t := by
    rw [STEP_main_v15_6, step_main_v15_6, I.t]
    funext i
    show BitVec.ofNat 32 n + 1#32 = BitVec.ofNat 32 (n + 1)
    apply BitVec.eq_of_toNat_eq
    simp
  st := by
    rw [STEP_main_v15_7, step_main_v15_7]
    exact I.state_next hn
  o := by
    rw [STEP_main_v15_8, s8_eq, I.state_next hn, I.o, I.q, I.t]
    refine (congrArg (fun A => put _ (rowMul A _) _) (at4_real n hn _)).trans ?_
    refine (congrArg (fun A => put _ A _) (rowMul_real _ _)).trans ?_
    refine (put_real n hn _ _).trans ?_
    refine congrArg r4 ?_
    funext b s h c
    rcases Nat.lt_trichotomy s n with hs | hs | hs
    · rw [if_neg (by omega), if_pos hs, if_pos (by omega)]
    · subst hs
      rw [if_pos rfl, if_pos (by omega)]
      rfl
    · rw [if_neg (by omega), if_neg (by omega), if_neg (by omega)]

/-- The invariant after any number of trips. -/
theorem Inv.iter {V : Valuation τ sig (Elt Ideal)} (I : Inv X Y 0 V) : ∀ n, n ≤ 2048 → Inv X Y n (STEP^[n] V)
  | 0, _ => I
  | n + 1, hn => by
    rw [Function.iterate_succ_apply']
    exact (Inv.iter I n (by omega)).step (by omega)

/-! ## The result -/

/-- The norm, the weight and the gate. -/
def fin (O : FVec Ideal S8x2048x8x128 .f32) (w : FVec Ideal S128 .f32) (z : FVec Ideal S16384x1024 .bf16) : FVec Ideal S16384x1024 .bf16 :=
  truncf .bf16 (shapeCast _ (mulf (mulf (mulf O (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf O O) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x358637BD#32)))))) (broadcastInDim S8x2048x8x128 ![0, 1, 2, 3] bcast_S1x1x1x128_S8x2048x8x128_0_1_2_3 (broadcastInDim S1x1x1x128 ![3] bcast_S128_S1x1x1x128_3 w))) (shapeCast _ (extf .f32 z bitsLt_bf16_f32) shapeCasts_S16384x1024_S8x2048x8x128)) shapeCasts_S8x2048x8x128_S16384x1024) bitsLt_bf16_f32

/-- The reference's first result from the loop's outputs. -/
theorem out_eq (V : Valuation τ sig (Elt Ideal)) : out_main_v33 V
    = fin (V (Proc.devRef .tc main_v15_8)) (V (Proc.devRef .tc main_arg3)) (V (Proc.devRef .tc main_arg1)) := rfl

/-- The norm and the gate of a real array of outputs, at one element. -/
theorem fin_real (O : ℕ → ℕ → ℕ → ℕ → ℝ) (w : FVec Ideal S128 .f32) (z : FVec Ideal S16384x1024 .bf16) (a0 : Fin 16384) (a1 : Fin 1024) :
    fin (r4 O) w z (ix2 a0 a1) = headNorm (O (a0.val / 2048) (a0.val % 2048) (a1.val / 128)) (w (ix1 ⟨a1.val % 128, Nat.mod_lt _ (by decide)⟩)) (z (ix2 a0 a1)) (a1.val % 128) := by
  pointwise [fin, r4]
  simp only [← EReal.coe_mul]
  unfold headNorm
  rw [← coe_sum 128 (fun i => O (a0.val / 2048) (a0.val % 2048) (a1.val / 128) i * O (a0.val / 2048) (a0.val % 2048) (a1.val / 128) i)]

/-- The result from the loop's outputs. -/
theorem out_real (I : Inv X Y 2048 V) (a0 : Fin 16384) (a1 : Fin 1024) :
    (out_main_v33 V : FVec Ideal S16384x1024 .bf16) (ix2 a0 a1)
      = headNorm (outv X Y (a0.val / 2048) (a1.val / 128) (a0.val % 2048))
          ((V (Proc.devRef .tc main_arg3) : FVec Ideal S128 .f32) (ix1 ⟨a1.val % 128, Nat.mod_lt _ (by decide)⟩))
          ((V (Proc.devRef .tc main_arg1) : FVec Ideal S16384x1024 .bf16) (ix2 a0 a1)) (a1.val % 128) := by
  rw [out_eq, I.o]
  refine (fin_real _ _ _ a0 a1).trans ?_
  simp only [if_pos (Nat.mod_lt a0.val (show 0 < 2048 by decide))]

/-- The heads of a block of 1024 columns. -/
theorem cols_real (off : ℕ) (h : S16384x3072.Slices ![0, off] S16384x1024) (A : FVec Ideal S16384x3072 .bf16)
    (hA : A = fun i => ((X (i 0).val (i 1).val : ℝ) : EReal)) :
    shapeCast S8x2048x8x128 (extf .f32 (extractStridedSlice S16384x1024 ![0, off] A h) bitsLt_bf16_f32) shapeCasts_S16384x1024_S8x2048x8x128
      = r4 (fun b s h i => X (2048 * b + s) (off + (128 * h + i))) := by
  subst hA
  funext i; idx_vars i
  pointwise [r4]
  rw [mul_comm i0.val, mul_comm i2.val]

/-- The heads of a block of eight gate columns. -/
theorem gates_real (off : ℕ) (h : S16384x128.Slices ![0, off] S16384x8) (A : FVec Ideal S16384x128 .f32)
    (hA : A = fun i => ((Y (i 0).val (i 1).val : ℝ) : EReal)) :
    shapeCast S8x2048x8 (extractStridedSlice S16384x8 ![0, off] A h) shapeCasts_S16384x8_S8x2048x8
      = r3 (fun b s h => Y (2048 * b + s) (off + h)) := by
  subst hA
  funext i; idx_vars i
  pointwise [r3]
  rw [mul_comm i0.val]

/-- The loop is entered at the invariant. -/
theorem entry (m : (ℓ : Loc nD τ sig) → Buf (Elt Ideal) ℓ) (c : Dev nD)
    (hX : (m ((c.tc : Thread nD τ).loc main_arg0) : FVec Ideal S16384x3072 .bf16) = fun i => ((X (i 0).val (i 1).val : ℝ) : EReal))
    (hY : (m ((c.tc : Thread nD τ).loc main_arg2) : FVec Ideal S16384x128 .f32) = fun i => ((Y (i 0).val (i 1).val : ℝ) : EReal)) :
    Inv X Y 0 (entryContents preI m c) where
  q := by
    simp only [entryContents, afterL_cons, afterL_nil]
    after_results
    refine (cols_real 0 slices_S16384x3072_S16384x1024_0_0 _ hX).trans ?_
    simp only [zero_add]
  k := by
    simp only [entryContents, afterL_cons, afterL_nil]
    after_results
    exact cols_real 1024 slices_S16384x3072_S16384x1024_0_1024 _ hX
  v := by
    simp only [entryContents, afterL_cons, afterL_nil]
    after_results
    exact cols_real 2048 slices_S16384x3072_S16384x1024_0_2048 _ hX
  g := by
    simp only [entryContents, afterL_cons, afterL_nil]
    after_results
    refine (gates_real 0 slices_S16384x128_S16384x8_0_0 _ hY).trans ?_
    simp only [zero_add]
  be := by
    simp only [entryContents, afterL_cons, afterL_nil]
    after_results
    exact gates_real 8 slices_S16384x128_S16384x8_0_8 _ hY
  t := by
    simp only [entryContents, afterL_cons, afterL_nil]
    after_results
    rfl
  st := by
    simp only [entryContents, afterL_cons, afterL_nil]
    after_results
    funext i
    exact (Ideal.ofBits_zero .f32).trans EReal.coe_zero.symm
  o := by
    simp only [entryContents, afterL_cons, afterL_nil]
    after_results
    funext i
    show _ = ((if (i 1).val < 0 then _ else 0 : ℝ) : EReal)
    rw [if_neg (Nat.not_lt_zero _)]
    exact (Ideal.ofBits_zero .f32).trans EReal.coe_zero.symm

end Cert.ReferenceIdeal.Own
-- ==== Proof.Claims.lean ====
/- The claims: the kernel's and the reference's results are the same function of their arguments. -/
module

public import proofs.«01_k».proof.Defs
public import proofs.«01_k».proof.Proof.Grid
public import proofs.«01_k».proof.Proof.Casts
public import proofs.«01_k».proof.Proof.RefValue
public import Idealize.ShloMosaic.Lib.ReduceAll
public import Idealize.ShloMosaic.Lib.Quiescent

@[expose] public section

noncomputable section

namespace Cert.Own

open Idealize.ShloMosaic Idealize.SL.Sem Idealize.ShloMosaic.Pointwise Cert.DeltaMath

/-- The side conditions of the precondition's operations. -/
instance preFacts : Cert.Pre_finite.Facts where
  bitsLt_bf16_f32 := by decide
  bcast_S_S16384x3072 := by decide
  reducesTo_S16384x3072_S_d0_1 := by decide
  h_S_ := by decide
  bcast_S_S16384x128 := by decide
  reducesTo_S16384x128_S_d0_1 := by decide

/-- An extended real below infinity in absolute value is a real. -/
theorem real_of_abs (x : EReal) (h : Ideal.cmp .olt (max x (-x)) (Ideal.ofBits .f32 0x7F800000#32) = 1#1) : ((x.toReal : ℝ) : EReal) = x := by
  have h1 : max x (-x) < Ideal.ofBits .f32 0x7F800000#32 := (Ideal.cmp_olt_eq_one _ _).1 h
  have h2 : max x (-x) < ⊤ := h1.trans_le le_top
  refine EReal.coe_toReal (fun e => ?_) (fun e => ?_)
  · rw [e] at h2; simp at h2
  · rw [e] at h2; simp at h2

/-- A matrix of reals, as a function of the two coordinates' values. -/
theorem reals {p q : ℕ} {φ : FTy} (f : FVec Ideal ⟨2, ![p, q]⟩ φ) (h : ∀ i, ((EReal.toReal (f i) : ℝ) : EReal) = f i) :
    ∃ X : ℕ → ℕ → ℝ, f = fun i => ((X (i 0).val (i 1).val : ℝ) : EReal) := by
  refine ⟨fun a b => if hab : a < p ∧ b < q then EReal.toReal (f (ix2 ⟨a, hab.1⟩ ⟨b, hab.2⟩)) else 0, ?_⟩
  funext i
  have e : i = ix2 (i 0) (i 1) := by funext a; fin_cases a <;> rfl
  have hi : (i 0).val < p ∧ (i 1).val < q := ⟨(i 0).isLt, (i 1).isLt⟩
  refine Eq.trans ?_ (congrArg _ (dif_pos hi).symm)
  exact (congrArg f e).trans (h _).symm

/-- The precondition's arrays hold reals. -/
theorem finite_real (m : (ℓ : Loc Cert.KernelIdeal.nD Cert.KernelIdeal.τ Cert.KernelIdeal.sig) → Buf (Elt Ideal) ℓ)
    (h : Cert.Pre_KernelIdeal_finite m) (c : Dev Cert.KernelIdeal.nD) :
    (∃ X : ℕ → ℕ → ℝ, (m (c.tc.loc Cert.KernelIdeal.main_arg0) : FVec Ideal KernelIdeal.S16384x3072 .bf16) = fun i => ((X (i 0).val (i 1).val : ℝ) : EReal))
    ∧ (∃ Y : ℕ → ℕ → ℝ, (m (c.tc.loc Cert.KernelIdeal.main_arg2) : FVec Ideal KernelIdeal.S16384x128 .f32) = fun i => ((Y (i 0).val (i 1).val : ℝ) : EReal)) := by
  have hc := congrFun (h c) (fun a => a.elim0)
  dsimp only [Cert.Pre_finite.fn] at hc
  obtain ⟨h0, h2⟩ := IntOp.andi_eq_one.1 hc
  exact ⟨reals (p := 16384) (q := 3072) (φ := .bf16) _ fun i => real_of_abs _ (Host.reduce_andi_all _ _ _ _ _ h0 i),
    reals (p := 16384) (q := 128) (φ := .f32) _ fun i => real_of_abs _ (Host.reduce_andi_all _ _ _ _ _ h2 i)⟩

/-- The reference runs, leaves its arguments and every semaphore at zero. -/
theorem frameR : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- On arguments that hold the same reals the reference's result is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_finite m) (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3)) :
    Cert.ReferenceIdeal.Value.out_main_v33 (Cert.ReferenceIdeal.Value.STEP^[2048] (StableHlo.entryContents Cert.ReferenceIdeal.Value.preI m' c))
      = Cert.KernelIdeal.Value.G9 m c := by
  obtain ⟨⟨X, hX⟩, ⟨Y, hY⟩⟩ := finite_real m h c
  have I := Cert.ReferenceIdeal.Own.entry (X := X) (Y := Y) m' c (h0.trans hX) (h2.trans hY)
  have J := Cert.ReferenceIdeal.Own.Inv.iter I 2048 le_rfl
  refine funext fun i => ?_
  have e : i = ix2 (i 0) (i 1) := by funext a; fin_cases a <;> rfl
  refine (congrArg _ e).trans (((Cert.ReferenceIdeal.Own.out_real J (i 0) (i 1)).trans ?_).trans
    ((Cert.KernelIdeal.Own.out9 m c X Y hX hY (i 0) (i 1)).symm.trans (congrArg _ e.symm)))
  rw [Cert.ReferenceIdeal.Value.iter_main_arg3, Cert.ReferenceIdeal.Value.iter_main_arg1, h3, h1]

/-- The kernel's four results are the reference's. -/
theorem algebraic : Cert.algebraic_KernelIdeal_ReferenceIdeal_pre_finite := by
  intro m g m' g' hpre hag
  refine ⟨fun c => Cert.KernelIdeal.Value.G9 m c, fun c => Cert.KernelIdeal.Value.G10 m c, fun c => Cert.KernelIdeal.Value.G11 m c,
    fun c => Cert.KernelIdeal.Value.G12 m c, Cert.KernelIdeal.Value.run (F := Ideal) m g, ?_⟩
  refine (θ_run Cert.ReferenceIdeal.defs _ _).mono (fun r h c => ?_) (Cert.ReferenceIdeal.Value.run (F := Ideal) m' g')
  obtain ⟨a0, a1, a2, a3, a4, a5, a6⟩ := hag c
  obtain ⟨r0, r1, r2, r3, hr⟩ := h c
  refine ⟨r0.trans (result_eq m m' hpre c a0 a1 a2 a3), r1.trans ?_, r2.trans ?_, r3.trans ?_, hr⟩
  · refine Eq.trans ?_ (Cert.KernelIdeal.Own.out10 m c).symm
    show truncf _ _ _ = _
    rw [Cert.ReferenceIdeal.Value.iter_main_arg4, a4]
    rfl
  · refine Eq.trans ?_ (Cert.KernelIdeal.Own.out11 m c).symm
    show truncf _ _ _ = _
    rw [Cert.ReferenceIdeal.Value.iter_main_arg5, a5]
    rfl
  · refine Eq.trans ?_ (Cert.KernelIdeal.Own.out12 m c).symm
    show truncf _ _ _ = _
    rw [Cert.ReferenceIdeal.Value.iter_main_arg6, a6]
    rfl

end Cert.Own
-- ==== Proof.ProjPieces.lean ====
/- The stores of the projection kernel's generated run, read as functions of what it loads: twenty-four
   pieces of the convolved result (one for each block of 128 columns), four of the output gate, one of
   the gates, and the scratch rows, in both cases of the kernel (a sequence's first block, which starts
   from eight zero rows, and its second). -/
module

public import proofs.«01_k».proof.Proof.Gen.ProjIdeal.Frame

@[expose] public section

set_option maxRecDepth 16384

noncomputable section

namespace Cert.ProjIdeal.Own

open Idealize.ShloMosaic Idealize.SL.Sem Cert.ProjIdeal Cert.ProjIdeal.Gen

variable {F : FTy → Type} [FloatOps F]

/-- A block of 128 columns lies in the block of rows. -/
theorem inbO (n : Fin 24) : ∀ a, (![0, 128 * n.val] : Fin 2 → Nat) a + S1024x128.size a ≤ S1024x3072.size a := by
  revert n; decide
/-- A block of 128 columns of the weights lies in them. -/
theorem inbC (n : Fin 24) : ∀ a, (![0, 128 * n.val] : Fin 2 → Nat) a + S4x128.size a ≤ S4x3072.size a := by
  revert n; decide
/-- A block of 256 columns of the projection lies in it. -/
theorem inbW (n : Fin 12) : ∀ a, (![0, 256 * n.val] : Fin 2 → Nat) a + S1024x256.size a ≤ S1024x3072.size a := by
  revert n; decide
/-- The rows after the first eight, in a block of 256 columns, lie in the scratch. -/
theorem inbE (n : Fin 12) : ∀ a, (![8, 256 * n.val] : Fin 2 → Nat) a + S1024x256.size a ≤ S1032x3072.size a := by
  revert n; decide
/-- The rows moved back by `3 - j`, in a block of 128 columns, lie in the scratch. -/
theorem inbL (n : Fin 24) (j : Fin 4) : ∀ a, (![5 + j.val, 128 * n.val] : Fin 2 → Nat) a + S1024x128.size a ≤ S1032x3072.size a := by
  revert n j; decide
/-- A block of 256 columns of the output gate lies in it. -/
theorem inbZ (n : Fin 4) : ∀ a, (![0, 256 * n.val] : Fin 2 → Nat) a + S1024x256.size a ≤ S1024x1024.size a := by
  revert n; decide

/-- The place of a block of 128 columns of the result. -/
def ro (n : Fin 24) : Rect S1024x3072 := Rect.unit ![0, 128 * n.val] S1024x128.size (inbO n)
/-- The place of the weights of a block of 128 columns. -/
def rc (n : Fin 24) : Rect S4x3072 := Rect.unit ![0, 128 * n.val] S4x128.size (inbC n)
/-- The place of a block of 256 columns of the projection. -/
def rw' (n : Fin 12) : Rect S1024x3072 := Rect.unit ![0, 256 * n.val] S1024x256.size (inbW n)
/-- Where the scratch holds a block of 256 columns. -/
def re (n : Fin 12) : Rect S1032x3072 := Rect.unit ![8, 256 * n.val] S1024x256.size (inbE n)
/-- The scratch rows that tap `j` of the convolution reads. -/
def rl (n : Fin 24) (j : Fin 4) : Rect S1032x3072 := Rect.unit ![5 + j.val, 128 * n.val] S1024x128.size (inbL n j)
/-- The place of a block of 256 columns of the output gate. -/
def rz (n : Fin 4) : Rect S1024x1024 := Rect.unit ![0, 256 * n.val] S1024x256.size (inbZ n)
/-- The first eight rows of the scratch. -/
def rh : Rect S1032x3072 := Rect.unit ![0, 0] S8x3072.size inb_S1032x3072_S8x3072_0_0
/-- The last eight rows of the scratch. -/
def rt : Rect S1032x3072 := Rect.unit ![1024, 0] S8x3072.size inb_S1032x3072_S8x3072_1024_0

/-- The convolution of a block of 128 columns: four taps, the newest row first. -/
def conv (w : FVec F S4x128 .f32) (e3 e2 e1 e0 : FVec F S1024x128 .f32) : FVec F S1024x128 .f32 :=
  addf (addf (addf (mulf (broadcastTo S1024x128 (extractStridedSlice S1x128 ![3, 0] w slices_S4x128_o3_0_S1x128) broadcasts_S1x128_S1024x128) e3)
      (mulf (broadcastTo S1024x128 (extractStridedSlice S1x128 ![2, 0] w slices_S4x128_o2_0_S1x128) broadcasts_S1x128_S1024x128) e2))
      (mulf (broadcastTo S1024x128 (extractStridedSlice S1x128 ![1, 0] w slices_S4x128_o1_0_S1x128) broadcasts_S1x128_S1024x128) e1))
    (mulf (broadcastTo S1024x128 (extractStridedSlice S1x128 ![0, 0] w slices_S4x128_o0_0_S1x128) broadcasts_S1x128_S1024x128) e0)

/-- Half of a value plus half of it times the half's hyperbolic tangent. -/
def act {s : Shape} (y : FVec F s .f32) : FVec F s .f32 :=
  addf (mulf (broadcast s (Scalar.ofBits .f32 0x3F000000#32)) y) (mulf (mulf (broadcast s (Scalar.ofBits .f32 0x3F000000#32)) y) (tanh (mulf (broadcast s (Scalar.ofBits .f32 0x3F000000#32)) y)))

/-- A row of 128 values over the root of its square sum plus the kernel's small constant. -/
def unit (y : FVec F S1024x128 .f32) : FVec F S1024x128 .f32 :=
  mulf y (broadcastTo S1024x128 (rsqrt (addf (shapeCast S1024x1 (multiReduction .add [1] S1024 (mulf y y) 0x00000000#32 reduces_S1024x128_S1024 (.inl rfl) rfl) shapeCasts_S1024_S1024x1)
    (broadcast S1024x1 (Scalar.ofBits .f32 0x358637BD#32)))) broadcasts_S1024x1_S1024x128)

/-- What is stored of a query block. -/
def payQ (y : FVec F S1024x128 .f32) : FVec F S1024x128 .bf16 :=
  truncf .bf16 (mulf (unit y) (broadcast S1024x128 (Scalar.ofBits .f32 0x3DB504F3#32))) bitsLt_bf16_f32
/-- What is stored of a key block. -/
def payK (y : FVec F S1024x128 .f32) : FVec F S1024x128 .bf16 := truncf .bf16 (unit y) bitsLt_bf16_f32
/-- What is stored of a value block. -/
def payV (y : FVec F S1024x128 .f32) : FVec F S1024x128 .bf16 := truncf .bf16 y bitsLt_bf16_f32

/-- The convolution's output of a block of 128 columns. -/
abbrev yb (w : Fin 24 → FVec F S4x128 .f32) (e : Fin 24 → Fin 4 → FVec F S1024x128 .f32) (n : Fin 24) : FVec F S1024x128 .f32 :=
  act (conv (w n) (e n 3) (e n 2) (e n 1) (e n 0))

/-- The stored piece of a query block. -/
def pieceQ (w : Fin 24 → FVec F S4x128 .f32) (e : Fin 24 → Fin 4 → FVec F S1024x128 .f32) (n : Fin 24) : View.Piece (Elt F) S1024x3072 .bf16 := ⟨ro n, payQ (yb w e n)⟩
/-- The stored piece of a key block. -/
def pieceK (w : Fin 24 → FVec F S4x128 .f32) (e : Fin 24 → Fin 4 → FVec F S1024x128 .f32) (n : Fin 24) : View.Piece (Elt F) S1024x3072 .bf16 := ⟨ro n, payK (yb w e n)⟩
/-- The stored piece of a value block. -/
def pieceV (w : Fin 24 → FVec F S4x128 .f32) (e : Fin 24 → Fin 4 → FVec F S1024x128 .f32) (n : Fin 24) : View.Piece (Elt F) S1024x3072 .bf16 := ⟨ro n, payV (yb w e n)⟩

/-- The twenty-four stores of the convolved result, the last one first. -/
def pieces (w : Fin 24 → FVec F S4x128 .f32) (e : Fin 24 → Fin 4 → FVec F S1024x128 .f32) : List (View.Piece (Elt F) S1024x3072 .bf16) :=
  [pieceV w e 23, pieceV w e 22, pieceV w e 21, pieceV w e 20, pieceV w e 19, pieceV w e 18, pieceV w e 17, pieceV w e 16, pieceK w e 15, pieceK w e 14, pieceK w e 13, pieceK w e 12, pieceK w e 11, pieceK w e 10, pieceK w e 9, pieceK w e 8, pieceQ w e 7, pieceQ w e 6, pieceQ w e 5, pieceQ w e 4, pieceQ w e 3, pieceQ w e 2, pieceQ w e 1, pieceQ w e 0]

/-- The weights of a block of 128 columns as the kernel reads them. -/
abbrev lw (arg6 : Memref sig .tc .vmem S4x3072 .f32) (harg6 : arg6.IsWhole) (x4 : Vec F S4x3072 .f32) (n : Fin 24) : FVec F S4x128 .f32 :=
  View.readAt (Elt F) arg6.view (rc n).toLoadRect (harg6.unread x4)
/-- The tokens as the kernel reads them. -/
abbrev lx (arg2 : Memref sig .tc .vmem S1024x1024 .f32) (harg2 : arg2.IsWhole) (x0 : Vec F S1024x1024 .f32) : FVec F S1024x1024 .f32 :=
  View.readAt (Elt F) arg2.view (Rect.unit ![0, 0] S1024x1024.size inb_S1024x1024_S1024x1024_0_0).toLoadRect (harg2.unread x0)
/-- A block of 256 columns of the projection as the kernel reads it. -/
abbrev lp (arg3 : Memref sig .tc .vmem S1024x3072 .bf16) (harg3 : arg3.IsWhole) (x1 : Vec F S1024x3072 .bf16) (n : Fin 12) : FVec F S1024x256 .bf16 :=
  View.readAt (Elt F) arg3.view (rw' n).toLoadRect (harg3.unread x1)
/-- A block of 256 columns of the output gate's projection as the kernel reads it. -/
abbrev lz (arg4 : Memref sig .tc .vmem S1024x1024 .bf16) (harg4 : arg4.IsWhole) (x2 : Vec F S1024x1024 .bf16) (n : Fin 4) : FVec F S1024x256 .bf16 :=
  View.readAt (Elt F) arg4.view (rz n).toLoadRect (harg4.unread x2)

/-- The scratch piece of a block of 256 columns. -/
def pieceE (x : FVec F S1024x1024 .f32) (p : Fin 12 → FVec F S1024x256 .bf16) (n : Fin 12) : View.Piece (Elt F) S1032x3072 .f32 := ⟨re n, k0_pay4 x (p n)⟩
/-- The twelve stores of the projected rows, the last one first. -/
def piecesE (x : FVec F S1024x1024 .f32) (p : Fin 12 → FVec F S1024x256 .bf16) (L : List (View.Piece (Elt F) S1032x3072 .f32)) : List (View.Piece (Elt F) S1032x3072 .f32) :=
  pieceE x p 11 :: pieceE x p 10 :: pieceE x p 9 :: pieceE x p 8 :: pieceE x p 7 :: pieceE x p 6 :: pieceE x p 5 :: pieceE x p 4 :: pieceE x p 3 :: pieceE x p 2 :: pieceE x p 1 :: pieceE x p 0 :: L
/-- The eight zero rows before a sequence's first. -/
def pieceZ (F : FTy → Type) [FloatOps F] : View.Piece (Elt F) S1032x3072 .f32 := ⟨rh, k0_pay3⟩
/-- The last eight rows moved to the front. -/
def pieceT (x : FVec F S8x3072 .f32) : View.Piece (Elt F) S1032x3072 .f32 := ⟨rh, k0_pay66 x⟩

/-- The stored piece of a block of the output gate. -/
def pieceG (x : FVec F S1024x1024 .f32) (p : Fin 4 → FVec F S1024x256 .bf16) (n : Fin 4) : View.Piece (Elt F) S1024x1024 .bf16 := ⟨rz n, k0_pay67 (k0_pay2 x) (p n)⟩
/-- The four stores of the output gate. -/
def piecesG (x : FVec F S1024x1024 .f32) (p : Fin 4 → FVec F S1024x256 .bf16) : List (View.Piece (Elt F) S1024x1024 .bf16) :=
  [pieceG x p 3, pieceG x p 2, pieceG x p 1, pieceG x p 0]

/-- The store of the gates. -/
def gates (x : FVec F S1024x1024 .f32) (w : FVec F S1024x128 .bf16) (g0 g1 : FVec F S1x128 .f32) : FVec F S1024x128 .f32 :=
  k0_pay1 k0_pay73 (k0_pay74 (k0_pay2 x) w g0 g1) (k0_pay75 (k0_pay2 x) w) k0_pay76
/-- Its place and value. -/
def pieceB (x : FVec F S1024x1024 .f32) (w : FVec F S1024x128 .bf16) (g0 g1 : FVec F S1x128 .f32) : View.Piece (Elt F) S1024x128 .f32 :=
  ⟨Rect.unit ![0, 0] ![1024, 128] inb_S1024x128_S1024x128_0_0, gates x w g0 g1⟩
/-- The projection to the gates as the kernel reads it. -/
abbrev la (arg5 : Memref sig .tc .vmem S1024x128 .bf16) (harg5 : arg5.IsWhole) (x3 : Vec F S1024x128 .bf16) : FVec F S1024x128 .bf16 :=
  View.readAt (Elt F) arg5.view (Rect.unit ![0, 0] S1024x128.size inb_S1024x128_S1024x128_0_0).toLoadRect (harg5.unread x3)
/-- The first row of the gates' parameters as the kernel reads it. -/
abbrev lg0 (arg7 : Memref sig .tc .vmem S2x128 .f32) (harg7 : arg7.IsWhole) (x5 : Vec F S2x128 .f32) : FVec F S1x128 .f32 :=
  View.readAt (Elt F) arg7.view (Rect.unit (s := S2x128) ![0, 0] S1x128.size inb_S2x128_S1x128_0_0).toLoadRect (harg7.unread x5)
/-- The second row of the gates' parameters as the kernel reads it. -/
abbrev lg1 (arg7 : Memref sig .tc .vmem S2x128 .f32) (harg7 : arg7.IsWhole) (x5 : Vec F S2x128 .f32) : FVec F S1x128 .f32 :=
  View.readAt (Elt F) arg7.view (Rect.unit (s := S2x128) ![1, 0] S1x128.size inb_S2x128_S1x128_1_0).toLoadRect (harg7.unread x5)

section
variable (c : Dev nD) (i : grid0.Coords)
  (arg2 : Memref sig .tc .vmem S1024x1024 .f32) (harg2 : arg2.IsWhole)
  (arg3 : Memref sig .tc .vmem S1024x3072 .bf16) (harg3 : arg3.IsWhole)
  (arg4 : Memref sig .tc .vmem S1024x1024 .bf16) (harg4 : arg4.IsWhole)
  (arg5 : Memref sig .tc .vmem S1024x128 .bf16) (harg5 : arg5.IsWhole)
  (arg6 : Memref sig .tc .vmem S4x3072 .f32) (harg6 : arg6.IsWhole)
  (arg7 : Memref sig .tc .vmem S2x128 .f32) (harg7 : arg7.IsWhole)
  (arg8 : Memref sig .tc .vmem S1024x3072 .bf16) (harg8 : arg8.IsWhole)
  (arg9 : Memref sig .tc .vmem S1024x1024 .bf16) (harg9 : arg9.IsWhole)
  (arg10 : Memref sig .tc .vmem S1024x128 .f32) (harg10 : arg10.IsWhole)
  (arg11 : Memref sig .tc .vmem S1032x3072 .f32) (harg11 : arg11.IsWhole)
  (x0 : Vec F S1024x1024 .f32) (x1 : Vec F S1024x3072 .bf16) (x2 : Vec F S1024x1024 .bf16) (x3 : Vec F S1024x128 .bf16)
  (x4 : Vec F S4x3072 .f32) (x5 : Vec F S2x128 .f32) (xs0 : Vec F S1032x3072 .f32)

/-- The scratch of a first block, as written. -/
abbrev scA : List (View.Piece (Elt F) S1032x3072 .f32) := piecesE (lx arg2 harg2 x0) (lp arg3 harg3 x1) [pieceZ F]
/-- The scratch of a second block, as written over what the first left. -/
abbrev scB : List (View.Piece (Elt F) S1032x3072 .f32) := piecesE (lx arg2 harg2 x0) (lp arg3 harg3 x1) []
/-- The rows a tap reads in a first block. -/
abbrev tapA (n : Fin 24) (j : Fin 4) : FVec F S1024x128 .f32 := View.readCov arg11.view (scA arg2 harg2 arg3 harg3 x0 x1) (rl n j).toLoadRect
/-- The rows a tap reads in a second block. -/
abbrev tapB (n : Fin 24) (j : Fin 4) : FVec F S1024x128 .f32 :=
  if j = 3 then View.readCov arg11.view (scB arg2 harg2 arg3 harg3 x0 x1) (rl n j).toLoadRect
  else View.readAt (Elt F) arg11.view (rl n j).toLoadRect (arg11.view.writes (Elt F) (harg11.unread xs0) (scB arg2 harg2 arg3 harg3 x0 x1))

/-- A first block's stores of the convolved result. -/
theorem piecesA (hc : cond0_0 i) :
    (kernelRun0_A c i arg2 harg2 arg3 harg3 arg4 harg4 arg5 harg5 arg6 harg6 arg7 harg7 arg8 harg8 arg9 harg9 arg10 harg10 arg11 harg11 hc x0 x1 x2 x3 x4 x5).1
      = pieces (lw arg6 harg6 x4) (tapA arg2 harg2 arg3 harg3 arg11 x0 x1) := rfl

/-- A first block's stores of the output gate. -/
theorem piecesGA (hc : cond0_0 i) :
    (kernelRun0_A c i arg2 harg2 arg3 harg3 arg4 harg4 arg5 harg5 arg6 harg6 arg7 harg7 arg8 harg8 arg9 harg9 arg10 harg10 arg11 harg11 hc x0 x1 x2 x3 x4 x5).2.1
      = piecesG (lx arg2 harg2 x0) (lz arg4 harg4 x2) := rfl

/-- A first block's store of the gates. -/
theorem piecesBA (hc : cond0_0 i) :
    (kernelRun0_A c i arg2 harg2 arg3 harg3 arg4 harg4 arg5 harg5 arg6 harg6 arg7 harg7 arg8 harg8 arg9 harg9 arg10 harg10 arg11 harg11 hc x0 x1 x2 x3 x4 x5).2.2.1
      = [pieceB (lx arg2 harg2 x0) (la arg5 harg5 x3) (lg0 arg7 harg7 x5) (lg1 arg7 harg7 x5)] := rfl

/-- What a first block leaves in the scratch. -/
theorem piecesSA (hc : cond0_0 i) :
    (kernelRun0_A c i arg2 harg2 arg3 harg3 arg4 harg4 arg5 harg5 arg6 harg6 arg7 harg7 arg8 harg8 arg9 harg9 arg10 harg10 arg11 harg11 hc x0 x1 x2 x3 x4 x5).2.2.2.1
      = pieceT (View.readCov arg11.view (scA arg2 harg2 arg3 harg3 x0 x1) rt.toLoadRect) :: scA arg2 harg2 arg3 harg3 x0 x1 := rfl

/-- A second block's stores of the convolved result. -/
theorem piecesB (hc : ¬ cond0_0 i) :
    (kernelRun0_B c i arg2 harg2 arg3 harg3 arg4 harg4 arg5 harg5 arg6 harg6 arg7 harg7 arg8 harg8 arg9 harg9 arg10 harg10 arg11 harg11 hc x0 x1 x2 x3 x4 x5 xs0).1
      = pieces (lw arg6 harg6 x4) (tapB arg2 harg2 arg3 harg3 arg11 harg11 x0 x1 xs0) := rfl

/-- A second block's stores of the output gate. -/
theorem piecesGB (hc : ¬ cond0_0 i) :
    (kernelRun0_B c i arg2 harg2 arg3 harg3 arg4 harg4 arg5 harg5 arg6 harg6 arg7 harg7 arg8 harg8 arg9 harg9 arg10 harg10 arg11 harg11 hc x0 x1 x2 x3 x4 x5 xs0).2.1
      = piecesG (lx arg2 harg2 x0) (lz arg4 harg4 x2) := rfl

/-- A second block's store of the gates. -/
theorem piecesBB (hc : ¬ cond0_0 i) :
    (kernelRun0_B c i arg2 harg2 arg3 harg3 arg4 harg4 arg5 harg5 arg6 harg6 arg7 harg7 arg8 harg8 arg9 harg9 arg10 harg10 arg11 harg11 hc x0 x1 x2 x3 x4 x5 xs0).2.2.1
      = [pieceB (lx arg2 harg2 x0) (la arg5 harg5 x3) (lg0 arg7 harg7 x5) (lg1 arg7 harg7 x5)] := rfl

/-- What a second block leaves in the scratch. -/
theorem piecesSB (hc : ¬ cond0_0 i) :
    (kernelRun0_B c i arg2 harg2 arg3 harg3 arg4 harg4 arg5 harg5 arg6 harg6 arg7 harg7 arg8 harg8 arg9 harg9 arg10 harg10 arg11 harg11 hc x0 x1 x2 x3 x4 x5 xs0).2.2.2.1
      = pieceT (View.readCov arg11.view (scB arg2 harg2 arg3 harg3 x0 x1) rt.toLoadRect) :: scB arg2 harg2 arg3 harg3 x0 x1 := rfl

end
end Cert.ProjIdeal.Own
-- ==== Proof.ProjMath.lean ====
/- What the layer's input projection computes, over extended reals: the projected entries `X · W`, the
   causal convolution of four taps inside a sequence of 2048 tokens, its gated activation, the queries'
   and keys' unit norm, and the gates. Two forms of the activation agree on reals. -/
module

public import Idealize.ShloMosaic.PureOps.Ideal
public import Idealize.ShloMosaic.Lib.Pointwise
public import Idealize.ShloMosaic.Lib.IdealHost

@[expose] public section

noncomputable section

namespace Cert.ProjMath

open Idealize.ShloMosaic Finset

/-- One half, as the programs write it. -/
abbrev halfB : EReal := Ideal.ofBits .f32 0x3F000000#32
/-- The constant under the root. -/
abbrev epsB : EReal := Ideal.ofBits .f32 0x358637BD#32
/-- The queries' scale. -/
abbrev sclB : EReal := Ideal.ofBits .f32 0x3DB504F3#32

/-- One half, read. -/
theorem half_eq : halfB = ((1 / 2 : ℝ) : EReal) := by
  simp [Ideal.ofBits, Ideal.ieee, -EReal.coe_mul]; norm_num

/-- A projected entry. -/
def pr (X W : ℕ → ℕ → EReal) (r p : ℕ) : EReal := ∑ k : Fin 1024, X r k.val * W k.val p

/-- The projected entry `j` tokens earlier in the same sequence, zero before its first token. -/
def bk (X W : ℕ → ℕ → EReal) (r j p : ℕ) : EReal := if j ≤ r % 2048 then pr X W (r - j) p else 0

/-- The convolution of four taps. -/
def cv (X W C : ℕ → ℕ → EReal) (r p : ℕ) : EReal :=
  C 3 p * bk X W r 0 p + C 2 p * bk X W r 1 p + C 1 p * bk X W r 2 p + C 0 p * bk X W r 3 p

/-- The logistic function. -/
def sg (y : EReal) : EReal := Ideal.div 1 (1 + Ideal.exp (-y))

/-- The activation by the hyperbolic tangent. -/
def acT (y : EReal) : EReal := halfB * y + halfB * y * Ideal.tanh (halfB * y)

/-- A head's 128 columns over the root of their square sum plus a constant. -/
def hn (Y : ℕ → EReal) (p : ℕ) : EReal :=
  Y p * Ideal.rsqrt (∑ k : Fin 128, Y (128 * (p / 128) + k.val) * Y (128 * (p / 128) + k.val) + epsB)

/-- Queries, keys and values side by side. -/
def qkv (Y : ℕ → EReal) (p : ℕ) : EReal := if p < 1024 then hn Y p * sclB else if p < 2048 then hn Y p else Y p

/-- The soft positive part. -/
def sp (x : EReal) : EReal := max x 0 + Ideal.log1p (Ideal.exp (-max x (-x)))

/-- The gates: log-decays, step sizes, and one half in the unused columns. -/
def gt (P A D : ℕ → EReal) (l : ℕ) : EReal :=
  if l < 8 then -Ideal.exp (A l) * sp (P l + D l) else if l < 16 then sg (P l) else halfB

/-- An extended real that is a real. -/
def IsR (x : EReal) : Prop := ∃ r : ℝ, x = (r : EReal)

theorem IsR.zero : IsR 0 := ⟨0, rfl⟩
theorem IsR.add {x y : EReal} : IsR x → IsR y → IsR (x + y) := by rintro ⟨a, rfl⟩ ⟨b, rfl⟩; exact ⟨a + b, (EReal.coe_add a b).symm⟩
theorem IsR.mul {x y : EReal} : IsR x → IsR y → IsR (x * y) := by rintro ⟨a, rfl⟩ ⟨b, rfl⟩; exact ⟨a * b, (EReal.coe_mul a b).symm⟩
theorem IsR.sum {ι : Type} (s : Finset ι) (f : ι → EReal) (h : ∀ i, IsR (f i)) : IsR (∑ i ∈ s, f i) := by
  classical
  induction s using Finset.induction_on with
  | empty => rw [sum_empty]; exact .zero
  | insert a s ha ih => rw [sum_insert ha]; exact (h a).add ih

section
variable {X W C : ℕ → ℕ → EReal} (hX : ∀ a b, IsR (X a b)) (hW : ∀ a b, IsR (W a b)) (hC : ∀ a b, IsR (C a b))
include hX hW

/-- Projected entries of reals are real. -/
theorem pr_real (r p : ℕ) : IsR (pr X W r p) := IsR.sum _ _ fun _ => (hX _ _).mul (hW _ _)
/-- So are the earlier ones. -/
theorem bk_real (r j p : ℕ) : IsR (bk X W r j p) := by unfold bk; split_ifs; exacts [pr_real hX hW _ _, .zero]
include hC
/-- So is the convolution. -/
theorem cv_real (r p : ℕ) : IsR (cv X W C r p) :=
  ((((hC _ _).mul (bk_real hX hW _ _ _)).add ((hC _ _).mul (bk_real hX hW _ _ _))).add ((hC _ _).mul (bk_real hX hW _ _ _))).add ((hC _ _).mul (bk_real hX hW _ _ _))
end

/-- Half of one plus the hyperbolic tangent of half is the logistic function. -/
theorem half_tanh (y : ℝ) : 1 / 2 + 1 / 2 * Real.tanh (1 / 2 * y) = 1 / (1 + Real.exp (-y)) := by
  have e1 : Real.exp (-y) = Real.exp (-(1 / 2 * y)) * Real.exp (-(1 / 2 * y)) := by rw [← Real.exp_add]; congr 1; ring
  have e2 : Real.exp (1 / 2 * y) * Real.exp (-(1 / 2 * y)) = 1 := by rw [← Real.exp_add]; simp
  rw [Real.tanh_eq_sinh_div_cosh, Real.sinh_eq, Real.cosh_eq, e1]
  have p1 := Real.exp_pos (1 / 2 * y)
  have p2 := Real.exp_pos (-(1 / 2 * y))
  generalize Real.exp (1 / 2 * y) = a at *
  generalize Real.exp (-(1 / 2 * y)) = b at *
  have : (1 : ℝ) + b * b ≠ 0 := by positivity
  have : a + b ≠ 0 := by positivity
  field_simp
  nlinarith [e2]

/-- The logistic function of a real. -/
theorem sg_coe (y : ℝ) : sg (y : EReal) = ((1 / (1 + Real.exp (-y)) : ℝ) : EReal) := by
  unfold sg
  have h : (1 : ℝ) + Real.exp (-y) ≠ 0 := by positivity
  rw [← EReal.coe_neg, Ideal.exp_coe, ← EReal.coe_one, ← EReal.coe_add, Ideal.div_coe h, ← EReal.coe_mul, one_mul]

/-- The logistic function by the hyperbolic tangent. -/
theorem sgT (y : EReal) (h : IsR y) : halfB + halfB * Ideal.tanh (halfB * y) = sg y := by
  obtain ⟨r, rfl⟩ := h
  rw [sg_coe, half_eq, ← EReal.coe_mul, Ideal.tanh_coe, ← EReal.coe_mul, ← EReal.coe_add, half_tanh]

/-- The two forms of the activation. -/
theorem acT_eq (y : EReal) (h : IsR y) : acT y = y * sg y := by
  obtain ⟨r, rfl⟩ := h
  unfold acT
  rw [sg_coe, half_eq, ← EReal.coe_mul, Ideal.tanh_coe, ← EReal.coe_mul, ← EReal.coe_add, ← EReal.coe_mul, ← half_tanh]
  congr 1
  ring

end Cert.ProjMath
-- ==== Proof.ProjBlock.lean ====
/- One grid point of the projection kernel at the exact model: what its stores leave in the blocks of its
   three results and in the scratch, as functions of the blocks it reads. -/
module

public import proofs.«01_k».proof.Proof.ProjPieces
public import proofs.«01_k».proof.Proof.ProjMath
public import Idealize.ShloMosaic.Lib.WholeRead
public import Idealize.ShloMosaic.Lib.VecWindow

@[expose] public section

set_option maxRecDepth 16384

noncomputable section

namespace Cert.ProjIdeal.Own

open Idealize.ShloMosaic Idealize.SL.Sem Cert.ProjIdeal Cert.ProjIdeal.Gen Idealize.ShloMosaic.Pointwise
open Cert.ProjMath Finset

/-- The matrix of the entries `f`. -/
def em {φ : FTy} (n m : ℕ) (f : ℕ → ℕ → EReal) : FVec Ideal ⟨2, ![n, m]⟩ φ := fun i => f (i 0).val (i 1).val

/-- Two matrices that agree inside their bounds are one. -/
theorem em_congr {φ : FTy} {n m : ℕ} {f g : ℕ → ℕ → EReal} (h : ∀ r l, r < n → l < m → f r l = g r l) :
    (em n m f : FVec Ideal _ φ) = em n m g := funext fun i => h _ _ (i 0).isLt (i 1).isLt

/-! ## Values -/

/-- A block of 256 projected columns. -/
theorem mm_em (X P : ℕ → ℕ → EReal) : k0_pay4 (em 1024 1024 X : FVec Ideal _ .f32) (em 1024 256 P : FVec Ideal _ .bf16) = em 1024 256 (fun r l => ∑ k : Fin 1024, X r k.val * P k.val l) := by
  funext j; idx_vars j
  pointwise [k0_pay4, k0_pay2, em]

/-- The convolution's four rows. -/
theorem conv_em (C E : ℕ → ℕ → EReal) (a3 a2 a1 a0 : ℕ) :
    conv (em 4 128 C : FVec Ideal _ .f32) (em 1024 128 fun r l => E (a3 + r) l) (em 1024 128 fun r l => E (a2 + r) l) (em 1024 128 fun r l => E (a1 + r) l) (em 1024 128 fun r l => E (a0 + r) l)
      = em 1024 128 (fun r l => C 3 l * E (a3 + r) l + C 2 l * E (a2 + r) l + C 1 l * E (a1 + r) l + C 0 l * E (a0 + r) l) := by
  funext j; idx_vars j
  pointwise [conv, em]

/-- The activation. -/
theorem act_em (Y : ℕ → ℕ → EReal) : act (em 1024 128 Y : FVec Ideal _ .f32) = em 1024 128 (fun r l => acT (Y r l)) := rfl

/-- The norm of a block of 128 columns. -/
theorem unit_em (Y : ℕ → ℕ → EReal) : unit (em 1024 128 Y : FVec Ideal _ .f32) = em 1024 128 (fun r l => Y r l * Ideal.rsqrt (∑ k : Fin 128, Y r k.val * Y r k.val + epsB)) := by
  funext j; idx_vars j
  pointwise [unit, em]

/-- The output gate of 256 columns. -/
theorem gate_em (X P : ℕ → ℕ → EReal) : k0_pay67 (k0_pay2 (em 1024 1024 X : FVec Ideal _ .f32)) (em 1024 256 P : FVec Ideal _ .bf16) = em 1024 256 (fun r l => acT (∑ k : Fin 1024, X r k.val * P k.val l)) := by
  funext j; idx_vars j
  pointwise [k0_pay67, k0_pay2, em, acT]

/-- The gates. -/
theorem gates_em (X P A : ℕ → ℕ → EReal) (D : ℕ → ℕ → EReal) :
    gates (em 1024 1024 X : FVec Ideal _ .f32) (em 1024 128 P : FVec Ideal _ .bf16) (em 1 128 A : FVec Ideal _ .f32) (em 1 128 D : FVec Ideal _ .f32)
      = em 1024 128 (fun r l => if l < 8 then A 0 l * sp (∑ k : Fin 1024, X r k.val * P k.val l + D 0 l) else halfB + halfB * Ideal.tanh (halfB * ∑ k : Fin 1024, X r k.val * P k.val l)) := by
  have key : ∀ l : Fin 128, IntOp.cmpi CmpIPredicate.slt (BitVec.ofNat 32 l.val) 8#32 = if l.val < 8 then 1#1 else 0#1 := by decide +kernel
  funext j; idx_vars j
  pointwise [gates, k0_pay1, k0_pay72, k0_pay73, k0_pay74, k0_pay75, k0_pay76, k0_pay2, em, sp]
  rw [key]
  split_ifs
  · show A 0 _ * (_ + Ideal.log1p (Ideal.exp (0 - max _ (-_)))) = _
    rw [zero_sub]
  · rfl

/-! ## Loads -/

/-- The tokens' load. -/
theorem lx_em (arg2 : Memref sig .tc .vmem S1024x1024 .f32) (harg2 : arg2.IsWhole) (f : ℕ → ℕ → EReal) :
    lx arg2 harg2 (em 1024 1024 f : FVec Ideal _ .f32) = em 1024 1024 f := by
  funext j
  refine (harg2.readAt_unread (Val := Elt Ideal) _ (Rect.unit (s := S1024x1024) ![0, 0] S1024x1024.size inb_S1024x1024_S1024x1024_0_0).toLoadRect j).trans ?_
  show f (0 + 1 * (j 0).val) (0 + 1 * (j 1).val) = f (j 0).val (j 1).val
  simp only [one_mul, zero_add]

/-- The load of a block of 256 projected columns. -/
theorem lp_em (arg3 : Memref sig .tc .vmem S1024x3072 .bf16) (harg3 : arg3.IsWhole) (f : ℕ → ℕ → EReal) (n : Fin 12) :
    lp arg3 harg3 (em 1024 3072 f : FVec Ideal _ .bf16) n = em 1024 256 (fun r l => f r (256 * n.val + l)) := by
  funext j
  refine (harg3.readAt_unread (Val := Elt Ideal) _ (rw' n).toLoadRect j).trans ?_
  show f (0 + 1 * (j 0).val) (256 * n.val + 1 * (j 1).val) = f (j 0).val (256 * n.val + (j 1).val)
  simp only [one_mul, zero_add]

/-- The load of a block of 256 columns of the output gate. -/
theorem lz_em (arg4 : Memref sig .tc .vmem S1024x1024 .bf16) (harg4 : arg4.IsWhole) (f : ℕ → ℕ → EReal) (n : Fin 4) :
    lz arg4 harg4 (em 1024 1024 f : FVec Ideal _ .bf16) n = em 1024 256 (fun r l => f r (256 * n.val + l)) := by
  funext j
  refine (harg4.readAt_unread (Val := Elt Ideal) _ (rz n).toLoadRect j).trans ?_
  show f (0 + 1 * (j 0).val) (256 * n.val + 1 * (j 1).val) = f (j 0).val (256 * n.val + (j 1).val)
  simp only [one_mul, zero_add]

/-- The load of a block of 128 columns of weights. -/
theorem lw_em (arg6 : Memref sig .tc .vmem S4x3072 .f32) (harg6 : arg6.IsWhole) (f : ℕ → ℕ → EReal) (n : Fin 24) :
    lw arg6 harg6 (em 4 3072 f : FVec Ideal _ .f32) n = em 4 128 (fun r l => f r (128 * n.val + l)) := by
  funext j
  refine (harg6.readAt_unread (Val := Elt Ideal) _ (rc n).toLoadRect j).trans ?_
  show f (0 + 1 * (j 0).val) (128 * n.val + 1 * (j 1).val) = f (j 0).val (128 * n.val + (j 1).val)
  simp only [one_mul, zero_add]

/-- The load of the gates' projection. -/
theorem la_em (arg5 : Memref sig .tc .vmem S1024x128 .bf16) (harg5 : arg5.IsWhole) (f : ℕ → ℕ → EReal) :
    la arg5 harg5 (em 1024 128 f : FVec Ideal _ .bf16) = em 1024 128 f := by
  funext j
  refine (harg5.readAt_unread (Val := Elt Ideal) _ (Rect.unit (s := S1024x128) ![0, 0] S1024x128.size inb_S1024x128_S1024x128_0_0).toLoadRect j).trans ?_
  show f (0 + 1 * (j 0).val) (0 + 1 * (j 1).val) = f (j 0).val (j 1).val
  simp only [one_mul, zero_add]

/-- The load of the gates' first parameters. -/
theorem lg0_em (arg7 : Memref sig .tc .vmem S2x128 .f32) (harg7 : arg7.IsWhole) (f : ℕ → ℕ → EReal) :
    lg0 arg7 harg7 (em 2 128 f : FVec Ideal _ .f32) = em 1 128 (fun r l => f (0 + r) l) := by
  funext j
  refine (harg7.readAt_unread (Val := Elt Ideal) _ (Rect.unit (s := S2x128) ![0, 0] S1x128.size inb_S2x128_S1x128_0_0).toLoadRect j).trans ?_
  show f (0 + 1 * (j 0).val) (0 + 1 * (j 1).val) = f (0 + (j 0).val) (j 1).val
  simp only [one_mul, zero_add]

/-- The load of the gates' second parameters. -/
theorem lg1_em (arg7 : Memref sig .tc .vmem S2x128 .f32) (harg7 : arg7.IsWhole) (f : ℕ → ℕ → EReal) :
    lg1 arg7 harg7 (em 2 128 f : FVec Ideal _ .f32) = em 1 128 (fun r l => f (1 + r) l) := by
  funext j
  refine (harg7.readAt_unread (Val := Elt Ideal) _ (Rect.unit (s := S2x128) ![1, 0] S1x128.size inb_S2x128_S1x128_1_0).toLoadRect j).trans ?_
  show f (1 + 1 * (j 0).val) (0 + 1 * (j 1).val) = f (1 + (j 0).val) (j 1).val
  simp only [one_mul, zero_add]

/-! ## The scratch -/

section
variable (v : View sig .tc .vmem S1032x3072 .f32) (f : v.ty.Contents (Elt Ideal)) (X P : ℕ → ℕ → EReal) (L : List (View.Piece (Elt Ideal) S1032x3072 .f32))

/-- One block of the scratch, read back. -/
theorem readE (n : Fin 12) (y : S1032x3072.Idx) :
    v.read (Elt Ideal) (v.writes (Elt Ideal) f (pieceE (em 1024 1024 X : FVec Ideal _ .f32) (fun n => (em 1024 256 (fun r l => P r (256 * n.val + l)) : FVec Ideal _ .bf16)) n :: L)) y
      = if 8 ≤ (y 0).val ∧ 256 * n.val ≤ (y 1).val ∧ (y 1).val < 256 * n.val + 256 then ∑ k : Fin 1024, X ((y 0).val - 8) k.val * P k.val (y 1).val
        else v.read (Elt Ideal) (v.writes (Elt Ideal) f L) y := by
  have b0 : (y 0).val < 1032 := (y 0).isLt
  unfold pieceE re
  split_ifs with h
  · obtain ⟨h0, h1, h2⟩ := h
    refine (View.read_writes_cons_unit_of_mem v f (inbE n) _ L y (ix2 ⟨(y 0).val - 8, by omega⟩ ⟨(y 1).val - 256 * n.val, by omega⟩) rfl
      (Fin.forall_fin_two.mpr ⟨?_, ?_⟩)).trans ?_
    · show (y 0).val = 8 + ((y 0).val - 8); omega
    · show (y 1).val = 256 * n.val + ((y 1).val - 256 * n.val); omega
    · rw [mm_em]
      show ∑ k : Fin 1024, X ((y 0).val - 8) k.val * P k.val (256 * n.val + ((y 1).val - 256 * n.val)) = _
      rw [show 256 * n.val + ((y 1).val - 256 * n.val) = (y 1).val by omega]
  · by_cases h0 : 8 ≤ (y 0).val
    · refine View.read_writes_cons_unit_of_not_mem v f (inbE n) _ L y rfl 1 ?_
      show (y 1).val < 256 * n.val ∨ 256 * n.val + 256 ≤ (y 1).val
      omega
    · refine View.read_writes_cons_unit_of_not_mem v f (inbE n) _ L y rfl 0 ?_
      show (y 0).val < 8 ∨ 8 + 1024 ≤ (y 0).val
      omega

/-- All twelve. -/
theorem readsE (y : S1032x3072.Idx) :
    v.read (Elt Ideal) (v.writes (Elt Ideal) f (piecesE (em 1024 1024 X : FVec Ideal _ .f32) (fun n => (em 1024 256 (fun r l => P r (256 * n.val + l)) : FVec Ideal _ .bf16)) L)) y
      = if 8 ≤ (y 0).val then ∑ k : Fin 1024, X ((y 0).val - 8) k.val * P k.val (y 1).val
        else v.read (Elt Ideal) (v.writes (Elt Ideal) f L) y := by
  have b1 : (y 1).val < 3072 := (y 1).isLt
  by_cases h0 : 8 ≤ (y 0).val
  · rw [if_pos h0]
    unfold piecesE
    simp only [readE, h0, true_and]
    have e : ∀ n : Fin 12, n = 0 ∨ n = 1 ∨ n = 2 ∨ n = 3 ∨ n = 4 ∨ n = 5 ∨ n = 6 ∨ n = 7 ∨ n = 8 ∨ n = 9 ∨ n = 10 ∨ n = 11 := by decide
    have hq : 256 * ((y 1).val / 256) ≤ (y 1).val ∧ (y 1).val < 256 * ((y 1).val / 256) + 256 := by omega
    rcases e ⟨(y 1).val / 256, by omega⟩ with h | h | h | h | h | h | h | h | h | h | h | h <;> rw [Fin.ext_iff] at h <;> dsimp only at h <;> rw [h] at hq <;>
      simp only [hq, and_self, if_true, ite_self]
  · unfold piecesE
    simp only [readE, h0, false_and, if_false]

/-- The zero rows. -/
theorem readZ (y : S1032x3072.Idx) (h : (y 0).val < 8) :
    v.read (Elt Ideal) (v.writes (Elt Ideal) f (pieceZ Ideal :: L)) y = 0 := by
  unfold pieceZ rh
  refine (View.read_writes_cons_unit_of_mem v f inb_S1032x3072_S8x3072_0_0 _ L y (ix2 ⟨(y 0).val, h⟩ ⟨(y 1).val, (y 1).isLt⟩) rfl
      (Fin.forall_fin_two.mpr ⟨?_, ?_⟩)).trans ?_
  · exact (Nat.zero_add _).symm
  · exact (Nat.zero_add _).symm
  · simp [k0_pay3, broadcast, shapeCast]

/-- The rows moved to the front. -/
theorem readT (x : FVec Ideal S8x3072 .f32) (y : S1032x3072.Idx) (h : (y 0).val < 8) :
    v.read (Elt Ideal) (v.writes (Elt Ideal) f (pieceT x :: L)) y = x (ix2 ⟨(y 0).val, h⟩ ⟨(y 1).val, (y 1).isLt⟩) := by
  unfold pieceT rh
  refine (View.read_writes_cons_unit_of_mem v f inb_S1032x3072_S8x3072_0_0 _ L y (ix2 ⟨(y 0).val, h⟩ ⟨(y 1).val, (y 1).isLt⟩) rfl
      (Fin.forall_fin_two.mpr ⟨?_, ?_⟩)).trans ?_
  · exact (Nat.zero_add _).symm
  · exact (Nat.zero_add _).symm
  · pointwise [k0_pay66]
end

/-! ## The convolved result -/

section
variable (C E : ℕ → ℕ → EReal)

/-- A row's convolution over the scratch. -/
def cvE (r p : ℕ) : EReal := C 3 p * E (8 + r) p + C 2 p * E (7 + r) p + C 1 p * E (6 + r) p + C 0 p * E (5 + r) p

/-- Weights of all blocks. -/
abbrev wE : Fin 24 → FVec Ideal S4x128 .f32 := fun n => em 4 128 (fun r l => C r (128 * n.val + l))
/-- Taps of all blocks. -/
abbrev eE : Fin 24 → Fin 4 → FVec Ideal S1024x128 .f32 := fun n j => em 1024 128 (fun r l => E (5 + j.val + r) (128 * n.val + l))

/-- A block's activated convolution. -/
theorem yb_em (n : Fin 24) : yb (wE C) (eE E) n = em 1024 128 (fun r l => acT (cvE C E r (128 * n.val + l))) :=
  (congrArg act (conv_em (fun r l => C r (128 * n.val + l)) (fun R l => E R (128 * n.val + l)) 8 7 6 5)).trans (act_em _)

/-- What a row of the result holds. -/
def resK : FVec Ideal S1024x3072 .bf16 := em 1024 3072 (fun r p => qkv (fun p => acT (cvE C E r p)) p)

/-- A unit-norm entry of a block. -/
theorem hn_block (Y : ℕ → EReal) (n l : ℕ) (hl : l < 128) :
    Y (128 * n + l) * Ideal.rsqrt (∑ k : Fin 128, Y (128 * n + k.val) * Y (128 * n + k.val) + epsB) = hn Y (128 * n + l) := by
  unfold hn
  rw [show (128 * n + l) / 128 = n by omega]

/-- A query block. -/
theorem pieceQ_em (n : Fin 24) (hn' : n.val < 8) (x : S1024x128.Idx) : payQ (yb (wE C) (eE E) n) x = resK C E ((ro n).emb x) := by
  have h1 : (x 1).val < 128 := (x 1).isLt
  rw [yb_em]
  unfold payQ
  rw [unit_em]
  show (acT (cvE C E (x 0).val (128 * n.val + (x 1).val)) * Ideal.rsqrt (∑ k : Fin 128, acT (cvE C E (x 0).val (128 * n.val + k.val)) * acT (cvE C E (x 0).val (128 * n.val + k.val)) + epsB)) * sclB
    = qkv (fun p => acT (cvE C E (0 + 1 * (x 0).val) p)) (128 * n.val + 1 * (x 1).val)
  rw [hn_block (fun p => acT (cvE C E (x 0).val p)) n.val _ h1, zero_add, one_mul, one_mul, qkv, if_pos (by omega)]

/-- A key block. -/
theorem pieceK_em (n : Fin 24) (hn' : 8 ≤ n.val) (hn'' : n.val < 16) (x : S1024x128.Idx) : payK (yb (wE C) (eE E) n) x = resK C E ((ro n).emb x) := by
  have h1 : (x 1).val < 128 := (x 1).isLt
  rw [yb_em]
  unfold payK
  rw [unit_em]
  show acT (cvE C E (x 0).val (128 * n.val + (x 1).val)) * Ideal.rsqrt (∑ k : Fin 128, acT (cvE C E (x 0).val (128 * n.val + k.val)) * acT (cvE C E (x 0).val (128 * n.val + k.val)) + epsB)
    = qkv (fun p => acT (cvE C E (0 + 1 * (x 0).val) p)) (128 * n.val + 1 * (x 1).val)
  rw [hn_block (fun p => acT (cvE C E (x 0).val p)) n.val _ h1, zero_add, one_mul, one_mul, qkv, if_neg (by omega), if_pos (by omega)]

/-- A value block. -/
theorem pieceV_em (n : Fin 24) (hn' : 16 ≤ n.val) (x : S1024x128.Idx) : payV (yb (wE C) (eE E) n) x = resK C E ((ro n).emb x) := by
  rw [yb_em]
  show acT (cvE C E (x 0).val (128 * n.val + (x 1).val)) = qkv (fun p => acT (cvE C E (0 + 1 * (x 0).val) p)) (128 * n.val + 1 * (x 1).val)
  rw [zero_add, one_mul, one_mul, qkv, if_neg (by omega), if_neg (by omega)]

/-- Every stored piece holds its place of the result. -/
theorem pieces_em : ∀ Q ∈ pieces (wE C) (eE E), ∀ x : Q.1.shape.Idx, Q.2 x = resK C E (Q.1.emb x) := by
  intro Q hQ x
  simp only [pieces, List.mem_cons, List.mem_nil_iff, or_false] at hQ
  rcases hQ with h | h | h | h | h | h | h | h | h | h | h | h | h | h | h | h | h | h | h | h | h | h | h | h <;> subst h
  all_goals first
    | exact pieceV_em C E _ (by decide) x
    | exact pieceK_em C E _ (by decide) (by decide) x
    | exact pieceQ_em C E _ (by decide) x
end

/-! ## The output gate -/

/-- Every stored piece of the output gate holds its place. -/
theorem piecesG_em (X P : ℕ → ℕ → EReal) : ∀ Q ∈ piecesG (em 1024 1024 X : FVec Ideal _ .f32) (fun n => (em 1024 256 (fun r l => P r (256 * n.val + l)) : FVec Ideal _ .bf16)),
    ∀ x : Q.1.shape.Idx, Q.2 x = (em 1024 1024 (fun r l => acT (∑ k : Fin 1024, X r k.val * P k.val l)) : FVec Ideal S1024x1024 .bf16) (Q.1.emb x) := by
  have key : ∀ (n : Fin 4) (x : S1024x256.Idx), (pieceG (em 1024 1024 X : FVec Ideal _ .f32) (fun n => (em 1024 256 (fun r l => P r (256 * n.val + l)) : FVec Ideal _ .bf16)) n).2 x
      = (em 1024 1024 (fun r l => acT (∑ k : Fin 1024, X r k.val * P k.val l)) : FVec Ideal S1024x1024 .bf16) ((rz n).emb x) := fun n x => by
    unfold pieceG
    dsimp only
    rw [gate_em]
    show acT (∑ k : Fin 1024, X (x 0).val k.val * P k.val (256 * n.val + (x 1).val)) = acT (∑ k : Fin 1024, X (0 + 1 * (x 0).val) k.val * P k.val (256 * n.val + 1 * (x 1).val))
    simp only [zero_add, one_mul]
  intro Q hQ x
  simp only [piecesG, List.mem_cons, List.mem_nil_iff, or_false] at hQ
  rcases hQ with h | h | h | h <;> subst h <;> exact key _ x

end Cert.ProjIdeal.Own
-- ==== Proof.ProjPoint.lean ====
/- One grid point of the projection kernel, whole: both cases' blocks and scratch. -/
module

public import proofs.«01_k».proof.Proof.ProjBlock

@[expose] public section

set_option maxRecDepth 16384

noncomputable section

namespace Cert.ProjIdeal.Own

open Idealize.ShloMosaic Idealize.SL.Sem Cert.ProjIdeal Cert.ProjIdeal.Gen Idealize.ShloMosaic.Pointwise
open Cert.ProjMath Finset

/-- The scratch a point convolves: the rows of `S` before the point's own projected rows. -/
def scr (X P S : ℕ → ℕ → EReal) (R N : ℕ) : EReal := if 8 ≤ R then ∑ k : Fin 1024, X (R - 8) k.val * P k.val N else S R N

/-- The gates' block. -/
def gtB (X Q G : ℕ → ℕ → EReal) (r l : ℕ) : EReal :=
  if l < 8 then G 0 l * sp (∑ k : Fin 1024, X r k.val * Q k.val l + G 1 l) else halfB + halfB * Ideal.tanh (halfB * ∑ k : Fin 1024, X r k.val * Q k.val l)

section
variable (c : Dev nD) (i : grid0.Coords)
  (arg2 : Memref sig .tc .vmem S1024x1024 .f32) (harg2 : arg2.IsWhole)
  (arg3 : Memref sig .tc .vmem S1024x3072 .bf16) (harg3 : arg3.IsWhole)
  (arg4 : Memref sig .tc .vmem S1024x1024 .bf16) (harg4 : arg4.IsWhole)
  (arg5 : Memref sig .tc .vmem S1024x128 .bf16) (harg5 : arg5.IsWhole)
  (arg6 : Memref sig .tc .vmem S4x3072 .f32) (harg6 : arg6.IsWhole)
  (arg7 : Memref sig .tc .vmem S2x128 .f32) (harg7 : arg7.IsWhole)
  (arg8 : Memref sig .tc .vmem S1024x3072 .bf16) (harg8 : arg8.IsWhole)
  (arg9 : Memref sig .tc .vmem S1024x1024 .bf16) (harg9 : arg9.IsWhole)
  (arg10 : Memref sig .tc .vmem S1024x128 .f32) (harg10 : arg10.IsWhole)
  (arg11 : Memref sig .tc .vmem S1032x3072 .f32) (harg11 : arg11.IsWhole)
  (X P Z Q C G S : ℕ → ℕ → EReal) (xs0 : FVec Ideal S1032x3072 .f32)

/-- The blocks a point reads. -/
abbrev bX : FVec Ideal S1024x1024 .f32 := em 1024 1024 X
/-- The convolved projection's block. -/
abbrev bP : FVec Ideal S1024x3072 .bf16 := em 1024 3072 P
/-- The output gate's. -/
abbrev bZ : FVec Ideal S1024x1024 .bf16 := em 1024 1024 Z
/-- The gates'. -/
abbrev bQ : FVec Ideal S1024x128 .bf16 := em 1024 128 Q
/-- The convolution's weights. -/
abbrev bC : FVec Ideal S4x3072 .f32 := em 4 3072 C
/-- The gates' parameters. -/
abbrev bG : FVec Ideal S2x128 .f32 := em 2 128 G

/-- The rows a tap reads, in a first block. -/
theorem tapA_em : tapA arg2 harg2 arg3 harg3 arg11 (bX X) (bP P) = eE (scr X P fun _ _ => 0) := by
  funext n j x
  have b0 : (x 0).val < 1024 := (x 0).isLt
  show arg11.view.read (Elt Ideal) (arg11.view.writes (Elt Ideal) arg11.view.junk (piecesE (lx arg2 harg2 (bX X)) (lp arg3 harg3 (bP P)) [pieceZ Ideal])) ((rl n j).toLoadRect.idx x) = _
  rw [lx_em, funext (lp_em arg3 harg3 P), readsE]
  have e0 : ((rl n j).toLoadRect.idx x 0).val = 5 + j.val + (x 0).val := by show 5 + j.val + 1 * (x 0).val = _; omega
  have e1 : ((rl n j).toLoadRect.idx x 1).val = 128 * n.val + (x 1).val := by show 128 * n.val + 1 * (x 1).val = _; omega
  show _ = scr X P (fun _ _ => 0) (5 + j.val + (x 0).val) (128 * n.val + (x 1).val)
  unfold scr
  rw [e0, e1]
  split_ifs with h
  · rfl
  · exact readZ _ _ _ _ (by rw [e0]; omega)

/-- The rows a tap reads, in a second block. -/
theorem tapB_em (hs : ∀ y : S1032x3072.Idx, (y 0).val < 8 → xs0 y = S (y 0).val (y 1).val) :
    tapB arg2 harg2 arg3 harg3 arg11 harg11 (bX X) (bP P) xs0 = eE (scr X P S) := by
  funext n j x
  have b0 : (x 0).val < 1024 := (x 0).isLt
  have e0 : ((rl n j).toLoadRect.idx x 0).val = 5 + j.val + (x 0).val := by show 5 + j.val + 1 * (x 0).val = _; omega
  have e1 : ((rl n j).toLoadRect.idx x 1).val = 128 * n.val + (x 1).val := by show 128 * n.val + 1 * (x 1).val = _; omega
  show _ = scr X P S (5 + j.val + (x 0).val) (128 * n.val + (x 1).val)
  unfold tapB
  by_cases hj : j = 3
  · refine (congrFun (if_pos hj) x).trans ?_
    show arg11.view.read (Elt Ideal) (arg11.view.writes (Elt Ideal) arg11.view.junk (piecesE (lx arg2 harg2 (bX X)) (lp arg3 harg3 (bP P)) [])) ((rl n j).toLoadRect.idx x) = _
    rw [lx_em, funext (lp_em arg3 harg3 P), readsE]
    unfold scr
    have hv : j.val = 3 := by rw [hj]; rfl
    rw [e0, e1, if_pos (by omega), if_pos (by omega)]
  · refine (congrFun (if_neg hj) x).trans ?_
    show arg11.view.read (Elt Ideal) (arg11.view.writes (Elt Ideal) (harg11.unread xs0) (piecesE (lx arg2 harg2 (bX X)) (lp arg3 harg3 (bP P)) [])) ((rl n j).toLoadRect.idx x) = _
    rw [lx_em, funext (lp_em arg3 harg3 P), readsE]
    unfold scr
    rw [e0, e1]
    split_ifs with h
    · rfl
    · refine ((harg11.readAt_unread (Val := Elt Ideal) xs0 (rl n j).toLoadRect x)).trans ?_
      rw [hs _ (by rw [e0]; omega), e0, e1]

/-- The last rows of a block. -/
theorem tail_em (L : List (View.Piece (Elt Ideal) S1032x3072 .f32)) (j : S8x3072.Idx) :
    (View.readCov arg11.view (piecesE (lx arg2 harg2 (bX X)) (lp arg3 harg3 (bP P)) L) rt.toLoadRect : FVec Ideal S8x3072 .f32) j
      = ∑ k : Fin 1024, X (1016 + (j 0).val) k.val * P k.val (j 1).val := by
  show arg11.view.read (Elt Ideal) (arg11.view.writes (Elt Ideal) arg11.view.junk (piecesE (lx arg2 harg2 (bX X)) (lp arg3 harg3 (bP P)) L)) (rt.toLoadRect.idx j) = _
  rw [lx_em, funext (lp_em arg3 harg3 P), readsE]
  have e0 : (rt.toLoadRect.idx j 0).val = 1024 + (j 0).val := by show 1024 + 1 * (j 0).val = _; omega
  have e1 : (rt.toLoadRect.idx j 1).val = (j 1).val := by show 0 + 1 * (j 1).val = _; omega
  rw [e0, e1, if_pos (by omega), show 1024 + (j 0).val - 8 = 1016 + (j 0).val by omega]

/-- The gates' store. -/
theorem pieceB_em : ∀ R ∈ [pieceB (F := Ideal) (lx arg2 harg2 (bX X)) (la arg5 harg5 (bQ Q)) (lg0 arg7 harg7 (bG G)) (lg1 arg7 harg7 (bG G))],
    ∀ x : R.1.shape.Idx, R.2 x = (em 1024 128 (gtB X Q G) : FVec Ideal S1024x128 .f32) (R.1.emb x) := by
  intro R hR x
  simp only [List.mem_cons, List.mem_nil_iff, or_false] at hR
  subst hR
  rw [lx_em, la_em, lg0_em, lg1_em]
  unfold pieceB at x ⊢
  dsimp only
  rw [gates_em]
  show _ = gtB X Q G (0 + 1 * (x 0).val) (0 + 1 * (x 1).val)
  simp only [zero_add, one_mul, add_zero]
  rfl

/-- A first block's convolved result. -/
theorem resA (hc : cond0_0 i) : out0_A_6 (F := Ideal) c i arg2 harg2 arg3 harg3 arg4 harg4 arg5 harg5 arg6 harg6 arg7 harg7 arg8 harg8 arg9 harg9 arg10 harg10 arg11 harg11 hc (bX X) (bP P) (bZ Z) (bQ Q) (bC C) (bG G) = resK C (scr X P (fun _ _ => 0)) := by
  unfold out0_A_6
  funext y
  refine View.read_writes_apply_of_pieces _ _ (resK C (scr X P (fun _ _ => 0))) _ ?_ y (cover0_A_6 (F := Ideal) c i arg2 harg2 arg3 harg3 arg4 harg4 arg5 harg5 arg6 harg6 arg7 harg7 arg8 harg8 arg9 harg9 arg10 harg10 arg11 harg11 hc (bX X) (bP P) (bZ Z) (bQ Q) (bC C) (bG G) y)
  rw [piecesA, tapA_em arg2 harg2 arg3 harg3 arg11 X P, funext (lw_em arg6 harg6 C)]
  exact pieces_em C _

/-- A first block's output gate. -/
theorem gateA (hc : cond0_0 i) : out0_A_7 (F := Ideal) c i arg2 harg2 arg3 harg3 arg4 harg4 arg5 harg5 arg6 harg6 arg7 harg7 arg8 harg8 arg9 harg9 arg10 harg10 arg11 harg11 hc (bX X) (bP P) (bZ Z) (bQ Q) (bC C) (bG G) = (em 1024 1024 (fun r l => acT (∑ k : Fin 1024, X r k.val * Z k.val l)) : FVec Ideal _ .bf16) := by
  unfold out0_A_7
  funext y
  refine View.read_writes_apply_of_pieces _ _ (em 1024 1024 (fun r l => acT (∑ k : Fin 1024, X r k.val * Z k.val l)) : FVec Ideal _ .bf16) _ ?_ y (cover0_A_7 (F := Ideal) c i arg2 harg2 arg3 harg3 arg4 harg4 arg5 harg5 arg6 harg6 arg7 harg7 arg8 harg8 arg9 harg9 arg10 harg10 arg11 harg11 hc (bX X) (bP P) (bZ Z) (bQ Q) (bC C) (bG G) y)
  rw [piecesGA, lx_em, funext (lz_em arg4 harg4 Z)]
  exact piecesG_em X Z

/-- A first block's gates. -/
theorem gatesA (hc : cond0_0 i) : out0_A_8 (F := Ideal) c i arg2 harg2 arg3 harg3 arg4 harg4 arg5 harg5 arg6 harg6 arg7 harg7 arg8 harg8 arg9 harg9 arg10 harg10 arg11 harg11 hc (bX X) (bP P) (bZ Z) (bQ Q) (bC C) (bG G) = (em 1024 128 (gtB X Q G) : FVec Ideal _ .f32) := by
  unfold out0_A_8
  funext y
  refine View.read_writes_apply_of_pieces _ _ (em 1024 128 (gtB X Q G) : FVec Ideal _ .f32) _ ?_ y (cover0_A_8 (F := Ideal) c i arg2 harg2 arg3 harg3 arg4 harg4 arg5 harg5 arg6 harg6 arg7 harg7 arg8 harg8 arg9 harg9 arg10 harg10 arg11 harg11 hc (bX X) (bP P) (bZ Z) (bQ Q) (bC C) (bG G) y)
  rw [piecesBA]
  exact pieceB_em arg2 harg2 arg5 harg5 arg7 harg7 X Q G

/-- The first rows of the scratch a first block leaves. -/
theorem leftA (hc : cond0_0 i) (y : S1032x3072.Idx) (hy : (y 0).val < 8) :
    sout0_A_0 (F := Ideal) c i arg2 harg2 arg3 harg3 arg4 harg4 arg5 harg5 arg6 harg6 arg7 harg7 arg8 harg8 arg9 harg9 arg10 harg10 arg11 harg11 hc (bX X) (bP P) (bZ Z) (bQ Q) (bC C) (bG G) y = ∑ k : Fin 1024, X (1016 + (y 0).val) k.val * P k.val (y 1).val := by
  unfold sout0_A_0
  rw [piecesSA]
  refine (readT _ _ _ _ y hy).trans ?_
  exact tail_em arg2 harg2 arg3 harg3 arg11 X P _ _

/-- A second block's convolved result. -/
theorem resB (hc : ¬ cond0_0 i) (hs : ∀ y : S1032x3072.Idx, (y 0).val < 8 → xs0 y = S (y 0).val (y 1).val) : out0_B_6 (F := Ideal) c i arg2 harg2 arg3 harg3 arg4 harg4 arg5 harg5 arg6 harg6 arg7 harg7 arg8 harg8 arg9 harg9 arg10 harg10 arg11 harg11 hc (bX X) (bP P) (bZ Z) (bQ Q) (bC C) (bG G) xs0 = resK C (scr X P S) := by
  unfold out0_B_6
  funext y
  refine View.read_writes_apply_of_pieces _ _ (resK C (scr X P S)) _ ?_ y (cover0_B_6 (F := Ideal) c i arg2 harg2 arg3 harg3 arg4 harg4 arg5 harg5 arg6 harg6 arg7 harg7 arg8 harg8 arg9 harg9 arg10 harg10 arg11 harg11 hc (bX X) (bP P) (bZ Z) (bQ Q) (bC C) (bG G) xs0 y)
  rw [piecesB, tapB_em arg2 harg2 arg3 harg3 arg11 harg11 X P S xs0 hs, funext (lw_em arg6 harg6 C)]
  exact pieces_em C _

/-- A second block's output gate. -/
theorem gateB (hc : ¬ cond0_0 i) : out0_B_7 (F := Ideal) c i arg2 harg2 arg3 harg3 arg4 harg4 arg5 harg5 arg6 harg6 arg7 harg7 arg8 harg8 arg9 harg9 arg10 harg10 arg11 harg11 hc (bX X) (bP P) (bZ Z) (bQ Q) (bC C) (bG G) xs0 = (em 1024 1024 (fun r l => acT (∑ k : Fin 1024, X r k.val * Z k.val l)) : FVec Ideal _ .bf16) := by
  unfold out0_B_7
  funext y
  refine View.read_writes_apply_of_pieces _ _ (em 1024 1024 (fun r l => acT (∑ k : Fin 1024, X r k.val * Z k.val l)) : FVec Ideal _ .bf16) _ ?_ y (cover0_B_7 (F := Ideal) c i arg2 harg2 arg3 harg3 arg4 harg4 arg5 harg5 arg6 harg6 arg7 harg7 arg8 harg8 arg9 harg9 arg10 harg10 arg11 harg11 hc (bX X) (bP P) (bZ Z) (bQ Q) (bC C) (bG G) xs0 y)
  rw [piecesGB, lx_em, funext (lz_em arg4 harg4 Z)]
  exact piecesG_em X Z

/-- A second block's gates. -/
theorem gatesB (hc : ¬ cond0_0 i) : out0_B_8 (F := Ideal) c i arg2 harg2 arg3 harg3 arg4 harg4 arg5 harg5 arg6 harg6 arg7 harg7 arg8 harg8 arg9 harg9 arg10 harg10 arg11 harg11 hc (bX X) (bP P) (bZ Z) (bQ Q) (bC C) (bG G) xs0 = (em 1024 128 (gtB X Q G) : FVec Ideal _ .f32) := by
  unfold out0_B_8
  funext y
  refine View.read_writes_apply_of_pieces _ _ (em 1024 128 (gtB X Q G) : FVec Ideal _ .f32) _ ?_ y (cover0_B_8 (F := Ideal) c i arg2 harg2 arg3 harg3 arg4 harg4 arg5 harg5 arg6 harg6 arg7 harg7 arg8 harg8 arg9 harg9 arg10 harg10 arg11 harg11 hc (bX X) (bP P) (bZ Z) (bQ Q) (bC C) (bG G) xs0 y)
  rw [piecesBB]
  exact pieceB_em arg2 harg2 arg5 harg5 arg7 harg7 X Q G

/-- The first rows of the scratch a second block leaves. -/
theorem leftB (hc : ¬ cond0_0 i) (y : S1032x3072.Idx) (hy : (y 0).val < 8) :
    sout0_B_0 (F := Ideal) c i arg2 harg2 arg3 harg3 arg4 harg4 arg5 harg5 arg6 harg6 arg7 harg7 arg8 harg8 arg9 harg9 arg10 harg10 arg11 harg11 hc (bX X) (bP P) (bZ Z) (bQ Q) (bC C) (bG G) xs0 y = ∑ k : Fin 1024, X (1016 + (y 0).val) k.val * P k.val (y 1).val := by
  unfold sout0_B_0
  rw [piecesSB]
  refine (readT _ _ _ _ y hy).trans ?_
  exact tail_em arg2 harg2 arg3 harg3 arg11 X P _ _

end

end Cert.ProjIdeal.Own
-- ==== Proof.ProjGrid.lean ====
/- The projection kernel's results over its grid: sixteen points, two blocks of 1024 tokens of each of
   the eight sequences in order, a sequence's last projected rows carried from its first block to its
   second. -/
module

public import proofs.«01_k».proof.Proof.ProjPoint
public import proofs.«01_k».proof.Proof.Gen.ProjIdeal.Value
public import Idealize.ShloMosaic.Lib.Pipeline.ValueKit

@[expose] public section

set_option maxRecDepth 16384

noncomputable section

namespace Cert.ProjIdeal.Own

open Idealize.ShloMosaic Idealize.SL.Sem Cert.ProjIdeal Cert.ProjIdeal.Gen Idealize.ShloMosaic.Pointwise
open Cert.ProjMath Finset Cert.ProjIdeal.Value

/-- The input windows' block indices. -/
theorem idx_in : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- Two coordinates equal, the index equal. -/
theorem ix2_ext {n m : ℕ} {i : (⟨2, ![n, m]⟩ : Shape).Idx} {a : Fin n} {b : Fin m} (ha : (i 0).val = a.val) (hb : (i 1).val = b.val) : i = ix2 a b := by
  funext k
  match k with
  | ⟨0, _⟩ => exact Fin.ext ha
  | ⟨1, _⟩ => exact Fin.ext hb

/-- An integer constant zero as a float. -/
theorem fzero : (FloatOps.sitofp .f32 0#32 : Ideal .f32) = (0 : EReal) := by
  show (((0#32 : BitVec 32).toInt : ℝ) : EReal) = 0
  simp

/-- The gates' parameters at an entry. -/
theorem par (a3 a4 : FVec Ideal S8 .f32) (A D : ℕ → EReal) (hA : a3 = fun i => A (i 0).val) (hD : a4 = fun i => D (i 0).val) (j0 : Fin 2) (j1 : Fin 128) :
    (concatenate S2x128 0 [⟨S1x128, broadcastInDim S1x128 ![1] bcast_S128_S1x128_1 (pad S128 ![0] ![120] ![0] (Host.negf (Host.exp a3)) (sitofp .f32 (constantI S_ 32 0#32) : FVec Ideal S_ .f32) pads_S8_S128_01200 h_S_)⟩,
      ⟨S1x128, broadcastInDim S1x128 ![1] bcast_S128_S1x128_1 (pad S128 ![0] ![120] ![0] a4 (sitofp .f32 (constantI S_ 32 0#32) : FVec Ideal S_ .f32) pads_S8_S128_01200 h_S_)⟩] concatenates_S1x128_S1x128_S2x128_d0 : FVec Ideal S2x128 .f32) (ix2 j0 j1)
      = if j1.val < 8 then (if j0.val < 1 then -Ideal.exp (A j1.val) else D j1.val) else 0 := by
  subst hA hD
  pointwise [fzero]
  by_cases h : j1.val < 8
  · simp only [h, if_true, dite_true, dite_eq_ite]
  · simp only [h, if_false, dite_false, dite_eq_ite, ite_self]

/-- A sequence's rows, one after another. -/
theorem rows (x : FVec Ideal S8x2048x1024 .f32) (X : ℕ → ℕ → EReal) (hX : x = fun i => X (2048 * (i 0).val + (i 1).val) (i 2).val) (r : Fin 16384) (k : Fin 1024) :
    (shapeCast S16384x1024 x shapeCasts_S8x2048x1024_S16384x1024 : FVec Ideal S16384x1024 .f32) (ix2 r k) = X r.val k.val := by
  subst hX
  pointwise
  rw [Nat.div_add_mod]

section
variable (m : (ℓ : Loc nD τ sig) → Buf (Elt Ideal) ℓ) (c : Dev nD) (X W C : ℕ → ℕ → EReal) (A D : ℕ → EReal)
  (hX : (m ((c.tc : Thread nD τ).loc main_arg0) : FVec Ideal S8x2048x1024 .f32) = fun i => X (2048 * (i 0).val + (i 1).val) (i 2).val)
  (hW : (m ((c.tc : Thread nD τ).loc main_arg1) : FVec Ideal S1024x8208 .f32) = fun i => W (i 0).val (i 1).val)
  (hC : (m ((c.tc : Thread nD τ).loc main_arg2) : FVec Ideal S4x3072 .f32) = fun i => C (i 0).val (i 1).val)
  (hA : (m ((c.tc : Thread nD τ).loc main_arg3) : FVec Ideal S8 .f32) = fun i => A (i 0).val)
  (hD : (m ((c.tc : Thread nD τ).loc main_arg4) : FVec Ideal S8 .f32) = fun i => D (i 0).val)

/-! ## The operands the call is given -/

/-- The tokens, one row each. -/
theorem V0 : (V m c main_v0 : FVec Ideal S16384x1024 .f32) = shapeCast S16384x1024 (m ((c.tc : Thread nD τ).loc main_arg0) : FVec Ideal S8x2048x1024 .f32) shapeCasts_S8x2048x1024_S16384x1024 := by
  simp only [V, hostOps0, hostOps0_1, hostOps0_2, hostOps0_3, hostOps0_4, hostOps0_5, hostOps0_6, List.flatten_cons, List.flatten_nil, List.append_nil, List.cons_append, List.nil_append]
  entry_read
  rfl

/-- The convolved columns. -/
theorem V2 : (V m c main_v2 : FVec Ideal S1024x3072 .bf16) = (truncf .bf16 (extractStridedSlice S1024x3072 ![0, 0] (m ((c.tc : Thread nD τ).loc main_arg1) : FVec Ideal S1024x8208 .f32) slices_S1024x8208_S1024x3072_0_0) bitsLt_bf16_f32 : FVec Ideal S1024x3072 .bf16) := by
  simp only [V, hostOps0, hostOps0_1, hostOps0_2, hostOps0_3, hostOps0_4, hostOps0_5, hostOps0_6, List.flatten_cons, List.flatten_nil, List.append_nil, List.cons_append, List.nil_append]
  entry_read
  rfl

/-- The output gate's columns. -/
theorem V4 : (V m c main_v4 : FVec Ideal S1024x1024 .bf16) = (truncf .bf16 (extractStridedSlice S1024x1024 ![0, 3072] (m ((c.tc : Thread nD τ).loc main_arg1) : FVec Ideal S1024x8208 .f32) slices_S1024x8208_S1024x1024_0_3072) bitsLt_bf16_f32 : FVec Ideal S1024x1024 .bf16) := by
  simp only [V, hostOps0, hostOps0_1, hostOps0_2, hostOps0_3, hostOps0_4, hostOps0_5, hostOps0_6, List.flatten_cons, List.flatten_nil, List.append_nil, List.cons_append, List.nil_append]
  entry_read
  rfl

/-- The gates' columns. -/
theorem V7 : (V m c main_v7 : FVec Ideal S1024x128 .bf16) = truncf .bf16 (pad S1024x128 ![0, 0] ![0, 112] ![0, 0] (extractStridedSlice S1024x16 ![0, 4096] (m ((c.tc : Thread nD τ).loc main_arg1) : FVec Ideal S1024x8208 .f32) slices_S1024x8208_S1024x16_0_4096)
    (sitofp .f32 (constantI S_ 32 0#32) : FVec Ideal S_ .f32) pads_S1024x16_S1024x128_000_01120 h_S_) bitsLt_bf16_f32 := by
  simp only [V, hostOps0, hostOps0_1, hostOps0_2, hostOps0_3, hostOps0_4, hostOps0_5, hostOps0_6, List.flatten_cons, List.flatten_nil, List.append_nil, List.cons_append, List.nil_append]
  entry_read
  rfl

/-- The gates' parameters. -/
theorem V14 : (V m c main_v14 : FVec Ideal S2x128 .f32) = concatenate S2x128 0 [⟨S1x128, broadcastInDim S1x128 ![1] bcast_S128_S1x128_1 (pad S128 ![0] ![120] ![0] (Host.negf (Host.exp (m ((c.tc : Thread nD τ).loc main_arg3) : FVec Ideal S8 .f32))) (sitofp .f32 (constantI S_ 32 0#32) : FVec Ideal S_ .f32) pads_S8_S128_01200 h_S_)⟩,
      ⟨S1x128, broadcastInDim S1x128 ![1] bcast_S128_S1x128_1 (pad S128 ![0] ![120] ![0] (m ((c.tc : Thread nD τ).loc main_arg4) : FVec Ideal S8 .f32) (sitofp .f32 (constantI S_ 32 0#32) : FVec Ideal S_ .f32) pads_S8_S128_01200 h_S_)⟩] concatenates_S1x128_S1x128_S2x128_d0 := by
  simp only [V, hostOps0, hostOps0_1, hostOps0_2, hostOps0_3, hostOps0_4, hostOps0_5, hostOps0_6, List.flatten_cons, List.flatten_nil, List.append_nil, List.cons_append, List.nil_append]
  entry_read
  rfl

/-! ## The blocks a point reads -/

include hX in
/-- A point's tokens. -/
theorem blk0 (t : Fin cfg0.N) : (iblk m c 0 t : FVec Ideal S1024x1024 .f32) = em (φ := .f32) 1024 1024 (fun r k => X (1024 * t.val + r) k) := by
  funext j; idx_vars j
  have e : (win0_0.blk t).view.emb (ix2 j0 j1) = ix2 (n0 := 16384) (n1 := 1024) ⟨1024 * t.val + j0.val, by have := t.isLt; have : cfg0.N = 16 := N_0; have := j0.isLt; omega⟩ j1 := by
    refine ix2_ext ?_ ?_
    · show ((win0_0.blk t).view.emb (ix2 j0 j1) 0).val = _
      blk_simp [idx_in t]
      exact congrArg (· + j0.val) (Nat.mul_comm _ _)
    · show ((win0_0.blk t).view.emb (ix2 j0 j1) 1).val = _
      blk_simp [idx_in t]
  show (V m c main_v0 : FVec Ideal S16384x1024 .f32) ((win0_0.blk t).view.emb (ix2 j0 j1)) = _
  rw [e, V0]
  exact rows _ X hX _ _

include hW in
/-- The convolved columns of the projection. -/
theorem blk1 (t : Fin cfg0.N) : (iblk m c 1 t : FVec Ideal S1024x3072 .bf16) = em (φ := .bf16) 1024 3072 W := by
  funext j; idx_vars j
  have e : (win0_1.blk t).view.emb (ix2 j0 j1) = ix2 (n0 := 1024) (n1 := 3072) j0 j1 := by
    refine ix2_ext ?_ ?_
    · show ((win0_1.blk t).view.emb (ix2 j0 j1) 0).val = _
      blk_simp [idx_in t]
    · show ((win0_1.blk t).view.emb (ix2 j0 j1) 1).val = _
      blk_simp [idx_in t]
  show (V m c main_v2 : FVec Ideal S1024x3072 .bf16) ((win0_1.blk t).view.emb (ix2 j0 j1)) = _
  rw [e, V2, hW]
  pointwise [em]

include hW in
/-- The output gate's columns. -/
theorem blk2 (t : Fin cfg0.N) : (iblk m c 2 t : FVec Ideal S1024x1024 .bf16) = em (φ := .bf16) 1024 1024 (fun k l => W k (3072 + l)) := by
  funext j; idx_vars j
  have e : (win0_2.blk t).view.emb (ix2 j0 j1) = ix2 (n0 := 1024) (n1 := 1024) j0 j1 := by
    refine ix2_ext ?_ ?_
    · show ((win0_2.blk t).view.emb (ix2 j0 j1) 0).val = _
      blk_simp [idx_in t]
    · show ((win0_2.blk t).view.emb (ix2 j0 j1) 1).val = _
      blk_simp [idx_in t]
  show (V m c main_v4 : FVec Ideal S1024x1024 .bf16) ((win0_2.blk t).view.emb (ix2 j0 j1)) = _
  rw [e, V4, hW]
  pointwise [em]

include hW in
/-- The gates' columns, zero past the sixteenth. -/
theorem blk3 (t : Fin cfg0.N) : (iblk m c 3 t : FVec Ideal S1024x128 .bf16) = em (φ := .bf16) 1024 128 (fun k l => if l < 16 then W k (4096 + l) else 0) := by
  funext j; idx_vars j
  have e : (win0_3.blk t).view.emb (ix2 j0 j1) = ix2 (n0 := 1024) (n1 := 128) j0 j1 := by
    refine ix2_ext ?_ ?_
    · show ((win0_3.blk t).view.emb (ix2 j0 j1) 0).val = _
      blk_simp [idx_in t]
    · show ((win0_3.blk t).view.emb (ix2 j0 j1) 1).val = _
      blk_simp [idx_in t]
  show (V m c main_v7 : FVec Ideal S1024x128 .bf16) ((win0_3.blk t).view.emb (ix2 j0 j1)) = _
  rw [e, V7, hW]
  pointwise [em, fzero]
  exact dite_eq_ite

include hC in
/-- The convolution's weights. -/
theorem blk4 (t : Fin cfg0.N) : (iblk m c 4 t : FVec Ideal S4x3072 .f32) = em (φ := .f32) 4 3072 C := by
  funext j; idx_vars j
  have e : (win0_4.blk t).view.emb (ix2 j0 j1) = ix2 (n0 := 4) (n1 := 3072) j0 j1 := by
    refine ix2_ext ?_ ?_
    · show ((win0_4.blk t).view.emb (ix2 j0 j1) 0).val = _
      blk_simp [idx_in t]
    · show ((win0_4.blk t).view.emb (ix2 j0 j1) 1).val = _
      blk_simp [idx_in t]
  show (V m c main_arg2 : FVec Ideal S4x3072 .f32) ((win0_4.blk t).view.emb (ix2 j0 j1)) = _
  rw [e, V_main_arg2, hC]
  pointwise [em]

include hA hD in
/-- The gates' parameters. -/
theorem blk5 (t : Fin cfg0.N) : (iblk m c 5 t : FVec Ideal S2x128 .f32) = em (φ := .f32) 2 128 (fun r l => if l < 8 then (if r < 1 then -Ideal.exp (A l) else D l) else 0) := by
  funext j; idx_vars j
  have e : (win0_5.blk t).view.emb (ix2 j0 j1) = ix2 (n0 := 2) (n1 := 128) j0 j1 := by
    refine ix2_ext ?_ ?_
    · show ((win0_5.blk t).view.emb (ix2 j0 j1) 0).val = _
      blk_simp [idx_in t]
    · show ((win0_5.blk t).view.emb (ix2 j0 j1) 1).val = _
      blk_simp [idx_in t]
  show (V m c main_v14 : FVec Ideal S2x128 .f32) ((win0_5.blk t).view.emb (ix2 j0 j1)) = _
  rw [e, V14]
  exact par _ _ A D hA hD j0 j1
end

end Cert.ProjIdeal.Own
-- ==== Proof.ProjOut.lean ====
/- The projection kernel's three results, over the sequences' rows. -/
module

public import proofs.«01_k».proof.Proof.ProjGrid

@[expose] public section

set_option maxRecDepth 16384

noncomputable section

namespace Cert.ProjIdeal.Own

open Idealize.ShloMosaic Idealize.SL.Sem Cert.ProjIdeal Cert.ProjIdeal.Gen Idealize.ShloMosaic.Pointwise
open Cert.ProjMath Finset Cert.ProjIdeal.Value

section
variable (m : (ℓ : Loc nD τ sig) → Buf (Elt Ideal) ℓ) (c : Dev nD) (X W C : ℕ → ℕ → EReal) (A D : ℕ → EReal)
  (hX : (m ((c.tc : Thread nD τ).loc main_arg0) : FVec Ideal S8x2048x1024 .f32) = fun i => X (2048 * (i 0).val + (i 1).val) (i 2).val)
  (hW : (m ((c.tc : Thread nD τ).loc main_arg1) : FVec Ideal S1024x8208 .f32) = fun i => W (i 0).val (i 1).val)
  (hC : (m ((c.tc : Thread nD τ).loc main_arg2) : FVec Ideal S4x3072 .f32) = fun i => C (i 0).val (i 1).val)
  (hA : (m ((c.tc : Thread nD τ).loc main_arg3) : FVec Ideal S8 .f32) = fun i => A (i 0).val)
  (hD : (m ((c.tc : Thread nD τ).loc main_arg4) : FVec Ideal S8 .f32) = fun i => D (i 0).val)

include hX hW hC hA hD in
/-- What a point leaves in the first eight saved rows: its block's last eight projected rows. -/
theorem saved (n : ℕ) (hn : n < cfg0.N) (y : S1032x3072.Idx) (hy : (y 0).val < 8) :
    (outsAt0 m c n hn).2.2.2 y = pr X W (1024 * n + 1016 + (y 0).val) (y 1).val := by
  by_cases h0 : n % 2 = 0
  · rw [outsAt0_A m c ⟨n, hn⟩ h0]
    dsimp only
    rw [blk0 m c X hX ⟨n, hn⟩, blk1 m c W hW ⟨n, hn⟩, blk2 m c W hW ⟨n, hn⟩, blk3 m c W hW ⟨n, hn⟩, blk4 m c C hC ⟨n, hn⟩, blk5 m c A D hA hD ⟨n, hn⟩]
    refine (leftA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) (fun r k => X (1024 * n + r) k) W (fun k l => W k (3072 + l)) (fun k l => if l < 16 then W k (4096 + l) else 0) C (fun r l => if l < 8 then (if r < 1 then -Ideal.exp (A l) else D l) else 0) ((hcond0_0 ⟨n, hn⟩).mpr h0) y hy).trans ?_
    simp only [pr, Nat.add_assoc]
  · rw [outsAt0_B m c ⟨n, hn⟩ h0]
    dsimp only
    rw [blk0 m c X hX ⟨n, hn⟩, blk1 m c W hW ⟨n, hn⟩, blk2 m c W hW ⟨n, hn⟩, blk3 m c W hW ⟨n, hn⟩, blk4 m c C hC ⟨n, hn⟩, blk5 m c A D hA hD ⟨n, hn⟩]
    refine (leftB c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) (fun r k => X (1024 * n + r) k) W (fun k l => W k (3072 + l)) (fun k l => if l < 16 then W k (4096 + l) else 0) C (fun r l => if l < 8 then (if r < 1 then -Ideal.exp (A l) else D l) else 0) _ (fun h => h0 ((hcond0_0 ⟨n, hn⟩).mp h)) y hy).trans ?_
    simp only [pr, Nat.add_assoc]

/-- The convolution of a block's rows beside the eight before them is the sequence's. -/
theorem conv_scr (S : ℕ → ℕ → EReal) (n r p : ℕ) (hr : r < 1024) (hS : ∀ R N, 5 ≤ R → R < 8 → S R N = if n % 2 = 0 then 0 else pr X W (1024 * n + R - 8) N) :
    cvE C (scr (fun r k => X (1024 * n + r) k) W S) r p = cv X W C (1024 * n + r) p := by
  have key : ∀ j, j ≤ 3 → scr (fun r k => X (1024 * n + r) k) W S (8 - j + r) p = bk X W (1024 * n + r) j p := by
    intro j hj
    unfold scr bk
    by_cases h8 : 8 ≤ 8 - j + r
    · rw [if_pos h8, if_pos (by omega)]
      unfold pr
      rw [show 1024 * n + r - j = 1024 * n + (8 - j + r - 8) by omega]
    · rw [if_neg h8, hS _ _ (by omega) (by omega)]
      by_cases h0 : n % 2 = 0
      · rw [if_pos h0, if_neg (by omega)]
      · rw [if_neg h0, if_pos (by omega), show 1024 * n + (8 - j + r) - 8 = 1024 * n + r - j by omega]
  unfold cvE cv
  rw [← key 0 (by omega), ← key 1 (by omega), ← key 2 (by omega), ← key 3 (by omega)]

include hX hW hC hA hD in
/-- A point's queries, keys and values. -/
theorem point6 (n : ℕ) (hn : n < cfg0.N) (y : S1024x3072.Idx) :
    (outsAt0 m c n hn).1 y = qkv (fun p => acT (cv X W C (1024 * n + (y 0).val) p)) (y 1).val := by
  have hy : (y 0).val < 1024 := (y 0).isLt
  by_cases h0 : n % 2 = 0
  · rw [outsAt0_A m c ⟨n, hn⟩ h0]
    dsimp only
    rw [blk0 m c X hX ⟨n, hn⟩, blk1 m c W hW ⟨n, hn⟩, blk2 m c W hW ⟨n, hn⟩, blk3 m c W hW ⟨n, hn⟩, blk4 m c C hC ⟨n, hn⟩, blk5 m c A D hA hD ⟨n, hn⟩]
    refine (congrFun (resA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) (fun r k => X (1024 * n + r) k) W (fun k l => W k (3072 + l)) (fun k l => if l < 16 then W k (4096 + l) else 0) C (fun r l => if l < 8 then (if r < 1 then -Ideal.exp (A l) else D l) else 0) ((hcond0_0 ⟨n, hn⟩).mpr h0)) y).trans ?_
    show qkv (fun p => acT (cvE C _ (y 0).val p)) (y 1).val = _
    congr 1
    funext p
    rw [conv_scr X W C _ n _ p hy fun R N _ _ => (if_pos h0).symm]
  · rw [outsAt0_B m c ⟨n, hn⟩ h0]
    dsimp only
    rw [blk0 m c X hX ⟨n, hn⟩, blk1 m c W hW ⟨n, hn⟩, blk2 m c W hW ⟨n, hn⟩, blk3 m c W hW ⟨n, hn⟩, blk4 m c C hC ⟨n, hn⟩, blk5 m c A D hA hD ⟨n, hn⟩]
    refine (congrFun (resB c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) (fun r k => X (1024 * n + r) k) W (fun k l => W k (3072 + l)) (fun k l => if l < 16 then W k (4096 + l) else 0) C (fun r l => if l < 8 then (if r < 1 then -Ideal.exp (A l) else D l) else 0) (fun R N => pr X W (1024 * n + R - 8) N) _ (fun h => h0 ((hcond0_0 ⟨n, hn⟩).mp h)) (fun z hz => ?_)) y).trans ?_
    · rw [saved m c X W C A D hX hW hC hA hD _ _ z hz]
      dsimp only
      rw [show 1024 * (n - 1) + 1016 + (z 0).val = 1024 * n + (z 0).val - 8 by omega]
    show qkv (fun p => acT (cvE C _ (y 0).val p)) (y 1).val = _
    congr 1
    funext p
    rw [conv_scr X W C _ n _ p hy fun R N _ _ => (if_neg h0).symm]

include hX hW hC hA hD in
/-- A point's output gate. -/
theorem point7 (n : ℕ) (hn : n < cfg0.N) (y : S1024x1024.Idx) :
    (outsAt0 m c n hn).2.1 y = acT (pr X W (1024 * n + (y 0).val) (3072 + (y 1).val)) := by
  by_cases h0 : n % 2 = 0
  · rw [outsAt0_A m c ⟨n, hn⟩ h0]
    dsimp only
    rw [blk0 m c X hX ⟨n, hn⟩, blk1 m c W hW ⟨n, hn⟩, blk2 m c W hW ⟨n, hn⟩, blk3 m c W hW ⟨n, hn⟩, blk4 m c C hC ⟨n, hn⟩, blk5 m c A D hA hD ⟨n, hn⟩]
    exact congrFun (gateA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) (fun r k => X (1024 * n + r) k) W (fun k l => W k (3072 + l)) (fun k l => if l < 16 then W k (4096 + l) else 0) C (fun r l => if l < 8 then (if r < 1 then -Ideal.exp (A l) else D l) else 0) ((hcond0_0 ⟨n, hn⟩).mpr h0)) y
  · rw [outsAt0_B m c ⟨n, hn⟩ h0]
    dsimp only
    rw [blk0 m c X hX ⟨n, hn⟩, blk1 m c W hW ⟨n, hn⟩, blk2 m c W hW ⟨n, hn⟩, blk3 m c W hW ⟨n, hn⟩, blk4 m c C hC ⟨n, hn⟩, blk5 m c A D hA hD ⟨n, hn⟩]
    exact congrFun (gateB c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) (fun r k => X (1024 * n + r) k) W (fun k l => W k (3072 + l)) (fun k l => if l < 16 then W k (4096 + l) else 0) C (fun r l => if l < 8 then (if r < 1 then -Ideal.exp (A l) else D l) else 0) _ (fun h => h0 ((hcond0_0 ⟨n, hn⟩).mp h))) y

include hX hW hC hA hD in
/-- A point's gates. -/
theorem point8 (n : ℕ) (hn : n < cfg0.N) (y : S1024x128.Idx) :
    (outsAt0 m c n hn).2.2.1 y = gtB (fun r k => X (1024 * n + r) k) (fun k l => if l < 16 then W k (4096 + l) else 0) (fun r l => if l < 8 then (if r < 1 then -Ideal.exp (A l) else D l) else 0) (y 0).val (y 1).val := by
  by_cases h0 : n % 2 = 0
  · rw [outsAt0_A m c ⟨n, hn⟩ h0]
    dsimp only
    rw [blk0 m c X hX ⟨n, hn⟩, blk1 m c W hW ⟨n, hn⟩, blk2 m c W hW ⟨n, hn⟩, blk3 m c W hW ⟨n, hn⟩, blk4 m c C hC ⟨n, hn⟩, blk5 m c A D hA hD ⟨n, hn⟩]
    exact congrFun (gatesA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) (fun r k => X (1024 * n + r) k) W (fun k l => W k (3072 + l)) (fun k l => if l < 16 then W k (4096 + l) else 0) C (fun r l => if l < 8 then (if r < 1 then -Ideal.exp (A l) else D l) else 0) ((hcond0_0 ⟨n, hn⟩).mpr h0)) y
  · rw [outsAt0_B m c ⟨n, hn⟩ h0]
    dsimp only
    rw [blk0 m c X hX ⟨n, hn⟩, blk1 m c W hW ⟨n, hn⟩, blk2 m c W hW ⟨n, hn⟩, blk3 m c W hW ⟨n, hn⟩, blk4 m c C hC ⟨n, hn⟩, blk5 m c A D hA hD ⟨n, hn⟩]
    exact congrFun (gatesB c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) (fun r k => X (1024 * n + r) k) W (fun k l => W k (3072 + l)) (fun k l => if l < 16 then W k (4096 + l) else 0) C (fun r l => if l < 8 then (if r < 1 then -Ideal.exp (A l) else D l) else 0) _ (fun h => h0 ((hcond0_0 ⟨n, hn⟩).mp h))) y

/-- The block's gates are the sequence's, given real projections of the sixteen gate columns. -/
theorem gtB_eq (n r l : ℕ) (hR : ∀ l, l < 16 → IsR (pr X W (1024 * n + r) (4096 + l))) :
    gtB (fun r k => X (1024 * n + r) k) (fun k l => if l < 16 then W k (4096 + l) else 0) (fun r l => if l < 8 then (if r < 1 then -Ideal.exp (A l) else D l) else 0) r l = gt (fun l => pr X W (1024 * n + r) (4096 + l)) A D l := by
  unfold gtB gt
  by_cases h8 : l < 8
  · have h16 : l < 16 := by omega
    simp only [h8, h16, if_true, Nat.zero_lt_one, lt_self_iff_false, if_false]
    rfl
  · by_cases h16 : l < 16
    · simp only [h8, h16, if_true, if_false]
      exact sgT _ (hR l h16)
    · simp only [h8, h16, if_false, mul_zero, sum_const_zero]
      have t : Ideal.tanh 0 = 0 := (congrArg (fun r : ℝ => (r : EReal)) Real.tanh_zero : ((Real.tanh 0 : ℝ) : EReal) = ((0 : ℝ) : EReal))
      rw [t, mul_zero, add_zero]

include hX hW hC hA hD in
/-- The kernel's queries, keys and values. -/
theorem out6 (a0 : Fin 16384) (a1 : Fin 3072) :
    (G6 m c : FVec Ideal S16384x3072 .bf16) (ix2 a0 a1) = qkv (fun p => acT (cv X W C a0.val p)) a1.val := by
  have hp : pt6Of (ix2 a0 a1) = a0.val / 1024 := by
    show 1 * (a0.val / 1024 - 0) + 1 * (a1.val / 3072 - 0) = _
    omega
  have hN : a0.val / 1024 < cfg0.N := by have : cfg0.N = 16 := N_0; omega
  unfold G6
  rw [dif_pos (by rw [hp]; exact hN), fold0_congr m c _ _ _ (by rw [Nat.zero_add]; exact hN) hp, ← outsAt0_sweep m c _ hN, point6 m c X W C A D hX hW hC hA hD]
  have l0 : (loc6Of (ix2 a0 a1) 0).val = a0.val % 1024 := rfl
  have l1 : (loc6Of (ix2 a0 a1) 1).val = a1.val := Nat.mod_eq_of_lt a1.isLt
  rw [l0, l1, Nat.div_add_mod]

include hX hW hC hA hD in
/-- The kernel's output gate. -/
theorem out7 (a0 : Fin 16384) (a1 : Fin 1024) :
    (G7 m c : FVec Ideal S16384x1024 .bf16) (ix2 a0 a1) = acT (pr X W a0.val (3072 + a1.val)) := by
  have hp : pt7Of (ix2 a0 a1) = a0.val / 1024 := by
    show 1 * (a0.val / 1024 - 0) + 1 * (a1.val / 1024 - 0) = _
    omega
  have hN : a0.val / 1024 < cfg0.N := by have : cfg0.N = 16 := N_0; omega
  unfold G7
  rw [dif_pos (by rw [hp]; exact hN), fold0_congr m c _ _ _ (by rw [Nat.zero_add]; exact hN) hp, ← outsAt0_sweep m c _ hN, point7 m c X W C A D hX hW hC hA hD]
  have l0 : (loc7Of (ix2 a0 a1) 0).val = a0.val % 1024 := rfl
  have l1 : (loc7Of (ix2 a0 a1) 1).val = a1.val := Nat.mod_eq_of_lt a1.isLt
  rw [l0, l1, Nat.div_add_mod]

include hX hW hC hA hD in
/-- The kernel's gates. -/
theorem out8 (a0 : Fin 16384) (a1 : Fin 128) (hR : ∀ r l, IsR (pr X W r l)) :
    (G8 m c : FVec Ideal S16384x128 .f32) (ix2 a0 a1) = gt (fun l => pr X W a0.val (4096 + l)) A D a1.val := by
  have hp : pt8Of (ix2 a0 a1) = a0.val / 1024 := by
    show 1 * (a0.val / 1024 - 0) + 1 * (a1.val / 128 - 0) = _
    omega
  have hN : a0.val / 1024 < cfg0.N := by have : cfg0.N = 16 := N_0; omega
  unfold G8
  rw [dif_pos (by rw [hp]; exact hN), fold0_congr m c _ _ _ (by rw [Nat.zero_add]; exact hN) hp, ← outsAt0_sweep m c _ hN, point8 m c X W C A D hX hW hC hA hD]
  have l0 : (loc8Of (ix2 a0 a1) 0).val = a0.val % 1024 := rfl
  have l1 : (loc8Of (ix2 a0 a1) 1).val = a1.val := Nat.mod_eq_of_lt a1.isLt
  rw [l0, l1, gtB_eq X W A D _ _ _ fun l _ => hR _ _, Nat.div_add_mod]
end

end Cert.ProjIdeal.Own
-- ==== Proof.ProjRef.lean ====
/- The projection reference's three results over the sequences' rows. -/
module

public import proofs.«01_k».proof.Proof.Gen.ReferenceProjIdeal.Run
public import proofs.«01_k».proof.Proof.ProjMath
public import Idealize.ShloMosaic.Lib.Pointwise
public import Idealize.ShloMosaic.Lib.IdealHost

@[expose] public section

set_option maxRecDepth 16384

noncomputable section

namespace Cert.ReferenceProjIdeal.Own

open Idealize.ShloMosaic Idealize.SL.Sem Cert.ReferenceProjIdeal Cert.ReferenceProjIdeal.Gen Idealize.ShloMosaic.Pointwise
open Cert.ProjMath Finset Cert.ReferenceProjIdeal.Value Idealize.ShloMosaic.StableHlo

/-- The array of the eight sequences' rows. -/
def seqs (n : ℕ) (f : ℕ → ℕ → EReal) : FVec Ideal ⟨3, ![8, 2048, n]⟩ .f32 := fun i => f (2048 * (i 0).val + (i 1).val) (i 2).val

/-- The same by heads of 128. -/
def heads (f : ℕ → ℕ → EReal) : FVec Ideal S8x2048x8x128 .f32 := fun i => f (2048 * (i 0).val + (i 1).val) (128 * (i 2).val + (i 3).val)

/-- The projection of every row. -/
def dot (x : FVec Ideal S8x2048x1024 .f32) (w : FVec Ideal S1024x8208 .f32) : FVec Ideal S8x2048x8208 .f32 :=
  Host.dotGeneral dot_S8x2048x1024_S1024x8208_S8x2048x8208_2_0_01_1_n_n none x w

/-- Three zero rows before every sequence. -/
def before (d : FVec Ideal S8x2048x8208 .f32) : FVec Ideal S8x2051x3072 .f32 :=
  pad S8x2051x3072 ![0, 3, 0] ![0, 0, 0] ![0, 0, 0] (extractStridedSlice S8x2048x3072 ![0, 0, 0] d slices_S8x2048x8208_S8x2048x3072_0_0_0) (sitofp .f32 (constantI S_ 32 0#32)) pads_S8x2048x3072_S8x2051x3072_000_300_000 h_S_

/-- A weight of every column over all rows. -/
def spread (w : FVec Ideal S1x3072 .f32) : FVec Ideal S8x2048x3072 .f32 :=
  broadcastInDim S8x2048x3072 ![0, 1, 2] bcast_S1x1x3072_S8x2048x3072_0_1_2 (broadcastInDim S1x1x3072 ![2] bcast_S3072_S1x1x3072_2 (shapeCast _ w shapeCasts_S1x3072_S3072))

/-- The causal convolution. -/
def convR (d : FVec Ideal S8x2048x8208 .f32) (w : FVec Ideal S4x3072 .f32) : FVec Ideal S8x2048x3072 .f32 :=
  (addf (addf (addf (addf (broadcastInDim S8x2048x3072 ![] bcast_S_S8x2048x3072 (constant S_ .f32 0x00000000#32))
    (mulf (spread (extractStridedSlice S1x3072 ![0, 0] w slices_S4x3072_S1x3072_0_0)) (extractStridedSlice S8x2048x3072 ![0, 0, 0] (before d) slices_S8x2051x3072_S8x2048x3072_0_0_0)))
    (mulf (spread (extractStridedSlice S1x3072 ![1, 0] w slices_S4x3072_S1x3072_1_0)) (extractStridedSlice S8x2048x3072 ![0, 1, 0] (before d) slices_S8x2051x3072_S8x2048x3072_0_1_0)))
    (mulf (spread (extractStridedSlice S1x3072 ![2, 0] w slices_S4x3072_S1x3072_2_0)) (extractStridedSlice S8x2048x3072 ![0, 2, 0] (before d) slices_S8x2051x3072_S8x2048x3072_0_2_0)))
    (mulf (spread (extractStridedSlice S1x3072 ![3, 0] w slices_S4x3072_S1x3072_3_0)) (extractStridedSlice S8x2048x3072 ![0, 3, 0] (before d) slices_S8x2051x3072_S8x2048x3072_0_3_0)))

/-- SiLU of the convolved columns. -/
def siluR (y : FVec Ideal S8x2048x3072 .f32) : FVec Ideal S8x2048x3072 .f32 :=
  mulf y (Host.divf (broadcastInDim S8x2048x3072 ![] bcast_S_S8x2048x3072 (constant S_ .f32 0x3F800000#32)) (addf (broadcastInDim S8x2048x3072 ![] bcast_S_S8x2048x3072 (constant S_ .f32 0x3F800000#32)) (Host.exp (Host.negf y))))

/-- Every head's vector times its inverse norm. -/
def unitR (h : FVec Ideal S8x2048x8x128 .f32) : FVec Ideal S8x2048x8x128 .f32 :=
  mulf h (broadcastInDim S8x2048x8x128 ![0, 1, 2, 3] bcast_S8x2048x8x1_S8x2048x8x128_0_1_2_3 (Host.rsqrt (addf (broadcastInDim S8x2048x8x1 ![0, 1, 2] bcast_S8x2048x8_S8x2048x8x1_0_1_2
    (Host.reduceAdd (mulf h h) (constant S_ .f32 0x00000000#32) reducesTo_S8x2048x8x128_S8x2048x8_d3 h_S_)) (broadcastInDim S8x2048x8x1 ![] bcast_S_S8x2048x8x1 (constant S_ .f32 0x358637BD#32)))))

/-- A third of the columns by heads. -/
def third (s : FVec Ideal S8x2048x1024 .f32) : FVec Ideal S8x2048x8x128 .f32 := shapeCast _ s shapeCasts_S8x2048x1024_S8x2048x8x128

/-- Heads joined, a row per token. -/
def joined (h : FVec Ideal S8x2048x8x128 .f32) : FVec Ideal S16384x1024 .f32 := shapeCast _ h shapeCasts_S8x2048x8x128_S16384x1024

/-- The three thirds side by side. -/
def wide (a b c : FVec Ideal S16384x1024 .f32) : FVec Ideal S16384x3072 .f32 :=
  concatenate S16384x3072 1 [⟨S16384x1024, a⟩, ⟨S16384x1024, b⟩, ⟨S16384x1024, c⟩] concatenates_S16384x1024_S16384x1024_S16384x1024_S16384x3072_d1

/-- The first result of the activated columns. -/
def qkvR (s : FVec Ideal S8x2048x3072 .f32) : FVec Ideal S16384x3072 .bf16 :=
  truncf .bf16 (wide
    (joined (mulf (unitR (third (extractStridedSlice S8x2048x1024 ![0, 0, 0] s slices_S8x2048x3072_S8x2048x1024_0_0_0))) (broadcastInDim S8x2048x8x128 ![] bcast_S_S8x2048x8x128 (constant S_ .f32 0x3DB504F3#32))))
    (joined (unitR (third (extractStridedSlice S8x2048x1024 ![0, 0, 1024] s slices_S8x2048x3072_S8x2048x1024_0_0_1024))))
    (joined (third (extractStridedSlice S8x2048x1024 ![0, 0, 2048] s slices_S8x2048x3072_S8x2048x1024_0_0_2048)))) bitsLt_bf16_f32

/-- The first result read back is that. -/
theorem res_eq (m : (ℓ : Loc nD τ sig) → Buf (Elt Ideal) ℓ) (c : Dev nD) :
    res_main_v83 m c = qkvR (siluR (convR (dot (m ((c.tc : Thread nD τ).loc main_arg0)) (m ((c.tc : Thread nD τ).loc main_arg1))) (m ((c.tc : Thread nD τ).loc main_arg2)))) := rfl

/-- The second result. -/
def gateR (d : FVec Ideal S8x2048x8208 .f32) : FVec Ideal S16384x1024 .bf16 :=
  truncf .bf16 (shapeCast _ (mulf (extractStridedSlice S8x2048x1024 ![0, 0, 3072] d slices_S8x2048x8208_S8x2048x1024_0_0_3072) (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 3072] d slices_S8x2048x8208_S8x2048x1024_0_0_3072)))))) shapeCasts_S8x2048x1024_S16384x1024) bitsLt_bf16_f32

/-- Softplus. -/
def softR (x : FVec Ideal S8x2048x8 .f32) : FVec Ideal S8x2048x8 .f32 :=
  select (cmpf .une (subf x (broadcastInDim S8x2048x8 ![] bcast_S_S8x2048x8 (constant S_ .f32 0x00000000#32))) (subf x (broadcastInDim S8x2048x8 ![] bcast_S_S8x2048x8 (constant S_ .f32 0x00000000#32))))
    (addf x (broadcastInDim S8x2048x8 ![] bcast_S_S8x2048x8 (constant S_ .f32 0x00000000#32)))
    (addf (maximumf x (broadcastInDim S8x2048x8 ![] bcast_S_S8x2048x8 (constant S_ .f32 0x00000000#32))) (Host.log1p (Host.exp (Host.negf (Host.absf (subf x (broadcastInDim S8x2048x8 ![] bcast_S_S8x2048x8 (constant S_ .f32 0x00000000#32))))))))

/-- A head's number over all tokens. -/
def spread8 (a : FVec Ideal S8 .f32) : FVec Ideal S8x2048x8 .f32 := broadcastInDim S8x2048x8 ![0, 1, 2] bcast_S1x1x8_S8x2048x8_0_1_2 (broadcastInDim S1x1x8 ![2] bcast_S8_S1x1x8_2 a)

/-- The three parts of the gates side by side. -/
def gates3 (a b : FVec Ideal S8x2048x8 .f32) (c : FVec Ideal S8x2048x112 .f32) : FVec Ideal S8x2048x128 .f32 :=
  concatenate S8x2048x128 2 [⟨S8x2048x8, a⟩, ⟨S8x2048x8, b⟩, ⟨S8x2048x112, c⟩] concatenates_S8x2048x8_S8x2048x8_S8x2048x112_S8x2048x128_d2

/-- The third result. -/
def gatesR (d : FVec Ideal S8x2048x8208 .f32) (a e : FVec Ideal S8 .f32) : FVec Ideal S16384x128 .f32 :=
  shapeCast _ (gates3 (mulf (spread8 (Host.negf (Host.exp a))) (softR (addf (extractStridedSlice S8x2048x8 ![0, 0, 4096] d slices_S8x2048x8208_S8x2048x8_0_0_4096) (spread8 e))))
    (Host.divf (broadcastInDim S8x2048x8 ![] bcast_S_S8x2048x8 (constant S_ .f32 0x3F800000#32)) (addf (broadcastInDim S8x2048x8 ![] bcast_S_S8x2048x8 (constant S_ .f32 0x3F800000#32)) (Host.exp (Host.negf (extractStridedSlice S8x2048x8 ![0, 0, 4104] d slices_S8x2048x8208_S8x2048x8_0_0_4104)))))
    (id (broadcastInDim S8x2048x112 ![] bcast_S_S8x2048x112 (constant S_ .f32 0x3F000000#32)))) shapeCasts_S8x2048x128_S16384x128

/-! ## Their values -/

/-- An integer constant zero as a float. -/
theorem fzero : (FloatOps.sitofp .f32 0#32 : Ideal .f32) = (0 : EReal) := by
  show (((0#32 : BitVec 32).toInt : ℝ) : EReal) = 0
  simp

/-- The projection's entries. -/
theorem dot_seqs (X W : ℕ → ℕ → EReal) : dot (seqs 1024 X) (fun i => W (i 0).val (i 1).val) = seqs 8208 (pr X W) := by
  funext i; idx_vars i
  pointwise [dot, seqs, pr]

/-- The rows with three zero rows before. -/
theorem before_seqs (f : ℕ → ℕ → EReal) (b : Fin 8) (t : Fin 2051) (p : Fin 3072) :
    before (seqs 8208 f) (ix3 b t p) = if 3 ≤ t.val then f (2048 * b.val + (t.val - 3)) p.val else 0 := by
  pointwise [before, seqs, fzero]
  have := t.isLt
  by_cases h : 3 ≤ t.val
  · rw [dif_pos ⟨h, by omega⟩, if_pos h]
  · rw [dif_neg fun h' => h h'.1, if_neg h]

/-- The convolution's entries. -/
theorem conv_seqs (X W C : ℕ → ℕ → EReal) : convR (seqs 8208 (pr X W)) (fun i => C (i 0).val (i 1).val) = seqs 3072 (cv X W C) := by
  funext i; idx_vars i
  pointwise [convR, spread, before_seqs]
  have key : ∀ j, j ≤ 3 → ((if 3 ≤ 3 - j + i1.val then pr X W (2048 * i0.val + (3 - j + i1.val - 3)) i2.val else 0) : EReal) = bk X W (2048 * i0.val + i1.val) j i2.val := by
    intro j hj
    have := i1.isLt
    unfold bk
    by_cases h : j ≤ i1.val
    · rw [if_pos (by omega), if_pos (by omega), show 2048 * i0.val + (3 - j + i1.val - 3) = 2048 * i0.val + i1.val - j by omega]
    · rw [if_neg (by omega), if_neg (by omega)]
  have k0 := key 0 (by omega)
  have k1 := key 1 (by omega)
  have k2 := key 2 (by omega)
  have k3 := key 3 (by omega)
  rw [if_pos (by omega), show 2048 * i0.val + (3 - 0 + i1.val - 3) = 2048 * i0.val + i1.val by omega] at k0
  rw [show 3 - 1 + i1.val = 2 + i1.val by omega] at k1
  rw [show 3 - 2 + i1.val = 1 + i1.val by omega] at k2
  rw [show 3 - 3 + i1.val = i1.val by omega] at k3
  rw [k0, k1, k2, k3]
  show _ = cv X W C (2048 * i0.val + i1.val) i2.val
  unfold cv
  ac_rfl

/-- SiLU's entries. -/
theorem silu_seqs (f : ℕ → ℕ → EReal) : siluR (seqs 3072 f) = seqs 3072 (fun r p => f r p * sg (f r p)) := by
  funext i; idx_vars i
  pointwise [siluR, seqs, sg]

/-- A third by heads. -/
theorem third_seqs (f : ℕ → ℕ → EReal) : third (seqs 1024 f) = heads f := by
  funext i; idx_vars i
  pointwise [third, seqs, heads]
  rw [Nat.mul_comm i2.val 128]

/-- Heads joined. -/
theorem joined_heads (f : ℕ → ℕ → EReal) (r : Fin 16384) (p : Fin 1024) : joined (heads f) (ix2 r p) = f r.val p.val := by
  pointwise [joined, heads]
  rw [Nat.div_add_mod, Nat.div_add_mod]

/-- The unit norms. -/
theorem unit_heads (f : ℕ → ℕ → EReal) : unitR (heads f) = heads (fun r p => hn (f r) p) := by
  funext i; idx_vars i
  pointwise [unitR, heads, hn]
  rw [show (128 * i2.val + i3.val) / 128 = i2.val by omega]

/-- The queries' scale. -/
theorem scale_heads (f : ℕ → ℕ → EReal) :
    mulf (heads f) (broadcastInDim S8x2048x8x128 ![] bcast_S_S8x2048x8x128 (constant S_ .f32 0x3DB504F3#32)) = heads (fun r p => f r p * sclB) := by
  funext i; idx_vars i
  pointwise [heads]

/-- The first result's entries. -/
theorem qkv_seqs (f : ℕ → ℕ → EReal) (r : Fin 16384) (p : Fin 3072) : qkvR (seqs 3072 f) (ix2 r p) = qkv (f r.val) p.val := by
  have e : ∀ (o : ℕ) (h : S8x2048x3072.Slices ![0, 0, o] S8x2048x1024), extractStridedSlice S8x2048x1024 ![0, 0, o] (seqs 3072 f) h = seqs 1024 (fun r p => f r (o + p)) := by
    intro o h
    funext i; idx_vars i
    pointwise [seqs]
  unfold qkvR wide
  rw [e, e, e, third_seqs, third_seqs, third_seqs, unit_heads, unit_heads, scale_heads]
  pointwise [joined_heads]
  unfold qkv
  by_cases h1 : p.val < 1024
  · rw [dif_pos h1, if_pos h1]
  · rw [dif_neg h1, if_neg h1]
    by_cases h2 : p.val < 2048
    · rw [dif_pos (by omega), if_pos h2]
      unfold hn
      have e : ∀ k : ℕ, 1024 + (128 * ((p.val - 1024) / 128) + k) = 128 * (p.val / 128) + k := fun k => by omega
      simp only [e, show 1024 + (p.val - 1024) = p.val by omega]
    · rw [dif_neg (by omega), if_neg h2, show 2048 + (p.val - 1024 - 1024) = p.val by omega]

/-- The second result's entries. -/
theorem gate_seqs (f : ℕ → ℕ → EReal) (r : Fin 16384) (p : Fin 1024) : gateR (seqs 8208 f) (ix2 r p) = f r.val (3072 + p.val) * sg (f r.val (3072 + p.val)) := by
  pointwise [gateR, seqs, sg]
  rw [Nat.div_add_mod]

/-- Softplus at an entry. -/
theorem soft_at (x : FVec Ideal S8x2048x8 .f32) (i : S8x2048x8.Idx) : softR x i = sp (x i) := by
  idx_vars i
  pointwise [softR, sp]
  exact if_neg fun h => h rfl

/-- The third result's entries. -/
theorem gates_seqs (f : ℕ → ℕ → EReal) (A D : ℕ → EReal) (r : Fin 16384) (l : Fin 128) :
    gatesR (seqs 8208 f) (fun i => A (i 0).val) (fun i => D (i 0).val) (ix2 r l) = gt (fun l => f r.val (4096 + l)) A D l.val := by
  unfold gatesR gates3
  pointwise [soft_at, seqs, spread8, gt, sg]
  rw [Nat.div_add_mod]
  by_cases h8 : l.val < 8
  · rw [dif_pos h8, if_pos h8]
  · rw [dif_neg h8, if_neg h8]
    by_cases h16 : l.val < 16
    · rw [dif_pos (by omega), if_pos h16, show 4104 + (l.val - 8) = 4096 + l.val by omega]
    · rw [dif_neg (by omega), if_neg h16]
      rfl

end Cert.ReferenceProjIdeal.Own
-- ==== Proof.ProjClaims.lean ====
/- The projection's claims: its kernel's and its reference's results are the same function of their arguments. -/
module

public import proofs.«01_k».proof.Defs
public import proofs.«01_k».proof.Proof.Claims
public import proofs.«01_k».proof.Proof.ProjOut
public import proofs.«01_k».proof.Proof.ProjRef
public import Idealize.ShloMosaic.Lib.ReduceAll
public import Idealize.ShloMosaic.Lib.Quiescent

@[expose] public section

noncomputable section

namespace Cert.ProjOwn

open Idealize.ShloMosaic Idealize.SL.Sem Idealize.ShloMosaic.Pointwise Cert.ProjMath

/-- The side conditions of the precondition's operations. -/
instance preFacts : Cert.Pre_finite_proj.Facts where
  bcast_S_S8x2048x1024 := by decide
  reducesTo_S8x2048x1024_S_d0_1_2 := by decide
  h_S_ := by decide
  bcast_S_S1024x8208 := by decide
  reducesTo_S1024x8208_S_d0_1 := by decide
  bcast_S_S4x3072 := by decide
  reducesTo_S4x3072_S_d0_1 := by decide

/-- Below infinity in absolute value is real. -/
theorem isR_of_abs (x : EReal) (h : Ideal.cmp .olt (max x (-x)) (Ideal.ofBits .f32 0x7F800000#32) = 1#1) : IsR x :=
  ⟨x.toReal, (Cert.Own.real_of_abs x h).symm⟩

/-- A vector as a function of its coordinate's value. -/
theorem of1 {n : ℕ} {φ : FTy} (f : FVec Ideal ⟨1, ![n]⟩ φ) : ∃ A : ℕ → EReal, f = fun i => A (i 0).val := by
  refine ⟨fun a => if h : a < n then f (ix1 ⟨a, h⟩) else 0, ?_⟩
  funext i
  have e : i = ix1 (i 0) := by funext a; fin_cases a; rfl
  refine Eq.trans ?_ (dif_pos (i 0).isLt).symm
  exact congrArg f e

/-- A matrix of reals as a function of its coordinates' values. -/
theorem of2 {p q : ℕ} {φ : FTy} (f : FVec Ideal ⟨2, ![p, q]⟩ φ) (h : ∀ i, IsR (f i)) :
    ∃ X : ℕ → ℕ → EReal, (∀ a b, IsR (X a b)) ∧ f = fun i => X (i 0).val (i 1).val := by
  refine ⟨fun a b => if hab : a < p ∧ b < q then f (ix2 ⟨a, hab.1⟩ ⟨b, hab.2⟩) else 0, fun a b => ?_, ?_⟩
  · dsimp only
    split_ifs with hab
    · exact h _
    · exact ⟨0, rfl⟩
  · funext i
    have e : i = ix2 (i 0) (i 1) := by funext a; fin_cases a <;> rfl
    have hi : (i 0).val < p ∧ (i 1).val < q := ⟨(i 0).isLt, (i 1).isLt⟩
    refine Eq.trans ?_ (dif_pos hi).symm
    exact congrArg f e

/-- Eight sequences of real rows as a function of the row and the column. -/
theorem of3 (f : FVec Ideal ⟨3, ![8, 2048, 1024]⟩ .f32) (h : ∀ i, IsR (f i)) :
    ∃ X : ℕ → ℕ → EReal, (∀ a b, IsR (X a b)) ∧ f = fun i => X (2048 * (i 0).val + (i 1).val) (i 2).val := by
  refine ⟨fun a b => if hab : a / 2048 < 8 ∧ b < 1024 then f (ix3 ⟨a / 2048, hab.1⟩ ⟨a % 2048, Nat.mod_lt _ (by decide)⟩ ⟨b, hab.2⟩) else 0, fun a b => ?_, ?_⟩
  · dsimp only
    split_ifs with hab
    · exact h _
    · exact ⟨0, rfl⟩
  · funext i
    have b0 : (i 0).val < 8 := (i 0).isLt
    have b1 : (i 1).val < 2048 := (i 1).isLt
    have b2 : (i 2).val < 1024 := (i 2).isLt
    have hi : (2048 * (i 0).val + (i 1).val) / 2048 < 8 ∧ (i 2).val < 1024 := ⟨by omega, b2⟩
    refine Eq.trans ?_ (dif_pos hi).symm
    refine congrArg f ?_
    funext a
    fin_cases a
    · exact Fin.ext (show (i 0).val = (2048 * (i 0).val + (i 1).val) / 2048 by omega)
    · exact Fin.ext (show (i 1).val = (2048 * (i 0).val + (i 1).val) % 2048 by omega)
    · rfl

/-- The precondition's arrays hold reals. -/
theorem finite_real (m : (ℓ : Loc Cert.ProjIdeal.nD Cert.ProjIdeal.τ Cert.ProjIdeal.sig) → Buf (Elt Ideal) ℓ)
    (h : Cert.Pre_ProjIdeal_finite_proj m) (c : Dev Cert.ProjIdeal.nD) :
    (∃ X : ℕ → ℕ → EReal, (∀ a b, IsR (X a b)) ∧ (m (c.tc.loc Cert.ProjIdeal.main_arg0) : FVec Ideal ProjIdeal.S8x2048x1024 .f32) = fun i => X (2048 * (i 0).val + (i 1).val) (i 2).val)
    ∧ (∃ W : ℕ → ℕ → EReal, (∀ a b, IsR (W a b)) ∧ (m (c.tc.loc Cert.ProjIdeal.main_arg1) : FVec Ideal ProjIdeal.S1024x8208 .f32) = fun i => W (i 0).val (i 1).val)
    ∧ (∃ C : ℕ → ℕ → EReal, (∀ a b, IsR (C a b)) ∧ (m (c.tc.loc Cert.ProjIdeal.main_arg2) : FVec Ideal ProjIdeal.S4x3072 .f32) = fun i => C (i 0).val (i 1).val) := by
  have hc := congrFun (h c) (fun a => a.elim0)
  dsimp only [Cert.Pre_finite_proj.fn] at hc
  obtain ⟨h01, h2⟩ := IntOp.andi_eq_one.1 hc
  obtain ⟨h0, h1⟩ := IntOp.andi_eq_one.1 h01
  exact ⟨of3 _ fun i => isR_of_abs _ (Host.reduce_andi_all _ _ _ _ _ h0 i),
    of2 (p := 1024) (q := 8208) (φ := .f32) _ fun i => isR_of_abs _ (Host.reduce_andi_all _ _ _ _ _ h1 i),
    of2 (p := 4) (q := 3072) (φ := .f32) _ fun i => isR_of_abs _ (Host.reduce_andi_all _ _ _ _ _ h2 i)⟩

/-- The reference runs, leaves its arguments and every semaphore at zero. -/
theorem frameR : Cert.quiescent_ReferenceProjIdeal := fun m ρ _ =>
  (θ_run Cert.ReferenceProjIdeal.defs _ _).mono (fun r h => ⟨fun c => (h c).2.2.2,
      Idealize.ShloMosaic.sem_eq_zero_of_no_sems (by decide) r.2⟩)
    (Cert.ReferenceProjIdeal.Value.run (F := Ideal) m ρ)

/-- On arguments that hold the same reals the reference's three results are the kernel's. -/
theorem results_eq (m : (ℓ : Loc Cert.ProjIdeal.nD Cert.ProjIdeal.τ Cert.ProjIdeal.sig) → Buf (Elt Ideal) ℓ)
    (h : Cert.Pre_ProjIdeal_finite_proj m) (c : Dev Cert.ProjIdeal.nD)
    (x : FVec Ideal ReferenceProjIdeal.S8x2048x1024 .f32) (w : FVec Ideal ReferenceProjIdeal.S1024x8208 .f32) (k : FVec Ideal ReferenceProjIdeal.S4x3072 .f32)
    (a d : FVec Ideal ReferenceProjIdeal.S8 .f32)
    (h0 : x = m (c.tc.loc Cert.ProjIdeal.main_arg0)) (h1 : w = m (c.tc.loc Cert.ProjIdeal.main_arg1)) (h2 : k = m (c.tc.loc Cert.ProjIdeal.main_arg2))
    (h3 : a = m (c.tc.loc Cert.ProjIdeal.main_arg3)) (h4 : d = m (c.tc.loc Cert.ProjIdeal.main_arg4)) :
    ReferenceProjIdeal.Own.qkvR (ReferenceProjIdeal.Own.siluR (ReferenceProjIdeal.Own.convR (ReferenceProjIdeal.Own.dot x w) k)) = ProjIdeal.Value.G6 m c
    ∧ ReferenceProjIdeal.Own.gateR (ReferenceProjIdeal.Own.dot x w) = ProjIdeal.Value.G7 m c
    ∧ ReferenceProjIdeal.Own.gatesR (ReferenceProjIdeal.Own.dot x w) a d = ProjIdeal.Value.G8 m c := by
  obtain ⟨⟨X, rX, hX⟩, ⟨W, rW, hW⟩, ⟨C, rC, hC⟩⟩ := finite_real m h c
  obtain ⟨A, hA⟩ := of1 (n := 8) (φ := .f32) (m (c.tc.loc Cert.ProjIdeal.main_arg3))
  obtain ⟨D, hD⟩ := of1 (n := 8) (φ := .f32) (m (c.tc.loc Cert.ProjIdeal.main_arg4))
  have hd : ReferenceProjIdeal.Own.dot x w = ReferenceProjIdeal.Own.seqs 8208 (pr X W) := by
    rw [h0.trans hX, h1.trans hW]
    exact ReferenceProjIdeal.Own.dot_seqs X W
  rw [hd, h2.trans hC, h3.trans hA, h4.trans hD]
  refine ⟨funext fun i => ?_, funext fun i => ?_, funext fun i => ?_⟩
  · have e : i = ix2 (i 0) (i 1) := by funext a; fin_cases a <;> rfl
    refine (congrArg _ e).trans (Eq.trans ?_ ((ProjIdeal.Own.out6 m c X W C A D hX hW hC hA hD (i 0) (i 1)).symm.trans (congrArg _ e.symm)))
    refine (congrFun (congrArg _ ((congrArg _ (ReferenceProjIdeal.Own.conv_seqs X W C)).trans (ReferenceProjIdeal.Own.silu_seqs _))) _).trans ?_
    refine (ReferenceProjIdeal.Own.qkv_seqs _ (i 0) (i 1)).trans ?_
    refine congrArg (fun f => qkv f (i 1).val) (funext fun p => ?_)
    exact (acT_eq _ (cv_real rX rW rC _ _)).symm
  · have e : i = ix2 (i 0) (i 1) := by funext a; fin_cases a <;> rfl
    refine (congrArg _ e).trans (Eq.trans ?_ ((ProjIdeal.Own.out7 m c X W C A D hX hW hC hA hD (i 0) (i 1)).symm.trans (congrArg _ e.symm)))
    refine (ReferenceProjIdeal.Own.gate_seqs _ (i 0) (i 1)).trans ?_
    exact (acT_eq _ (pr_real rX rW _ _)).symm
  · have e : i = ix2 (i 0) (i 1) := by funext a; fin_cases a <;> rfl
    refine (congrArg _ e).trans (Eq.trans ?_ ((ProjIdeal.Own.out8 m c X W C A D hX hW hC hA hD (i 0) (i 1) (fun r l => pr_real rX rW r l)).symm.trans (congrArg _ e.symm)))
    exact ReferenceProjIdeal.Own.gates_seqs _ A D (i 0) (i 1)

/-- The kernel's three results are the reference's. -/
theorem algebraic : Cert.algebraic_ProjIdeal_ReferenceProjIdeal_pre_finite_proj := by
  intro m g m' g' hpre hag
  refine ⟨fun c => Cert.ProjIdeal.Value.G6 m c, fun c => Cert.ProjIdeal.Value.G7 m c, fun c => Cert.ProjIdeal.Value.G8 m c, Cert.ProjIdeal.Value.run (F := Ideal) m g, ?_⟩
  refine (θ_run Cert.ReferenceProjIdeal.defs _ _).mono (fun r h c => ?_) (Cert.ReferenceProjIdeal.Value.run (F := Ideal) m' g')
  obtain ⟨a0, a1, a2, a3, a4⟩ := hag c
  obtain ⟨r0, r1, r2, hr⟩ := h c
  obtain ⟨e0, e1, e2⟩ := results_eq m hpre c _ _ _ _ _ a0 a1 a2 a3 a4
  exact ⟨(r0.trans (Cert.ReferenceProjIdeal.Own.res_eq m' c)).trans e0, r1.trans e1, r2.trans e2, hr⟩

end Cert.ProjOwn
-- ==== Proof.MergePieces.lean ====
/- The stores of the merge kernel's generated run, read as functions of what it loads: the activated
   projections in eight blocks of 256 columns, the normalized half over them, the gated products in
   thirty-two squares of 128, and the layer's hidden state. -/
module

public import proofs.«01_k».proof.Proof.Gen.MergeIdeal.Frame

@[expose] public section

set_option maxRecDepth 16384

noncomputable section

namespace Cert.MergeIdeal.Own

open Idealize.ShloMosaic Idealize.SL.Sem Cert.MergeIdeal Cert.MergeIdeal.Gen

variable {F : FTy → Type} [FloatOps F]

/-- A block of 256 columns lies in the block of rows. -/
theorem inbU (n : Fin 4) : ∀ a, (![0, 256 * n.val] : Fin 2 → Nat) a + S512x256.size a ≤ S512x1024.size a := by
  revert n; decide
/-- A block of 256 columns lies in a weight of 2048. -/
theorem inbP (n : Fin 8) : ∀ a, (![0, 256 * n.val] : Fin 2 → Nat) a + S1024x256.size a ≤ S1024x2048.size a := by
  revert n; decide
/-- A block of 256 columns lies in a weight of 1024. -/
theorem inbZ (n : Fin 4) : ∀ a, (![0, 256 * n.val] : Fin 2 → Nat) a + S1024x256.size a ≤ S1024x1024.size a := by
  revert n; decide
/-- A square of 128 lies in the block of rows. -/
theorem inbG (g : Fin 8) (k : Fin 4) : ∀ a, (![128 * k.val, 128 * g.val] : Fin 2 → Nat) a + S128x128.size a ≤ S512x1024.size a := by
  revert g k; decide
/-- A group's matrix lies in the eight. -/
theorem inbS (g : Fin 8) : ∀ a, (![g.val, 0, 0] : Fin 3 → Nat) a + S1x128x128.size a ≤ S8x128x128.size a := by
  revert g; decide
/-- A group's offsets lie in the eight columns. -/
theorem inbB (g : Fin 8) : ∀ a, (![0, g.val] : Fin 2 → Nat) a + S128x1.size a ≤ S128x8.size a := by
  revert g; decide

/-- The place of a block of 256 columns of the scratch. -/
def ru (n : Fin 4) : Rect S512x1024 := Rect.unit ![0, 256 * n.val] S512x256.size (inbU n)
/-- The place of a block of 256 columns of a wide weight. -/
def rp (n : Fin 8) : Rect S1024x2048 := Rect.unit ![0, 256 * n.val] S1024x256.size (inbP n)
/-- The place of a block of 256 columns of a weight. -/
def rz (n : Fin 4) : Rect S1024x1024 := Rect.unit ![0, 256 * n.val] S1024x256.size (inbZ n)
/-- The place of a square of 128. -/
def rg (g : Fin 8) (k : Fin 4) : Rect S512x1024 := Rect.unit ![128 * k.val, 128 * g.val] S128x128.size (inbG g k)
/-- The place of a group's matrix. -/
def rs (g : Fin 8) : Rect S8x128x128 := Rect.unit ![g.val, 0, 0] S1x128x128.size (inbS g)
/-- The place of a group's offsets. -/
def rb (g : Fin 8) : Rect S128x8 := Rect.unit ![0, g.val] S128x1.size (inbB g)
/-- The whole block of rows. -/
def rw1 : Rect S512x1024 := Rect.unit ![0, 0] S512x1024.size inb_S512x1024_S512x1024_0_0

/-- The stored block of 256 activated columns: of the gate's half, -/
def pieceU (x : FVec F S512x1024 .f32) (p : Fin 8 → FVec F S1024x256 .bf16) (n : Fin 4) : View.Piece (Elt F) S512x1024 .f32 := ⟨ru n, k0_pay3 x (p ⟨n.val, by omega⟩)⟩
/-- and of the mixed half. -/
def pieceV (x : FVec F S512x1024 .f32) (p : Fin 8 → FVec F S1024x256 .bf16) (n : Fin 4) : View.Piece (Elt F) S512x1024 .f32 := ⟨ru n, k0_pay3 x (p ⟨4 + n.val, by omega⟩)⟩
/-- The gate's half. -/
def piecesU (x : FVec F S512x1024 .f32) (p : Fin 8 → FVec F S1024x256 .bf16) : List (View.Piece (Elt F) S512x1024 .f32) :=
  [pieceU x p 3, pieceU x p 2, pieceU x p 1, pieceU x p 0]
/-- The mixed half. -/
def piecesV (x : FVec F S512x1024 .f32) (p : Fin 8 → FVec F S1024x256 .bf16) : List (View.Piece (Elt F) S512x1024 .f32) :=
  [pieceV x p 3, pieceV x p 2, pieceV x p 1, pieceV x p 0]
/-- The mixed half, normalized. -/
def pieceN (v : FVec F S512x1024 .f32) (g b : FVec F S1x1024 .f32) : View.Piece (Elt F) S512x1024 .f32 := ⟨rw1, k0_pay16 v g b⟩
/-- A gated square. -/
def pieceM (s : Fin 8 → FVec F S1x128x128 .f32) (b : Fin 8 → FVec F S128x1 .f32) (v u : Fin 8 → Fin 4 → FVec F S128x128 .f32) (g : Fin 8) (k : Fin 4) : View.Piece (Elt F) S512x1024 .bf16 :=
  ⟨rg g k, k0_pay21 k0_pay17 (k0_pay18 (s g)) (b g) (v g k) (u g k)⟩
/-- A group's four squares, the last one first. -/
def piecesM (s : Fin 8 → FVec F S1x128x128 .f32) (b : Fin 8 → FVec F S128x1 .f32) (v u : Fin 8 → Fin 4 → FVec F S128x128 .f32) (g : Fin 8) (L : List (View.Piece (Elt F) S512x1024 .bf16)) : List (View.Piece (Elt F) S512x1024 .bf16) :=
  pieceM s b v u g 3 :: pieceM s b v u g 2 :: pieceM s b v u g 1 :: pieceM s b v u g 0 :: L
/-- All groups' squares. -/
def piecesA (s : Fin 8 → FVec F S1x128x128 .f32) (b : Fin 8 → FVec F S128x1 .f32) (v u : Fin 8 → Fin 4 → FVec F S128x128 .f32) : List (View.Piece (Elt F) S512x1024 .bf16) :=
  piecesM s b v u 7 (piecesM s b v u 6 (piecesM s b v u 5 (piecesM s b v u 4 (piecesM s b v u 3 (piecesM s b v u 2 (piecesM s b v u 1 (piecesM s b v u 0 [])))))))

/-- The scaled residual plus the projected mix. -/
def mixed (x : FVec F S512x1024 .f32) (o : FVec F S512x1024 .bf16) (q : Fin 8 → FVec F S1024x256 .bf16) (z : Fin 4 → FVec F S1024x256 .bf16)
    (d w : FVec F S1024x1024 .bf16) (a : FVec F S512x1024 .bf16) : FVec F S512x1024 .f32 :=
  k0_pay87 (k0_pay2 x) (k0_pay77 (k0_pay2 x) (k0_pay75 a (z 0)) (k0_pay76 (q 4))) (k0_pay78 (k0_pay2 x) (q 0)) (k0_pay79 (k0_pay2 x) a (z 1) (q 5))
    (k0_pay82 (k0_pay80 (k0_pay2 x) (q 1)) k0_pay81) (k0_pay83 (k0_pay2 x) a (z 2) (q 6)) (k0_pay84 (k0_pay2 x) (q 2)) (k0_pay85 a (z 3)) (k0_pay86 (k0_pay2 x) (q 7))
    (Scalar.ofBits .f32 0x3F000000#32) (q 3) o d w x
/-- The hidden state. -/
def pieceH (r : FVec F S512x1024 .f32) (g b : FVec F S1x1024 .f32) : View.Piece (Elt F) S512x1024 .f32 := ⟨rw1, k0_pay89 r (k0_pay88 g) b⟩

/-- The loads: a block of rows, -/
abbrev lx (a : Memref sig .tc .vmem S512x1024 .f32) (h : a.IsWhole) (x : Vec F S512x1024 .f32) : FVec F S512x1024 .f32 :=
  View.readAt (Elt F) a.view rw1.toLoadRect (h.unread x)
/-- one of rounded rows, -/
abbrev lo (a : Memref sig .tc .vmem S512x1024 .bf16) (h : a.IsWhole) (x : Vec F S512x1024 .bf16) : FVec F S512x1024 .bf16 :=
  View.readAt (Elt F) a.view rw1.toLoadRect (h.unread x)
/-- 256 columns of a wide weight, -/
abbrev lp (a : Memref sig .tc .vmem S1024x2048 .bf16) (h : a.IsWhole) (x : Vec F S1024x2048 .bf16) (n : Fin 8) : FVec F S1024x256 .bf16 :=
  View.readAt (Elt F) a.view (rp n).toLoadRect (h.unread x)
/-- 256 columns of a weight, -/
abbrev lz (a : Memref sig .tc .vmem S1024x1024 .bf16) (h : a.IsWhole) (x : Vec F S1024x1024 .bf16) (n : Fin 4) : FVec F S1024x256 .bf16 :=
  View.readAt (Elt F) a.view (rz n).toLoadRect (h.unread x)
/-- a whole weight, -/
abbrev lw (a : Memref sig .tc .vmem S1024x1024 .bf16) (h : a.IsWhole) (x : Vec F S1024x1024 .bf16) : FVec F S1024x1024 .bf16 :=
  View.readAt (Elt F) a.view (Rect.unit (s := S1024x1024) ![0, 0] S1024x1024.size inb_S1024x1024_S1024x1024_0_0).toLoadRect (h.unread x)
/-- a row of scales or offsets, -/
abbrev lg (a : Memref sig .tc .vmem S1x1024 .f32) (h : a.IsWhole) (x : Vec F S1x1024 .f32) : FVec F S1x1024 .f32 :=
  View.readAt (Elt F) a.view (Rect.unit (s := S1x1024) ![0, 0] S1x1024.size inb_S1x1024_S1x1024_0_0).toLoadRect (h.unread x)
/-- a group's matrix, -/
abbrev ls (a : Memref sig .tc .vmem S8x128x128 .f32) (h : a.IsWhole) (x : Vec F S8x128x128 .f32) (g : Fin 8) : FVec F S1x128x128 .f32 :=
  View.readAt (Elt F) a.view (rs g).toLoadRect (h.unread x)
/-- and a group's offsets. -/
abbrev lb (a : Memref sig .tc .vmem S128x8 .f32) (h : a.IsWhole) (x : Vec F S128x8 .f32) (g : Fin 8) : FVec F S128x1 .f32 :=
  View.readAt (Elt F) a.view (rb g).toLoadRect (h.unread x)

section
variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S1024x2048 .bf16) (harg3 : arg3.IsWhole)
  (arg4 : Memref sig .tc .vmem S1024x2048 .bf16) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S8x128x128 .f32) (harg7 : arg7.IsWhole)
  (arg8 : Memref sig .tc .vmem S128x8 .f32) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S1024x1024 .bf16) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S1024x256 .bf16) (harg14 : arg14.IsWhole)
  (arg15 : Memref sig .tc .vmem S1x128 .f32) (harg15 : arg15.IsWhole)
  (arg16 : Memref sig .tc .vmem S512x1024 .f32) (harg16 : arg16.IsWhole)
  (arg17 : Memref sig .tc .vmem S512x128 .f32) (harg17 : arg17.IsWhole)
  (arg18 : Memref sig .tc .vmem S1x1x512 .i32) (harg18 : arg18.IsWhole)
  (arg19 : Memref sig .tc .vmem S1x1x128 .i32) (harg19 : arg19.IsWhole)
  (arg20 : Memref sig .tc .vmem S128x512 .f32) (harg20 : arg20.IsWhole)
  (arg21 : Memref sig .tc .vmem S512x1024 .f32) (harg21 : arg21.IsWhole)
  (arg22 : Memref sig .tc .vmem S512x1024 .f32) (harg22 : arg22.IsWhole)
  (arg23 : Memref sig .tc .vmem S512x1024 .bf16) (harg23 : arg23.IsWhole)
  (x0 : Vec F S512x1024 .f32) (x1 : Vec F S512x1024 .bf16) (x2 : Vec F S1024x2048 .bf16) (x3 : Vec F S1024x2048 .bf16) (x4 : Vec F S1x1024 .f32) (x5 : Vec F S1x1024 .f32) (x6 : Vec F S8x128x128 .f32) (x7 : Vec F S128x8 .f32) (x8 : Vec F S1024x1024 .bf16) (x9 : Vec F S1024x1024 .bf16) (x10 : Vec F S1024x1024 .bf16) (x11 : Vec F S1x1024 .f32) (x12 : Vec F S1x1024 .f32) (x13 : Vec F S1024x256 .bf16) (x14 : Vec F S1x128 .f32)

/-- The gate's half in the scratch. -/
abbrev scU : List (View.Piece (Elt F) S512x1024 .f32) := piecesU (lx arg1 harg1 x0) (lp arg3 harg3 x2)
/-- The mixed half in the scratch. -/
abbrev scV : List (View.Piece (Elt F) S512x1024 .f32) :=
  pieceN (View.readCov arg22.view (piecesV (lx arg1 harg1 x0) (lp arg3 harg3 x2)) rw1.toLoadRect) (lg arg5 harg5 x4) (lg arg6 harg6 x5) :: piecesV (lx arg1 harg1 x0) (lp arg3 harg3 x2)
/-- The gated squares in the scratch. -/
abbrev scG : List (View.Piece (Elt F) S512x1024 .bf16) :=
  piecesA (ls arg7 harg7 x6) (lb arg8 harg8 x7)
    (fun g k => View.readCov arg22.view (scV arg1 harg1 arg3 harg3 arg5 harg5 arg6 harg6 arg22 x0 x2 x4 x5) (rg g k).toLoadRect)
    (fun g k => View.readCov arg21.view (scU arg1 harg1 arg3 harg3 x0 x2) (rg g k).toLoadRect)

/-- The run's gated squares. -/
theorem piecesG : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14).2.2.2.2.2.2.2.1
      = scG arg1 harg1 arg3 harg3 arg5 harg5 arg6 harg6 arg7 harg7 arg8 harg8 arg21 arg22 x0 x2 x4 x5 x6 x7 := rfl

/-- The run's store of the hidden state. -/
theorem piecesH : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14).1
      = [pieceH (mixed (lx arg1 harg1 x0) (lo arg2 harg2 x1) (lp arg4 harg4 x3) (lz arg9 harg9 x8) (lw arg10 harg10 x9) (lw arg11 harg11 x10)
          (View.readCov arg23.view (scG arg1 harg1 arg3 harg3 arg5 harg5 arg6 harg6 arg7 harg7 arg8 harg8 arg21 arg22 x0 x2 x4 x5 x6 x7) rw1.toLoadRect))
          (lg arg12 harg12 x11) (lg arg13 harg13 x12)] := rfl
end

end Cert.MergeIdeal.Own
-- ==== Proof.MergeMath.lean ====
/- What the layer's spatial gating unit and merge compute, over extended reals: the activated
   projections, the normalized half mixed by causal 128 by 128 matrices inside a chunk of 128 tokens,
   the two gated branches' sum projected onto the scaled residual, and the norm of that. -/
module

public import proofs.«01_k».proof.Proof.ProjMath

@[expose] public section

noncomputable section

namespace Cert.MergeMath

open Idealize.ShloMosaic Finset Cert.ProjMath

/-- The constant under the norms' roots. -/
abbrev epsN : EReal := Ideal.ofBits .f32 0x3727C5AC#32
/-- The width, as the programs write it. -/
abbrev widB : EReal := Ideal.ofBits .f32 0x44800000#32
/-- The error function's scale. -/
abbrev rt2B : EReal := Ideal.ofBits .f32 0x3F3504F3#32
/-- The residual's scale. -/
abbrev alB : EReal := Ideal.ofBits .f32 0x3F9837F0#32

/-- The activation by the error function. -/
def ge (y : EReal) : EReal := halfB * y * (1 + Ideal.erf (y * rt2B))

/-- A row's mean. -/
def mean (Y : ℕ → EReal) : EReal := Ideal.div (∑ k : Fin 1024, Y k.val) widB

/-- A row's norm: its entries less their mean over the root of their variance, scaled and offset. -/
def ln (Y G B : ℕ → EReal) (l : ℕ) : EReal :=
  (Y l - mean Y) * Ideal.rsqrt (mean (fun k => (Y k - mean Y) * (Y k - mean Y)) + epsN) * G l + B l

/-- A chunk's causal mix: the tokens of the chunk up to the row's own, by the group's matrix, and its offset. -/
def mx (S : ℕ → ℕ → ℕ → EReal) (O V : ℕ → ℕ → EReal) (r p : ℕ) : EReal :=
  ∑ s : Fin 128, (if s.val ≤ r % 128 then S (p / 128) (r % 128) s.val else 0) * V (128 * (r / 128) + s.val) p + O (p / 128) (r % 128)

/-- The gated half times the mix of the normalized one. -/
def gated (X P : ℕ → ℕ → EReal) (G B : ℕ → EReal) (S : ℕ → ℕ → ℕ → EReal) (O : ℕ → ℕ → EReal) (r p : ℕ) : EReal :=
  ge (pr X P r p) * mx S O (fun r p => ln (fun l => ge (pr X P r (1024 + l))) G B p) r p

/-- The two branches' gated sum, `s` the gates' function. -/
def both (s : EReal → EReal) (X A P Q : ℕ → ℕ → EReal) (G B : ℕ → EReal) (S : ℕ → ℕ → ℕ → EReal) (O Z D : ℕ → ℕ → EReal) (r p : ℕ) : EReal :=
  s (pr X Q r p) * pr A D r p + s (pr X Q r (1024 + p)) * pr (gated X P G B S O) Z r p

/-- The hidden state. -/
def hs (s : EReal → EReal) (X A P Q : ℕ → ℕ → EReal) (G B : ℕ → EReal) (S : ℕ → ℕ → ℕ → EReal) (O Z D W : ℕ → ℕ → EReal) (g b : ℕ → EReal) (r l : ℕ) : EReal :=
  ln (fun p => alB * X r p + pr (both s X A P Q G B S O Z D) W r p) g b l

/-- The gates' function by the hyperbolic tangent. -/
def sT (y : EReal) : EReal := halfB + halfB * Ideal.tanh (halfB * y)

/-- Rows 512 further on, the hidden state of the rows 512 further on. -/
theorem hs_shift (s : EReal → EReal) (X A P Q : ℕ → ℕ → EReal) (G B : ℕ → EReal) (S : ℕ → ℕ → ℕ → EReal) (O Z D W : ℕ → ℕ → EReal) (g b : ℕ → EReal) (t r l : ℕ) :
    hs s (fun r => X (512 * t + r)) (fun r => A (512 * t + r)) P Q G B S O Z D W g b r l = hs s X A P Q G B S O Z D W g b (512 * t + r) l := by
  have hp : ∀ (Y W : ℕ → ℕ → EReal) r p, pr (fun r => Y (512 * t + r)) W r p = pr Y W (512 * t + r) p := fun _ _ _ _ => rfl
  have hm : ∀ (V : ℕ → ℕ → EReal) r p, mx S O (fun r => V (512 * t + r)) r p = mx S O V (512 * t + r) p := by
    intro V r p
    have e1 : (512 * t + r) % 128 = r % 128 := by omega
    have e2 : ∀ s : ℕ, 128 * ((512 * t + r) / 128) + s = 512 * t + (128 * (r / 128) + s) := fun s => by omega
    unfold mx
    rw [e1]
    simp only [e2]
  have hg : gated (fun r => X (512 * t + r)) P G B S O = fun r => gated X P G B S O (512 * t + r) := by
    funext r p
    unfold gated
    rw [hp, ← hm]
    rfl
  have hb : both s (fun r => X (512 * t + r)) (fun r => A (512 * t + r)) P Q G B S O Z D = fun r => both s X A P Q G B S O Z D (512 * t + r) := by
    funext r p
    unfold both
    rw [hg]
    rfl
  unfold hs
  rw [hb]
  rfl

/-- The gate by the hyperbolic tangent is the logistic function, also at the infinities. -/
theorem sT_eq (y : EReal) : sT y = sg y := by
  induction y with
  | bot =>
    have h0 : halfB + halfB * (-1) = 0 := by rw [half_eq, mul_neg, mul_one, ← EReal.coe_neg, ← EReal.coe_add, add_neg_cancel]; rfl
    have h1 : halfB * ⊥ = ⊥ := by rw [half_eq]; exact EReal.coe_mul_bot_of_pos (by norm_num)
    have h2 : sg ⊥ = Ideal.div 1 (1 + ⊤) := rfl
    have h3 : (1 : EReal) + ⊤ = ⊤ := EReal.add_top_of_ne_bot (by decide)
    have h4 : sT ⊥ = halfB + halfB * (-1) := by unfold sT; rw [h1]; rfl
    rw [h4, h0, h2, h3]
    simp [Ideal.div]
  | top =>
    have h0 : halfB + halfB * 1 = 1 := by rw [half_eq]; norm_cast; norm_num
    have h1 : halfB * ⊤ = ⊤ := by rw [half_eq]; exact EReal.coe_mul_top_of_pos (by norm_num)
    have h2 : sg ⊤ = Ideal.div 1 (1 + 0) := rfl
    have h4 : sT ⊤ = halfB + halfB * 1 := by unfold sT; rw [h1]; rfl
    rw [h4, h0, h2, add_zero]
    simp [Ideal.div]
  | coe r => exact sgT _ ⟨r, rfl⟩

/-- The hidden state by either form of the gates. -/
theorem hs_sg (X A P Q : ℕ → ℕ → EReal) (G B : ℕ → EReal) (S : ℕ → ℕ → ℕ → EReal) (O Z D W : ℕ → ℕ → EReal) (g b : ℕ → EReal) (r l : ℕ) :
    hs sT X A P Q G B S O Z D W g b r l = hs sg X A P Q G B S O Z D W g b r l :=
  congrArg (fun s => hs s X A P Q G B S O Z D W g b r l) (funext sT_eq)

/-- The activation by the complementary error function. -/
theorem ge_erfc (y : EReal) : halfB * y * Ideal.erfc (-y * rt2B) = ge y := by
  unfold ge
  rw [EReal.neg_mul, Ideal.erfc_neg]

end Cert.MergeMath
-- ==== Proof.MergeBlock.lean ====
/- One grid point of the merge kernel at the exact model: its payloads, loads and scratch reads, as
   functions of the blocks it reads. -/
module

public import proofs.«01_k».proof.Proof.MergePieces
public import proofs.«01_k».proof.Proof.MergeMath
public import Idealize.ShloMosaic.Lib.WholeRead
public import Idealize.ShloMosaic.Lib.VecWindow

@[expose] public section

set_option maxRecDepth 16384

noncomputable section

namespace Cert.MergeIdeal.Own

open Idealize.ShloMosaic Idealize.SL.Sem Cert.MergeIdeal Cert.MergeIdeal.Gen Idealize.ShloMosaic.Pointwise
open Cert.ProjMath Cert.MergeMath Finset

/-- The matrix of the entries `f`. -/
def em {φ : FTy} (n m : ℕ) (f : ℕ → ℕ → EReal) : FVec Ideal ⟨2, ![n, m]⟩ φ := fun i => f (i 0).val (i 1).val

/-- The stack of matrices of the entries `f`. -/
def et {φ : FTy} (a n m : ℕ) (f : ℕ → ℕ → ℕ → EReal) : FVec Ideal ⟨3, ![a, n, m]⟩ φ := fun i => f (i 0).val (i 1).val (i 2).val

/-- Two matrices that agree inside their bounds are one. -/
theorem em_congr {φ : FTy} {n m : ℕ} {f g : ℕ → ℕ → EReal} (h : ∀ r l, r < n → l < m → f r l = g r l) :
    (em n m f : FVec Ideal _ φ) = em n m g := funext fun i => h _ _ (i 0).isLt (i 1).isLt

/-! ## Values -/

/-- An activated block of 256 columns. -/
theorem ac_em (X P : ℕ → ℕ → EReal) : k0_pay3 (em 512 1024 X : FVec Ideal _ .f32) (em 1024 256 P : FVec Ideal _ .bf16) = em 512 256 (fun r l => ge (pr X P r l)) := by
  funext j; idx_vars j
  pointwise [k0_pay3, k0_pay2, em, ge, pr]
  rfl

/-- The mixed half's norm. -/
theorem ln_em (V : ℕ → ℕ → EReal) (G B : ℕ → ℕ → EReal) : k0_pay16 (em 512 1024 V : FVec Ideal _ .f32) (em 1 1024 G : FVec Ideal _ .f32) (em 1 1024 B : FVec Ideal _ .f32)
    = em 512 1024 (fun r l => ln (V r) (G 0) (B 0) l) := by
  funext j; idx_vars j
  pointwise [k0_pay16, em, ln, mean]

/-- The hidden state's norm. -/
theorem lh_em (V : ℕ → ℕ → EReal) (G B : ℕ → ℕ → EReal) : k0_pay89 (em 512 1024 V : FVec Ideal _ .f32) (k0_pay88 (em 1 1024 G : FVec Ideal _ .f32)) (em 1 1024 B : FVec Ideal _ .f32)
    = em 512 1024 (fun r l => ln (V r) (G 0) (B 0) l) := by
  funext j; idx_vars j
  pointwise [k0_pay89, k0_pay88, em, ln, mean]

/-- A gated square. -/
theorem mx_em (S : ℕ → ℕ → EReal) (O : ℕ → EReal) (V U : ℕ → ℕ → EReal) :
    k0_pay21 k0_pay17 (k0_pay18 (et 1 128 128 fun _ => S : FVec Ideal _ .f32)) (em 128 1 fun r _ => O r : FVec Ideal _ .f32) (em 128 128 V : FVec Ideal _ .f32) (em 128 128 U : FVec Ideal _ .f32)
      = em 128 128 (fun r l => U r l * (∑ s : Fin 128, (if s.val ≤ r then S r s.val else 0) * V s.val l + O r)) := by
  have key : ∀ r s : Fin 128, IntOp.cmpi CmpIPredicate.sge (BitVec.ofNat 32 r.val) (BitVec.ofNat 32 s.val) = if s.val ≤ r.val then 1#1 else 0#1 := by decide +kernel
  funext j; idx_vars j
  pointwise [k0_pay21, k0_pay17, k0_pay18, k0_pay19, k0_pay20, em, et]
  refine congrArg (fun z => U j0.val j1.val * (z + O j0.val)) (Finset.sum_congr rfl fun s _ => ?_)
  rw [key]
  split_ifs
  · rfl
  · exact (zero_mul (V s.val j1.val)).symm

/-- A gate's block of 256 columns, -/
theorem g78_em (X P : ℕ → ℕ → EReal) : k0_pay78 (k0_pay2 (em 512 1024 X : FVec Ideal _ .f32)) (em 1024 256 P : FVec Ideal _ .bf16) = em 512 256 (fun r l => sT (pr X P r l)) := by
  funext j; idx_vars j
  pointwise [k0_pay78, k0_pay2, em, sT, pr]
/-- the next one, -/
theorem g82_em (X P : ℕ → ℕ → EReal) : k0_pay82 (k0_pay80 (k0_pay2 (em 512 1024 X : FVec Ideal _ .f32)) (em 1024 256 P : FVec Ideal _ .bf16)) k0_pay81 = em 512 256 (fun r l => sT (pr X P r l)) :=
  g78_em X P
/-- and the one after it. -/
theorem g84_em (X P : ℕ → ℕ → EReal) : k0_pay84 (k0_pay2 (em 512 1024 X : FVec Ideal _ .f32)) (em 1024 256 P : FVec Ideal _ .bf16) = em 512 256 (fun r l => sT (pr X P r l)) :=
  g78_em X P

/-- A gated block of 256 columns, -/
theorem y79_em (X A Z P : ℕ → ℕ → EReal) : k0_pay79 (k0_pay2 (em 512 1024 X : FVec Ideal _ .f32)) (em 512 1024 A : FVec Ideal _ .bf16) (em 1024 256 Z : FVec Ideal _ .bf16) (em 1024 256 P : FVec Ideal _ .bf16)
    = em 512 256 (fun r l => sT (pr X P r l) * pr A Z r l) := by
  funext j; idx_vars j
  pointwise [k0_pay79, k0_pay2, em, sT, pr]
/-- the next one, -/
theorem y83_em (X A Z P : ℕ → ℕ → EReal) : k0_pay83 (k0_pay2 (em 512 1024 X : FVec Ideal _ .f32)) (em 512 1024 A : FVec Ideal _ .bf16) (em 1024 256 Z : FVec Ideal _ .bf16) (em 1024 256 P : FVec Ideal _ .bf16)
    = em 512 256 (fun r l => sT (pr X P r l) * pr A Z r l) := y79_em X A Z P
/-- and the first one. -/
theorem y77_em (X A Z P : ℕ → ℕ → EReal) : k0_pay77 (k0_pay2 (em 512 1024 X : FVec Ideal _ .f32)) (k0_pay75 (em 512 1024 A : FVec Ideal _ .bf16) (em 1024 256 Z : FVec Ideal _ .bf16)) (k0_pay76 (em 1024 256 P : FVec Ideal _ .bf16))
    = em 512 256 (fun r l => sT (pr X P r l) * pr A Z r l) := y79_em X A Z P

/-- Four blocks of 256 columns side by side. -/
theorem cat_em (f : ℕ → ℕ → EReal) : (concatenate S512x1024 1 [⟨S512x256, (em 512 256 (fun r l => f r (256 * 0 + l)) : FVec Ideal _ .f32)⟩, ⟨S512x256, (em 512 256 (fun r l => f r (256 * 1 + l)) : FVec Ideal _ .f32)⟩,
    ⟨S512x256, (em 512 256 (fun r l => f r (256 * 2 + l)) : FVec Ideal _ .f32)⟩, ⟨S512x256, (em 512 256 (fun r l => f r (256 * 3 + l)) : FVec Ideal _ .f32)⟩] concatenates_S512x256_S512x256_S512x256_S512x256_S512x1024_d1 : FVec Ideal S512x1024 .f32)
      = em 512 1024 f := by
  funext j; idx_vars j
  pointwise [em]
  split_ifs <;> refine congrArg (f j0.val) ?_ <;> omega

/-- The same of blocks known to be those. -/
theorem cat_eq (f : ℕ → ℕ → EReal) (a b c d : FVec Ideal S512x256 .f32) (ha : a = em 512 256 (fun r l => f r (256 * 0 + l))) (hb : b = em 512 256 (fun r l => f r (256 * 1 + l)))
    (hc : c = em 512 256 (fun r l => f r (256 * 2 + l))) (hd : d = em 512 256 (fun r l => f r (256 * 3 + l))) :
    (concatenate S512x1024 1 [⟨S512x256, a⟩, ⟨S512x256, b⟩, ⟨S512x256, c⟩, ⟨S512x256, d⟩] concatenates_S512x256_S512x256_S512x256_S512x256_S512x1024_d1 : FVec Ideal S512x1024 .f32) = em 512 1024 f := by
  subst ha hb hc hd
  exact cat_em f

/-- The residual plus the projected sum of the gated branches, from the gates' and the gated blocks. -/
def tail (y0 y1 y2 y3 s0 s1 s2 s3 : FVec Ideal S512x256 .f32) (o : FVec Ideal S512x1024 .bf16) (d w : FVec Ideal S1024x1024 .bf16) (x : FVec Ideal S512x1024 .f32) : FVec Ideal S512x1024 .f32 :=
  addf (mulf (broadcast S512x1024 (Scalar.ofBits .f32 0x3F9837F0#32)) (shapeCast S512x1024 x shapeCasts_S512x1024_S512x1024))
    (matmul dot_S512x1024_S1024x1024_S512x1024_1_0_0_1_n_n none
      (truncf .bf16 (addf (mulf (concatenate S512x1024 1 [⟨S512x256, s0⟩, ⟨S512x256, s1⟩, ⟨S512x256, s2⟩, ⟨S512x256, s3⟩] concatenates_S512x256_S512x256_S512x256_S512x256_S512x1024_d1)
          (matmul dot_S512x1024_S1024x1024_S512x1024_1_0_0_1_n_n none o (shapeCast S1024x1024 d shapeCasts_S1024x1024_S1024x1024) (constant S512x1024 .f32 0x00000000#32)))
        (concatenate S512x1024 1 [⟨S512x256, y0⟩, ⟨S512x256, y1⟩, ⟨S512x256, y2⟩, ⟨S512x256, y3⟩] concatenates_S512x256_S512x256_S512x256_S512x256_S512x1024_d1)) bitsLt_bf16_f32)
      (shapeCast S1024x1024 w shapeCasts_S1024x1024_S1024x1024) (constant S512x1024 .f32 0x00000000#32))

/-- The body's expression is that. -/
theorem mixed_eq (x : FVec Ideal S512x1024 .f32) (o : FVec Ideal S512x1024 .bf16) (q : Fin 8 → FVec Ideal S1024x256 .bf16) (z : Fin 4 → FVec Ideal S1024x256 .bf16)
    (d w : FVec Ideal S1024x1024 .bf16) (a : FVec Ideal S512x1024 .bf16) :
    mixed x o q z d w a = tail (k0_pay77 (k0_pay2 x) (k0_pay75 a (z 0)) (k0_pay76 (q 4))) (k0_pay79 (k0_pay2 x) a (z 1) (q 5)) (k0_pay83 (k0_pay2 x) a (z 2) (q 6)) (k0_pay79 (k0_pay2 x) a (z 3) (q 7))
      (k0_pay78 (k0_pay2 x) (q 0)) (k0_pay82 (k0_pay80 (k0_pay2 x) (q 1)) k0_pay81) (k0_pay84 (k0_pay2 x) (q 2)) (k0_pay78 (k0_pay2 x) (q 3)) o d w x := rfl

/-- A block's columns of a product. -/
theorem pr_col (X P : ℕ → ℕ → EReal) (n r l : ℕ) : pr X (fun k l => P k (n + l)) r l = pr X P r (n + l) := rfl

/-- The residual plus the projected sum, entry by entry. -/
theorem mixed_em (X A Q Z D W G : ℕ → ℕ → EReal) :
    mixed (em 512 1024 X : FVec Ideal _ .f32) (em 512 1024 A : FVec Ideal _ .bf16) (fun n => (em 1024 256 (fun k l => Q k (256 * n.val + l)) : FVec Ideal _ .bf16)) (fun n => (em 1024 256 (fun k l => Z k (256 * n.val + l)) : FVec Ideal _ .bf16))
      (em 1024 1024 D : FVec Ideal _ .bf16) (em 1024 1024 W : FVec Ideal _ .bf16) (em 512 1024 G : FVec Ideal _ .bf16)
      = em 512 1024 (fun r l => alB * X r l + pr (fun r p => sT (pr X Q r p) * pr A D r p + sT (pr X Q r (1024 + p)) * pr G Z r p) W r l) := by
  rw [mixed_eq]
  rw [g78_em, g78_em, g82_em, g84_em, y77_em, y79_em, y79_em, y83_em]
  simp only [pr_col]
  unfold tail
  rw [show (em 512 256 (fun r l => sT (pr X Q r (256 * (0 : Fin 8).val + l))) : FVec Ideal _ .f32) = em 512 256 (fun r l => (fun r l => sT (pr X Q r l)) r (256 * 0 + l)) from rfl]
  have c1 := cat_em (fun r l => sT (pr X Q r l))
  have c2 : (concatenate S512x1024 1 [⟨S512x256, (em 512 256 (fun r l => sT (pr X Q r (256 * 4 + l)) * pr G Z r (256 * 0 + l)) : FVec Ideal _ .f32)⟩, ⟨S512x256, (em 512 256 (fun r l => sT (pr X Q r (256 * 5 + l)) * pr G Z r (256 * 1 + l)) : FVec Ideal _ .f32)⟩,
      ⟨S512x256, (em 512 256 (fun r l => sT (pr X Q r (256 * 6 + l)) * pr G Z r (256 * 2 + l)) : FVec Ideal _ .f32)⟩, ⟨S512x256, (em 512 256 (fun r l => sT (pr X Q r (256 * 7 + l)) * pr G Z r (256 * 3 + l)) : FVec Ideal _ .f32)⟩] concatenates_S512x256_S512x256_S512x256_S512x256_S512x1024_d1 : FVec Ideal S512x1024 .f32)
      = em 512 1024 (fun r l => sT (pr X Q r (1024 + l)) * pr G Z r l) := by
    refine cat_eq (fun r l => sT (pr X Q r (1024 + l)) * pr G Z r l) _ _ _ _ ?_ ?_ ?_ ?_ <;>
      exact em_congr fun r l _ _ => congrArg₂ (fun a b => sT (pr X Q r a) * pr G Z r b) (by omega) rfl
  refine (congrArg₂ (fun (s y : FVec Ideal S512x1024 .f32) => addf (mulf (broadcast S512x1024 (Scalar.ofBits .f32 0x3F9837F0#32)) (shapeCast S512x1024 (em 512 1024 X : FVec Ideal S512x1024 .f32) shapeCasts_S512x1024_S512x1024))
    (matmul dot_S512x1024_S1024x1024_S512x1024_1_0_0_1_n_n none
      (truncf .bf16 (addf (mulf s (matmul dot_S512x1024_S1024x1024_S512x1024_1_0_0_1_n_n none (em 512 1024 A : FVec Ideal S512x1024 .bf16) (shapeCast S1024x1024 (em 1024 1024 D : FVec Ideal S1024x1024 .bf16) shapeCasts_S1024x1024_S1024x1024) (constant S512x1024 .f32 0x00000000#32)))
        y) bitsLt_bf16_f32)
      (shapeCast S1024x1024 (em 1024 1024 W : FVec Ideal S1024x1024 .bf16) shapeCasts_S1024x1024_S1024x1024) (constant S512x1024 .f32 0x00000000#32))) c1 c2).trans ?_
  funext j; idx_vars j
  pointwise [em, pr]

/-! ## Loads -/

/-- The load of a block of rows, -/
theorem lx_em (a : Memref sig .tc .vmem S512x1024 .f32) (h : a.IsWhole) (f : ℕ → ℕ → EReal) :
    lx a h (em 512 1024 f : FVec Ideal _ .f32) = em 512 1024 f := by
  funext j
  refine (h.readAt_unread (Val := Elt Ideal) _ rw1.toLoadRect j).trans ?_
  show f (0 + 1 * (j 0).val) (0 + 1 * (j 1).val) = f (j 0).val (j 1).val
  simp only [one_mul, zero_add]

/-- of rounded rows, -/
theorem lo_em (a : Memref sig .tc .vmem S512x1024 .bf16) (h : a.IsWhole) (f : ℕ → ℕ → EReal) :
    lo a h (em 512 1024 f : FVec Ideal _ .bf16) = em 512 1024 f := by
  funext j
  refine (h.readAt_unread (Val := Elt Ideal) _ rw1.toLoadRect j).trans ?_
  show f (0 + 1 * (j 0).val) (0 + 1 * (j 1).val) = f (j 0).val (j 1).val
  simp only [one_mul, zero_add]

/-- of 256 columns of a wide weight, -/
theorem lp_em (a : Memref sig .tc .vmem S1024x2048 .bf16) (h : a.IsWhole) (f : ℕ → ℕ → EReal) (n : Fin 8) :
    lp a h (em 1024 2048 f : FVec Ideal _ .bf16) n = em 1024 256 (fun r l => f r (256 * n.val + l)) := by
  funext j
  refine (h.readAt_unread (Val := Elt Ideal) _ (rp n).toLoadRect j).trans ?_
  show f (0 + 1 * (j 0).val) (256 * n.val + 1 * (j 1).val) = f (j 0).val (256 * n.val + (j 1).val)
  simp only [one_mul, zero_add]

/-- of 256 columns of a weight, -/
theorem lz_em (a : Memref sig .tc .vmem S1024x1024 .bf16) (h : a.IsWhole) (f : ℕ → ℕ → EReal) (n : Fin 4) :
    lz a h (em 1024 1024 f : FVec Ideal _ .bf16) n = em 1024 256 (fun r l => f r (256 * n.val + l)) := by
  funext j
  refine (h.readAt_unread (Val := Elt Ideal) _ (rz n).toLoadRect j).trans ?_
  show f (0 + 1 * (j 0).val) (256 * n.val + 1 * (j 1).val) = f (j 0).val (256 * n.val + (j 1).val)
  simp only [one_mul, zero_add]

/-- of a whole weight, -/
theorem lw_em (a : Memref sig .tc .vmem S1024x1024 .bf16) (h : a.IsWhole) (f : ℕ → ℕ → EReal) :
    lw a h (em 1024 1024 f : FVec Ideal _ .bf16) = em 1024 1024 f := by
  funext j
  refine (h.readAt_unread (Val := Elt Ideal) _ (Rect.unit (s := S1024x1024) ![0, 0] S1024x1024.size inb_S1024x1024_S1024x1024_0_0).toLoadRect j).trans ?_
  show f (0 + 1 * (j 0).val) (0 + 1 * (j 1).val) = f (j 0).val (j 1).val
  simp only [one_mul, zero_add]

/-- of a row, -/
theorem lg_em (a : Memref sig .tc .vmem S1x1024 .f32) (h : a.IsWhole) (f : ℕ → ℕ → EReal) :
    lg a h (em 1 1024 f : FVec Ideal _ .f32) = em 1 1024 f := by
  funext j
  refine (h.readAt_unread (Val := Elt Ideal) _ (Rect.unit (s := S1x1024) ![0, 0] S1x1024.size inb_S1x1024_S1x1024_0_0).toLoadRect j).trans ?_
  show f (0 + 1 * (j 0).val) (0 + 1 * (j 1).val) = f (j 0).val (j 1).val
  simp only [one_mul, zero_add]

/-- of a group's offsets, -/
theorem lb_em (a : Memref sig .tc .vmem S128x8 .f32) (h : a.IsWhole) (f : ℕ → ℕ → EReal) (n : Fin 8) :
    lb a h (em 128 8 f : FVec Ideal _ .f32) n = em 128 1 (fun r _ => f r n.val) := by
  funext j
  refine (h.readAt_unread (Val := Elt Ideal) _ (rb n).toLoadRect j).trans ?_
  show f (0 + 1 * (j 0).val) (n.val + 1 * (j 1).val) = f (j 0).val n.val
  have : (j 1).val < 1 := (j 1).isLt
  rw [show (j 1).val = 0 by omega]
  simp only [one_mul, zero_add, add_zero, mul_zero]

/-- and of a group's matrix. -/
theorem ls_em (a : Memref sig .tc .vmem S8x128x128 .f32) (h : a.IsWhole) (f : ℕ → ℕ → ℕ → EReal) (n : Fin 8) :
    ls a h (et 8 128 128 f : FVec Ideal _ .f32) n = et 1 128 128 (fun _ => f n.val) := by
  funext j
  refine (h.readAt_unread (Val := Elt Ideal) _ (rs n).toLoadRect j).trans ?_
  show f (n.val + 1 * (j 0).val) (0 + 1 * (j 1).val) (0 + 1 * (j 2).val) = f n.val (j 1).val (j 2).val
  have : (j 0).val < 1 := (j 0).isLt
  rw [show (j 0).val = 0 by omega]
  simp only [one_mul, zero_add, add_zero, mul_zero]

/-! ## The scratch -/

section
variable (v : View sig .tc .vmem S512x1024 .f32) (X P : ℕ → ℕ → EReal)

/-- The wide weight's blocks. -/
abbrev wp : Fin 8 → FVec Ideal S1024x256 .bf16 := fun n => em 1024 256 (fun r l => P r (256 * n.val + l))

/-- The gate's half read back. -/
theorem readU (y : S512x1024.Idx) : v.read (Elt Ideal) (v.writes (Elt Ideal) v.junk (piecesU (em 512 1024 X : FVec Ideal _ .f32) (wp P))) y
    = (em 512 1024 (fun r l => ge (pr X P r l)) : FVec Ideal S512x1024 .f32) y := by
  have piece : ∀ (n : Fin 4) (x : (ru n).shape.Idx), (pieceU (em 512 1024 X : FVec Ideal _ .f32) (wp P) n).2 x = (em 512 1024 (fun r l => ge (pr X P r l)) : FVec Ideal S512x1024 .f32) ((ru n).emb x) := by
    intro n x
    refine (congrFun (ac_em X (fun k l => P k (256 * n.val + l))) x).trans ?_
    show ge (pr X P (x 0).val (256 * n.val + (x 1).val)) = ge (pr X P (0 + 1 * (x 0).val) (256 * n.val + 1 * (x 1).val))
    rw [zero_add, one_mul, one_mul]
  refine View.read_writes_apply_of_pieces v _ _ _ ?_ y (View.cover_of_tiled _ ![512, 256] rfl y)
  intro Q hQ
  simp only [piecesU, List.mem_cons, List.mem_nil_iff, or_false] at hQ
  rcases hQ with h | h | h | h <;> subst h <;> exact piece _

/-- The mixed half read back. -/
theorem readV (y : S512x1024.Idx) : v.read (Elt Ideal) (v.writes (Elt Ideal) v.junk (piecesV (em 512 1024 X : FVec Ideal _ .f32) (wp P))) y
    = (em 512 1024 (fun r l => ge (pr X P r (1024 + l))) : FVec Ideal S512x1024 .f32) y := by
  have piece : ∀ (n : Fin 4) (x : (ru n).shape.Idx), (pieceV (em 512 1024 X : FVec Ideal _ .f32) (wp P) n).2 x = (em 512 1024 (fun r l => ge (pr X P r (1024 + l))) : FVec Ideal S512x1024 .f32) ((ru n).emb x) := by
    intro n x
    refine (congrFun (ac_em X (fun k l => P k (256 * (4 + n.val) + l))) x).trans ?_
    show ge (pr X P (x 0).val (256 * (4 + n.val) + (x 1).val)) = ge (pr X P (0 + 1 * (x 0).val) (1024 + (256 * n.val + 1 * (x 1).val)))
    rw [zero_add, one_mul, one_mul]
    exact congrArg (fun k => ge (pr X P (x 0).val k)) (by omega)
  refine View.read_writes_apply_of_pieces v _ _ _ ?_ y (View.cover_of_tiled _ ![512, 256] rfl y)
  intro Q hQ
  simp only [piecesV, List.mem_cons, List.mem_nil_iff, or_false] at hQ
  rcases hQ with h | h | h | h <;> subst h <;> exact piece _

/-- A whole store on top read back. -/
theorem readN (f : v.ty.Contents (Elt Ideal)) (w : FVec Ideal S512x1024 .f32) (L : List (View.Piece (Elt Ideal) S512x1024 .f32)) (y : S512x1024.Idx) :
    v.read (Elt Ideal) (v.writes (Elt Ideal) f (⟨rw1, w⟩ :: L)) y = w y :=
  View.read_writes_cons_unit_of_mem v f inb_S512x1024_S512x1024_0_0 w L y y rfl
    (Fin.forall_fin_two.mpr ⟨(Nat.zero_add _).symm, (Nat.zero_add _).symm⟩)
end

/-- The gated squares read back. -/
theorem readG (v : View sig .tc .vmem S512x1024 .bf16) (S : ℕ → ℕ → ℕ → EReal) (O V U : ℕ → ℕ → EReal) (y : S512x1024.Idx) :
    v.read (Elt Ideal) (v.writes (Elt Ideal) v.junk (piecesA (fun g => (et 1 128 128 fun _ => S g.val : FVec Ideal S1x128x128 .f32)) (fun g => (em 128 1 (fun r _ => O g.val r) : FVec Ideal S128x1 .f32))
        (fun g k => (em 128 128 (fun r l => V (128 * k.val + r) (128 * g.val + l)) : FVec Ideal S128x128 .f32)) (fun g k => (em 128 128 (fun r l => U (128 * k.val + r) (128 * g.val + l)) : FVec Ideal S128x128 .f32)))) y
      = (em 512 1024 (fun r p => U r p * mx S O V r p) : FVec Ideal S512x1024 .bf16) y := by
  have piece : ∀ (g : Fin 8) (k : Fin 4) (x : (rg g k).shape.Idx), (pieceM (fun g => (et 1 128 128 fun _ => S g.val : FVec Ideal S1x128x128 .f32)) (fun g => (em 128 1 (fun r _ => O g.val r) : FVec Ideal S128x1 .f32))
        (fun g k => (em 128 128 (fun r l => V (128 * k.val + r) (128 * g.val + l)) : FVec Ideal S128x128 .f32)) (fun g k => (em 128 128 (fun r l => U (128 * k.val + r) (128 * g.val + l)) : FVec Ideal S128x128 .f32)) g k).2 x
      = (em 512 1024 (fun r p => U r p * mx S O V r p) : FVec Ideal S512x1024 .bf16) ((rg g k).emb x) := by
    intro g k x
    have h0 : (x 0).val < 128 := (x 0).isLt
    have h1 : (x 1).val < 128 := (x 1).isLt
    refine (congrFun (mx_em (S g.val) (O g.val) (fun r l => V (128 * k.val + r) (128 * g.val + l)) (fun r l => U (128 * k.val + r) (128 * g.val + l))) x).trans ?_
    show U (128 * k.val + (x 0).val) (128 * g.val + (x 1).val) * (∑ s : Fin 128, (if s.val ≤ (x 0).val then S g.val (x 0).val s.val else 0) * V (128 * k.val + s.val) (128 * g.val + (x 1).val) + O g.val (x 0).val)
      = U (128 * k.val + 1 * (x 0).val) (128 * g.val + 1 * (x 1).val) * mx S O V (128 * k.val + 1 * (x 0).val) (128 * g.val + 1 * (x 1).val)
    unfold mx
    rw [one_mul, one_mul, show (128 * k.val + (x 0).val) % 128 = (x 0).val by omega, show (128 * k.val + (x 0).val) / 128 = k.val by omega, show (128 * g.val + (x 1).val) / 128 = g.val by omega]
  refine View.read_writes_apply_of_pieces v _ _ _ ?_ y (View.cover_of_tiled _ ![128, 128] rfl y)
  intro Q hQ
  simp only [piecesA, piecesM, List.mem_cons, List.mem_nil_iff, or_false] at hQ
  rcases hQ with h | h | h | h | h | h | h | h | h | h | h | h | h | h | h | h | h | h | h | h | h | h | h | h | h | h | h | h | h | h | h | h <;> subst h <;> exact piece _ _

end Cert.MergeIdeal.Own
-- ==== Proof.MergePoint.lean ====
/- One grid point of the merge kernel, whole: the hidden state of its 512 rows. -/
module

public import proofs.«01_k».proof.Proof.MergeBlock

@[expose] public section

set_option maxRecDepth 16384

noncomputable section

namespace Cert.MergeIdeal.Own

open Idealize.ShloMosaic Idealize.SL.Sem Cert.MergeIdeal Cert.MergeIdeal.Gen Idealize.ShloMosaic.Pointwise
open Cert.ProjMath Cert.MergeMath Finset

section
variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S1024x2048 .bf16) (harg3 : arg3.IsWhole)
  (arg4 : Memref sig .tc .vmem S1024x2048 .bf16) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S8x128x128 .f32) (harg7 : arg7.IsWhole)
  (arg8 : Memref sig .tc .vmem S128x8 .f32) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S1024x1024 .bf16) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S1024x256 .bf16) (harg14 : arg14.IsWhole)
  (arg15 : Memref sig .tc .vmem S1x128 .f32) (harg15 : arg15.IsWhole)
  (arg16 : Memref sig .tc .vmem S512x1024 .f32) (harg16 : arg16.IsWhole)
  (arg17 : Memref sig .tc .vmem S512x128 .f32) (harg17 : arg17.IsWhole)
  (arg18 : Memref sig .tc .vmem S1x1x512 .i32) (harg18 : arg18.IsWhole)
  (arg19 : Memref sig .tc .vmem S1x1x128 .i32) (harg19 : arg19.IsWhole)
  (arg20 : Memref sig .tc .vmem S128x512 .f32) (harg20 : arg20.IsWhole)
  (arg21 : Memref sig .tc .vmem S512x1024 .f32) (harg21 : arg21.IsWhole)
  (arg22 : Memref sig .tc .vmem S512x1024 .f32) (harg22 : arg22.IsWhole)
  (arg23 : Memref sig .tc .vmem S512x1024 .bf16) (harg23 : arg23.IsWhole)
  (X A P Q : ℕ → ℕ → EReal) (G B : ℕ → EReal) (S : ℕ → ℕ → ℕ → EReal) (O Z D W : ℕ → ℕ → EReal) (g b : ℕ → EReal) (x13 : Vec Ideal S1024x256 .bf16) (x14 : Vec Ideal S1x128 .f32)

/-- The blocks a point reads: its tokens, -/
abbrev bX : FVec Ideal S512x1024 .f32 := em 512 1024 X
/-- its other branch's rows, -/
abbrev bA : FVec Ideal S512x1024 .bf16 := em 512 1024 A
/-- a wide weight, -/
abbrev bP : FVec Ideal S1024x2048 .bf16 := em 1024 2048 P
/-- a row, -/
abbrev bG : FVec Ideal S1x1024 .f32 := em 1 1024 (fun _ l => G l)
/-- the groups' matrices, -/
abbrev bS : FVec Ideal S8x128x128 .f32 := et 8 128 128 S
/-- their offsets, -/
abbrev bO : FVec Ideal S128x8 .f32 := em 128 8 (fun r n => O n r)
/-- and a weight. -/
abbrev bZ : FVec Ideal S1024x1024 .bf16 := em 1024 1024 Z

/-- The gate's half in the scratch, a square of it. -/
theorem squareU : (fun (n : Fin 8) (k : Fin 4) => (View.readCov arg21.view (scU (F := Ideal) arg1 harg1 arg3 harg3 (bX X) (bP P)) (rg n k).toLoadRect : FVec Ideal S128x128 .f32))
    = fun n k => em (φ := .f32) 128 128 (fun r l => ge (pr X P (128 * k.val + r) (128 * n.val + l))) := by
  funext n k x
  show arg21.view.read (Elt Ideal) (arg21.view.writes (Elt Ideal) arg21.view.junk (piecesU (lx arg1 harg1 (bX X)) (lp arg3 harg3 (bP P)))) ((rg n k).toLoadRect.idx x) = _
  rw [lx_em, funext (lp_em arg3 harg3 P), readU]
  show ge (pr X P (128 * k.val + 1 * (x 0).val) (128 * n.val + 1 * (x 1).val)) = ge (pr X P (128 * k.val + (x 0).val) (128 * n.val + (x 1).val))
  rw [one_mul, one_mul]

/-- The mixed half in the scratch. -/
theorem wholeV : (View.readCov arg22.view (piecesV (F := Ideal) (lx arg1 harg1 (bX X)) (lp arg3 harg3 (bP P))) rw1.toLoadRect : FVec Ideal S512x1024 .f32) = em (φ := .f32) 512 1024 (fun r l => ge (pr X P r (1024 + l))) := by
  funext x
  show arg22.view.read (Elt Ideal) (arg22.view.writes (Elt Ideal) arg22.view.junk (piecesV (lx arg1 harg1 (bX X)) (lp arg3 harg3 (bP P)))) (rw1.toLoadRect.idx x) = _
  rw [lx_em, funext (lp_em arg3 harg3 P), readV]
  show ge (pr X P (0 + 1 * (x 0).val) (1024 + (0 + 1 * (x 1).val))) = ge (pr X P (x 0).val (1024 + (x 1).val))
  rw [one_mul, one_mul, zero_add, zero_add]

/-- The normalized half as a whole store. -/
def nP : View.Piece (Elt Ideal) S512x1024 .f32 := ⟨rw1, (em 512 1024 (fun r p => ln (fun l => ge (pr X P r (1024 + l))) G B p) : FVec Ideal S512x1024 .f32)⟩

/-- The stored norm is that. -/
theorem pieceN_em : pieceN (F := Ideal) (View.readCov arg22.view (piecesV (F := Ideal) (lx arg1 harg1 (bX X)) (lp arg3 harg3 (bP P))) rw1.toLoadRect) (lg arg5 harg5 (bG G)) (lg arg6 harg6 (bG B))
    = nP X P G B := by
  rw [wholeV, lg_em, lg_em]
  unfold pieceN nP
  rw [ln_em]

/-- The normalized half in the scratch, a square of it. -/
theorem squareV : (fun (n : Fin 8) (k : Fin 4) => (View.readCov arg22.view (scV (F := Ideal) arg1 harg1 arg3 harg3 arg5 harg5 arg6 harg6 arg22 (bX X) (bP P) (bG G) (bG B)) (rg n k).toLoadRect : FVec Ideal S128x128 .f32))
    = fun n k => em (φ := .f32) 128 128 (fun r l => ln (fun l => ge (pr X P (128 * k.val + r) (1024 + l))) G B (128 * n.val + l)) := by
  have e : scV (F := Ideal) arg1 harg1 arg3 harg3 arg5 harg5 arg6 harg6 arg22 (bX X) (bP P) (bG G) (bG B)
      = nP X P G B :: piecesV (F := Ideal) (lx arg1 harg1 (bX X)) (lp arg3 harg3 (bP P)) := by
    rw [← pieceN_em arg1 harg1 arg3 harg3 arg5 harg5 arg6 harg6 arg22 X P G B]
  rw [e]
  generalize piecesV (F := Ideal) (lx arg1 harg1 (bX X)) (lp arg3 harg3 (bP P)) = L
  funext n k x
  refine (readN arg22.view arg22.view.junk _ L ((rg n k).toLoadRect.idx x)).trans ?_
  show ln (fun l => ge (pr X P (128 * k.val + 1 * (x 0).val) (1024 + l))) G B (128 * n.val + 1 * (x 1).val) = ln (fun l => ge (pr X P (128 * k.val + (x 0).val) (1024 + l))) G B (128 * n.val + (x 1).val)
  rw [one_mul, one_mul]

/-- The gated product in the scratch. -/
theorem gatedS : (View.readCov arg23.view (scG (F := Ideal) arg1 harg1 arg3 harg3 arg5 harg5 arg6 harg6 arg7 harg7 arg8 harg8 arg21 arg22 (bX X) (bP P) (bG G) (bG B) (bS S) (bO O)) rw1.toLoadRect : FVec Ideal S512x1024 .bf16)
    = em (φ := .bf16) 512 1024 (gated X P G B S O) := by
  funext x
  show arg23.view.read (Elt Ideal) (arg23.view.writes (Elt Ideal) arg23.view.junk (piecesA (ls arg7 harg7 (bS S)) (lb arg8 harg8 (bO O))
    (fun n k => (View.readCov arg22.view (scV (F := Ideal) arg1 harg1 arg3 harg3 arg5 harg5 arg6 harg6 arg22 (bX X) (bP P) (bG G) (bG B)) (rg n k).toLoadRect : FVec Ideal S128x128 .f32))
    (fun n k => (View.readCov arg21.view (scU (F := Ideal) arg1 harg1 arg3 harg3 (bX X) (bP P)) (rg n k).toLoadRect : FVec Ideal S128x128 .f32)))) (rw1.toLoadRect.idx x) = _
  rw [squareU, squareV, funext (ls_em arg7 harg7 S), funext (lb_em arg8 harg8 fun r n => O n r)]
  refine (readG arg23.view S O (fun r p => ln (fun l => ge (pr X P r (1024 + l))) G B p) (fun r p => ge (pr X P r p)) (rw1.toLoadRect.idx x)).trans ?_
  show gated X P G B S O (0 + 1 * (x 0).val) (0 + 1 * (x 1).val) = gated X P G B S O (x 0).val (x 1).val
  rw [one_mul, one_mul, zero_add, zero_add]

/-- What a point leaves in its block of the result. -/
theorem out15 : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (bX X) (bA A) (bP P) (bP Q) (bG G) (bG B) (bS S) (bO O) (bZ Z) (bZ D) (bZ W) (bG g) (bG b) x13 x14
    = (em 512 1024 (hs sT X A P Q G B S O Z D W g b) : FVec Ideal S512x1024 .f32) := by
  unfold out0_A_15
  rw [piecesH, gatedS, lx_em, lo_em, funext (lp_em arg4 harg4 Q), funext (lz_em arg9 harg9 Z), lw_em, lw_em, lg_em, lg_em, mixed_em]
  unfold pieceH
  rw [lh_em]
  funext y
  exact readN _ _ _ _ y
end

end Cert.MergeIdeal.Own
-- ==== Proof.MergeGrid.lean ====
/- The merge kernel's hidden state over its grid: thirty-two points, a block of 512 tokens each. -/
module

public import proofs.«01_k».proof.Proof.MergePoint
public import proofs.«01_k».proof.Proof.Gen.MergeIdeal.Value
public import Idealize.ShloMosaic.Lib.Pipeline.ValueKit

@[expose] public section

set_option maxRecDepth 16384

noncomputable section

namespace Cert.MergeIdeal.Own

open Idealize.ShloMosaic Idealize.SL.Sem Cert.MergeIdeal Cert.MergeIdeal.Gen Idealize.ShloMosaic.Pointwise
open Cert.ProjMath Cert.MergeMath Finset Cert.MergeIdeal.Value

/-- The windows' block indices: the tokens', the other branch's and the result's move by rows, the others stay. -/
theorem idx_in : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_15.index t = ![t.val, 0] :=
  (by decide +kernel : ∀ t : Fin grid0.N, _)

/-- Two coordinates equal, the index equal. -/
theorem ix2_ext {n m : ℕ} {i : (⟨2, ![n, m]⟩ : Shape).Idx} {a : Fin n} {b : Fin m} (ha : (i 0).val = a.val) (hb : (i 1).val = b.val) : i = ix2 a b := by
  funext k
  match k with
  | ⟨0, _⟩ => exact Fin.ext ha
  | ⟨1, _⟩ => exact Fin.ext hb

/-- Three coordinates equal, the index equal. -/
theorem ix3_ext {n m l : ℕ} {i : (⟨3, ![n, m, l]⟩ : Shape).Idx} {a : Fin n} {b : Fin m} {d : Fin l} (ha : (i 0).val = a.val) (hb : (i 1).val = b.val) (hd : (i 2).val = d.val) : i = ix3 a b d := by
  funext k
  match k with
  | ⟨0, _⟩ => exact Fin.ext ha
  | ⟨1, _⟩ => exact Fin.ext hb
  | ⟨2, _⟩ => exact Fin.ext hd

/-- A sequence's rows, one after another. -/
theorem rows (x : FVec Ideal S8x2048x1024 .f32) (X : ℕ → ℕ → EReal) (hX : x = fun i => X (2048 * (i 0).val + (i 1).val) (i 2).val) (r : Fin 16384) (k : Fin 1024) :
    (shapeCast S16384x1024 x shapeCasts_S8x2048x1024_S16384x1024 : FVec Ideal S16384x1024 .f32) (ix2 r k) = X r.val k.val := by
  subst hX
  pointwise
  rw [Nat.div_add_mod]

section
variable (m : (ℓ : Loc nD τ sig) → Buf (Elt Ideal) ℓ) (c : Dev nD)

/-! ## The operands the call is given -/

/-- The tokens, one row each. -/
theorem V0 : (V m c main_v0 : FVec Ideal S16384x1024 .f32) = shapeCast S16384x1024 (m ((c.tc : Thread nD τ).loc main_arg0) : FVec Ideal S8x2048x1024 .f32) shapeCasts_S8x2048x1024_S16384x1024 := by
  simp only [V, hostOps0, hostOps0_1, hostOps0_2, hostOps0_3, hostOps0_4, List.flatten_cons, List.flatten_nil, List.append_nil, List.cons_append, List.nil_append]
  entry_read
  rfl

/-- The two halves' columns. -/
theorem V2 : (V m c main_v2 : FVec Ideal S1024x2048 .bf16) = (truncf .bf16 (extractStridedSlice S1024x2048 ![0, 4112] (m ((c.tc : Thread nD τ).loc main_arg2) : FVec Ideal S1024x8208 .f32) slices_S1024x8208_S1024x2048_0_4112) bitsLt_bf16_f32 : FVec Ideal S1024x2048 .bf16) := by
  simp only [V, hostOps0, hostOps0_1, hostOps0_2, hostOps0_3, hostOps0_4, List.flatten_cons, List.flatten_nil, List.append_nil, List.cons_append, List.nil_append]
  entry_read
  rfl

/-- The two gates' columns. -/
theorem V4 : (V m c main_v4 : FVec Ideal S1024x2048 .bf16) = (truncf .bf16 (extractStridedSlice S1024x2048 ![0, 6160] (m ((c.tc : Thread nD τ).loc main_arg2) : FVec Ideal S1024x8208 .f32) slices_S1024x8208_S1024x2048_0_6160) bitsLt_bf16_f32 : FVec Ideal S1024x2048 .bf16) := by
  simp only [V, hostOps0, hostOps0_1, hostOps0_2, hostOps0_3, hostOps0_4, List.flatten_cons, List.flatten_nil, List.append_nil, List.cons_append, List.nil_append]
  entry_read
  rfl

/-- The mixed half's scales. -/
theorem V15 : (V m c main_v15 : FVec Ideal S1x1024 .f32) = shapeCast S1x1024 (m ((c.tc : Thread nD τ).loc main_arg4) : FVec Ideal S1024 .f32) shapeCasts_S1024_S1x1024 := by
  simp only [V, hostOps0, hostOps0_1, hostOps0_2, hostOps0_3, hostOps0_4, List.flatten_cons, List.flatten_nil, List.append_nil, List.cons_append, List.nil_append]
  entry_read
  rfl

/-- Its offsets. -/
theorem V16 : (V m c main_v16 : FVec Ideal S1x1024 .f32) = shapeCast S1x1024 (m ((c.tc : Thread nD τ).loc main_arg5) : FVec Ideal S1024 .f32) shapeCasts_S1024_S1x1024 := by
  simp only [V, hostOps0, hostOps0_1, hostOps0_2, hostOps0_3, hostOps0_4, List.flatten_cons, List.flatten_nil, List.append_nil, List.cons_append, List.nil_append]
  entry_read
  rfl

/-- The groups' offsets, a column each. -/
theorem V17 : (V m c main_v17 : FVec Ideal S128x8 .f32) = transpose S128x8 [1, 0] (m ((c.tc : Thread nD τ).loc main_arg7) : FVec Ideal S8x128 .f32) transposes_S8x128_S128x8_1_0 := by
  simp only [V, hostOps0, hostOps0_1, hostOps0_2, hostOps0_3, hostOps0_4, List.flatten_cons, List.flatten_nil, List.append_nil, List.cons_append, List.nil_append]
  entry_read
  rfl

/-- The gating unit's output projection. -/
theorem V18 : (V m c main_v18 : FVec Ideal S1024x1024 .bf16) = (truncf .bf16 (m ((c.tc : Thread nD τ).loc main_arg8) : FVec Ideal S1024x1024 .f32) bitsLt_bf16_f32 : FVec Ideal S1024x1024 .bf16) := by
  simp only [V, hostOps0, hostOps0_1, hostOps0_2, hostOps0_3, hostOps0_4, List.flatten_cons, List.flatten_nil, List.append_nil, List.cons_append, List.nil_append]
  entry_read
  rfl

/-- The other branch's. -/
theorem V19 : (V m c main_v19 : FVec Ideal S1024x1024 .bf16) = (truncf .bf16 (m ((c.tc : Thread nD τ).loc main_arg3) : FVec Ideal S1024x1024 .f32) bitsLt_bf16_f32 : FVec Ideal S1024x1024 .bf16) := by
  simp only [V, hostOps0, hostOps0_1, hostOps0_2, hostOps0_3, hostOps0_4, List.flatten_cons, List.flatten_nil, List.append_nil, List.cons_append, List.nil_append]
  entry_read
  rfl

/-- The merge's. -/
theorem V20 : (V m c main_v20 : FVec Ideal S1024x1024 .bf16) = (truncf .bf16 (m ((c.tc : Thread nD τ).loc main_arg9) : FVec Ideal S1024x1024 .f32) bitsLt_bf16_f32 : FVec Ideal S1024x1024 .bf16) := by
  simp only [V, hostOps0, hostOps0_1, hostOps0_2, hostOps0_3, hostOps0_4, List.flatten_cons, List.flatten_nil, List.append_nil, List.cons_append, List.nil_append]
  entry_read
  rfl

/-- The hidden state's scales. -/
theorem V21 : (V m c main_v21 : FVec Ideal S1x1024 .f32) = shapeCast S1x1024 (m ((c.tc : Thread nD τ).loc main_arg10) : FVec Ideal S1024 .f32) shapeCasts_S1024_S1x1024 := by
  simp only [V, hostOps0, hostOps0_1, hostOps0_2, hostOps0_3, hostOps0_4, List.flatten_cons, List.flatten_nil, List.append_nil, List.cons_append, List.nil_append]
  entry_read
  rfl

/-- Its offsets. -/
theorem V22 : (V m c main_v22 : FVec Ideal S1x1024 .f32) = shapeCast S1x1024 (m ((c.tc : Thread nD τ).loc main_arg11) : FVec Ideal S1024 .f32) shapeCasts_S1024_S1x1024 := by
  simp only [V, hostOps0, hostOps0_1, hostOps0_2, hostOps0_3, hostOps0_4, List.flatten_cons, List.flatten_nil, List.append_nil, List.cons_append, List.nil_append]
  entry_read
  rfl

/-! ## The blocks a point reads -/

variable (X A W : ℕ → ℕ → EReal) (Z D M O : ℕ → ℕ → EReal) (G B g b : ℕ → EReal) (S : ℕ → ℕ → ℕ → EReal)
  (hX : (m ((c.tc : Thread nD τ).loc main_arg0) : FVec Ideal S8x2048x1024 .f32) = fun i => X (2048 * (i 0).val + (i 1).val) (i 2).val)
  (hA : (m ((c.tc : Thread nD τ).loc main_arg1) : FVec Ideal S16384x1024 .bf16) = fun i => A (i 0).val (i 1).val)
  (hW : (m ((c.tc : Thread nD τ).loc main_arg2) : FVec Ideal S1024x8208 .f32) = fun i => W (i 0).val (i 1).val)
  (hD : (m ((c.tc : Thread nD τ).loc main_arg3) : FVec Ideal S1024x1024 .f32) = fun i => D (i 0).val (i 1).val)
  (hG : (m ((c.tc : Thread nD τ).loc main_arg4) : FVec Ideal S1024 .f32) = fun i => G (i 0).val)
  (hB : (m ((c.tc : Thread nD τ).loc main_arg5) : FVec Ideal S1024 .f32) = fun i => B (i 0).val)
  (hS : (m ((c.tc : Thread nD τ).loc main_arg6) : FVec Ideal S8x128x128 .f32) = fun i => S (i 0).val (i 1).val (i 2).val)
  (hO : (m ((c.tc : Thread nD τ).loc main_arg7) : FVec Ideal S8x128 .f32) = fun i => O (i 0).val (i 1).val)
  (hZ : (m ((c.tc : Thread nD τ).loc main_arg8) : FVec Ideal S1024x1024 .f32) = fun i => Z (i 0).val (i 1).val)
  (hM : (m ((c.tc : Thread nD τ).loc main_arg9) : FVec Ideal S1024x1024 .f32) = fun i => M (i 0).val (i 1).val)
  (hg : (m ((c.tc : Thread nD τ).loc main_arg10) : FVec Ideal S1024 .f32) = fun i => g (i 0).val)
  (hb : (m ((c.tc : Thread nD τ).loc main_arg11) : FVec Ideal S1024 .f32) = fun i => b (i 0).val)

include hX in
/-- A point's tokens. -/
theorem blk0 (t : Fin cfg0.N) : (iblk m c 0 t : FVec Ideal S512x1024 .f32) = em (φ := .f32) 512 1024 (fun r k => X (512 * t.val + r) k) := by
  funext j; idx_vars j
  have e : (win0_0.blk t).view.emb (ix2 j0 j1) = ix2 (n0 := 16384) (n1 := 1024) ⟨512 * t.val + j0.val, by have := t.isLt; have : cfg0.N = 32 := N_0; have := j0.isLt; omega⟩ j1 := by
    refine ix2_ext ?_ ?_
    · show ((win0_0.blk t).view.emb (ix2 j0 j1) 0).val = _
      blk_simp [idx_in t]
      exact congrArg (· + j0.val) (Nat.mul_comm _ _)
    · show ((win0_0.blk t).view.emb (ix2 j0 j1) 1).val = _
      blk_simp [idx_in t]
  show (V m c main_v0 : FVec Ideal S16384x1024 .f32) ((win0_0.blk t).view.emb (ix2 j0 j1)) = _
  rw [e, V0]
  exact rows _ X hX _ _

include hA in
/-- Its rows of the other branch. -/
theorem blk1 (t : Fin cfg0.N) : (iblk m c 1 t : FVec Ideal S512x1024 .bf16) = em (φ := .bf16) 512 1024 (fun r k => A (512 * t.val + r) k) := by
  funext j; idx_vars j
  have e : (win0_1.blk t).view.emb (ix2 j0 j1) = ix2 (n0 := 16384) (n1 := 1024) ⟨512 * t.val + j0.val, by have := t.isLt; have : cfg0.N = 32 := N_0; have := j0.isLt; omega⟩ j1 := by
    refine ix2_ext ?_ ?_
    · show ((win0_1.blk t).view.emb (ix2 j0 j1) 0).val = _
      blk_simp [idx_in t]
      exact congrArg (· + j0.val) (Nat.mul_comm _ _)
    · show ((win0_1.blk t).view.emb (ix2 j0 j1) 1).val = _
      blk_simp [idx_in t]
  show (V m c main_arg1 : FVec Ideal S16384x1024 .bf16) ((win0_1.blk t).view.emb (ix2 j0 j1)) = _
  rw [e, V_main_arg1, hA]
  rfl

include hW in
/-- The two halves' columns. -/
theorem blk2 (t : Fin cfg0.N) : (iblk m c 2 t : FVec Ideal S1024x2048 .bf16) = em (φ := .bf16) 1024 2048 (fun k l => W k (4112 + l)) := by
  funext j; idx_vars j
  have e : (win0_2.blk t).view.emb (ix2 j0 j1) = ix2 (n0 := 1024) (n1 := 2048) j0 j1 := by
    refine ix2_ext ?_ ?_
    · show ((win0_2.blk t).view.emb (ix2 j0 j1) 0).val = _
      blk_simp [idx_in t]
    · show ((win0_2.blk t).view.emb (ix2 j0 j1) 1).val = _
      blk_simp [idx_in t]
  show (V m c main_v2 : FVec Ideal S1024x2048 .bf16) ((win0_2.blk t).view.emb (ix2 j0 j1)) = _
  rw [e, V2, hW]
  pointwise [em]

include hW in
/-- The two gates' columns. -/
theorem blk3 (t : Fin cfg0.N) : (iblk m c 3 t : FVec Ideal S1024x2048 .bf16) = em (φ := .bf16) 1024 2048 (fun k l => W k (6160 + l)) := by
  funext j; idx_vars j
  have e : (win0_3.blk t).view.emb (ix2 j0 j1) = ix2 (n0 := 1024) (n1 := 2048) j0 j1 := by
    refine ix2_ext ?_ ?_
    · show ((win0_3.blk t).view.emb (ix2 j0 j1) 0).val = _
      blk_simp [idx_in t]
    · show ((win0_3.blk t).view.emb (ix2 j0 j1) 1).val = _
      blk_simp [idx_in t]
  show (V m c main_v4 : FVec Ideal S1024x2048 .bf16) ((win0_3.blk t).view.emb (ix2 j0 j1)) = _
  rw [e, V4, hW]
  pointwise [em]

include hG in
/-- The mixed half's scales. -/
theorem blk4 (t : Fin cfg0.N) : (iblk m c 4 t : FVec Ideal S1x1024 .f32) = em (φ := .f32) 1 1024 (fun _ l => G l) := by
  funext j; idx_vars j
  have e : (win0_4.blk t).view.emb (ix2 j0 j1) = ix2 (n0 := 1) (n1 := 1024) j0 j1 := by
    refine ix2_ext ?_ ?_
    · show ((win0_4.blk t).view.emb (ix2 j0 j1) 0).val = _
      blk_simp [idx_in t]
    · show ((win0_4.blk t).view.emb (ix2 j0 j1) 1).val = _
      blk_simp [idx_in t]
  show (V m c main_v15 : FVec Ideal S1x1024 .f32) ((win0_4.blk t).view.emb (ix2 j0 j1)) = _
  rw [e, V15, hG]
  pointwise [em]

include hB in
/-- Its offsets. -/
theorem blk5 (t : Fin cfg0.N) : (iblk m c 5 t : FVec Ideal S1x1024 .f32) = em (φ := .f32) 1 1024 (fun _ l => B l) := by
  funext j; idx_vars j
  have e : (win0_5.blk t).view.emb (ix2 j0 j1) = ix2 (n0 := 1) (n1 := 1024) j0 j1 := by
    refine ix2_ext ?_ ?_
    · show ((win0_5.blk t).view.emb (ix2 j0 j1) 0).val = _
      blk_simp [idx_in t]
    · show ((win0_5.blk t).view.emb (ix2 j0 j1) 1).val = _
      blk_simp [idx_in t]
  show (V m c main_v16 : FVec Ideal S1x1024 .f32) ((win0_5.blk t).view.emb (ix2 j0 j1)) = _
  rw [e, V16, hB]
  pointwise [em]

include hS in
/-- The groups' matrices. -/
theorem blk6 (t : Fin cfg0.N) : (iblk m c 6 t : FVec Ideal S8x128x128 .f32) = et (φ := .f32) 8 128 128 S := by
  funext j; idx_vars j
  have e : (win0_6.blk t).view.emb (ix3 j0 j1 j2) = ix3 (n0 := 8) (n1 := 128) (n2 := 128) j0 j1 j2 := by
    refine ix3_ext ?_ ?_ ?_
    · show ((win0_6.blk t).view.emb (ix3 j0 j1 j2) 0).val = _
      blk_simp [idx_in t]
    · show ((win0_6.blk t).view.emb (ix3 j0 j1 j2) 1).val = _
      blk_simp [idx_in t]
    · show ((win0_6.blk t).view.emb (ix3 j0 j1 j2) 2).val = _
      blk_simp [idx_in t]
  show (V m c main_arg6 : FVec Ideal S8x128x128 .f32) ((win0_6.blk t).view.emb (ix3 j0 j1 j2)) = _
  rw [e, V_main_arg6, hS]
  rfl

include hO in
/-- The groups' offsets. -/
theorem blk7 (t : Fin cfg0.N) : (iblk m c 7 t : FVec Ideal S128x8 .f32) = em (φ := .f32) 128 8 (fun r n => O n r) := by
  funext j; idx_vars j
  have e : (win0_7.blk t).view.emb (ix2 j0 j1) = ix2 (n0 := 128) (n1 := 8) j0 j1 := by
    refine ix2_ext ?_ ?_
    · show ((win0_7.blk t).view.emb (ix2 j0 j1) 0).val = _
      blk_simp [idx_in t]
    · show ((win0_7.blk t).view.emb (ix2 j0 j1) 1).val = _
      blk_simp [idx_in t]
  show (V m c main_v17 : FVec Ideal S128x8 .f32) ((win0_7.blk t).view.emb (ix2 j0 j1)) = _
  rw [e, V17, hO]
  pointwise [em]

include hZ in
/-- The gating unit's output projection. -/
theorem blk8 (t : Fin cfg0.N) : (iblk m c 8 t : FVec Ideal S1024x1024 .bf16) = em (φ := .bf16) 1024 1024 (Z) := by
  funext j; idx_vars j
  have e : (win0_8.blk t).view.emb (ix2 j0 j1) = ix2 (n0 := 1024) (n1 := 1024) j0 j1 := by
    refine ix2_ext ?_ ?_
    · show ((win0_8.blk t).view.emb (ix2 j0 j1) 0).val = _
      blk_simp [idx_in t]
    · show ((win0_8.blk t).view.emb (ix2 j0 j1) 1).val = _
      blk_simp [idx_in t]
  show (V m c main_v18 : FVec Ideal S1024x1024 .bf16) ((win0_8.blk t).view.emb (ix2 j0 j1)) = _
  rw [e, V18, hZ]
  pointwise [em]

include hD in
/-- The other branch's. -/
theorem blk9 (t : Fin cfg0.N) : (iblk m c 9 t : FVec Ideal S1024x1024 .bf16) = em (φ := .bf16) 1024 1024 (D) := by
  funext j; idx_vars j
  have e : (win0_9.blk t).view.emb (ix2 j0 j1) = ix2 (n0 := 1024) (n1 := 1024) j0 j1 := by
    refine ix2_ext ?_ ?_
    · show ((win0_9.blk t).view.emb (ix2 j0 j1) 0).val = _
      blk_simp [idx_in t]
    · show ((win0_9.blk t).view.emb (ix2 j0 j1) 1).val = _
      blk_simp [idx_in t]
  show (V m c main_v19 : FVec Ideal S1024x1024 .bf16) ((win0_9.blk t).view.emb (ix2 j0 j1)) = _
  rw [e, V19, hD]
  pointwise [em]

include hM in
/-- The merge's. -/
theorem blk10 (t : Fin cfg0.N) : (iblk m c 10 t : FVec Ideal S1024x1024 .bf16) = em (φ := .bf16) 1024 1024 (M) := by
  funext j; idx_vars j
  have e : (win0_10.blk t).view.emb (ix2 j0 j1) = ix2 (n0 := 1024) (n1 := 1024) j0 j1 := by
    refine ix2_ext ?_ ?_
    · show ((win0_10.blk t).view.emb (ix2 j0 j1) 0).val = _
      blk_simp [idx_in t]
    · show ((win0_10.blk t).view.emb (ix2 j0 j1) 1).val = _
      blk_simp [idx_in t]
  show (V m c main_v20 : FVec Ideal S1024x1024 .bf16) ((win0_10.blk t).view.emb (ix2 j0 j1)) = _
  rw [e, V20, hM]
  pointwise [em]

include hg in
/-- The hidden state's scales. -/
theorem blk11 (t : Fin cfg0.N) : (iblk m c 11 t : FVec Ideal S1x1024 .f32) = em (φ := .f32) 1 1024 (fun _ l => g l) := by
  funext j; idx_vars j
  have e : (win0_11.blk t).view.emb (ix2 j0 j1) = ix2 (n0 := 1) (n1 := 1024) j0 j1 := by
    refine ix2_ext ?_ ?_
    · show ((win0_11.blk t).view.emb (ix2 j0 j1) 0).val = _
      blk_simp [idx_in t]
    · show ((win0_11.blk t).view.emb (ix2 j0 j1) 1).val = _
      blk_simp [idx_in t]
  show (V m c main_v21 : FVec Ideal S1x1024 .f32) ((win0_11.blk t).view.emb (ix2 j0 j1)) = _
  rw [e, V21, hg]
  pointwise [em]

include hb in
/-- Its offsets. -/
theorem blk12 (t : Fin cfg0.N) : (iblk m c 12 t : FVec Ideal S1x1024 .f32) = em (φ := .f32) 1 1024 (fun _ l => b l) := by
  funext j; idx_vars j
  have e : (win0_12.blk t).view.emb (ix2 j0 j1) = ix2 (n0 := 1) (n1 := 1024) j0 j1 := by
    refine ix2_ext ?_ ?_
    · show ((win0_12.blk t).view.emb (ix2 j0 j1) 0).val = _
      blk_simp [idx_in t]
    · show ((win0_12.blk t).view.emb (ix2 j0 j1) 1).val = _
      blk_simp [idx_in t]
  show (V m c main_v22 : FVec Ideal S1x1024 .f32) ((win0_12.blk t).view.emb (ix2 j0 j1)) = _
  rw [e, V22, hb]
  pointwise [em]

include hX hA hW hD hG hB hS hO hZ hM hg hb in
/-- What a point writes back. -/
theorem point15 (t : Fin cfg0.N) (y : S512x1024.Idx) :
    ((dats m 0 c).flushed 15 t : FVec Ideal S512x1024 .f32) y = hs sT X A (fun k l => W k (4112 + l)) (fun k l => W k (6160 + l)) G B S O Z D M g b (512 * t.val + (y 0).val) (y 1).val := by
  rw [flushed15_A]
  show out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = _
  rw [blk0 m c X hX, blk1 m c A hA, blk2 m c W hW, blk3 m c W hW, blk4 m c G hG, blk5 m c B hB, blk6 m c S hS, blk7 m c O hO, blk8 m c Z hZ, blk9 m c D hD, blk10 m c M hM, blk11 m c g hg, blk12 m c b hb]
  refine (congrFun (out15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _)
    (fun r => X (512 * t.val + r)) (fun r => A (512 * t.val + r)) (fun k l => W k (4112 + l)) (fun k l => W k (6160 + l)) G B S O Z D M g b (iblk m c 13 t) (iblk m c 14 t)) y).trans ?_
  exact hs_shift sT X A _ _ G B S O Z D M g b t.val (y 0).val (y 1).val

include hX hA hW hD hG hB hS hO hZ hM hg hb in
/-- The kernel's hidden state. -/
theorem out (a0 : Fin 16384) (a1 : Fin 1024) :
    ((dats m 0 c).arrAt 15 cfg0.N : FVec Ideal S16384x1024 .f32) (ix2 a0 a1) = hs sT X A (fun k l => W k (4112 + l)) (fun k l => W k (6160 + l)) G B S O Z D M g b a0.val a1.val := by
  have hN : a0.val / 512 < cfg0.N := by have : cfg0.N = 32 := N_0; omega
  have e : (win0_15.blk ⟨a0.val / 512, hN⟩).view.emb (ix2 ⟨a0.val % 512, Nat.mod_lt _ (by decide)⟩ a1) = ix2 (n0 := 16384) (n1 := 1024) a0 a1 := by
    refine ix2_ext ?_ ?_
    · show ((win0_15.blk ⟨a0.val / 512, hN⟩).view.emb (ix2 ⟨a0.val % 512, Nat.mod_lt _ (by decide)⟩ a1) 0).val = _
      blk_simp [idx_in ⟨a0.val / 512, hN⟩]
      exact (congrArg (· + a0.val % 512) (Nat.mul_comm _ _)).trans (Nat.div_add_mod _ _)
    · show ((win0_15.blk ⟨a0.val / 512, hN⟩).view.emb (ix2 ⟨a0.val % 512, Nat.mod_lt _ (by decide)⟩ a1) 1).val = _
      blk_simp [idx_in ⟨a0.val / 512, hN⟩]
  have h := congrFun (blocks15 m c ⟨a0.val / 512, hN⟩ (flush0_15 _)) (ix2 ⟨a0.val % 512, Nat.mod_lt _ (by decide)⟩ a1)
  have h' : ((dats m 0 c).arrAt 15 cfg0.N : FVec Ideal S16384x1024 .f32) ((win0_15.blk ⟨a0.val / 512, hN⟩).view.emb (ix2 ⟨a0.val % 512, Nat.mod_lt _ (by decide)⟩ a1))
      = hs sT X A (fun k l => W k (4112 + l)) (fun k l => W k (6160 + l)) G B S O Z D M g b (512 * (a0.val / 512) + a0.val % 512) a1.val :=
    h.trans (point15 m c X A W Z D M O G B g b S hX hA hW hD hG hB hS hO hZ hM hg hb ⟨a0.val / 512, hN⟩ (ix2 ⟨a0.val % 512, Nat.mod_lt _ (by decide)⟩ a1))
  rw [e, Nat.div_add_mod] at h'
  exact h'
end

end Cert.MergeIdeal.Own
-- ==== Proof.MergeRef.lean ====
/- The merge reference's result over the sequences' rows. -/
module

public import proofs.«01_k».proof.Proof.Gen.ReferenceMergeIdeal.Run
public import proofs.«01_k».proof.Proof.MergeMath
public import Idealize.ShloMosaic.Lib.Pointwise
public import Idealize.ShloMosaic.Lib.IdealHost

@[expose] public section

set_option maxRecDepth 16384

noncomputable section

namespace Cert.ReferenceMergeIdeal.Own

open Idealize.ShloMosaic Idealize.SL.Sem Cert.ReferenceMergeIdeal Cert.ReferenceMergeIdeal.Gen Idealize.ShloMosaic.Pointwise
open Cert.ProjMath Cert.MergeMath Finset Cert.ReferenceMergeIdeal.Value Idealize.ShloMosaic.StableHlo

/-- The array of the eight sequences' rows. -/
def seqs (n : ℕ) (f : ℕ → ℕ → EReal) : FVec Ideal ⟨3, ![8, 2048, n]⟩ .f32 := fun i => f (2048 * (i 0).val + (i 1).val) (i 2).val

/-- The projection of every row onto the last 4096 columns. -/
def dotW (x : FVec Ideal S8x2048x1024 .f32) (w : FVec Ideal S1024x8208 .f32) : FVec Ideal S8x2048x4096 .f32 :=
  Host.dotGeneral dot_S8x2048x1024_S1024x4096_S8x2048x4096_2_0_01_1_n_n none x (extractStridedSlice S1024x4096 ![0, 4112] w slices_S1024x8208_S1024x4096_0_4112)

/-- The projection of every row by a square weight. -/
def dotR (x : FVec Ideal S8x2048x1024 .f32) (w : FVec Ideal S1024x1024 .f32) : FVec Ideal S8x2048x1024 .f32 :=
  Host.dotGeneral dot_S8x2048x1024_S1024x1024_S8x2048x1024_2_0_01_1_n_n none x w

/-- The activation of the two halves. -/
def actR (d : FVec Ideal S8x2048x4096 .f32) : FVec Ideal S8x2048x2048 .f32 :=
  mulf (mulf (broadcastInDim S8x2048x2048 ![] bcast_S_S8x2048x2048 (constant S_ .f32 0x3F000000#32)) (extractStridedSlice S8x2048x2048 ![0, 0, 0] d slices_S8x2048x4096_S8x2048x2048_0_0_0))
    (Host.erfc (mulf (Host.negf (extractStridedSlice S8x2048x2048 ![0, 0, 0] d slices_S8x2048x4096_S8x2048x2048_0_0_0)) (broadcastInDim S8x2048x2048 ![] bcast_S_S8x2048x2048 (constant S_ .f32 0x3F3504F3#32))))

/-- A row's numbers, one each, over its columns. -/
def wide (s : FVec Ideal S8x2048x1 .f32) : FVec Ideal S8x2048x1024 .f32 := broadcastInDim S8x2048x1024 ![0, 1, 2] bcast_S8x2048x1_S8x2048x1024_0_1_2 s

/-- Every row's mean. -/
def meanR (x : FVec Ideal S8x2048x1024 .f32) : FVec Ideal S8x2048x1 .f32 :=
  Host.divf (broadcastInDim S8x2048x1 ![0, 1] bcast_S8x2048_S8x2048x1_0_1 (Host.reduceAdd x (constant S_ .f32 0x00000000#32) reducesTo_S8x2048x1024_S8x2048_d2 h_S_)) (broadcastInDim S8x2048x1 ![] bcast_S_S8x2048x1 (constant S_ .f32 0x44800000#32))

/-- A row of numbers over all rows. -/
def spread (g : FVec Ideal S1024 .f32) : FVec Ideal S8x2048x1024 .f32 := broadcastInDim S8x2048x1024 ![0, 1, 2] bcast_S1x1x1024_S8x2048x1024_0_1_2 (broadcastInDim S1x1x1024 ![2] bcast_S1024_S1x1x1024_2 g)

/-- Every row's norm. -/
def normR (x : FVec Ideal S8x2048x1024 .f32) (g b : FVec Ideal S1024 .f32) : FVec Ideal S8x2048x1024 .f32 :=
  addf (mulf (mulf (subf x (wide (meanR x))) (wide (Host.rsqrt (addf (meanR (mulf (subf x (wide (meanR x))) (subf x (wide (meanR x))))) (broadcastInDim S8x2048x1 ![] bcast_S_S8x2048x1 (constant S_ .f32 0x3727C5AC#32)))))) (spread g)) (spread b)

/-- The groups' matrices, zero over the diagonal. -/
def causal (s : FVec Ideal S8x128x128 .f32) : FVec Ideal S8x128x128 .f32 :=
  select (broadcastInDim S8x128x128 ![1, 2] bcast_S128x128_S8x128x128_1_2 (cmpi .sge (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0))))) s
    (broadcastInDim S8x128x128 ![] bcast_S_S8x128x128 (id (constant S_ .f32 0x00000000#32)))

/-- The groups' offsets over all chunks and columns. -/
def offs (o : FVec Ideal S8x128 .f32) : FVec Ideal S8x16x128x8x128 .f32 :=
  broadcastInDim S8x16x128x8x128 ![0, 1, 2, 3, 4] bcast_S1x1x128x8x1_S8x16x128x8x128_0_1_2_3_4 (broadcastInDim S1x1x128x8x1 ![2, 3, 4] bcast_S128x8x1_S1x1x128x8x1_2_3_4
    (broadcastInDim S128x8x1 ![0, 1] bcast_S128x8_S128x8x1_0_1 (transpose S128x8 [1, 0] o transposes_S8x128_S128x8_1_0)))

/-- A product by chunks and groups, of the groups' matrices with the chunks' rows. -/
def prod (v : FVec Ideal S8x16x128x8x128 .f32) (s : FVec Ideal S8x128x128 .f32) : FVec Ideal S8x16x128x8x128 .f32 :=
  transpose S8x16x128x8x128 [1, 2, 4, 0, 3] (Host.dotGeneral dot_S8x16x128x8x128_S8x128x128_S8x8x16x128x128_2_2_014_1_3_0 none v s) transposes_S8x8x16x128x128_S8x16x128x8x128_1_2_4_0_3

/-- The causal mix inside the chunks. -/
def mixR (v : FVec Ideal S8x2048x1024 .f32) (s : FVec Ideal S8x128x128 .f32) (o : FVec Ideal S8x128 .f32) : FVec Ideal S8x2048x1024 .f32 :=
  shapeCast _ (addf (prod (shapeCast _ v shapeCasts_S8x2048x1024_S8x16x128x8x128) (causal s)) (offs o)) shapeCasts_S8x16x128x8x128_S8x2048x1024

/-- The logistic function. -/
def sgR (z : FVec Ideal S8x2048x1024 .f32) : FVec Ideal S8x2048x1024 .f32 :=
  Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf z)))

/-- The two branches' gated sum. -/
def bothR (d : FVec Ideal S8x2048x4096 .f32) (a : FVec Ideal S16384x1024 .bf16) (w3 : FVec Ideal S1024x1024 .f32) (g b : FVec Ideal S1024 .f32) (s : FVec Ideal S8x128x128 .f32) (o : FVec Ideal S8x128 .f32) (w8 : FVec Ideal S1024x1024 .f32) : FVec Ideal S8x2048x1024 .f32 :=
  addf (mulf (sgR (extractStridedSlice S8x2048x1024 ![0, 0, 2048] d slices_S8x2048x4096_S8x2048x1024_0_0_2048)) (dotR (shapeCast _ (extf .f32 a bitsLt_bf16_f32) shapeCasts_S16384x1024_S8x2048x1024) w3))
    (mulf (sgR (extractStridedSlice S8x2048x1024 ![0, 0, 3072] d slices_S8x2048x4096_S8x2048x1024_0_0_3072))
      (dotR (mulf (extractStridedSlice S8x2048x1024 ![0, 0, 0] (actR d) slices_S8x2048x2048_S8x2048x1024_0_0_0)
        (mixR (normR (extractStridedSlice S8x2048x1024 ![0, 0, 1024] (actR d) slices_S8x2048x2048_S8x2048x1024_0_0_1024) g b) s o)) w8))

/-- The result from the gated sum. -/
def hidR (x y : FVec Ideal S8x2048x1024 .f32) (w9 : FVec Ideal S1024x1024 .f32) (g b : FVec Ideal S1024 .f32) : FVec Ideal S16384x1024 .f32 :=
  shapeCast _ (normR (addf (mulf (broadcastInDim S8x2048x1024 ![] bcast_S_S8x2048x1024 (constant S_ .f32 0x3F9837F0#32)) x) (dotR y w9)) g b) shapeCasts_S8x2048x1024_S16384x1024

/-- The result read back is that. -/
theorem res_eq (m : (ℓ : Loc nD τ sig) → Buf (Elt Ideal) ℓ) (c : Dev nD) :
    res_main_v99 m c = hidR (m ((c.tc : Thread nD τ).loc main_arg0)) (bothR (dotW (m ((c.tc : Thread nD τ).loc main_arg0)) (m ((c.tc : Thread nD τ).loc main_arg2))) (m ((c.tc : Thread nD τ).loc main_arg1)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      (m ((c.tc : Thread nD τ).loc main_arg9)) (m ((c.tc : Thread nD τ).loc main_arg10)) (m ((c.tc : Thread nD τ).loc main_arg11)) := rfl

/-! ## Their values -/

/-- The projection's entries. -/
theorem dotW_seqs (X W : ℕ → ℕ → EReal) : dotW (seqs 1024 X) (fun i => W (i 0).val (i 1).val) = seqs 4096 (fun r p => pr X W r (4112 + p)) := by
  funext i; idx_vars i
  pointwise [dotW, seqs, pr]

/-- A square projection's. -/
theorem dotR_seqs (X W : ℕ → ℕ → EReal) : dotR (seqs 1024 X) (fun i => W (i 0).val (i 1).val) = seqs 1024 (pr X W) := by
  funext i; idx_vars i
  pointwise [dotR, seqs, pr]

/-- The activation's. -/
theorem actR_seqs (f : ℕ → ℕ → EReal) : actR (seqs 4096 f) = seqs 2048 (fun r p => ge (f r p)) := by
  funext i; idx_vars i
  pointwise [actR, seqs]
  exact ge_erfc _

/-- The norm's. -/
theorem normR_seqs (f : ℕ → ℕ → EReal) (G B : ℕ → EReal) : normR (seqs 1024 f) (fun i => G (i 0).val) (fun i => B (i 0).val) = seqs 1024 (fun r p => ln (f r) G B p) := by
  funext i; idx_vars i
  pointwise [normR, wide, meanR, spread, seqs, ln, mean]

/-- The logistic function's. -/
theorem sgR_seqs (f : ℕ → ℕ → EReal) : sgR (seqs 1024 f) = seqs 1024 (fun r p => sg (f r p)) := by
  funext i; idx_vars i
  pointwise [sgR, seqs, sg]

/-- The matrices' entries. -/
theorem causal_at (S : ℕ → ℕ → ℕ → EReal) (g : Fin 8) (r s : Fin 128) :
    causal (fun i => S (i 0).val (i 1).val (i 2).val) (ix3 g r s) = if s.val ≤ r.val then S g.val r.val s.val else 0 := by
  have key : ∀ r s : Fin 128, IntOp.cmpi CmpIPredicate.sge (BitVec.ofNat 32 r.val) (BitVec.ofNat 32 s.val) = if s.val ≤ r.val then 1#1 else 0#1 := by decide +kernel
  pointwise [causal]
  rw [key]
  split_ifs
  · rfl
  · exact Ideal.ofBits_zero .f32

/-- The mix's. -/
theorem mixR_seqs (V : ℕ → ℕ → EReal) (S : ℕ → ℕ → ℕ → EReal) (O : ℕ → ℕ → EReal) :
    mixR (seqs 1024 V) (fun i => S (i 0).val (i 1).val (i 2).val) (fun i => O (i 0).val (i 1).val) = seqs 1024 (mx S O V) := by
  funext i; idx_vars i
  pointwise [mixR, prod, offs, seqs, causal_at, mx]
  have e1 : (2048 * i0.val + i1.val) % 128 = i1.val % 128 := by omega
  have e2 : ∀ k : ℕ, 128 * ((2048 * i0.val + i1.val) / 128) + k = 2048 * i0.val + (i1.val / 128 * 128 + k) := fun k => by omega
  simp only [e1, e2]
  exact congrArg (· + O (i2.val / 128) (i1.val % 128)) (Finset.sum_congr rfl fun k _ => mul_comm _ _)

/-- A group of columns. -/
theorem cut_seqs (n : ℕ) (f : ℕ → ℕ → EReal) (o : ℕ) (h : (⟨3, ![8, 2048, n]⟩ : Shape).Slices ![0, 0, o] S8x2048x1024) :
    extractStridedSlice S8x2048x1024 ![0, 0, o] (seqs n f) h = seqs 1024 (fun r p => f r (o + p)) := by
  funext i
  show f (2048 * (0 + (i 0).val) + (0 + (i 1).val)) (o + (i 2).val) = f (2048 * (i 0).val + (i 1).val) (o + (i 2).val)
  rw [Nat.zero_add, Nat.zero_add]

/-- The rows of the recurrence's branch. -/
theorem rows_seqs (A : ℕ → ℕ → EReal) : shapeCast S8x2048x1024 (extf .f32 (fun i => A (i 0).val (i 1).val : FVec Ideal S16384x1024 .bf16) bitsLt_bf16_f32) shapeCasts_S16384x1024_S8x2048x1024 = seqs 1024 A := by
  funext i; idx_vars i
  pointwise [seqs]
  rw [Nat.mul_comm]

/-- A product of entries. -/
theorem mul_seqs (f h : ℕ → ℕ → EReal) : mulf (seqs 1024 f) (seqs 1024 h) = seqs 1024 (fun r p => f r p * h r p) := rfl

/-- A sum of entries. -/
theorem add_seqs (f h : ℕ → ℕ → EReal) : addf (seqs 1024 f) (seqs 1024 h) = seqs 1024 (fun r p => f r p + h r p) := rfl

/-- The product by one number. -/
theorem scale_seqs (f : ℕ → ℕ → EReal) : mulf (broadcastInDim S8x2048x1024 ![] bcast_S_S8x2048x1024 (constant S_ .f32 0x3F9837F0#32)) (seqs 1024 f) = seqs 1024 (fun r p => alB * f r p) := rfl

/-- The gated sum's entries. -/
theorem bothR_seqs (X W A D Z O : ℕ → ℕ → EReal) (G B : ℕ → EReal) (S : ℕ → ℕ → ℕ → EReal) :
    bothR (dotW (seqs 1024 X) (fun i => W (i 0).val (i 1).val)) (fun i => A (i 0).val (i 1).val) (fun i => D (i 0).val (i 1).val) (fun i => G (i 0).val) (fun i => B (i 0).val)
      (fun i => S (i 0).val (i 1).val (i 2).val) (fun i => O (i 0).val (i 1).val) (fun i => Z (i 0).val (i 1).val)
      = seqs 1024 (both sg X A (fun k l => W k (4112 + l)) (fun k l => W k (6160 + l)) G B S O Z D) := by
  unfold bothR
  rw [dotW_seqs, rows_seqs, actR_seqs, cut_seqs, cut_seqs, cut_seqs, cut_seqs, sgR_seqs, sgR_seqs, dotR_seqs, normR_seqs, mixR_seqs, mul_seqs, mul_seqs, dotR_seqs, mul_seqs, add_seqs]
  refine congrArg (seqs 1024) (funext fun r => funext fun p => ?_)
  have e0 : ∀ q : ℕ, pr X W r (4112 + (2048 + q)) = pr X (fun k l => W k (6160 + l)) r q := fun q => Finset.sum_congr rfl fun k _ => by
    show X r k.val * W k.val (4112 + (2048 + q)) = X r k.val * W k.val (6160 + q)
    rw [show 4112 + (2048 + q) = 6160 + q by omega]
  have e1 : ∀ q : ℕ, pr X W r (4112 + (3072 + q)) = pr X (fun k l => W k (6160 + l)) r (1024 + q) := fun q => Finset.sum_congr rfl fun k _ => by
    show X r k.val * W k.val (4112 + (3072 + q)) = X r k.val * W k.val (6160 + (1024 + q))
    rw [show 4112 + (3072 + q) = 6160 + (1024 + q) by omega]
  have e2 : (fun r p => ge (pr X W r (4112 + (0 + p))) * mx S O (fun r p => ln (fun l => ge (pr X W r (4112 + (1024 + l)))) G B p) r p)
      = gated X (fun k l => W k (4112 + l)) G B S O := by
    funext r p
    rw [Nat.zero_add]
    rfl
  rw [e0, e1, e2]
  rfl

/-- The result's entries. -/
theorem hidR_seqs (X Y M : ℕ → ℕ → EReal) (g b : ℕ → EReal) (r : Fin 16384) (l : Fin 1024) :
    hidR (seqs 1024 X) (seqs 1024 Y) (fun i => M (i 0).val (i 1).val) (fun i => g (i 0).val) (fun i => b (i 0).val) (ix2 r l)
      = ln (fun p => alB * X r.val p + pr Y M r.val p) g b l.val := by
  unfold hidR
  rw [scale_seqs, dotR_seqs, add_seqs, normR_seqs]
  pointwise [seqs]
  rw [Nat.div_add_mod]

end Cert.ReferenceMergeIdeal.Own
-- ==== Proof.MergeClaims.lean ====
/- The merge's claims: its kernel's and its reference's hidden state are the same function of their arguments. -/
module

public import proofs.«01_k».proof.Defs
public import proofs.«01_k».proof.Proof.ProjClaims
public import proofs.«01_k».proof.Proof.MergeGrid
public import proofs.«01_k».proof.Proof.MergeRef
public import Idealize.ShloMosaic.Lib.Quiescent

@[expose] public section

noncomputable section

namespace Cert.MergeOwn

open Idealize.ShloMosaic Idealize.SL.Sem Idealize.ShloMosaic.Pointwise Cert.ProjMath Cert.MergeMath Cert.ProjOwn

/-- A matrix as a function of its coordinates' values. -/
theorem mat {p q : ℕ} {φ : FTy} (f : FVec Ideal ⟨2, ![p, q]⟩ φ) : ∃ X : ℕ → ℕ → EReal, f = fun i => X (i 0).val (i 1).val := by
  refine ⟨fun a b => if hab : a < p ∧ b < q then f (ix2 ⟨a, hab.1⟩ ⟨b, hab.2⟩) else 0, ?_⟩
  funext i
  have e : i = ix2 (i 0) (i 1) := by funext a; fin_cases a <;> rfl
  have hi : (i 0).val < p ∧ (i 1).val < q := ⟨(i 0).isLt, (i 1).isLt⟩
  refine Eq.trans ?_ (dif_pos hi).symm
  exact congrArg f e

/-- A stack of matrices as a function of its coordinates' values. -/
theorem stack {p q n : ℕ} {φ : FTy} (f : FVec Ideal ⟨3, ![p, q, n]⟩ φ) : ∃ X : ℕ → ℕ → ℕ → EReal, f = fun i => X (i 0).val (i 1).val (i 2).val := by
  refine ⟨fun a b d => if h : a < p ∧ b < q ∧ d < n then f (ix3 ⟨a, h.1⟩ ⟨b, h.2.1⟩ ⟨d, h.2.2⟩) else 0, ?_⟩
  funext i
  have e : i = ix3 (i 0) (i 1) (i 2) := by funext a; fin_cases a <;> rfl
  have hi : (i 0).val < p ∧ (i 1).val < q ∧ (i 2).val < n := ⟨(i 0).isLt, (i 1).isLt, (i 2).isLt⟩
  refine Eq.trans ?_ (dif_pos hi).symm
  exact congrArg f e

/-- The eight sequences' rows as a function of the row and the column. -/
theorem rows (f : FVec Ideal ⟨3, ![8, 2048, 1024]⟩ .f32) : ∃ X : ℕ → ℕ → EReal, f = fun i => X (2048 * (i 0).val + (i 1).val) (i 2).val := by
  refine ⟨fun a b => if hab : a / 2048 < 8 ∧ b < 1024 then f (ix3 ⟨a / 2048, hab.1⟩ ⟨a % 2048, Nat.mod_lt _ (by decide)⟩ ⟨b, hab.2⟩) else 0, ?_⟩
  funext i
  have b0 : (i 0).val < 8 := (i 0).isLt
  have b1 : (i 1).val < 2048 := (i 1).isLt
  have b2 : (i 2).val < 1024 := (i 2).isLt
  have hi : (2048 * (i 0).val + (i 1).val) / 2048 < 8 ∧ (i 2).val < 1024 := ⟨by omega, b2⟩
  refine Eq.trans ?_ (dif_pos hi).symm
  refine congrArg f ?_
  funext a
  fin_cases a
  · exact Fin.ext (show (i 0).val = (2048 * (i 0).val + (i 1).val) / 2048 by omega)
  · exact Fin.ext (show (i 1).val = (2048 * (i 0).val + (i 1).val) % 2048 by omega)
  · rfl

/-- The reference runs, leaves its arguments and every semaphore at zero. -/
theorem frameR : Cert.quiescent_ReferenceMergeIdeal := fun m ρ _ =>
  (θ_run Cert.ReferenceMergeIdeal.defs _ _).mono (fun r h => ⟨fun c => (h c).2,
      Idealize.ShloMosaic.sem_eq_zero_of_no_sems (by decide) r.2⟩)
    (Cert.ReferenceMergeIdeal.Value.run (F := Ideal) m ρ)

/-- On arguments that hold the same numbers the reference's hidden state is the kernel's. -/
theorem result_eq (m : (ℓ : Loc Cert.MergeIdeal.nD Cert.MergeIdeal.τ Cert.MergeIdeal.sig) → Buf (Elt Ideal) ℓ) (c : Dev Cert.MergeIdeal.nD)
    (x0 : FVec Ideal ReferenceMergeIdeal.S8x2048x1024 .f32) (x1 : FVec Ideal ReferenceMergeIdeal.S16384x1024 .bf16) (x2 : FVec Ideal ReferenceMergeIdeal.S1024x8208 .f32) (x3 : FVec Ideal ReferenceMergeIdeal.S1024x1024 .f32) (x4 : FVec Ideal ReferenceMergeIdeal.S1024 .f32) (x5 : FVec Ideal ReferenceMergeIdeal.S1024 .f32) (x6 : FVec Ideal ReferenceMergeIdeal.S8x128x128 .f32) (x7 : FVec Ideal ReferenceMergeIdeal.S8x128 .f32) (x8 : FVec Ideal ReferenceMergeIdeal.S1024x1024 .f32) (x9 : FVec Ideal ReferenceMergeIdeal.S1024x1024 .f32) (x10 : FVec Ideal ReferenceMergeIdeal.S1024 .f32) (x11 : FVec Ideal ReferenceMergeIdeal.S1024 .f32)
    (h0 : x0 = m (c.tc.loc Cert.MergeIdeal.main_arg0)) (h1 : x1 = m (c.tc.loc Cert.MergeIdeal.main_arg1)) (h2 : x2 = m (c.tc.loc Cert.MergeIdeal.main_arg2)) (h3 : x3 = m (c.tc.loc Cert.MergeIdeal.main_arg3)) (h4 : x4 = m (c.tc.loc Cert.MergeIdeal.main_arg4)) (h5 : x5 = m (c.tc.loc Cert.MergeIdeal.main_arg5)) (h6 : x6 = m (c.tc.loc Cert.MergeIdeal.main_arg6)) (h7 : x7 = m (c.tc.loc Cert.MergeIdeal.main_arg7)) (h8 : x8 = m (c.tc.loc Cert.MergeIdeal.main_arg8)) (h9 : x9 = m (c.tc.loc Cert.MergeIdeal.main_arg9)) (h10 : x10 = m (c.tc.loc Cert.MergeIdeal.main_arg10)) (h11 : x11 = m (c.tc.loc Cert.MergeIdeal.main_arg11)) :
    ReferenceMergeIdeal.Own.hidR x0 (ReferenceMergeIdeal.Own.bothR (ReferenceMergeIdeal.Own.dotW x0 x2) x1 x3 x4 x5 x6 x7 x8) x9 x10 x11
      = ((Cert.MergeIdeal.Gen.dats m 0 c).arrAt 15 Cert.MergeIdeal.cfg0.N : FVec Ideal MergeIdeal.S16384x1024 .f32) := by
  obtain ⟨X, hX⟩ := rows (m (c.tc.loc Cert.MergeIdeal.main_arg0))
  obtain ⟨A, hA⟩ := mat (p := 16384) (q := 1024) (φ := .bf16) (m (c.tc.loc Cert.MergeIdeal.main_arg1))
  obtain ⟨W, hW⟩ := mat (p := 1024) (q := 8208) (φ := .f32) (m (c.tc.loc Cert.MergeIdeal.main_arg2))
  obtain ⟨D, hD⟩ := mat (p := 1024) (q := 1024) (φ := .f32) (m (c.tc.loc Cert.MergeIdeal.main_arg3))
  obtain ⟨O, hO⟩ := mat (p := 8) (q := 128) (φ := .f32) (m (c.tc.loc Cert.MergeIdeal.main_arg7))
  obtain ⟨Z, hZ⟩ := mat (p := 1024) (q := 1024) (φ := .f32) (m (c.tc.loc Cert.MergeIdeal.main_arg8))
  obtain ⟨M, hM⟩ := mat (p := 1024) (q := 1024) (φ := .f32) (m (c.tc.loc Cert.MergeIdeal.main_arg9))
  obtain ⟨G, hG⟩ := of1 (n := 1024) (φ := .f32) (m (c.tc.loc Cert.MergeIdeal.main_arg4))
  obtain ⟨B, hB⟩ := of1 (n := 1024) (φ := .f32) (m (c.tc.loc Cert.MergeIdeal.main_arg5))
  obtain ⟨g, hg⟩ := of1 (n := 1024) (φ := .f32) (m (c.tc.loc Cert.MergeIdeal.main_arg10))
  obtain ⟨b, hb⟩ := of1 (n := 1024) (φ := .f32) (m (c.tc.loc Cert.MergeIdeal.main_arg11))
  obtain ⟨S, hS⟩ := stack (p := 8) (q := 128) (n := 128) (φ := .f32) (m (c.tc.loc Cert.MergeIdeal.main_arg6))
  rw [h0.trans hX, h1.trans hA, h2.trans hW, h3.trans hD, h4.trans hG, h5.trans hB, h6.trans hS, h7.trans hO, h8.trans hZ, h9.trans hM, h10.trans hg, h11.trans hb]
  have hb' := ReferenceMergeIdeal.Own.bothR_seqs X W A D Z O G B S
  funext i
  have e : i = ix2 (i 0) (i 1) := by funext a; fin_cases a <;> rfl
  refine (congrArg _ e).trans (Eq.trans ?_ ((MergeIdeal.Own.out m c X A W Z D M O G B g b S hX hA hW hD hG hB hS hO hZ hM hg hb (i 0) (i 1)).symm.trans (congrArg _ e.symm)))
  refine (congrFun (congrArg (fun y => ReferenceMergeIdeal.Own.hidR _ y _ _ _) hb') _).trans ?_
  refine (ReferenceMergeIdeal.Own.hidR_seqs X _ M g b (i 0) (i 1)).trans ?_
  exact (hs_sg X A (fun k l => W k (4112 + l)) (fun k l => W k (6160 + l)) G B S O Z D M g b (i 0).val (i 1).val).symm

/-- The kernel's hidden state is the reference's. -/
theorem algebraic : Cert.algebraic_MergeIdeal_ReferenceMergeIdeal := by
  intro m g m' g' _ hag
  refine ⟨fun c => (Cert.MergeIdeal.Gen.dats m 0 c).arrAt 15 Cert.MergeIdeal.cfg0.N, (θ_run Cert.MergeIdeal.defs _ _).mono (fun r h c => ⟨(h c).1, (h c).2.2.2.2⟩) (Cert.MergeIdeal.Value.run_blocks (F := Ideal) m g), ?_⟩
  refine (θ_run Cert.ReferenceMergeIdeal.defs _ _).mono (fun r h c => ?_) (Cert.ReferenceMergeIdeal.Value.run (F := Ideal) m' g')
  obtain ⟨a0, a1, a2, a3, a4, a5, a6, a7, a8, a9, a10, a11, _⟩ := hag c
  obtain ⟨r0, hr⟩ := h c
  exact ⟨(r0.trans (Cert.ReferenceMergeIdeal.Own.res_eq m' c)).trans (result_eq m c _ _ _ _ _ _ _ _ _ _ _ _ a0 a1 a2 a3 a4 a5 a6 a7 a8 a9 a10 a11), hr⟩

end Cert.MergeOwn
-- ==== Proof.MoeRoute.lean ====
/- The router of the layer's mixture of experts, over extended reals: the best of four groups, the two best
   of its four experts, and their weights, found by repeated maxima over 128 lanes or by counting the
   entries that come before. Two forms of the weights agree on reals. -/
module

public import proofs.«01_k».proof.Proof.MergeMath

@[expose] public section

noncomputable section

namespace Cert.MoeMath

open Idealize.ShloMosaic Finset Cert.ProjMath

/-! ## By counting -/

/-- Entry `k` comes before entry `j`: it is larger, or equal and earlier. -/
def Before (x : ℕ → EReal) (k j : ℕ) : Prop := x j < x k ∨ (x k = x j ∧ k < j)
open Classical in
/-- How many of four entries come before. -/
def rk (x : ℕ → EReal) (j : ℕ) : EReal := ∑ k : Fin 4, if Before x k.val j then 1 else 0
/-- The largest of four. -/
def big (x : ℕ → EReal) : EReal := Finset.univ.fold max ⊥ fun k : Fin 4 => x k.val
/-- The softmax of four. -/
def sm (x : ℕ → EReal) (j : ℕ) : EReal := Ideal.div (Ideal.exp (x j - big x)) (∑ k : Fin 4, Ideal.exp (x k.val - big x))
open Classical in
/-- The softmax where fewer than `c` entries come before, else zero. -/
def best (c : EReal) (x : ℕ → EReal) (j : ℕ) : EReal := if rk x j < c then sm x j else 0
/-- An expert's share of the two best. -/
def share (x : ℕ → EReal) (j : ℕ) : EReal := Ideal.div (best 2 x j) (∑ k : Fin 4, best 2 x k.val)
/-- An expert's weight, from the groups' logits `x` and the experts' `y`. -/
def weight (x y : ℕ → EReal) (e : ℕ) : EReal := best 1 x (e / 4) * share (fun j => y (4 * (e / 4) + j)) (e % 4)

/-! ## By maxima over lanes -/

/-- The largest of 128 lanes. -/
def top (f : ℕ → EReal) : EReal := Finset.univ.fold max ⊥ fun k : Fin 128 => f k.val
open Classical in
/-- The first lane that holds it. -/
def idx (f : ℕ → EReal) : BitVec 32 := Finset.univ.fold IntOp.minsi 2147483647#32 fun k : Fin 128 => if f k.val = top f then BitVec.ofNat 32 k.val else 128#32
/-- The groups' lanes. -/
def gl (L : ℕ → EReal) (l : ℕ) : EReal := Scalar.select (IntOp.cmpi .slt (BitVec.ofNat 32 l) 4#32) (L l) ⊥
/-- The best group's share. -/
def gp (L : ℕ → EReal) : EReal := Ideal.div 1 (∑ k : Fin 128, Ideal.exp (gl L k.val - top (gl L)))
/-- The first lane of the best group's experts. -/
def lo (L : ℕ → EReal) : BitVec 32 := IntOp.addi 4#32 (IntOp.muli 4#32 (idx (gl L)))
/-- The lanes of the best group's experts. -/
def el (L : ℕ → EReal) (l : ℕ) : EReal :=
  Scalar.select (IntOp.cmpi .sge (BitVec.ofNat 32 l) (lo L)) (Scalar.select (IntOp.cmpi .slt (BitVec.ofNat 32 l) (IntOp.addi (lo L) 4#32)) (L l) ⊥) ⊥
/-- The same without the best. -/
def el2 (L : ℕ → EReal) (l : ℕ) : EReal := Scalar.select (IntOp.cmpi .eq (BitVec.ofNat 32 l) (idx (el L))) ⊥ (el L l)
/-- The second expert's weight over the first one's. -/
def ratio (L : ℕ → EReal) : EReal := Ideal.exp (top (el2 L) - top (el L))
/-- A lane's weight. -/
def lane (L : ℕ → EReal) (l : ℕ) : EReal :=
  Scalar.select (IntOp.cmpi .eq (BitVec.ofNat 32 l) (idx (el L))) (Ideal.div (gp L) (1 + ratio L))
    (Scalar.select (IntOp.cmpi .eq (BitVec.ofNat 32 l) (idx (el2 L))) (Ideal.div (gp L * ratio L) (1 + ratio L)) 0)

/-! ## Firsts -/

/-- Entry `a` is the first largest of `n`. -/
def First (n : ℕ) (x : ℕ → EReal) (a : ℕ) : Prop := a < n ∧ (∀ k, k < n → x k ≤ x a) ∧ ∀ k, k < a → x k < x a

/-- There is one. -/
theorem first_exists (n : ℕ) (hn : 0 < n) (x : ℕ → EReal) : ∃ a, First n x a := by
  classical
  obtain ⟨a, ha, hm⟩ := Finset.exists_max_image (Finset.range n) x ⟨0, Finset.mem_range.mpr hn⟩
  have h : ∃ a, a < n ∧ ∀ k, k < n → x k ≤ x a := ⟨a, Finset.mem_range.mp ha, fun k hk => hm k (Finset.mem_range.mpr hk)⟩
  refine ⟨Nat.find h, (Nat.find_spec h).1, (Nat.find_spec h).2, fun k hk => ?_⟩
  by_contra hc
  exact Nat.find_min h hk ⟨hk.trans (Nat.find_spec h).1, fun j hj => ((Nat.find_spec h).2 j hj).trans (not_lt.mp hc)⟩

/-- The first largest comes before every other. -/
theorem First.before {n : ℕ} {x : ℕ → EReal} {a j : ℕ} (h : First n x a) (hj : j < n) (hne : j ≠ a) : Before x a j := by
  rcases lt_or_eq_of_le (h.2.1 j hj) with h1 | h1
  · exact .inl h1
  · refine .inr ⟨h1.symm, lt_of_le_of_ne (not_lt.mp fun hc => ?_) (Ne.symm hne)⟩
    exact absurd h1 (ne_of_lt (h.2.2 j hc))

/-- Nothing comes before it. -/
theorem First.not_before {n : ℕ} {x : ℕ → EReal} {a k : ℕ} (h : First n x a) (hk : k < n) : ¬ Before x k a := by
  rintro (h1 | ⟨h1, h2⟩)
  · exact absurd h1 (not_lt.mpr (h.2.1 k hk))
  · exact absurd h1 (ne_of_lt (h.2.2 k h2))

/-- The largest of four is the first largest. -/
theorem big_eq {x : ℕ → EReal} {a : ℕ} (h : First 4 x a) : big x = x a :=
  le_antisymm (Finset.fold_max_le _ |>.mpr ⟨bot_le, fun k _ => h.2.1 k.val k.isLt⟩)
    (Finset.le_fold_max _ |>.mpr (.inr ⟨⟨a, h.1⟩, Finset.mem_univ _, le_rfl⟩))

/-- The largest lane is the first largest. -/
theorem top_eq {f : ℕ → EReal} {a : ℕ} (h : First 128 f a) : top f = f a :=
  le_antisymm (Finset.fold_max_le _ |>.mpr ⟨bot_le, fun k _ => h.2.1 k.val k.isLt⟩)
    (Finset.le_fold_max _ |>.mpr (.inr ⟨⟨a, h.1⟩, Finset.mem_univ _, le_rfl⟩))

/-- The smaller of two words, as a number. -/
theorem minsi_toInt (x y : BitVec 32) : (IntOp.minsi x y).toInt = min x.toInt y.toInt := by
  simp only [IntOp.minsi, BitVec.slt, decide_eq_true_eq]
  split_ifs with h
  · exact (min_eq_left (le_of_lt h)).symm
  · exact (min_eq_right (not_lt.mp h)).symm

/-- A lane's number, as an integer. -/
theorem lane_toInt (k : Fin 128) : (BitVec.ofNat 32 k.val).toInt = (k.val : ℤ) := by revert k; decide +kernel

/-- The least lane number found is the first largest's. -/
theorem idx_eq {f : ℕ → EReal} {a : ℕ} (h : First 128 f a) : idx f = BitVec.ofNat 32 a := by
  classical
  apply BitVec.eq_of_toInt_eq
  unfold idx
  rw [← Finset.fold_hom (op' := min) (m := BitVec.toInt) (hm := minsi_toInt), top_eq h]
  have ea := lane_toInt ⟨a, h.1⟩
  have hlt := h.1
  refine le_antisymm (Finset.fold_min_le _ |>.mpr (.inr ⟨⟨a, h.1⟩, Finset.mem_univ _, ?_⟩)) (Finset.le_fold_min _ |>.mpr ⟨?_, fun k _ => ?_⟩)
  · rw [if_pos rfl]
  · rw [ea]
    have : (2147483647#32).toInt = 2147483647 := by decide
    rw [this]
    show (a : ℤ) ≤ _
    omega
  · rw [ea]
    show (a : ℤ) ≤ _
    split_ifs with hk
    · rw [lane_toInt]
      by_contra hc
      exact absurd hk (ne_of_lt (h.2.2 k.val (by omega)))
    · have : (128#32).toInt = 128 := by decide
      rw [this]
      omega

/-! ## Counting the entries before -/

/-- Nothing comes before the first. -/
theorem rk_first {x : ℕ → EReal} {a : ℕ} (h : First 4 x a) : rk x a = 0 := by
  classical
  unfold rk
  exact Finset.sum_eq_zero fun k _ => if_neg (h.not_before k.isLt)

open Classical in
/-- Something comes before any other. -/
theorem rk_ge {x : ℕ → EReal} {a j : ℕ} (ha : a < 4) (h : Before x a j) : 1 ≤ rk x j := by
  unfold rk
  refine le_trans (le_of_eq (if_pos h).symm) (Finset.single_le_sum (f := fun k : Fin 4 => if Before x k.val j then (1 : EReal) else 0) (fun k _ => ?_) (Finset.mem_univ (⟨a, ha⟩ : Fin 4)))
  split_ifs
  exacts [zero_le_one, le_rfl]

/-- The entries other than `a`. -/
def without (a : ℕ) (x : ℕ → EReal) (k : ℕ) : EReal := if k = a then ⊥ else x k

section
variable {x : ℕ → EReal} (hx : ∀ k, k < 4 → IsR (x k)) {a b : ℕ} (h : First 4 x a) (h2 : First 4 (without a x) b)
include hx

omit hx in
theorem coe_pos_bot {y : EReal} (h : IsR y) : ⊥ < y := by obtain ⟨r, rfl⟩ := h; exact EReal.bot_lt_coe r

include h2 in
/-- The second is another. -/
theorem second_ne : b ≠ a := by
  intro e
  have hw : without a x b = ⊥ := if_pos e
  have hb := h2.1
  have : ∃ k, k < 4 ∧ k ≠ a := by
    by_cases h0 : a = 0
    · exact ⟨1, by omega, by omega⟩
    · exact ⟨0, by omega, by omega⟩
  obtain ⟨k, hk, hka⟩ := this
  have h3 := h2.2.1 k hk
  rw [hw, without, if_neg hka] at h3
  exact absurd (coe_pos_bot (hx k hk)) (not_lt.mpr h3)

include h h2

open Classical in
/-- Fewer than two come before exactly the first and the second. -/
theorem rk_two {j : ℕ} (hj : j < 4) : rk x j < 2 ↔ j = a ∨ j = b := by
  have hba := second_ne hx h2
  have hwb : without a x b = x b := if_neg hba
  have one_two : (1 : EReal) < 2 := by exact_mod_cast (by norm_num : (1 : ℝ) < 2)
  have tot : ∑ k : Fin 4, (if k = (⟨a, h.1⟩ : Fin 4) then (1 : EReal) else 0) = 1 := by rw [Finset.sum_ite_eq' Finset.univ (⟨a, h.1⟩ : Fin 4) (fun _ => (1 : EReal)), if_pos (Finset.mem_univ _)]
  have totb : ∑ k : Fin 4, (if k = (⟨b, h2.1⟩ : Fin 4) then (1 : EReal) else 0) = 1 := by rw [Finset.sum_ite_eq' Finset.univ (⟨b, h2.1⟩ : Fin 4) (fun _ => (1 : EReal)), if_pos (Finset.mem_univ _)]
  constructor
  · intro hr
    by_contra hc
    rw [not_or] at hc
    have b1 : Before x a j := h.before hj hc.1
    have b2 : Before x b j := by
      have := h2.before hj hc.2
      unfold Before at this
      rw [hwb, without, if_neg hc.1] at this
      exact this
    refine absurd hr (not_lt.mpr ?_)
    have e2 : (2 : EReal) = ∑ k : Fin 4, ((if k = (⟨a, h.1⟩ : Fin 4) then (1 : EReal) else 0) + (if k = (⟨b, h2.1⟩ : Fin 4) then (1 : EReal) else 0)) := by
      rw [Finset.sum_add_distrib, tot, totb]
      exact_mod_cast (by norm_num : (2 : ℝ) = 1 + 1)
    rw [e2]
    unfold rk
    refine Finset.sum_le_sum fun k _ => ?_
    by_cases ka : k = ⟨a, h.1⟩
    · have kb : k ≠ ⟨b, h2.1⟩ := fun e => hba (Fin.mk.inj_iff.mp (e.symm.trans ka))
      rw [if_pos ka, if_neg kb, add_zero, if_pos (by rw [ka]; exact b1)]
    · by_cases kb : k = ⟨b, h2.1⟩
      · rw [if_neg ka, if_pos kb, zero_add, if_pos (by rw [kb]; exact b2)]
      · rw [if_neg ka, if_neg kb, add_zero]
        split_ifs
        exacts [zero_le_one, le_rfl]
  · rintro (e | e)
    · rw [e, rk_first h]
      exact zero_lt_one.trans one_two
    · refine lt_of_le_of_lt ?_ one_two
      rw [← tot]
      unfold rk
      refine Finset.sum_le_sum fun k _ => ?_
      by_cases ka : k = ⟨a, h.1⟩
      · rw [if_pos ka]
        split_ifs
        exacts [le_rfl, zero_le_one]
      · have kv : k.val ≠ a := fun e => ka (Fin.ext e)
        have : ¬ Before x k.val j := by
          have hn := h2.not_before k.isLt
          unfold Before at hn
          rw [hwb, without, if_neg kv] at hn
          rw [e]
          exact hn
        rw [if_neg this, if_neg ka]
end

end Cert.MoeMath
-- ==== Proof.MoeBlock.lean ====
/- One grid point of the experts' kernel at the exact model: its payloads, as functions of the blocks it
   reads. -/
module

public import proofs.«01_k».proof.Proof.Gen.MoeIdeal.Frame
public import proofs.«01_k».proof.Proof.MoeRoute
public import Idealize.ShloMosaic.Lib.WholeRead
public import Idealize.ShloMosaic.Lib.VecWindow

@[expose] public section

set_option maxRecDepth 16384

noncomputable section

namespace Cert.MoeIdeal.Own

open Idealize.ShloMosaic Idealize.SL.Sem Cert.MoeIdeal Cert.MoeIdeal.Gen Idealize.ShloMosaic.Pointwise
open Cert.ProjMath Cert.MergeMath Cert.MoeMath Finset

/-- The matrix of the entries `f`. -/
def em {φ : FTy} (n m : ℕ) (f : ℕ → ℕ → EReal) : FVec Ideal ⟨2, ![n, m]⟩ φ := fun i => f (i 0).val (i 1).val

/-- The stack of matrices of the entries `f`. -/
def et {φ : FTy} (a n m : ℕ) (f : ℕ → ℕ → ℕ → EReal) : FVec Ideal ⟨3, ![a, n, m]⟩ φ := fun i => f (i 0).val (i 1).val (i 2).val

/-- The word for minus infinity, read. -/
theorem ninf : Ideal.ofBits .f32 0xFF800000#32 = ⊥ := by simp [Ideal.ofBits, Ideal.ieee]

/-- The lanes' numbers. -/
abbrev lanes : IVec S256x128 32 := iota .tc S256x128 32 [1] iota_S256x128_d1_w32

/-- The logits. -/
theorem lg_em (X W B : ℕ → ℕ → EReal) : k0_pay3 (em 256 1024 X : FVec Ideal _ .f32) (em 1024 128 W : FVec Ideal _ .f32) (em 1 128 B : FVec Ideal _ .f32) = em 256 128 (fun r l => pr X W r l + B 0 l) := by
  funext j; idx_vars j
  pointwise [k0_pay3, em, pr]

section
variable (X W B : ℕ → ℕ → EReal) (f : ℕ → ℕ → EReal)
  (hf : k0_pay3 (em 256 1024 X : FVec Ideal _ .f32) (em 1024 128 W : FVec Ideal _ .f32) (em 1 128 B : FVec Ideal _ .f32) = em 256 128 f)
include hf

/-- The groups' lanes. -/
theorem gl_em : k0_pay4 (em 256 1024 X : FVec Ideal _ .f32) (em 1024 128 W : FVec Ideal _ .f32) (em 1 128 B : FVec Ideal _ .f32) = em 256 128 (fun r => gl (f r)) := by
  unfold k0_pay4
  rw [hf]
  funext j; idx_vars j
  pointwise [em, gl]
  rw [ninf]

/-- Their largest. -/
theorem top_em : k0_pay5 (em 256 1024 X : FVec Ideal _ .f32) (em 1024 128 W : FVec Ideal _ .f32) (em 1 128 B : FVec Ideal _ .f32) = em 256 1 (fun r _ => top (gl (f r))) := by
  unfold k0_pay5
  rw [gl_em X W B f hf]
  funext j; idx_vars j
  pointwise [em, top]
  rw [ninf]

/-- The best group's share. -/
theorem gp_em : k0_pay6 (em 256 1024 X : FVec Ideal _ .f32) (em 1024 128 W : FVec Ideal _ .f32) (em 1 128 B : FVec Ideal _ .f32) = em 256 1 (fun r _ => gp (f r)) := by
  unfold k0_pay6
  rw [gl_em X W B f hf, top_em X W B f hf]
  funext j; idx_vars j
  pointwise [em, gp]

/-- Its experts' first lane. -/
theorem lo_em : k0_pay7 (F := Ideal) (em 256 1024 X : FVec Ideal _ .f32) (em 1024 128 W : FVec Ideal _ .f32) (em 1 128 B : FVec Ideal _ .f32) = fun i => lo (f (i 0).val) := by
  unfold k0_pay7
  rw [gl_em X W B f hf, top_em X W B f hf]
  funext j; idx_vars j
  pointwise [em, lo, idx]

/-- The lanes from it on. -/
theorem ge_em : k0_pay8 (F := Ideal) (em 256 1024 X : FVec Ideal _ .f32) (em 1024 128 W : FVec Ideal _ .f32) (em 1 128 B : FVec Ideal _ .f32) = fun i => IntOp.cmpi .sge (BitVec.ofNat 32 (i 1).val) (lo (f (i 0).val)) := by
  unfold k0_pay8
  rw [lo_em X W B f hf]
  funext j; idx_vars j
  pointwise [em]

/-- The lanes before their end. -/
theorem lt_em : k0_pay9 (em 256 1024 X : FVec Ideal _ .f32) (em 1024 128 W : FVec Ideal _ .f32) (em 1 128 B : FVec Ideal _ .f32)
    = em 256 128 (fun r l => Scalar.select (IntOp.cmpi .slt (BitVec.ofNat 32 l) (IntOp.addi (lo (f r)) 4#32)) (f r l) ⊥) := by
  unfold k0_pay9
  rw [lo_em X W B f hf, hf]
  funext j; idx_vars j
  pointwise [em]
  rw [ninf]

/-- The weights over the lanes. -/
theorem lane_em : k0_pay10 lanes (k0_pay6 (em 256 1024 X : FVec Ideal _ .f32) (em 1024 128 W : FVec Ideal _ .f32) (em 1 128 B : FVec Ideal _ .f32))
    (k0_pay8 (F := Ideal) (em 256 1024 X : FVec Ideal _ .f32) (em 1024 128 W : FVec Ideal _ .f32) (em 1 128 B : FVec Ideal _ .f32))
    (k0_pay9 (em 256 1024 X : FVec Ideal _ .f32) (em 1024 128 W : FVec Ideal _ .f32) (em 1 128 B : FVec Ideal _ .f32)) = em 256 128 (fun r => lane (f r)) := by
  rw [gp_em X W B f hf, ge_em X W B f hf, lt_em X W B f hf]
  funext j; idx_vars j
  pointwise [k0_pay10, em, lane, ratio, el2, el, idx, top]
  rw [ninf]
end

/-- The layer's norm of the scaled residual plus the experts' sum. -/
theorem ln_em (X H D G B : ℕ → ℕ → EReal) : k0_pay1 (k0_pay46 (em 1 1024 G : FVec Ideal _ .f32)) (k0_pay47 (em 1 1024 B : FVec Ideal _ .f32))
      (k0_pay48 (em 256 1024 X : FVec Ideal _ .f32) (em 256 4096 H : FVec Ideal _ .bf16) (em 4096 1024 D : FVec Ideal _ .bf16))
      (k0_pay49 (em 256 1024 X : FVec Ideal _ .f32) (em 256 4096 H : FVec Ideal _ .bf16) (em 4096 1024 D : FVec Ideal _ .bf16))
    = em 256 1024 (fun r l => ln (fun p => alB * X r p + ∑ k : Fin 4096, H r k.val * D k.val p) (G 0) (B 0) l) := by
  funext j; idx_vars j
  pointwise [k0_pay1, k0_pay46, k0_pay47, k0_pay48, k0_pay49, em, ln, mean]

section
variable (X U V C : ℕ → ℕ → EReal)

/-- The tokens, rounded. -/
abbrev rx : FVec Ideal S256x1024 .bf16 := k0_pay2 (em 256 1024 X : FVec Ideal _ .f32)
/-- The lanes' weights. -/
abbrev cx : FVec Ideal S256x128 .f32 := em 256 128 C
/-- An expert's matrix. -/
abbrev ux : FVec Ideal S1x1024x256 .bf16 := et 1 1024 256 fun _ => U
/-- An expert's hidden columns by their weight, of lane `l`. -/
abbrev hx (l : ℕ) : FVec Ideal S256x256 .bf16 := em 256 256 (fun r f => pr X U r f * sg (pr X U r f) * pr X V r f * C r l)

/-- Expert 0's stored columns. -/
theorem hid0 : k0_pay12 (rx X) (cx C) (k0_pay11 (rx X) (ux U)) (ux V) = hx X U V C 4 := by
  funext j; idx_vars j
  pointwise [k0_pay11, k0_pay12, k0_pay2, em, et, pr, sg]
  rw [zero_sub]

/-- Expert 1's stored columns. -/
theorem hid1 : k0_pay14 (k0_pay13 (rx X) (cx C) (ux U) (ux V)) = hx X U V C 5 := by
  funext j; idx_vars j
  pointwise [k0_pay13, k0_pay14, k0_pay2, em, et, pr, sg]
  rw [zero_sub]

/-- Expert 2's stored columns. -/
theorem hid2 : k0_pay15 (rx X) (cx C) (ux U) (ux V) = hx X U V C 6 := by
  funext j; idx_vars j
  pointwise [k0_pay15, k0_pay2, em, et, pr, sg]
  rw [zero_sub]

/-- Expert 3's stored columns. -/
theorem hid3 : k0_pay20 (k0_pay16 (rx X) (ux U)) (k0_pay17 (rx X) (ux V)) (k0_pay18 (cx C)) (k0_pay19 (rx X) (ux U)) = hx X U V C 7 := by
  funext j; idx_vars j
  pointwise [k0_pay16, k0_pay17, k0_pay18, k0_pay19, k0_pay20, k0_pay2, em, et, pr, sg]
  rw [zero_sub]

/-- Expert 4's stored columns. -/
theorem hid4 : k0_pay21 (rx X) (cx C) (ux U) (ux V) = hx X U V C 8 := by
  funext j; idx_vars j
  pointwise [k0_pay21, k0_pay2, em, et, pr, sg]
  rw [zero_sub]

/-- Expert 5's stored columns. -/
theorem hid5 : k0_pay23 (rx X) (cx C) (k0_pay22 (rx X) (ux U)) (ux V) = hx X U V C 9 := by
  funext j; idx_vars j
  pointwise [k0_pay22, k0_pay23, k0_pay2, em, et, pr, sg]
  rw [zero_sub]

/-- Expert 6's stored columns. -/
theorem hid6 : k0_pay25 (k0_pay24 (rx X) (cx C) (ux U) (ux V)) = hx X U V C 10 := by
  funext j; idx_vars j
  pointwise [k0_pay24, k0_pay25, k0_pay2, em, et, pr, sg]
  rw [zero_sub]

/-- Expert 7's stored columns. -/
theorem hid7 : k0_pay26 (rx X) (cx C) (ux U) (ux V) = hx X U V C 11 := by
  funext j; idx_vars j
  pointwise [k0_pay26, k0_pay2, em, et, pr, sg]
  rw [zero_sub]

/-- Expert 8's stored columns. -/
theorem hid8 : k0_pay31 (k0_pay27 (rx X) (ux U)) (k0_pay28 (rx X) (ux V)) (k0_pay29 (cx C)) (k0_pay30 (rx X) (ux U)) = hx X U V C 12 := by
  funext j; idx_vars j
  pointwise [k0_pay27, k0_pay28, k0_pay29, k0_pay30, k0_pay31, k0_pay2, em, et, pr, sg]
  rw [zero_sub]

/-- Expert 9's stored columns. -/
theorem hid9 : k0_pay32 (rx X) (cx C) (ux U) (ux V) = hx X U V C 13 := by
  funext j; idx_vars j
  pointwise [k0_pay32, k0_pay2, em, et, pr, sg]
  rw [zero_sub]

/-- Expert 10's stored columns. -/
theorem hid10 : k0_pay34 (rx X) (cx C) (k0_pay33 (rx X) (ux U)) (ux V) = hx X U V C 14 := by
  funext j; idx_vars j
  pointwise [k0_pay33, k0_pay34, k0_pay2, em, et, pr, sg]
  rw [zero_sub]

/-- Expert 11's stored columns. -/
theorem hid11 : k0_pay36 (k0_pay35 (rx X) (cx C) (ux U) (ux V)) = hx X U V C 15 := by
  funext j; idx_vars j
  pointwise [k0_pay35, k0_pay36, k0_pay2, em, et, pr, sg]
  rw [zero_sub]

/-- Expert 12's stored columns. -/
theorem hid12 : k0_pay37 (rx X) (cx C) (ux U) (ux V) = hx X U V C 16 := by
  funext j; idx_vars j
  pointwise [k0_pay37, k0_pay2, em, et, pr, sg]
  rw [zero_sub]

/-- Expert 13's stored columns. -/
theorem hid13 : k0_pay42 (k0_pay38 (rx X) (ux U)) (k0_pay39 (rx X) (ux V)) (k0_pay40 (cx C)) (k0_pay41 (rx X) (ux U)) = hx X U V C 17 := by
  funext j; idx_vars j
  pointwise [k0_pay38, k0_pay39, k0_pay40, k0_pay41, k0_pay42, k0_pay2, em, et, pr, sg]
  rw [zero_sub]

/-- Expert 14's stored columns. -/
theorem hid14 : k0_pay43 (rx X) (cx C) (ux U) (ux V) = hx X U V C 18 := by
  funext j; idx_vars j
  pointwise [k0_pay43, k0_pay2, em, et, pr, sg]
  rw [zero_sub]

/-- Expert 15's stored columns. -/
theorem hid15 : k0_pay45 (rx X) (cx C) (k0_pay44 (rx X) (ux U)) (ux V) = hx X U V C 19 := by
  funext j; idx_vars j
  pointwise [k0_pay44, k0_pay45, k0_pay2, em, et, pr, sg]
  rw [zero_sub]

end

end Cert.MoeIdeal.Own
-- ==== Proof.MoePieces.lean ====
/- The stores of the experts' kernel's generated run, read as functions of what it loads: the experts'
   weighted hidden columns in sixteen blocks of 256, and the layer's result. -/
module

public import proofs.«01_k».proof.Proof.Gen.MoeIdeal.Frame

@[expose] public section

set_option maxRecDepth 16384

noncomputable section

namespace Cert.MoeIdeal.Own

open Idealize.ShloMosaic Idealize.SL.Sem Cert.MoeIdeal Cert.MoeIdeal.Gen

variable {F : FTy → Type} [FloatOps F]

/-- A block of 256 columns lies in the scratch. -/
theorem inbE (e : Fin 16) : ∀ a, (![0, 256 * e.val] : Fin 2 → Nat) a + S256x256.size a ≤ S256x4096.size a := by
  revert e; decide
/-- An expert's matrix lies in the sixteen. -/
theorem inbM (e : Fin 16) : ∀ a, (![e.val, 0, 0] : Fin 3 → Nat) a + S1x1024x256.size a ≤ S16x1024x256.size a := by
  revert e; decide

/-- The place of a block of 256 columns of the scratch. -/
def re (e : Fin 16) : Rect S256x4096 := Rect.unit ![0, 256 * e.val] S256x256.size (inbE e)
/-- The place of an expert's matrix. -/
def rm (e : Fin 16) : Rect S16x1024x256 := Rect.unit ![e.val, 0, 0] S1x1024x256.size (inbM e)
/-- The whole block of rows. -/
def rw1 : Rect S256x1024 := Rect.unit ![0, 0] S256x1024.size inb_S256x1024_S256x1024_0_0
/-- The whole scratch. -/
def rwS : Rect S256x4096 := Rect.unit ![0, 0] S256x4096.size inb_S256x4096_S256x4096_0_0

/-- The experts' stored columns, the last one first. -/
def piecesE (x : FVec F S256x1024 .f32) (c : FVec F S256x128 .f32) (u v : Fin 16 → FVec F S1x1024x256 .bf16) : List (View.Piece (Elt F) S256x4096 .bf16) :=
  [⟨re 15, k0_pay45 (k0_pay2 x) c (k0_pay44 (k0_pay2 x) (u 15)) (v 15)⟩,
   ⟨re 14, k0_pay43 (k0_pay2 x) c (u 14) (v 14)⟩,
   ⟨re 13, k0_pay42 (k0_pay38 (k0_pay2 x) (u 13)) (k0_pay39 (k0_pay2 x) (v 13)) (k0_pay40 c) (k0_pay41 (k0_pay2 x) (u 13))⟩,
   ⟨re 12, k0_pay37 (k0_pay2 x) c (u 12) (v 12)⟩,
   ⟨re 11, k0_pay36 (k0_pay35 (k0_pay2 x) c (u 11) (v 11))⟩,
   ⟨re 10, k0_pay34 (k0_pay2 x) c (k0_pay33 (k0_pay2 x) (u 10)) (v 10)⟩,
   ⟨re 9, k0_pay32 (k0_pay2 x) c (u 9) (v 9)⟩,
   ⟨re 8, k0_pay31 (k0_pay27 (k0_pay2 x) (u 8)) (k0_pay28 (k0_pay2 x) (v 8)) (k0_pay29 c) (k0_pay30 (k0_pay2 x) (u 8))⟩,
   ⟨re 7, k0_pay26 (k0_pay2 x) c (u 7) (v 7)⟩,
   ⟨re 6, k0_pay25 (k0_pay24 (k0_pay2 x) c (u 6) (v 6))⟩,
   ⟨re 5, k0_pay23 (k0_pay2 x) c (k0_pay22 (k0_pay2 x) (u 5)) (v 5)⟩,
   ⟨re 4, k0_pay21 (k0_pay2 x) c (u 4) (v 4)⟩,
   ⟨re 3, k0_pay20 (k0_pay16 (k0_pay2 x) (u 3)) (k0_pay17 (k0_pay2 x) (v 3)) (k0_pay18 c) (k0_pay19 (k0_pay2 x) (u 3))⟩,
   ⟨re 2, k0_pay15 (k0_pay2 x) c (u 2) (v 2)⟩,
   ⟨re 1, k0_pay14 (k0_pay13 (k0_pay2 x) c (u 1) (v 1))⟩,
   ⟨re 0, k0_pay12 (k0_pay2 x) c (k0_pay11 (k0_pay2 x) (u 0)) (v 0)⟩]

/-- The weights over the lanes. -/
def wts (x : FVec F S256x1024 .f32) (w : FVec F S1024x128 .f32) (b : FVec F S1x128 .f32) : FVec F S256x128 .f32 :=
  k0_pay10 (iota .tc S256x128 32 [1] iota_S256x128_d1_w32) (k0_pay6 x w b) (k0_pay8 x w b) (k0_pay9 x w b)

/-- The layer's result. -/
def pieceO (x : FVec F S256x1024 .f32) (h : FVec F S256x4096 .bf16) (d : FVec F S4096x1024 .bf16) (g b : FVec F S1x1024 .f32) : View.Piece (Elt F) S256x1024 .f32 :=
  ⟨rw1, k0_pay1 (k0_pay46 g) (k0_pay47 b) (k0_pay48 x h d) (k0_pay49 x h d)⟩

/-- The loads: a block of rows, -/
abbrev lx (a : Memref sig .tc .vmem S256x1024 .f32) (h : a.IsWhole) (x : Vec F S256x1024 .f32) : FVec F S256x1024 .f32 :=
  View.readAt (Elt F) a.view rw1.toLoadRect (h.unread x)
/-- the router's weight, -/
abbrev lw (a : Memref sig .tc .vmem S1024x128 .f32) (h : a.IsWhole) (x : Vec F S1024x128 .f32) : FVec F S1024x128 .f32 :=
  View.readAt (Elt F) a.view (Rect.unit (s := S1024x128) ![0, 0] S1024x128.size inb_S1024x128_S1024x128_0_0).toLoadRect (h.unread x)
/-- its offsets, -/
abbrev lb (a : Memref sig .tc .vmem S1x128 .f32) (h : a.IsWhole) (x : Vec F S1x128 .f32) : FVec F S1x128 .f32 :=
  View.readAt (Elt F) a.view (Rect.unit (s := S1x128) ![0, 0] S1x128.size inb_S1x128_S1x128_0_0).toLoadRect (h.unread x)
/-- an expert's matrix, -/
abbrev lm (a : Memref sig .tc .vmem S16x1024x256 .bf16) (h : a.IsWhole) (x : Vec F S16x1024x256 .bf16) (e : Fin 16) : FVec F S1x1024x256 .bf16 :=
  View.readAt (Elt F) a.view (rm e).toLoadRect (h.unread x)
/-- the experts' outer matrices, -/
abbrev ld (a : Memref sig .tc .vmem S4096x1024 .bf16) (h : a.IsWhole) (x : Vec F S4096x1024 .bf16) : FVec F S4096x1024 .bf16 :=
  View.readAt (Elt F) a.view (Rect.unit (s := S4096x1024) ![0, 0] S4096x1024.size inb_S4096x1024_S4096x1024_0_0).toLoadRect (h.unread x)
/-- and a row of scales or offsets. -/
abbrev lg (a : Memref sig .tc .vmem S1x1024 .f32) (h : a.IsWhole) (x : Vec F S1x1024 .f32) : FVec F S1x1024 .f32 :=
  View.readAt (Elt F) a.view (Rect.unit (s := S1x1024) ![0, 0] S1x1024.size inb_S1x1024_S1x1024_0_0).toLoadRect (h.unread x)

section
variable (c : Dev nD) (i : grid0.Coords)
  (arg1 : Memref sig .tc .vmem S256x1024 .f32) (harg1 : arg1.IsWhole)
  (arg2 : Memref sig .tc .vmem S1024x128 .f32) (harg2 : arg2.IsWhole)
  (arg3 : Memref sig .tc .vmem S1x128 .f32) (harg3 : arg3.IsWhole)
  (arg4 : Memref sig .tc .vmem S16x1024x256 .bf16) (harg4 : arg4.IsWhole)
  (arg5 : Memref sig .tc .vmem S16x1024x256 .bf16) (harg5 : arg5.IsWhole)
  (arg6 : Memref sig .tc .vmem S4096x1024 .bf16) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S256x1024 .f32) (harg9 : arg9.IsWhole)
  (arg10 : Memref sig .tc .vmem S256x4096 .bf16) (harg10 : arg10.IsWhole)
  (x0 : Vec F S256x1024 .f32) (x1 : Vec F S1024x128 .f32) (x2 : Vec F S1x128 .f32) (x3 : Vec F S16x1024x256 .bf16) (x4 : Vec F S16x1024x256 .bf16) (x5 : Vec F S4096x1024 .bf16) (x6 : Vec F S1x1024 .f32) (x7 : Vec F S1x1024 .f32)

/-- The experts' columns in the scratch. -/
abbrev scE : List (View.Piece (Elt F) S256x4096 .bf16) :=
  piecesE (lx arg1 harg1 x0) (wts (lx arg1 harg1 x0) (lw arg2 harg2 x1) (lb arg3 harg3 x2)) (lm arg4 harg4 x3) (lm arg5 harg5 x4)

/-- The run's store of the result. -/
theorem piecesO : (kernelRun0_A c i arg1 harg1 arg2 harg2 arg3 harg3 arg4 harg4 arg5 harg5 arg6 harg6 arg7 harg7 arg8 harg8 arg9 harg9 arg10 harg10 x0 x1 x2 x3 x4 x5 x6 x7).1
      = [pieceO (lx arg1 harg1 x0) (View.readCov arg10.view (scE arg1 harg1 arg2 harg2 arg3 harg3 arg4 harg4 arg5 harg5 x0 x1 x2 x3 x4) rwS.toLoadRect)
          (ld arg6 harg6 x5) (lg arg7 harg7 x6) (lg arg8 harg8 x7)] := rfl
end

end Cert.MoeIdeal.Own
-- ==== Proof.MoeMath.lean ====
/- The layer's mixture of experts, over extended reals: the router's weights by maxima over lanes are
   those by counting, and the sum over the experts' hidden columns side by side is the sum over experts. -/
module

public import proofs.«01_k».proof.Proof.MoeRoute

@[expose] public section

noncomputable section

namespace Cert.MoeMath

open Idealize.ShloMosaic Finset Cert.ProjMath Cert.MergeMath

/-! ## Words -/

/-- The first lane of a group's experts. -/
theorem lo_word (g : Fin 4) : IntOp.addi 4#32 (IntOp.muli 4#32 (BitVec.ofNat 32 g.val)) = BitVec.ofNat 32 (4 + 4 * g.val) := by revert g; decide +kernel
/-- A lane below four. -/
theorem lt_word (l : Fin 128) : IntOp.cmpi .slt (BitVec.ofNat 32 l.val) 4#32 = if l.val < 4 then 1#1 else 0#1 := by revert l; decide +kernel
/-- A lane from a group's first on. -/
theorem ge_word (l : Fin 128) (g : Fin 4) : IntOp.cmpi .sge (BitVec.ofNat 32 l.val) (BitVec.ofNat 32 (4 + 4 * g.val)) = if 4 + 4 * g.val ≤ l.val then 1#1 else 0#1 := by revert l g; decide +kernel
/-- A lane before a group's end. -/
theorem end_word (l : Fin 128) (g : Fin 4) : IntOp.cmpi .slt (BitVec.ofNat 32 l.val) (IntOp.addi (BitVec.ofNat 32 (4 + 4 * g.val)) 4#32) = if l.val < 8 + 4 * g.val then 1#1 else 0#1 := by revert l g; decide +kernel
/-- Lanes compared. -/
theorem eq_word (l k : Fin 128) : IntOp.cmpi .eq (BitVec.ofNat 32 l.val) (BitVec.ofNat 32 k.val) = if l.val = k.val then 1#1 else 0#1 := by
  have h : BitVec.ofNat 32 l.val = BitVec.ofNat 32 k.val ↔ l.val = k.val := by
    constructor
    · intro h
      have := congrArg BitVec.toInt h
      rw [lane_toInt, lane_toInt] at this
      exact_mod_cast this
    · intro h; rw [h]
  by_cases e : l.val = k.val
  · rw [if_pos e, e]
    show BitVec.ofBool (BitVec.ofNat 32 k.val == BitVec.ofNat 32 k.val) = 1#1
    rw [beq_self_eq_true]; rfl
  · rw [if_neg e]
    show BitVec.ofBool (BitVec.ofNat 32 l.val == BitVec.ofNat 32 k.val) = 0#1
    rw [beq_eq_false_iff_ne.mpr (fun c => e (h.mp c))]; rfl

/-- A choice by a decided bit. -/
theorem sel {p : Prop} [Decidable p] (a b : EReal) : Scalar.select (if p then 1#1 else 0#1) a b = if p then a else b := by
  split_ifs <;> rfl

/-! ## The lanes -/

section
variable (L : ℕ → EReal) (hL : ∀ l, l < 20 → IsR (L l))

/-- The groups' lanes, read. -/
theorem gl_at {l : ℕ} (hl : l < 128) : gl L l = if l < 4 then L l else ⊥ := by
  unfold gl
  rw [lt_word ⟨l, hl⟩, sel]

include hL in
/-- Their first largest. -/
theorem gl_first {g : ℕ} (h : First 4 L g) : First 128 (gl L) g := by
  have hg := h.1
  refine ⟨by omega, fun k hk => ?_, fun k hk => ?_⟩
  · rw [gl_at L hk, gl_at L (by omega : g < 128), if_pos hg]
    split_ifs with h4
    exacts [h.2.1 k h4, bot_le]
  · rw [gl_at L (by omega : k < 128), gl_at L (by omega : g < 128), if_pos hg, if_pos (by omega)]
    exact h.2.2 k hk

/-- The best group's first lane. -/
theorem lo_eq {g : ℕ} (h : First 4 L g) (hf : First 128 (gl L) g) : lo L = BitVec.ofNat 32 (4 + 4 * g) := by
  unfold lo
  rw [idx_eq hf]
  exact lo_word ⟨g, h.1⟩

/-- The experts' lanes, read. -/
theorem el_at {g : ℕ} (h : First 4 L g) (hf : First 128 (gl L) g) {l : ℕ} (hl : l < 128) : el L l = if 4 + 4 * g ≤ l ∧ l < 8 + 4 * g then L l else ⊥ := by
  unfold el
  rw [lo_eq L h hf, ge_word ⟨l, hl⟩ ⟨g, h.1⟩, end_word ⟨l, hl⟩ ⟨g, h.1⟩, sel, sel]
  show (if 4 + 4 * g ≤ l then (if l < 8 + 4 * g then L l else ⊥) else ⊥) = _
  by_cases h1 : 4 + 4 * g ≤ l <;> by_cases h2 : l < 8 + 4 * g <;> simp [h1, h2]

/-- Lanes that hold four numbers from `o` on and nothing elsewhere have the numbers' first largest. -/
theorem lanes_first {f y : ℕ → EReal} {o a : ℕ} (ho : o + 4 ≤ 128) (hf : ∀ l, l < 128 → f l = if o ≤ l ∧ l < o + 4 then y (l - o) else ⊥) (h : First 4 y a) (hy : ⊥ < y a) :
    First 128 f (o + a) := by
  have ha := h.1
  have e : f (o + a) = y a := by rw [hf _ (by omega), if_pos ⟨by omega, by omega⟩, Nat.add_sub_cancel_left]
  refine ⟨by omega, fun k hk => ?_, fun k hk => ?_⟩
  · rw [e, hf k hk]
    split_ifs with hc
    exacts [h.2.1 _ (by omega), bot_le]
  · rw [e, hf k (by omega)]
    split_ifs with hc
    exacts [h.2.2 _ (by omega), hy]

include hL in
/-- A lane's weight is the router's. -/
theorem lane_eq {e : ℕ} (he : e < 16) : lane L (4 + e) = weight L (fun e => L (4 + e)) e := by
  classical
  obtain ⟨g, hg⟩ := first_exists 4 (by norm_num) L
  have hg4 := hg.1
  have hfg := gl_first L hL hg
  -- the best group's experts
  set y : ℕ → EReal := fun j => L (4 + (4 * g + j)) with hy
  have yr : ∀ k, k < 4 → IsR (y k) := fun k hk => hL _ (by omega)
  obtain ⟨a, ha⟩ := first_exists 4 (by norm_num) y
  obtain ⟨b, hb⟩ := first_exists 4 (by norm_num) (without a y)
  have ha4 := ha.1
  have hb4 := hb.1
  have hba := second_ne yr hb
  have wb : without a y b = y b := if_neg hba
  have hel : ∀ l, l < 128 → el L l = if 4 + 4 * g ≤ l ∧ l < 4 + 4 * g + 4 then y (l - (4 + 4 * g)) else ⊥ := by
    intro l hl
    rw [el_at L hg hfg hl]
    by_cases c : 4 + 4 * g ≤ l ∧ l < 8 + 4 * g
    · rw [if_pos c, if_pos ⟨c.1, by omega⟩, hy]
      exact congrArg L (by omega)
    · rw [if_neg c, if_neg (by omega)]
  have f1 := lanes_first (by omega) hel ha (coe_pos_bot (yr a ha4))
  have hel2 : ∀ l, l < 128 → el2 L l = if 4 + 4 * g ≤ l ∧ l < 4 + 4 * g + 4 then without a y (l - (4 + 4 * g)) else ⊥ := by
    intro l hl
    unfold el2
    rw [idx_eq f1, eq_word ⟨l, hl⟩ ⟨4 + 4 * g + a, by omega⟩, sel]
    show (if l = 4 + 4 * g + a then ⊥ else el L l) = _
    rw [hel l hl]
    unfold without
    by_cases c : l = 4 + 4 * g + a
    · rw [if_pos c, if_pos (by omega), if_pos (by omega)]
    · rw [if_neg c]
      by_cases c2 : 4 + 4 * g ≤ l ∧ l < 4 + 4 * g + 4
      · rw [if_pos c2, if_pos c2, if_neg (by omega)]
      · rw [if_neg c2, if_neg c2]
  have f2 := lanes_first (by omega) hel2 hb (by rw [wb]; exact coe_pos_bot (yr b hb4))
  have v1 : top (el L) = y a := by
    rw [top_eq f1, hel _ (by omega), if_pos ⟨by omega, by omega⟩, Nat.add_sub_cancel_left]
  have v2 : top (el2 L) = y b := by
    rw [top_eq f2, hel2 _ (by omega), if_pos ⟨by omega, by omega⟩, Nat.add_sub_cancel_left, wb]
  -- the kernel's lane
  have hl : lane L (4 + e) = if e = 4 * g + a then Ideal.div (gp L) (1 + ratio L) else if e = 4 * g + b then Ideal.div (gp L * ratio L) (1 + ratio L) else 0 := by
    unfold lane
    rw [idx_eq f1, idx_eq f2, eq_word ⟨4 + e, by omega⟩ ⟨4 + 4 * g + a, by omega⟩, eq_word ⟨4 + e, by omega⟩ ⟨4 + 4 * g + b, by omega⟩, sel, sel]
    show (if 4 + e = 4 + 4 * g + a then _ else if 4 + e = 4 + 4 * g + b then _ else (0 : EReal)) = _
    by_cases c1 : e = 4 * g + a
    · rw [if_pos c1, if_pos (by omega)]
    · rw [if_neg c1, if_neg (by omega)]
      by_cases c2 : e = 4 * g + b
      · rw [if_pos c2, if_pos (by omega)]
      · rw [if_neg c2, if_neg (by omega)]
  rw [hl]
  -- the groups' softmax
  have gx : ∀ k, ∃ s : ℝ, k < 4 → L k = s := fun k => by
    by_cases h : k < 4
    · obtain ⟨s, hs⟩ := hL k (by omega); exact ⟨s, fun _ => hs⟩
    · exact ⟨0, fun c => absurd c h⟩
  choose x hx using gx
  have ex : ∀ k : Fin 4, Ideal.exp (L k.val - L g) = ((Real.exp (x k.val - x g) : ℝ) : EReal) := fun k => by
    rw [hx _ k.isLt, hx _ hg4, ← EReal.coe_sub, Ideal.exp_coe]
  have coe_sum : ∀ f : Fin 4 → ℝ, ∑ k : Fin 4, ((f k : ℝ) : EReal) = ((∑ k : Fin 4, f k : ℝ) : EReal) := fun f => by
    rw [Fin.sum_univ_four, Fin.sum_univ_four]; push_cast; rfl
  set Z : ℝ := ∑ k : Fin 4, Real.exp (x k.val - x g) with hZ
  have Zpos : 0 < Z := Finset.sum_pos (fun k _ => Real.exp_pos _) ⟨⟨0, by norm_num⟩, Finset.mem_univ _⟩
  have eZ : ∑ k : Fin 4, Ideal.exp (L k.val - L g) = (Z : EReal) := by
    rw [hZ, ← coe_sum]; exact Finset.sum_congr rfl fun k _ => ex k
  have egp : gp L = ((1 / Z : ℝ) : EReal) := by
    unfold gp
    have vg : top (gl L) = L g := by rw [top_eq hfg, gl_at L (by omega), if_pos hg4]
    have es : ∑ k : Fin 128, Ideal.exp (gl L k.val - top (gl L)) = (Z : EReal) := by
      rw [← eZ, vg, Fin.sum_univ_eq_sum_range (fun k => Ideal.exp (gl L k - L g)) 128, Fin.sum_univ_eq_sum_range (fun k => Ideal.exp (L k - L g)) 4]
      refine (Finset.sum_subset_zero_on_sdiff (fun k hk => Finset.mem_range.mpr ((Finset.mem_range.mp hk).trans (by norm_num))) (fun k hk => ?_) (fun k hk => ?_)).symm
      · rw [Finset.mem_sdiff, Finset.mem_range, Finset.mem_range] at hk
        rw [gl_at L hk.1, if_neg hk.2, hx _ hg4]
        rfl
      · rw [Finset.mem_range] at hk
        rw [gl_at L (by omega), if_pos hk]
    rw [es, Ideal.div_coe Zpos.ne', one_mul]
  -- the experts' softmax
  have gy : ∀ k, ∃ s : ℝ, k < 4 → y k = s := fun k => by
    by_cases h : k < 4
    · obtain ⟨s, hs⟩ := yr k h; exact ⟨s, fun _ => hs⟩
    · exact ⟨0, fun c => absurd c h⟩
  choose w hw using gy
  set r : ℝ := Real.exp (w b - w a) with hr
  have rpos : 0 < r := Real.exp_pos _
  have er : ratio L = (r : EReal) := by
    unfold ratio
    rw [v1, v2, hw _ ha4, hw _ hb4, ← EReal.coe_sub, Ideal.exp_coe]
  set Y : ℝ := ∑ k : Fin 4, Real.exp (w k.val - w a) with hY
  have Ypos : 0 < Y := Finset.sum_pos (fun k _ => Real.exp_pos _) ⟨⟨0, by norm_num⟩, Finset.mem_univ _⟩
  have smy : ∀ j, j < 4 → sm y j = ((Real.exp (w j - w a) * (1 / Y) : ℝ) : EReal) := fun j hj => by
    unfold sm
    have : ∑ k : Fin 4, Ideal.exp (y k.val - big y) = (Y : EReal) := by
      rw [hY, ← coe_sum, big_eq ha]
      exact Finset.sum_congr rfl fun k _ => by rw [hw _ k.isLt, hw _ ha4, ← EReal.coe_sub, Ideal.exp_coe]
    rw [this, big_eq ha, hw _ hj, hw _ ha4, ← EReal.coe_sub, Ideal.exp_coe, Ideal.div_coe Ypos.ne', ← EReal.coe_mul]
  have bty : ∀ j, j < 4 → best 2 y j = (((if j = a then 1 / Y else 0) + (if j = b then r * (1 / Y) else 0) : ℝ) : EReal) := fun j hj => by
    unfold best
    by_cases c : rk y j < 2
    · rw [if_pos c, smy j hj]
      rcases (rk_two yr ha hb hj).mp c with c1 | c1
      · rw [if_pos c1, if_neg (by omega), c1, sub_self, Real.exp_zero, one_mul, add_zero]
      · rw [if_neg (by omega), if_pos c1, c1, zero_add]
    · rw [if_neg c]
      have : ¬ (j = a ∨ j = b) := fun c' => c ((rk_two yr ha hb hj).mpr c')
      rw [not_or] at this
      rw [if_neg this.1, if_neg this.2, add_zero]
      rfl
  have tot : ∑ k : Fin 4, best 2 y k.val = ((1 / Y + r * (1 / Y) : ℝ) : EReal) := by
    rw [Finset.sum_congr rfl fun (k : Fin 4) _ => bty k.val k.isLt, coe_sum, Finset.sum_add_distrib]
    have s1 : ∑ k : Fin 4, (if k.val = a then 1 / Y else 0) = 1 / Y := by
      rw [Finset.sum_congr rfl fun (k : Fin 4) _ => (by simp only [Fin.ext_iff] : (if k.val = a then 1 / Y else 0) = if k = (⟨a, ha4⟩ : Fin 4) then 1 / Y else 0)]
      rw [Finset.sum_ite_eq' Finset.univ (⟨a, ha4⟩ : Fin 4) (fun _ => 1 / Y), if_pos (Finset.mem_univ _)]
    have s2 : ∑ k : Fin 4, (if k.val = b then r * (1 / Y) else 0) = r * (1 / Y) := by
      rw [Finset.sum_congr rfl fun (k : Fin 4) _ => (by simp only [Fin.ext_iff] : (if k.val = b then r * (1 / Y) else 0) = if k = (⟨b, hb4⟩ : Fin 4) then r * (1 / Y) else 0)]
      rw [Finset.sum_ite_eq' Finset.univ (⟨b, hb4⟩ : Fin 4) (fun _ => r * (1 / Y)), if_pos (Finset.mem_univ _)]
    rw [s1, s2]
  clear_value r Y Z
  have dpos : 0 < 1 / Y + r * (1 / Y) := add_pos (one_div_pos.mpr Ypos) (mul_pos rpos (one_div_pos.mpr Ypos))
  have rp1 : (1 + r : ℝ) ≠ 0 := by positivity
  have e1r : (1 : EReal) + ratio L = ((1 + r : ℝ) : EReal) := by rw [er]; push_cast; rfl
  unfold weight
  by_cases cg : e / 4 = g
  · have bg : best 1 L (e / 4) = ((1 / Z : ℝ) : EReal) := by
      unfold best
      rw [cg, rk_first hg, if_pos zero_lt_one]
      unfold sm
      rw [big_eq hg, eZ, Ideal.div_coe Zpos.ne', ex ⟨g, hg4⟩]
      show ((Real.exp (x g - x g) : ℝ) : EReal) * _ = _
      rw [sub_self, Real.exp_zero, EReal.coe_one, one_mul]
    have ey : (fun j => (fun e => L (4 + e)) (4 * (e / 4) + j)) = y := by rw [cg]
    rw [bg, ey, share, tot, bty _ (Nat.mod_lt _ (by norm_num)), Ideal.div_coe dpos.ne', e1r, egp, er, ← EReal.coe_mul, ← EReal.coe_mul, Ideal.div_coe rp1, Ideal.div_coe rp1, ← EReal.coe_mul]
    by_cases c1 : e % 4 = a
    · rw [if_pos (by omega), if_pos c1, if_neg (by omega), ← EReal.coe_mul]
      refine congrArg Real.toEReal ?_
      have := Zpos.ne'; have := Ypos.ne'
      field_simp
      ring
    · by_cases c2 : e % 4 = b
      · rw [if_neg (by omega), if_pos (by omega), if_neg c1, if_pos c2, ← EReal.coe_mul, ← EReal.coe_mul]
        refine congrArg Real.toEReal ?_
        have := Zpos.ne'; have := Ypos.ne'
        field_simp
        ring
      · rw [if_neg (by omega), if_neg (by omega), if_neg c1, if_neg c2, add_zero, zero_mul, EReal.coe_zero, mul_zero]
  · have hne : ¬ rk L (e / 4) < 1 := not_lt.mpr (rk_ge hg4 (hg.before (by omega) cg))
    rw [if_neg (by omega), if_neg (by omega), best, if_neg hne, zero_mul]
end

/-! ## The layer -/

/-- The gated hidden column of an expert. -/
def hid (U V : ℕ → ℕ → ℕ → EReal) (X : ℕ → ℕ → EReal) (r e f : ℕ) : EReal := pr X (U e) r f * sg (pr X (U e) r f) * pr X (V e) r f

/-- The token's logits: the groups' and the experts'. -/
def lgt (W : ℕ → ℕ → EReal) (B : ℕ → EReal) (X : ℕ → ℕ → EReal) (r l : ℕ) : EReal := pr X W r l + B l

/-- The experts' sum, `c` the weights. -/
def ff (c : ℕ → ℕ → EReal) (U V D : ℕ → ℕ → ℕ → EReal) (X : ℕ → ℕ → EReal) (r p : ℕ) : EReal :=
  ∑ e : Fin 16, ∑ f : Fin 256, hid U V X r e.val f.val * c r e.val * D e.val f.val p

/-- The hidden columns of all experts side by side. -/
def side (c : ℕ → ℕ → EReal) (U V : ℕ → ℕ → ℕ → EReal) (X : ℕ → ℕ → EReal) (r k : ℕ) : EReal := hid U V X r (k / 256) (k % 256) * c r (k / 256)

/-- Their sum is the experts'. -/
theorem side_sum (c : ℕ → ℕ → EReal) (U V D : ℕ → ℕ → ℕ → EReal) (X : ℕ → ℕ → EReal) (r p : ℕ) :
    ∑ k : Fin 4096, side c U V X r k.val * D (k.val / 256) (k.val % 256) p = ff c U V D X r p := by
  unfold ff
  rw [← Fintype.sum_prod_type' (f := fun (e : Fin 16) (f : Fin 256) => hid U V X r e.val f.val * c r e.val * D e.val f.val p)]
  refine (Fintype.sum_equiv (finProdFinEquiv (m := 16) (n := 256)) _ _ fun q => ?_).symm
  have h2 := q.2.isLt
  have e1 : (finProdFinEquiv q).val = q.2.val + 256 * q.1.val := rfl
  show _ = side c U V X r (finProdFinEquiv q).val * D ((finProdFinEquiv q).val / 256) ((finProdFinEquiv q).val % 256) p
  unfold side
  rw [e1, show (q.2.val + 256 * q.1.val) / 256 = q.1.val by omega, show (q.2.val + 256 * q.1.val) % 256 = q.2.val by omega]

/-- The layer's result. -/
def res (c : ℕ → ℕ → EReal) (U V D : ℕ → ℕ → ℕ → EReal) (g b : ℕ → EReal) (X : ℕ → ℕ → EReal) (r l : ℕ) : EReal :=
  ln (fun p => alB * X r p + ff c U V D X r p) g b l

end Cert.MoeMath
-- ==== Proof.MoePoint.lean ====
/- One grid point of the experts' kernel, whole: the layer's result for its 256 tokens. -/
module

public import proofs.«01_k».proof.Proof.MoeBlock
public import proofs.«01_k».proof.Proof.MoePieces
public import proofs.«01_k».proof.Proof.MoeMath

@[expose] public section

set_option maxRecDepth 16384

noncomputable section

namespace Cert.MoeIdeal.Own

open Idealize.ShloMosaic Idealize.SL.Sem Cert.MoeIdeal Cert.MoeIdeal.Gen Idealize.ShloMosaic.Pointwise
open Cert.ProjMath Cert.MergeMath Cert.MoeMath Finset

/-! ## Loads -/

/-- The load of a block of rows, -/
theorem lx_em (a : Memref sig .tc .vmem S256x1024 .f32) (h : a.IsWhole) (f : ℕ → ℕ → EReal) :
    lx a h (em 256 1024 f : FVec Ideal _ .f32) = em 256 1024 f := by
  funext j
  refine (h.readAt_unread (Val := Elt Ideal) _ rw1.toLoadRect j).trans ?_
  show f (0 + 1 * (j 0).val) (0 + 1 * (j 1).val) = f (j 0).val (j 1).val
  simp only [one_mul, zero_add]

/-- of the router's weight, -/
theorem lw_em (a : Memref sig .tc .vmem S1024x128 .f32) (h : a.IsWhole) (f : ℕ → ℕ → EReal) :
    lw a h (em 1024 128 f : FVec Ideal _ .f32) = em 1024 128 f := by
  funext j
  refine (h.readAt_unread (Val := Elt Ideal) _ (Rect.unit (s := S1024x128) ![0, 0] S1024x128.size inb_S1024x128_S1024x128_0_0).toLoadRect j).trans ?_
  show f (0 + 1 * (j 0).val) (0 + 1 * (j 1).val) = f (j 0).val (j 1).val
  simp only [one_mul, zero_add]

/-- of its offsets, -/
theorem lb_em (a : Memref sig .tc .vmem S1x128 .f32) (h : a.IsWhole) (f : ℕ → ℕ → EReal) :
    lb a h (em 1 128 f : FVec Ideal _ .f32) = em 1 128 f := by
  funext j
  refine (h.readAt_unread (Val := Elt Ideal) _ (Rect.unit (s := S1x128) ![0, 0] S1x128.size inb_S1x128_S1x128_0_0).toLoadRect j).trans ?_
  show f (0 + 1 * (j 0).val) (0 + 1 * (j 1).val) = f (j 0).val (j 1).val
  simp only [one_mul, zero_add]

/-- of an expert's matrix, -/
theorem lm_em (a : Memref sig .tc .vmem S16x1024x256 .bf16) (h : a.IsWhole) (f : ℕ → ℕ → ℕ → EReal) (n : Fin 16) :
    lm a h (et 16 1024 256 f : FVec Ideal _ .bf16) n = et 1 1024 256 (fun _ => f n.val) := by
  funext j
  refine (h.readAt_unread (Val := Elt Ideal) _ (rm n).toLoadRect j).trans ?_
  show f (n.val + 1 * (j 0).val) (0 + 1 * (j 1).val) (0 + 1 * (j 2).val) = f n.val (j 1).val (j 2).val
  have : (j 0).val < 1 := (j 0).isLt
  rw [show (j 0).val = 0 by omega]
  simp only [one_mul, zero_add, add_zero, mul_zero]

/-- of the experts' outer matrices, -/
theorem ld_em (a : Memref sig .tc .vmem S4096x1024 .bf16) (h : a.IsWhole) (f : ℕ → ℕ → EReal) :
    ld a h (em 4096 1024 f : FVec Ideal _ .bf16) = em 4096 1024 f := by
  funext j
  refine (h.readAt_unread (Val := Elt Ideal) _ (Rect.unit (s := S4096x1024) ![0, 0] S4096x1024.size inb_S4096x1024_S4096x1024_0_0).toLoadRect j).trans ?_
  show f (0 + 1 * (j 0).val) (0 + 1 * (j 1).val) = f (j 0).val (j 1).val
  simp only [one_mul, zero_add]

/-- and of a row. -/
theorem lg_row (a : Memref sig .tc .vmem S1x1024 .f32) (h : a.IsWhole) (f : ℕ → ℕ → EReal) :
    lg a h (em 1 1024 f : FVec Ideal _ .f32) = em 1 1024 f := by
  funext j
  refine (h.readAt_unread (Val := Elt Ideal) _ (Rect.unit (s := S1x1024) ![0, 0] S1x1024.size inb_S1x1024_S1x1024_0_0).toLoadRect j).trans ?_
  show f (0 + 1 * (j 0).val) (0 + 1 * (j 1).val) = f (j 0).val (j 1).val
  simp only [one_mul, zero_add]

/-! ## The weights and the scratch -/

/-- The lanes' weights from the logits. -/
theorem wts_em (X W B : ℕ → ℕ → EReal) : wts (em 256 1024 X : FVec Ideal _ .f32) (em 1024 128 W : FVec Ideal _ .f32) (em 1 128 B : FVec Ideal _ .f32)
    = em 256 128 (fun r => lane (lgt W (B 0) X r)) :=
  lane_em X W B (lgt W (B 0) X) (lg_em X W B)

/-- The scratch read back: the experts' weighted hidden columns. -/
theorem readE (v : View sig .tc .vmem S256x4096 .bf16) (X C : ℕ → ℕ → EReal) (U V : ℕ → ℕ → ℕ → EReal) (y : S256x4096.Idx) :
    v.read (Elt Ideal) (v.writes (Elt Ideal) v.junk (piecesE (em 256 1024 X : FVec Ideal _ .f32) (em 256 128 C : FVec Ideal _ .f32) (fun e => (et 1 1024 256 (fun _ => U e.val) : FVec Ideal _ .bf16)) (fun e => (et 1 1024 256 (fun _ => V e.val) : FVec Ideal _ .bf16)))) y
      = (em 256 4096 (side (fun r e => C r (4 + e)) U V X) : FVec Ideal S256x4096 .bf16) y := by
  have piece : ∀ (e : Fin 16) (x : (re e).shape.Idx) (w : FVec Ideal S256x256 .bf16), w = hx X (U e.val) (V e.val) C (4 + e.val) → w x = (em 256 4096 (side (fun r e => C r (4 + e)) U V X) : FVec Ideal S256x4096 .bf16) ((re e).emb x) := by
    intro e x w hw
    have h1 : (x 1).val < 256 := (x 1).isLt
    refine (congrFun hw x).trans ?_
    show hid U V X (x 0).val e.val (x 1).val * C (x 0).val (4 + e.val) = side (fun r e => C r (4 + e)) U V X (0 + 1 * (x 0).val) (256 * e.val + 1 * (x 1).val)
    unfold side
    rw [zero_add, one_mul, one_mul, show (256 * e.val + (x 1).val) / 256 = e.val by omega, show (256 * e.val + (x 1).val) % 256 = (x 1).val by omega]
  refine View.read_writes_apply_of_pieces v _ _ _ ?_ y (View.cover_of_tiled _ ![256, 256] rfl y)
  intro Q hQ
  simp only [piecesE, List.mem_cons, List.mem_nil_iff, or_false] at hQ
  rcases hQ with h | h | h | h | h | h | h | h | h | h | h | h | h | h | h | h <;> subst h
  · exact fun x => piece 15 x _ (hid15 X (U 15) (V 15) C)
  · exact fun x => piece 14 x _ (hid14 X (U 14) (V 14) C)
  · exact fun x => piece 13 x _ (hid13 X (U 13) (V 13) C)
  · exact fun x => piece 12 x _ (hid12 X (U 12) (V 12) C)
  · exact fun x => piece 11 x _ (hid11 X (U 11) (V 11) C)
  · exact fun x => piece 10 x _ (hid10 X (U 10) (V 10) C)
  · exact fun x => piece 9 x _ (hid9 X (U 9) (V 9) C)
  · exact fun x => piece 8 x _ (hid8 X (U 8) (V 8) C)
  · exact fun x => piece 7 x _ (hid7 X (U 7) (V 7) C)
  · exact fun x => piece 6 x _ (hid6 X (U 6) (V 6) C)
  · exact fun x => piece 5 x _ (hid5 X (U 5) (V 5) C)
  · exact fun x => piece 4 x _ (hid4 X (U 4) (V 4) C)
  · exact fun x => piece 3 x _ (hid3 X (U 3) (V 3) C)
  · exact fun x => piece 2 x _ (hid2 X (U 2) (V 2) C)
  · exact fun x => piece 1 x _ (hid1 X (U 1) (V 1) C)
  · exact fun x => piece 0 x _ (hid0 X (U 0) (V 0) C)

/-- A whole store read back. -/
theorem readN (v : View sig .tc .vmem S256x1024 .f32) (f : v.ty.Contents (Elt Ideal)) (w : FVec Ideal S256x1024 .f32) (L : List (View.Piece (Elt Ideal) S256x1024 .f32)) (y : S256x1024.Idx) :
    v.read (Elt Ideal) (v.writes (Elt Ideal) f (⟨rw1, w⟩ :: L)) y = w y :=
  View.read_writes_cons_unit_of_mem v f inb_S256x1024_S256x1024_0_0 w L y y rfl
    (Fin.forall_fin_two.mpr ⟨(Nat.zero_add _).symm, (Nat.zero_add _).symm⟩)

section
variable (c : Dev nD) (i : grid0.Coords)
  (arg1 : Memref sig .tc .vmem S256x1024 .f32) (harg1 : arg1.IsWhole)
  (arg2 : Memref sig .tc .vmem S1024x128 .f32) (harg2 : arg2.IsWhole)
  (arg3 : Memref sig .tc .vmem S1x128 .f32) (harg3 : arg3.IsWhole)
  (arg4 : Memref sig .tc .vmem S16x1024x256 .bf16) (harg4 : arg4.IsWhole)
  (arg5 : Memref sig .tc .vmem S16x1024x256 .bf16) (harg5 : arg5.IsWhole)
  (arg6 : Memref sig .tc .vmem S4096x1024 .bf16) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S256x1024 .f32) (harg9 : arg9.IsWhole)
  (arg10 : Memref sig .tc .vmem S256x4096 .bf16) (harg10 : arg10.IsWhole)
  (X W : ℕ → ℕ → EReal) (B : ℕ → EReal) (U V D : ℕ → ℕ → ℕ → EReal) (g b : ℕ → EReal)

/-- The blocks a point reads: its tokens, -/
abbrev bX : FVec Ideal S256x1024 .f32 := em 256 1024 X
/-- the router's weight, -/
abbrev bW : FVec Ideal S1024x128 .f32 := em 1024 128 W
/-- its offsets, -/
abbrev bB : FVec Ideal S1x128 .f32 := em 1 128 (fun _ l => B l)
/-- the experts' matrices, -/
abbrev bU : FVec Ideal S16x1024x256 .bf16 := et 16 1024 256 U
/-- the outer ones, one over another, -/
abbrev bD : FVec Ideal S4096x1024 .bf16 := em 4096 1024 (fun k p => D (k / 256) (k % 256) p)
/-- and a row. -/
abbrev bG : FVec Ideal S1x1024 .f32 := em 1 1024 (fun _ l => g l)

/-- The scratch, whole. -/
theorem wholeE : (View.readCov arg10.view (scE (F := Ideal) arg1 harg1 arg2 harg2 arg3 harg3 arg4 harg4 arg5 harg5 (bX X) (bW W) (bB B) (bU U) (bU V)) rwS.toLoadRect : FVec Ideal S256x4096 .bf16)
    = em (φ := .bf16) 256 4096 (side (fun r e => lane (lgt W B X r) (4 + e)) U V X) := by
  funext x
  show arg10.view.read (Elt Ideal) (arg10.view.writes (Elt Ideal) arg10.view.junk (piecesE (lx arg1 harg1 (bX X)) (wts (lx arg1 harg1 (bX X)) (lw arg2 harg2 (bW W)) (lb arg3 harg3 (bB B))) (lm arg4 harg4 (bU U)) (lm arg5 harg5 (bU V)))) (rwS.toLoadRect.idx x) = _
  rw [lx_em, lw_em, lb_em, funext (lm_em arg4 harg4 U), funext (lm_em arg5 harg5 V), wts_em]
  refine (readE arg10.view X (fun r => lane (lgt W B X r)) U V (rwS.toLoadRect.idx x)).trans ?_
  show side _ U V X (0 + 1 * (x 0).val) (0 + 1 * (x 1).val) = side _ U V X (x 0).val (x 1).val
  rw [one_mul, one_mul, zero_add, zero_add]

/-- What a point leaves in its block of the result. -/
theorem out8 : out0_A_8 (F := Ideal) c i arg1 harg1 arg2 harg2 arg3 harg3 arg4 harg4 arg5 harg5 arg6 harg6 arg7 harg7 arg8 harg8 arg9 harg9 arg10 harg10 (bX X) (bW W) (bB B) (bU U) (bU V) (bD D) (bG g) (bG b)
    = (em 256 1024 (res (fun r e => lane (lgt W B X r) (4 + e)) U V D g b X) : FVec Ideal S256x1024 .f32) := by
  unfold out0_A_8
  rw [piecesO, wholeE, lx_em, ld_em, lg_row, lg_row]
  unfold pieceO
  rw [ln_em]
  funext y
  refine (readN _ _ _ _ y).trans ?_
  show ln (fun p => alB * X (y 0).val p + ∑ k : Fin 4096, side _ U V X (y 0).val k.val * D (k.val / 256) (k.val % 256) p) g b (y 1).val = res _ U V D g b X (y 0).val (y 1).val
  unfold res
  refine congrArg (fun f => ln f g b (y 1).val) (funext fun p => ?_)
  rw [side_sum]
end

end Cert.MoeIdeal.Own
-- ==== Proof.MoeGrid.lean ====
/- The experts' kernel's result over its grid: sixty-four points, a block of 256 tokens each. -/
module

public import proofs.«01_k».proof.Proof.MoePoint
public import proofs.«01_k».proof.Proof.Gen.MoeIdeal.Value
public import Idealize.ShloMosaic.Lib.Pipeline.ValueKit

@[expose] public section

set_option maxRecDepth 16384

noncomputable section

namespace Cert.MoeIdeal.Own

open Idealize.ShloMosaic Idealize.SL.Sem Cert.MoeIdeal Cert.MoeIdeal.Gen Idealize.ShloMosaic.Pointwise
open Cert.ProjMath Cert.MergeMath Cert.MoeMath Finset Cert.MoeIdeal.Value

/-- The windows' block indices: the tokens' and the result's move by rows, the others stay. -/
theorem idx_in : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![0, 0] ∧ win0_6.index t = ![0, 0] ∧ win0_7.index t = ![0, 0] ∧ win0_8.index t = ![t.val, 0] :=
  (by decide +kernel : ∀ t : Fin grid0.N, _)

/-- Two coordinates equal, the index equal. -/
theorem ix2_ext {n m : ℕ} {i : (⟨2, ![n, m]⟩ : Shape).Idx} {a : Fin n} {b : Fin m} (ha : (i 0).val = a.val) (hb : (i 1).val = b.val) : i = ix2 a b := by
  funext k
  match k with
  | ⟨0, _⟩ => exact Fin.ext ha
  | ⟨1, _⟩ => exact Fin.ext hb

/-- Three coordinates equal, the index equal. -/
theorem ix3_ext {n m l : ℕ} {i : (⟨3, ![n, m, l]⟩ : Shape).Idx} {a : Fin n} {b : Fin m} {d : Fin l} (ha : (i 0).val = a.val) (hb : (i 1).val = b.val) (hd : (i 2).val = d.val) : i = ix3 a b d := by
  funext k
  match k with
  | ⟨0, _⟩ => exact Fin.ext ha
  | ⟨1, _⟩ => exact Fin.ext hb
  | ⟨2, _⟩ => exact Fin.ext hd

/-- The groups' columns, then the experts', then zeros. -/
def cat (P Q : ℕ → EReal) (l : ℕ) : EReal := if l < 4 then P l else if l < 20 then Q (l - 4) else 0

/-- The router's weights side by side and padded to 128 columns. -/
def padW (p : FVec Ideal S1024x4 .f32) (q : FVec Ideal S1024x16 .f32) : FVec Ideal S1024x128 .f32 :=
  pad S1024x128 ![0, 0] ![0, 108] ![0, 0] (concatenate S1024x20 1 [⟨S1024x4, p⟩, ⟨S1024x16, q⟩] concatenates_S1024x4_S1024x16_S1024x20_d1) (sitofp .f32 (constantI S_ 32 0#32)) pads_S1024x20_S1024x128_000_01080 h_S_

/-- The router's offsets one after another and padded to 128. -/
def padB (p : FVec Ideal S4 .f32) (q : FVec Ideal S16 .f32) : FVec Ideal S1x128 .f32 :=
  pad S1x128 ![0, 0] ![0, 108] ![0, 0] (shapeCast S1x20 (concatenate S20 0 [⟨S4, p⟩, ⟨S16, q⟩] concatenates_S4_S16_S20_d0 : FVec Ideal S20 .f32) shapeCasts_S20_S1x20) (sitofp .f32 (constantI S_ 32 0#32)) pads_S1x20_S1x128_000_01080 h_S_

/-- The integer zero is the number zero. -/
theorem sitofp_zero : (FloatOps.sitofp .f32 (0#32 : BitVec 32) : Ideal .f32) = 0 := by
  show (((0#32 : BitVec 32).toInt : ℝ) : EReal) = 0
  simp

/-- The result of rows `n` further on. -/
theorem res_shift (P : ℕ → ℕ → EReal) (p g b : ℕ → EReal) (U W D : ℕ → ℕ → ℕ → EReal) (X : ℕ → ℕ → EReal) (n r l : ℕ) :
    res (fun r e => lane (lgt P p (fun r => X (n + r)) r) (4 + e)) U W D g b (fun r => X (n + r)) r l = res (fun r e => lane (lgt P p X r) (4 + e)) U W D g b X (n + r) l := by
  have e1 : lgt P p (fun r => X (n + r)) r = lgt P p X (n + r) := rfl
  have e2 : ∀ c : ℕ → ℕ → EReal, ∀ q, ff (fun r => c (n + r)) U W D (fun r => X (n + r)) r q = ff c U W D X (n + r) q := fun _ _ => rfl
  unfold res
  refine congrArg (fun f => ln f g b l) (funext fun q => ?_)
  exact congrArg (fun y => alB * X (n + r) q + y) (e2 (fun r e => lane (lgt P p X r) (4 + e)) q)

/-- The padded weights' entries. -/
theorem padW_em (P Q : ℕ → ℕ → EReal) : padW (fun i => P (i 0).val (i 1).val) (fun i => Q (i 0).val (i 1).val) = em 1024 128 (fun k => cat (P k) (Q k)) := by
  funext j; idx_vars j
  pointwise [padW, em, cat]
  rw [sitofp_zero]
  split_ifs <;> first | rfl | omega

/-- The padded offsets' entries. -/
theorem padB_em (P Q : ℕ → EReal) : padB (fun i => P (i 0).val) (fun i => Q (i 0).val) = em 1 128 (fun _ => cat P Q) := by
  funext j; idx_vars j
  pointwise [padB, em, cat]
  rw [sitofp_zero]
  split_ifs <;> first | rfl | omega

section
variable (m : (ℓ : Loc nD τ sig) → Buf (Elt Ideal) ℓ) (c : Dev nD)

/-! ## The operands the call is given -/

/-- The router's weight. -/
theorem V1 : (V m c main_v1 : FVec Ideal S1024x128 .f32) = padW (m ((c.tc : Thread nD τ).loc main_arg1) : FVec Ideal S1024x4 .f32) (m ((c.tc : Thread nD τ).loc main_arg3) : FVec Ideal S1024x16 .f32) := by
  simp only [V, hostOps0, hostOps0_1, hostOps0_2, hostOps0_3, hostOps0_4, List.flatten_cons, List.flatten_nil, List.append_nil, List.cons_append, List.nil_append]
  entry_read
  rfl

/-- Its offsets. -/
theorem V4 : (V m c main_v4 : FVec Ideal S1x128 .f32) = padB (m ((c.tc : Thread nD τ).loc main_arg2) : FVec Ideal S4 .f32) (m ((c.tc : Thread nD τ).loc main_arg4) : FVec Ideal S16 .f32) := by
  simp only [V, hostOps0, hostOps0_1, hostOps0_2, hostOps0_3, hostOps0_4, List.flatten_cons, List.flatten_nil, List.append_nil, List.cons_append, List.nil_append]
  entry_read
  rfl

/-- The experts' outer matrices, one over another. -/
theorem V6 : (V m c main_v6 : FVec Ideal S4096x1024 .bf16) = shapeCast S4096x1024 (truncf .bf16 (m ((c.tc : Thread nD τ).loc main_arg7) : FVec Ideal S16x256x1024 .f32) bitsLt_bf16_f32 : FVec Ideal S16x256x1024 .bf16) shapeCasts_S16x256x1024_S4096x1024 := by
  simp only [V, hostOps0, hostOps0_1, hostOps0_2, hostOps0_3, hostOps0_4, List.flatten_cons, List.flatten_nil, List.append_nil, List.cons_append, List.nil_append]
  entry_read
  rfl

/-- The experts' gates. -/
theorem V7 : (V m c main_v7 : FVec Ideal S16x1024x256 .bf16) = (truncf .bf16 (m ((c.tc : Thread nD τ).loc main_arg5) : FVec Ideal S16x1024x256 .f32) bitsLt_bf16_f32 : FVec Ideal S16x1024x256 .bf16) := by
  simp only [V, hostOps0, hostOps0_1, hostOps0_2, hostOps0_3, hostOps0_4, List.flatten_cons, List.flatten_nil, List.append_nil, List.cons_append, List.nil_append]
  entry_read
  rfl

/-- The experts' inner matrices. -/
theorem V8 : (V m c main_v8 : FVec Ideal S16x1024x256 .bf16) = (truncf .bf16 (m ((c.tc : Thread nD τ).loc main_arg6) : FVec Ideal S16x1024x256 .f32) bitsLt_bf16_f32 : FVec Ideal S16x1024x256 .bf16) := by
  simp only [V, hostOps0, hostOps0_1, hostOps0_2, hostOps0_3, hostOps0_4, List.flatten_cons, List.flatten_nil, List.append_nil, List.cons_append, List.nil_append]
  entry_read
  rfl

/-- The norm's scales. -/
theorem V9 : (V m c main_v9 : FVec Ideal S1x1024 .f32) = shapeCast S1x1024 (m ((c.tc : Thread nD τ).loc main_arg8) : FVec Ideal S1024 .f32) shapeCasts_S1024_S1x1024 := by
  simp only [V, hostOps0, hostOps0_1, hostOps0_2, hostOps0_3, hostOps0_4, List.flatten_cons, List.flatten_nil, List.append_nil, List.cons_append, List.nil_append]
  entry_read
  rfl

/-- Its offsets. -/
theorem V10 : (V m c main_v10 : FVec Ideal S1x1024 .f32) = shapeCast S1x1024 (m ((c.tc : Thread nD τ).loc main_arg9) : FVec Ideal S1024 .f32) shapeCasts_S1024_S1x1024 := by
  simp only [V, hostOps0, hostOps0_1, hostOps0_2, hostOps0_3, hostOps0_4, List.flatten_cons, List.flatten_nil, List.append_nil, List.cons_append, List.nil_append]
  entry_read
  rfl

/-! ## The blocks a point reads -/

variable (X : ℕ → ℕ → EReal) (P Q : ℕ → ℕ → EReal) (p q g b : ℕ → EReal) (U W D : ℕ → ℕ → ℕ → EReal)
  (hX : (m ((c.tc : Thread nD τ).loc main_arg0) : FVec Ideal S16384x1024 .f32) = fun i => X (i 0).val (i 1).val)
  (hP : (m ((c.tc : Thread nD τ).loc main_arg1) : FVec Ideal S1024x4 .f32) = fun i => P (i 0).val (i 1).val)
  (hp : (m ((c.tc : Thread nD τ).loc main_arg2) : FVec Ideal S4 .f32) = fun i => p (i 0).val)
  (hQ : (m ((c.tc : Thread nD τ).loc main_arg3) : FVec Ideal S1024x16 .f32) = fun i => Q (i 0).val (i 1).val)
  (hq : (m ((c.tc : Thread nD τ).loc main_arg4) : FVec Ideal S16 .f32) = fun i => q (i 0).val)
  (hU : (m ((c.tc : Thread nD τ).loc main_arg5) : FVec Ideal S16x1024x256 .f32) = fun i => U (i 0).val (i 1).val (i 2).val)
  (hW : (m ((c.tc : Thread nD τ).loc main_arg6) : FVec Ideal S16x1024x256 .f32) = fun i => W (i 0).val (i 1).val (i 2).val)
  (hD : (m ((c.tc : Thread nD τ).loc main_arg7) : FVec Ideal S16x256x1024 .f32) = fun i => D (i 0).val (i 1).val (i 2).val)
  (hg : (m ((c.tc : Thread nD τ).loc main_arg8) : FVec Ideal S1024 .f32) = fun i => g (i 0).val)
  (hb : (m ((c.tc : Thread nD τ).loc main_arg9) : FVec Ideal S1024 .f32) = fun i => b (i 0).val)

include hX in
/-- A point's tokens. -/
theorem blk0 (t : Fin cfg0.N) : (iblk m c 0 t : FVec Ideal S256x1024 .f32) = em (φ := .f32) 256 1024 (fun r k => X (256 * t.val + r) k) := by
  funext j; idx_vars j
  have e : (win0_0.blk t).view.emb (ix2 j0 j1) = ix2 (n0 := 16384) (n1 := 1024) ⟨256 * t.val + j0.val, by have := t.isLt; have : cfg0.N = 64 := N_0; have := j0.isLt; omega⟩ j1 := by
    refine ix2_ext ?_ ?_
    · show ((win0_0.blk t).view.emb (ix2 j0 j1) 0).val = _
      blk_simp [idx_in t]
      exact congrArg (· + j0.val) (Nat.mul_comm _ _)
    · show ((win0_0.blk t).view.emb (ix2 j0 j1) 1).val = _
      blk_simp [idx_in t]
  show (V m c main_arg0 : FVec Ideal S16384x1024 .f32) ((win0_0.blk t).view.emb (ix2 j0 j1)) = _
  rw [e, V_main_arg0, hX]
  rfl

include hP hQ in
/-- The router's weight. -/
theorem blk1 (t : Fin cfg0.N) : (iblk m c 1 t : FVec Ideal S1024x128 .f32) = em (φ := .f32) 1024 128 (fun k => cat (P k) (Q k)) := by
  funext j; idx_vars j
  have e : (win0_1.blk t).view.emb (ix2 j0 j1) = ix2 (n0 := 1024) (n1 := 128) j0 j1 := by
    refine ix2_ext ?_ ?_
    · show ((win0_1.blk t).view.emb (ix2 j0 j1) 0).val = _
      blk_simp [idx_in t]
    · show ((win0_1.blk t).view.emb (ix2 j0 j1) 1).val = _
      blk_simp [idx_in t]
  show (V m c main_v1 : FVec Ideal S1024x128 .f32) ((win0_1.blk t).view.emb (ix2 j0 j1)) = _
  rw [e, V1, hP, hQ]
  exact congrFun (padW_em P Q) _

include hp hq in
/-- Its offsets. -/
theorem blk2 (t : Fin cfg0.N) : (iblk m c 2 t : FVec Ideal S1x128 .f32) = em (φ := .f32) 1 128 (fun _ l => cat p q l) := by
  funext j; idx_vars j
  have e : (win0_2.blk t).view.emb (ix2 j0 j1) = ix2 (n0 := 1) (n1 := 128) j0 j1 := by
    refine ix2_ext ?_ ?_
    · show ((win0_2.blk t).view.emb (ix2 j0 j1) 0).val = _
      blk_simp [idx_in t]
    · show ((win0_2.blk t).view.emb (ix2 j0 j1) 1).val = _
      blk_simp [idx_in t]
  show (V m c main_v4 : FVec Ideal S1x128 .f32) ((win0_2.blk t).view.emb (ix2 j0 j1)) = _
  rw [e, V4, hp, hq]
  exact congrFun (padB_em p q) _

include hU in
/-- The experts' gates. -/
theorem blk3 (t : Fin cfg0.N) : (iblk m c 3 t : FVec Ideal S16x1024x256 .bf16) = et (φ := .bf16) 16 1024 256 U := by
  funext j; idx_vars j
  have e : (win0_3.blk t).view.emb (ix3 j0 j1 j2) = ix3 (n0 := 16) (n1 := 1024) (n2 := 256) j0 j1 j2 := by
    refine ix3_ext ?_ ?_ ?_
    · show ((win0_3.blk t).view.emb (ix3 j0 j1 j2) 0).val = _
      blk_simp [idx_in t]
    · show ((win0_3.blk t).view.emb (ix3 j0 j1 j2) 1).val = _
      blk_simp [idx_in t]
    · show ((win0_3.blk t).view.emb (ix3 j0 j1 j2) 2).val = _
      blk_simp [idx_in t]
  show (V m c main_v7 : FVec Ideal S16x1024x256 .bf16) ((win0_3.blk t).view.emb (ix3 j0 j1 j2)) = _
  rw [e, V7, hU]
  pointwise [et]

include hW in
/-- The experts' inner matrices. -/
theorem blk4 (t : Fin cfg0.N) : (iblk m c 4 t : FVec Ideal S16x1024x256 .bf16) = et (φ := .bf16) 16 1024 256 W := by
  funext j; idx_vars j
  have e : (win0_4.blk t).view.emb (ix3 j0 j1 j2) = ix3 (n0 := 16) (n1 := 1024) (n2 := 256) j0 j1 j2 := by
    refine ix3_ext ?_ ?_ ?_
    · show ((win0_4.blk t).view.emb (ix3 j0 j1 j2) 0).val = _
      blk_simp [idx_in t]
    · show ((win0_4.blk t).view.emb (ix3 j0 j1 j2) 1).val = _
      blk_simp [idx_in t]
    · show ((win0_4.blk t).view.emb (ix3 j0 j1 j2) 2).val = _
      blk_simp [idx_in t]
  show (V m c main_v8 : FVec Ideal S16x1024x256 .bf16) ((win0_4.blk t).view.emb (ix3 j0 j1 j2)) = _
  rw [e, V8, hW]
  pointwise [et]

include hD in
/-- The experts' outer matrices. -/
theorem blk5 (t : Fin cfg0.N) : (iblk m c 5 t : FVec Ideal S4096x1024 .bf16) = em (φ := .bf16) 4096 1024 (fun k p => D (k / 256) (k % 256) p) := by
  funext j; idx_vars j
  have e : (win0_5.blk t).view.emb (ix2 j0 j1) = ix2 (n0 := 4096) (n1 := 1024) j0 j1 := by
    refine ix2_ext ?_ ?_
    · show ((win0_5.blk t).view.emb (ix2 j0 j1) 0).val = _
      blk_simp [idx_in t]
    · show ((win0_5.blk t).view.emb (ix2 j0 j1) 1).val = _
      blk_simp [idx_in t]
  show (V m c main_v6 : FVec Ideal S4096x1024 .bf16) ((win0_5.blk t).view.emb (ix2 j0 j1)) = _
  rw [e, V6, hD]
  pointwise [em]

include hg in
/-- The norm's scales. -/
theorem blk6 (t : Fin cfg0.N) : (iblk m c 6 t : FVec Ideal S1x1024 .f32) = em (φ := .f32) 1 1024 (fun _ l => g l) := by
  funext j; idx_vars j
  have e : (win0_6.blk t).view.emb (ix2 j0 j1) = ix2 (n0 := 1) (n1 := 1024) j0 j1 := by
    refine ix2_ext ?_ ?_
    · show ((win0_6.blk t).view.emb (ix2 j0 j1) 0).val = _
      blk_simp [idx_in t]
    · show ((win0_6.blk t).view.emb (ix2 j0 j1) 1).val = _
      blk_simp [idx_in t]
  show (V m c main_v9 : FVec Ideal S1x1024 .f32) ((win0_6.blk t).view.emb (ix2 j0 j1)) = _
  rw [e, V9, hg]
  pointwise [em]

include hb in
/-- Its offsets. -/
theorem blk7 (t : Fin cfg0.N) : (iblk m c 7 t : FVec Ideal S1x1024 .f32) = em (φ := .f32) 1 1024 (fun _ l => b l) := by
  funext j; idx_vars j
  have e : (win0_7.blk t).view.emb (ix2 j0 j1) = ix2 (n0 := 1) (n1 := 1024) j0 j1 := by
    refine ix2_ext ?_ ?_
    · show ((win0_7.blk t).view.emb (ix2 j0 j1) 0).val = _
      blk_simp [idx_in t]
    · show ((win0_7.blk t).view.emb (ix2 j0 j1) 1).val = _
      blk_simp [idx_in t]
  show (V m c main_v10 : FVec Ideal S1x1024 .f32) ((win0_7.blk t).view.emb (ix2 j0 j1)) = _
  rw [e, V10, hb]
  pointwise [em]

include hX hP hp hQ hq hU hW hD hg hb in
/-- What a point writes back. -/
theorem point8 (t : Fin cfg0.N) (y : S256x1024.Idx) :
    ((dats m 0 c).flushed 8 t : FVec Ideal S256x1024 .f32) y = res (fun r e => lane (lgt (fun k => cat (P k) (Q k)) (cat p q) X r) (4 + e)) U W D g b X (256 * t.val + (y 0).val) (y 1).val := by
  rw [flushed8_A]
  show out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    (iblk m c 0 t) (iblk m c 1 t) (iblk m c 2 t) (iblk m c 3 t) (iblk m c 4 t) (iblk m c 5 t) (iblk m c 6 t) (iblk m c 7 t) y = _
  rw [blk0 m c X hX, blk1 m c P Q hP hQ, blk2 m c p q hp hq, blk3 m c U hU, blk4 m c W hW, blk5 m c D hD, blk6 m c g hg, blk7 m c b hb]
  refine (congrFun (out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    (fun r => X (256 * t.val + r)) (fun k => cat (P k) (Q k)) (cat p q) U W D g b) y).trans ?_
  exact res_shift (fun k => cat (P k) (Q k)) (cat p q) g b U W D X (256 * t.val) (y 0).val (y 1).val

include hX hP hp hQ hq hU hW hD hg hb in
/-- The kernel's result. -/
theorem out (a0 : Fin 16384) (a1 : Fin 1024) :
    ((dats m 0 c).arrAt 8 cfg0.N : FVec Ideal S16384x1024 .f32) (ix2 a0 a1) = res (fun r e => lane (lgt (fun k => cat (P k) (Q k)) (cat p q) X r) (4 + e)) U W D g b X a0.val a1.val := by
  have hN : a0.val / 256 < cfg0.N := by have : cfg0.N = 64 := N_0; omega
  have e : (win0_8.blk ⟨a0.val / 256, hN⟩).view.emb (ix2 ⟨a0.val % 256, Nat.mod_lt _ (by decide)⟩ a1) = ix2 (n0 := 16384) (n1 := 1024) a0 a1 := by
    refine ix2_ext ?_ ?_
    · show ((win0_8.blk ⟨a0.val / 256, hN⟩).view.emb (ix2 ⟨a0.val % 256, Nat.mod_lt _ (by decide)⟩ a1) 0).val = _
      blk_simp [idx_in ⟨a0.val / 256, hN⟩]
      exact (congrArg (· + a0.val % 256) (Nat.mul_comm _ _)).trans (Nat.div_add_mod _ _)
    · show ((win0_8.blk ⟨a0.val / 256, hN⟩).view.emb (ix2 ⟨a0.val % 256, Nat.mod_lt _ (by decide)⟩ a1) 1).val = _
      blk_simp [idx_in ⟨a0.val / 256, hN⟩]
  have h := congrFun (blocks8 m c ⟨a0.val / 256, hN⟩ (flush0_8 _)) (ix2 ⟨a0.val % 256, Nat.mod_lt _ (by decide)⟩ a1)
  have h' : ((dats m 0 c).arrAt 8 cfg0.N : FVec Ideal S16384x1024 .f32) ((win0_8.blk ⟨a0.val / 256, hN⟩).view.emb (ix2 ⟨a0.val % 256, Nat.mod_lt _ (by decide)⟩ a1))
      = res (fun r e => lane (lgt (fun k => cat (P k) (Q k)) (cat p q) X r) (4 + e)) U W D g b X (256 * (a0.val / 256) + a0.val % 256) a1.val :=
    h.trans (point8 m c X P Q p q g b U W D hX hP hp hQ hq hU hW hD hg hb ⟨a0.val / 256, hN⟩ (ix2 ⟨a0.val % 256, Nat.mod_lt _ (by decide)⟩ a1))
  rw [e, Nat.div_add_mod] at h'
  exact h'
end

end Cert.MoeIdeal.Own
-- ==== Proof.MoeRef.lean ====
/- The experts' reference's result, over its tokens. -/
module

public import proofs.«01_k».proof.Proof.Gen.ReferenceMoeIdeal.Run
public import proofs.«01_k».proof.Proof.MoeMath
public import Idealize.ShloMosaic.Lib.Pointwise
public import Idealize.ShloMosaic.Lib.IdealHost

@[expose] public section

set_option maxRecDepth 16384

noncomputable section

namespace Cert.ReferenceMoeIdeal.Own

open Idealize.ShloMosaic Idealize.SL.Sem Cert.ReferenceMoeIdeal Cert.ReferenceMoeIdeal.Gen Idealize.ShloMosaic.Pointwise
open Cert.ProjMath Cert.MergeMath Cert.MoeMath Finset Cert.ReferenceMoeIdeal.Value Idealize.ShloMosaic.StableHlo

/-- The matrix of the entries `f`, a token a row. -/
def em (n : ℕ) (f : ℕ → ℕ → EReal) : FVec Ideal ⟨2, ![16384, n]⟩ .f32 := fun i => f (i 0).val (i 1).val
/-- The tokens' entries by group and place. -/
def et (f : ℕ → ℕ → ℕ → EReal) : FVec Ideal S16384x4x4 .f32 := fun i => f (i 0).val (i 1).val (i 2).val

/-- The word for minus infinity, read. -/
theorem ninf : Ideal.ofBits .f32 0xFF800000#32 = ⊥ := by simp [Ideal.ofBits, Ideal.ieee]
/-- The word for two, read. -/
theorem two : Ideal.ofBits .f32 0x40000000#32 = 2 := by
  simp [Ideal.ofBits, Ideal.ieee, -EReal.coe_mul]
  norm_num
  rfl

/-- The groups' logits. -/
def gR (h : FVec Ideal S16384x1024 .f32) (w : FVec Ideal S1024x4 .f32) (b : FVec Ideal S4 .f32) : FVec Ideal S16384x4 .f32 :=
  addf (Host.dotGeneral dot_S16384x1024_S1024x4_S16384x4_1_0_0_1_n_n none h w) (broadcastInDim S16384x4 ![0, 1] bcast_S1x4_S16384x4_0_1 (broadcastInDim S1x4 ![1] bcast_S4_S1x4_1 b))

/-- The experts' logits by group. -/
def eR (h : FVec Ideal S16384x1024 .f32) (w : FVec Ideal S1024x16 .f32) (b : FVec Ideal S16 .f32) : FVec Ideal S16384x4x4 .f32 :=
  shapeCast _ (addf (Host.dotGeneral dot_S16384x1024_S1024x16_S16384x16_1_0_0_1_n_n none h w) (broadcastInDim S16384x16 ![0, 1] bcast_S1x16_S16384x16_0_1 (broadcastInDim S1x16 ![1] bcast_S16_S1x16_1 b))) shapeCasts_S16384x16_S16384x4x4

/-- The groups' softmax. -/
def smG (x : FVec Ideal S16384x4 .f32) : FVec Ideal S16384x4 .f32 :=
  Host.divf (Host.exp (subf x (broadcastInDim S16384x4 ![0, 1] bcast_S16384x1_S16384x4_0_1 (broadcastInDim S16384x1 ![0] bcast_S16384_S16384x1_0 (Host.reduce FloatOps.maximumf x (constant S_ .f32 0xFF800000#32) reducesTo_S16384x4_S16384_d1 h_S_))))) (broadcastInDim S16384x4 ![0, 1] bcast_S16384x1_S16384x4_0_1 (broadcastInDim S16384x1 ![0] bcast_S16384_S16384x1_0 (Host.reduceAdd (Host.exp (subf x (broadcastInDim S16384x4 ![0, 1] bcast_S16384x1_S16384x4_0_1 (broadcastInDim S16384x1 ![0] bcast_S16384_S16384x1_0 (Host.reduce FloatOps.maximumf x (constant S_ .f32 0xFF800000#32) reducesTo_S16384x4_S16384_d1 h_S_))))) (constant S_ .f32 0x00000000#32) reducesTo_S16384x4_S16384_d1 h_S_)))

/-- The experts' softmax by group. -/
def smE (x : FVec Ideal S16384x4x4 .f32) : FVec Ideal S16384x4x4 .f32 :=
  Host.divf (Host.exp (subf x (broadcastInDim S16384x4x4 ![0, 1, 2] bcast_S16384x4x1_S16384x4x4_0_1_2 (broadcastInDim S16384x4x1 ![0, 1] bcast_S16384x4_S16384x4x1_0_1 (Host.reduce FloatOps.maximumf x (constant S_ .f32 0xFF800000#32) reducesTo_S16384x4x4_S16384x4_d2 h_S_))))) (broadcastInDim S16384x4x4 ![0, 1, 2] bcast_S16384x4x1_S16384x4x4_0_1_2 (broadcastInDim S16384x4x1 ![0, 1] bcast_S16384x4_S16384x4x1_0_1 (Host.reduceAdd (Host.exp (subf x (broadcastInDim S16384x4x4 ![0, 1, 2] bcast_S16384x4x1_S16384x4x4_0_1_2 (broadcastInDim S16384x4x1 ![0, 1] bcast_S16384x4_S16384x4x1_0_1 (Host.reduce FloatOps.maximumf x (constant S_ .f32 0xFF800000#32) reducesTo_S16384x4x4_S16384x4_d2 h_S_))))) (constant S_ .f32 0x00000000#32) reducesTo_S16384x4x4_S16384x4_d2 h_S_)))

/-- An entry where fewer than `c` come before, else zero. -/
def kept (c : EReal) (x : ℕ → EReal) (j : ℕ) : EReal :=
  open Classical in if rk x j < c then x j else 0

/-- The groups' probabilities where no entry comes before, else zero. -/
def bestG (x : FVec Ideal S16384x4 .f32) : FVec Ideal S16384x4 .f32 :=
  select (cmpf .olt (Host.reduceAdd (id (select (ori (cmpf .ogt (broadcastInDim S16384x4x4 ![0, 1, 2] bcast_S16384x1x4_S16384x4x4_0_1_2 (broadcastInDim S16384x1x4 ![0, 2] bcast_S16384x4_S16384x1x4_0_2 x)) (broadcastInDim S16384x4x4 ![0, 1, 2] bcast_S16384x4x1_S16384x4x4_0_1_2 (broadcastInDim S16384x4x1 ![0, 1] bcast_S16384x4_S16384x4x1_0_1 x))) (andi (cmpf .oeq (broadcastInDim S16384x4x4 ![0, 1, 2] bcast_S16384x1x4_S16384x4x4_0_1_2 (broadcastInDim S16384x1x4 ![0, 2] bcast_S16384x4_S16384x1x4_0_2 x)) (broadcastInDim S16384x4x4 ![0, 1, 2] bcast_S16384x4x1_S16384x4x4_0_1_2 (broadcastInDim S16384x4x1 ![0, 1] bcast_S16384x4_S16384x4x1_0_1 x))) (broadcastInDim S16384x4x4 ![0, 1, 2] bcast_S1x4x4_S16384x4x4_0_1_2 (broadcastInDim S1x4x4 ![1, 2] bcast_S4x4_S1x4x4_1_2 (cmpi .slt (broadcastInDim S4x4 ![0, 1] bcast_S1x4_S4x4_0_1 (broadcastInDim S1x4 ![1] bcast_S4_S1x4_1 (iotaInDim S4 32 0))) (broadcastInDim S4x4 ![0, 1] bcast_S4x1_S4x4_0_1 (broadcastInDim S4x1 ![0] bcast_S4_S4x1_0 (iotaInDim S4 32 0)))))))) (broadcastInDim S16384x4x4 ![] bcast_S_S16384x4x4 (constant S_ .f32 0x3F800000#32)) (broadcastInDim S16384x4x4 ![] bcast_S_S16384x4x4 (constant S_ .f32 0x00000000#32)))) (constant S_ .f32 0x00000000#32) reducesTo_S16384x4x4_S16384x4_d2 h_S_ : FVec Ideal S16384x4 .f32) (broadcastInDim S16384x4 ![] bcast_S_S16384x4 (constant S_ .f32 0x3F800000#32))) x (broadcastInDim S16384x4 ![] bcast_S_S16384x4 (id (constant S_ .f32 0x00000000#32)))

/-- The experts' probabilities where fewer than two entries come before, else zero. -/
def bestE (x : FVec Ideal S16384x4x4 .f32) : FVec Ideal S16384x4x4 .f32 :=
  select (cmpf .olt (Host.reduceAdd (id (select (ori (cmpf .ogt (broadcastInDim S16384x4x4x4 ![0, 1, 2, 3] bcast_S16384x4x1x4_S16384x4x4x4_0_1_2_3 (broadcastInDim S16384x4x1x4 ![0, 1, 3] bcast_S16384x4x4_S16384x4x1x4_0_1_3 x)) (broadcastInDim S16384x4x4x4 ![0, 1, 2, 3] bcast_S16384x4x4x1_S16384x4x4x4_0_1_2_3 (broadcastInDim S16384x4x4x1 ![0, 1, 2] bcast_S16384x4x4_S16384x4x4x1_0_1_2 x))) (andi (cmpf .oeq (broadcastInDim S16384x4x4x4 ![0, 1, 2, 3] bcast_S16384x4x1x4_S16384x4x4x4_0_1_2_3 (broadcastInDim S16384x4x1x4 ![0, 1, 3] bcast_S16384x4x4_S16384x4x1x4_0_1_3 x)) (broadcastInDim S16384x4x4x4 ![0, 1, 2, 3] bcast_S16384x4x4x1_S16384x4x4x4_0_1_2_3 (broadcastInDim S16384x4x4x1 ![0, 1, 2] bcast_S16384x4x4_S16384x4x4x1_0_1_2 x))) (broadcastInDim S16384x4x4x4 ![0, 1, 2, 3] bcast_S1x1x4x4_S16384x4x4x4_0_1_2_3 (broadcastInDim S1x1x4x4 ![2, 3] bcast_S4x4_S1x1x4x4_2_3 (cmpi .slt (broadcastInDim S4x4 ![0, 1] bcast_S1x4_S4x4_0_1 (broadcastInDim S1x4 ![1] bcast_S4_S1x4_1 (iotaInDim S4 32 0))) (broadcastInDim S4x4 ![0, 1] bcast_S4x1_S4x4_0_1 (broadcastInDim S4x1 ![0] bcast_S4_S4x1_0 (iotaInDim S4 32 0)))))))) (broadcastInDim S16384x4x4x4 ![] bcast_S_S16384x4x4x4 (constant S_ .f32 0x3F800000#32)) (broadcastInDim S16384x4x4x4 ![] bcast_S_S16384x4x4x4 (constant S_ .f32 0x00000000#32)))) (constant S_ .f32 0x00000000#32) reducesTo_S16384x4x4x4_S16384x4x4_d3 h_S_ : FVec Ideal S16384x4x4 .f32) (broadcastInDim S16384x4x4 ![] bcast_S_S16384x4x4 (constant S_ .f32 0x40000000#32))) x (broadcastInDim S16384x4x4 ![] bcast_S_S16384x4x4 (id (constant S_ .f32 0x00000000#32)))

/-- The experts' weights. -/
def comb (p : FVec Ideal S16384x4 .f32) (q : FVec Ideal S16384x4x4 .f32) : FVec Ideal S16384x16 .f32 :=
  shapeCast _ (mulf (broadcastInDim S16384x4x4 ![0, 1, 2] bcast_S16384x4x1_S16384x4x4_0_1_2 (broadcastInDim S16384x4x1 ![0, 1] bcast_S16384x4_S16384x4x1_0_1 p)) (Host.divf q (broadcastInDim S16384x4x4 ![0, 1, 2] bcast_S16384x4x1_S16384x4x4_0_1_2 (broadcastInDim S16384x4x1 ![0, 1] bcast_S16384x4_S16384x4x1_0_1 (Host.reduceAdd q (constant S_ .f32 0x00000000#32) reducesTo_S16384x4x4_S16384x4_d2 h_S_))))) shapeCasts_S16384x4x4_S16384x16

/-- The scaled residual plus the experts' sum. -/
def ffR (h : FVec Ideal S16384x1024 .f32) (c : FVec Ideal S16384x16 .f32) (u v : FVec Ideal S16x1024x256 .f32) (d : FVec Ideal S16x256x1024 .f32) : FVec Ideal S16384x1024 .f32 :=
  addf (mulf (broadcastInDim S16384x1024 ![] bcast_S_S16384x1024 (constant S_ .f32 0x3F9837F0#32)) h) (Host.dotGeneral dot_S16384x16x256_S16x256x1024_S16384x1024_12_01_0_2_n_n none (mulf (mulf (mulf (Host.dotGeneral dot_S16384x1024_S16x1024x256_S16384x16x256_1_1_0_02_n_n none h u) (Host.divf (broadcastInDim S16384x16x256 ![] bcast_S_S16384x16x256 (constant S_ .f32 0x3F800000#32)) (addf (broadcastInDim S16384x16x256 ![] bcast_S_S16384x16x256 (constant S_ .f32 0x3F800000#32)) (Host.exp (Host.negf (Host.dotGeneral dot_S16384x1024_S16x1024x256_S16384x16x256_1_1_0_02_n_n none h u)))))) (Host.dotGeneral dot_S16384x1024_S16x1024x256_S16384x16x256_1_1_0_02_n_n none h v)) (broadcastInDim S16384x16x256 ![0, 1, 2] bcast_S16384x16x1_S16384x16x256_0_1_2 (broadcastInDim S16384x16x1 ![0, 1] bcast_S16384x16_S16384x16x1_0_1 c))) d)

/-- Every row's norm. -/
def normR (x : FVec Ideal S16384x1024 .f32) (g b : FVec Ideal S1024 .f32) : FVec Ideal S16384x1024 .f32 :=
  addf (mulf (mulf (subf x (broadcastInDim S16384x1024 ![0, 1] bcast_S16384x1_S16384x1024_0_1 (Host.divf (broadcastInDim S16384x1 ![0] bcast_S16384_S16384x1_0 (Host.reduceAdd x (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf x (broadcastInDim S16384x1024 ![0, 1] bcast_S16384x1_S16384x1024_0_1 (Host.divf (broadcastInDim S16384x1 ![0] bcast_S16384_S16384x1_0 (Host.reduceAdd x (constant S_ .f32 0x00000000#32) reducesTo_S16384x1024_S16384_d1 h_S_)) (broadcastInDim S16384x1 ![] bcast_S_S16384x1 (constant S_ .f32 0x44800000#32))))) (subf x (broadcastInDim S16384x1024 ![0, 1] bcast_S16384x1_S16384x1024_0_1 (Host.divf (broadcastInDim S16384x1 ![0] bcast_S16384_S16384x1_0 (Host.reduceAdd x (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) (broadcastInDim S16384x1024 ![0, 1] bcast_S1x1024_S16384x1024_0_1 (broadcastInDim S1x1024 ![1] bcast_S1024_S1x1024_1 b))

/-- The result read back is that. -/
theorem res_eq (m : (ℓ : Loc nD τ sig) → Buf (Elt Ideal) ℓ) (c : Dev nD) :
    ((addf (mulf (mulf (res_main_v99 (launchContents m c)) (broadcastInDim S16384x1024 ![0, 1] bcast_S16384x1_S16384x1024_0_1 (Host.rsqrt (addf (Host.divf (broadcastInDim S16384x1 ![0] bcast_S16384_S16384x1_0 (Host.reduceAdd (mulf (res_main_v99 (launchContents m c)) (res_main_v99 (launchContents m c))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 ((launchContents m c) (Proc.devRef .tc main_arg8))))) (broadcastInDim S16384x1024 ![0, 1] bcast_S1x1024_S16384x1024_0_1 (broadcastInDim S1x1024 ![1] bcast_S1024_S1x1024_1 ((launchContents m c) (Proc.devRef .tc main_arg9))))) : FVec Ideal S16384x1024 .f32)
      = normR (ffR (m ((c.tc : Thread nD τ).loc main_arg0)) (comb (bestG (smG (gR (m ((c.tc : Thread nD τ).loc main_arg0)) (m ((c.tc : Thread nD τ).loc main_arg1)) (m ((c.tc : Thread nD τ).loc main_arg2))))) (bestE (smE (eR (m ((c.tc : Thread nD τ).loc main_arg0)) (m ((c.tc : Thread nD τ).loc main_arg3)) (m ((c.tc : Thread nD τ).loc main_arg4)))))) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) := rfl

/-- The groups' logits, entry by entry. -/
theorem gR_em (X P : ℕ → ℕ → EReal) (p : ℕ → EReal) : gR (fun i => X (i 0).val (i 1).val) (fun i => P (i 0).val (i 1).val) (fun i => p (i 0).val) = em 4 (lgt P p X) := by
  funext j; idx_vars j
  pointwise [gR, em, lgt, pr]

/-- The experts' logits, entry by entry. -/
theorem eR_et (X Q : ℕ → ℕ → EReal) (q : ℕ → EReal) : eR (fun i => X (i 0).val (i 1).val) (fun i => Q (i 0).val (i 1).val) (fun i => q (i 0).val) = et (fun r a j => lgt Q q X r (4 * a + j)) := by
  funext j; idx_vars j
  pointwise [eR, et, lgt, pr]
  rw [Nat.mul_comm j1.val 4]

/-- Words of numbers below four compare as the numbers. -/
theorem slt_four : ∀ k j : Fin 4, IntOp.cmpi .slt (BitVec.ofNat 32 k.val) (BitVec.ofNat 32 j.val) = BitVec.ofBool (decide (k.val < j.val)) := by decide

open Classical in
/-- The word that tells whether an entry comes before another, as a number. -/
theorem word_before (x : ℕ → EReal) (k j : Fin 4) (d1 : Decidable (x j.val < x k.val)) (d2 : Decidable (x k.val = x j.val)) :
    Scalar.select (IntOp.ori (BitVec.ofBool (@decide (x j.val < x k.val) d1)) (IntOp.andi (BitVec.ofBool (@decide (x k.val = x j.val) d2)) (IntOp.cmpi .slt (BitVec.ofNat 32 k.val) (BitVec.ofNat 32 j.val)))) (1 : EReal) 0
      = if Before x k.val j.val then 1 else 0 := by
  rw [slt_four]
  unfold Before
  by_cases a : x j.val < x k.val <;> by_cases b : x k.val = x j.val <;> by_cases c : k.val < j.val <;> simp [a, b, c, IntOp.ori, IntOp.andi, Scalar.select]

/-- The groups' softmax, entry by entry. -/
theorem smG_em (f : ℕ → ℕ → EReal) : smG (em 4 f) = em 4 (fun r => sm (f r)) := by
  funext j; idx_vars j
  pointwise [smG, em, id]
  rw [ninf]
  rfl

/-- The experts' softmax, entry by entry. -/
theorem smE_et (f : ℕ → ℕ → ℕ → EReal) : smE (et f) = et (fun r a => sm (f r a)) := by
  funext j; idx_vars j
  pointwise [smE, et, id]
  rw [ninf]
  rfl

/-- The groups' kept probabilities, entry by entry. -/
theorem bestG_em (f : ℕ → ℕ → EReal) : bestG (em 4 f) = em 4 (fun r => kept 1 (f r)) := by
  funext j; idx_vars j
  pointwise [bestG, em, id]
  rw [Finset.sum_congr rfl fun (k : Fin 4) _ => word_before (f j0.val) k j1 _ _]
  unfold kept
  by_cases h : rk (f j0.val) j1.val < 1
  · exact (if_pos h).trans (if_pos h).symm
  · exact (if_neg h).trans (if_neg h).symm

/-- The experts' kept probabilities, entry by entry. -/
theorem bestE_et (f : ℕ → ℕ → ℕ → EReal) : bestE (et f) = et (fun r a => kept 2 (f r a)) := by
  funext j; idx_vars j
  pointwise [bestE, et, id]
  rw [Finset.sum_congr rfl fun (k : Fin 4) _ => word_before (f j0.val j1.val) k j2 _ _, two]
  unfold kept
  by_cases h : rk (f j0.val j1.val) j2.val < 2
  · exact (if_pos h).trans (if_pos h).symm
  · exact (if_neg h).trans (if_neg h).symm

/-- The weights, entry by entry. -/
theorem comb_em (p : ℕ → ℕ → EReal) (q : ℕ → ℕ → ℕ → EReal) : comb (em 4 p) (et q) = em 16 (fun r e => p r (e / 4) * Ideal.div (q r (e / 4) (e % 4)) (∑ k : Fin 4, q r (e / 4) k.val)) := by
  funext j; idx_vars j
  pointwise [comb, em, et]

/-- The residual plus the experts' sum, entry by entry. -/
theorem ffR_em (X c : ℕ → ℕ → EReal) (U W D : ℕ → ℕ → ℕ → EReal) :
    ffR (fun i => X (i 0).val (i 1).val) (em 16 c) (fun i => U (i 0).val (i 1).val (i 2).val) (fun i => W (i 0).val (i 1).val (i 2).val) (fun i => D (i 0).val (i 1).val (i 2).val)
      = em 1024 (fun r p => alB * X r p + ff c U W D X r p) := by
  funext j; idx_vars j
  pointwise [ffR, em, ff, hid, pr, sg]

/-- The norm, entry by entry. -/
theorem normR_em (f : ℕ → ℕ → EReal) (g b : ℕ → EReal) : normR (em 1024 f) (fun i => g (i 0).val) (fun i => b (i 0).val) = em 1024 (fun r => ln (f r) g b) := by
  funext j; idx_vars j
  pointwise [normR, em, ln, mean]

end Cert.ReferenceMoeIdeal.Own
-- ==== Proof.MoeClaims.lean ====
/- The experts' claims: their kernel's and their reference's results are the same function of their arguments. -/
module

public import proofs.«01_k».proof.Defs
public import proofs.«01_k».proof.Proof.ProjClaims
public import proofs.«01_k».proof.Proof.MergeClaims
public import proofs.«01_k».proof.Proof.MoeGrid
public import proofs.«01_k».proof.Proof.MoeRef
public import Idealize.ShloMosaic.Lib.ReduceAll
public import Idealize.ShloMosaic.Lib.Quiescent

@[expose] public section

noncomputable section

namespace Cert.MoeOwn

open Idealize.ShloMosaic Idealize.SL.Sem Idealize.ShloMosaic.Pointwise Finset
open Cert.ProjMath Cert.MergeMath Cert.MoeMath Cert.ProjOwn Cert.MergeOwn

/-- The side conditions of the precondition's operations. -/
instance preFacts : Cert.Pre_finite_moe.Facts where
  bcast_S_S1024x4 := by decide
  reducesTo_S1024x4_S_d0_1 := by decide
  h_S_ := by decide
  bcast_S_S4 := by decide
  reducesTo_S4_S_d0 := by decide
  bcast_S_S1024x16 := by decide
  reducesTo_S1024x16_S_d0_1 := by decide
  bcast_S_S16 := by decide
  reducesTo_S16_S_d0 := by decide
  bcast_S_S16384x1024 := by decide
  reducesTo_S16384x1024_S_d0_1 := by decide

/-- A vector of reals as a function of its coordinate's value. -/
theorem of1r {n : ℕ} {φ : FTy} (f : FVec Ideal ⟨1, ![n]⟩ φ) (h : ∀ i, IsR (f i)) : ∃ A : ℕ → EReal, (∀ a, IsR (A a)) ∧ f = fun i => A (i 0).val := by
  refine ⟨fun a => if h : a < n then f (ix1 ⟨a, h⟩) else 0, fun a => ?_, ?_⟩
  · dsimp only
    split_ifs with ha
    · exact h _
    · exact ⟨0, rfl⟩
  · funext i
    have e : i = ix1 (i 0) := by funext a; fin_cases a; rfl
    refine Eq.trans ?_ (dif_pos (i 0).isLt).symm
    exact congrArg f e

/-! ## The weights look at four groups and sixteen experts -/

/-- The ranks of equal entries are equal. -/
theorem rk_congr {x y : ℕ → EReal} (h : ∀ k, k < 4 → x k = y k) {j : ℕ} (hj : j < 4) : rk x j = rk y j := by
  unfold rk
  refine Finset.sum_congr rfl fun k _ => ?_
  have e : Before x k.val j = Before y k.val j := by
    unfold Before
    rw [h k.val k.isLt, h j hj]
  rw [e]

/-- So is their softmax, -/
theorem sm_congr {x y : ℕ → EReal} (h : ∀ k, k < 4 → x k = y k) {j : ℕ} (hj : j < 4) : sm x j = sm y j := by
  have hf : (fun k : Fin 4 => x k.val) = fun k : Fin 4 => y k.val := funext fun k => h k.val k.isLt
  have hb : big x = big y := by
    unfold big
    rw [hf]
  unfold sm
  rw [hb, h j hj]
  exact congrArg (Ideal.div _) (Finset.sum_congr rfl fun k _ => by rw [h k.val k.isLt])

/-- what of it is kept, -/
theorem best_congr (c : EReal) {x y : ℕ → EReal} (h : ∀ k, k < 4 → x k = y k) {j : ℕ} (hj : j < 4) : best c x j = best c y j := by
  unfold best
  rw [rk_congr h hj, sm_congr h hj]

/-- and the weights. -/
theorem weight_congr {x x' y y' : ℕ → EReal} (hx : ∀ k, k < 4 → x k = x' k) (hy : ∀ k, k < 16 → y k = y' k) {e : ℕ} (he : e < 16) : weight x y e = weight x' y' e := by
  have hs : ∀ j, j < 4 → y (4 * (e / 4) + j) = y' (4 * (e / 4) + j) := fun j hj => hy _ (by omega)
  unfold weight share
  rw [best_congr 1 hx (by omega : e / 4 < 4), best_congr 2 hs (Nat.mod_lt e (by norm_num))]
  exact congrArg (fun s => best 1 x' (e / 4) * Ideal.div _ s) (Finset.sum_congr rfl fun k _ => best_congr 2 hs k.isLt)

/-- The result is the same of weights equal for the sixteen experts. -/
theorem res_congr {c c' : ℕ → ℕ → EReal} (U V D : ℕ → ℕ → ℕ → EReal) (g b : ℕ → EReal) (X : ℕ → ℕ → EReal) (r l : ℕ) (h : ∀ e, e < 16 → c r e = c' r e) :
    res c U V D g b X r l = res c' U V D g b X r l := by
  unfold res
  refine congrArg (fun f => ln f g b l) (funext fun p => ?_)
  refine congrArg (fun y => alB * X r p + y) ?_
  unfold ff
  exact Finset.sum_congr rfl fun e _ => Finset.sum_congr rfl fun f _ => by rw [h e.val e.isLt]

section
variable {X P Q : ℕ → ℕ → EReal} {p q : ℕ → EReal}

/-- A group's column of the padded router. -/
theorem lgt_group (r : ℕ) {l : ℕ} (hl : l < 4) : lgt (fun k => MoeIdeal.Own.cat (P k) (Q k)) (MoeIdeal.Own.cat p q) X r l = lgt P p X r l := by
  unfold lgt pr MoeIdeal.Own.cat
  simp only [if_pos hl]

/-- An expert's column of the padded router. -/
theorem lgt_expert (r : ℕ) {e : ℕ} (he : e < 16) : lgt (fun k => MoeIdeal.Own.cat (P k) (Q k)) (MoeIdeal.Own.cat p q) X r (4 + e) = lgt Q q X r e := by
  unfold lgt pr MoeIdeal.Own.cat
  simp only [if_neg (by omega : ¬ 4 + e < 4), if_pos (by omega : 4 + e < 20), show 4 + e - 4 = e by omega]

variable (rX : ∀ a b, IsR (X a b)) (rP : ∀ a b, IsR (P a b)) (rQ : ∀ a b, IsR (Q a b)) (rp : ∀ a, IsR (p a)) (rq : ∀ a, IsR (q a))
include rX rP rQ rp rq

/-- The lanes' weights are the router's. -/
theorem lane_weight (r : ℕ) {e : ℕ} (he : e < 16) :
    lane (lgt (fun k => MoeIdeal.Own.cat (P k) (Q k)) (MoeIdeal.Own.cat p q) X r) (4 + e) = weight (lgt P p X r) (lgt Q q X r) e := by
  have hL : ∀ l, l < 20 → IsR (lgt (fun k => MoeIdeal.Own.cat (P k) (Q k)) (MoeIdeal.Own.cat p q) X r l) := by
    intro l hl
    by_cases h4 : l < 4
    · rw [lgt_group r h4]
      exact (pr_real rX rP r l).add (rp l)
    · obtain ⟨e, rfl⟩ : ∃ e, l = 4 + e := ⟨l - 4, by omega⟩
      rw [lgt_expert r (by omega)]
      exact (pr_real rX rQ r e).add (rq e)
  rw [lane_eq _ hL he]
  exact weight_congr (fun k hk => lgt_group r hk) (fun k hk => lgt_expert r hk) he

/-- The result with the lanes' weights is that with the router's. -/
theorem res_router (U V D : ℕ → ℕ → ℕ → EReal) (g b : ℕ → EReal) (r l : ℕ) :
    res (fun r e => lane (lgt (fun k => MoeIdeal.Own.cat (P k) (Q k)) (MoeIdeal.Own.cat p q) X r) (4 + e)) U V D g b X r l
      = res (fun r e => weight (lgt P p X r) (lgt Q q X r) e) U V D g b X r l := by
  apply res_congr
  intro e he
  exact lane_weight rX rP rQ rp rq r he
end

/-- Among reals the softmax's order is the entries' own, -/
theorem before_sm {x : ℕ → EReal} (hx : ∀ k, IsR (x k)) (k j : ℕ) : Before (sm x) k j = Before x k j := by
  choose w hw using hx
  obtain ⟨g, hg⟩ := first_exists 4 (by norm_num) x
  set Z : ℝ := ∑ k : Fin 4, Real.exp (w k.val - w g) with hZ
  have Zpos : 0 < Z := Finset.sum_pos (fun k _ => Real.exp_pos _) ⟨⟨0, by norm_num⟩, Finset.mem_univ _⟩
  have eZ : ∑ k : Fin 4, Ideal.exp (x k.val - big x) = (Z : EReal) := by
    rw [hZ, big_eq hg, Finset.sum_congr rfl fun (k : Fin 4) _ => (by rw [hw, hw, ← EReal.coe_sub, Ideal.exp_coe] : Ideal.exp (x k.val - x g) = ((Real.exp (w k.val - w g) : ℝ) : EReal)), Fin.sum_univ_four, Fin.sum_univ_four]
    push_cast
    rfl
  have es : ∀ j, sm x j = ((Real.exp (w j - w g) * (1 / Z) : ℝ) : EReal) := fun j => by
    unfold sm
    rw [eZ, big_eq hg, hw j, hw g, ← EReal.coe_sub, Ideal.exp_coe, Ideal.div_coe Zpos.ne', ← EReal.coe_mul]
  have z1 : 0 < 1 / Z := one_div_pos.mpr Zpos
  clear_value Z
  have lt : ∀ a b, sm x a < sm x b ↔ x a < x b := fun a b => by
    rw [es, es, hw a, hw b, EReal.coe_lt_coe_iff, EReal.coe_lt_coe_iff]
    constructor
    · intro h
      have := Real.exp_lt_exp.mp (lt_of_mul_lt_mul_right h z1.le)
      linarith
    · intro h
      exact mul_lt_mul_of_pos_right (Real.exp_lt_exp.mpr (by linarith)) z1
  have eq : sm x k = sm x j ↔ x k = x j := by
    constructor
    · intro h
      exact le_antisymm (not_lt.mp fun c => absurd ((lt _ _).mpr c) (not_lt.mpr h.le)) (not_lt.mp fun c => absurd ((lt _ _).mpr c) (not_lt.mpr h.ge))
    · intro h
      rw [es, es, EReal.coe_injective ((hw k).symm.trans (h.trans (hw j)))]
  unfold Before
  rw [propext (lt j k), propext eq]

/-- so what is kept by the rank of the probabilities is what is kept by that of the logits. -/
theorem kept_sm (c : EReal) {x : ℕ → EReal} (hx : ∀ k, IsR (x k)) (j : ℕ) : ReferenceMoeIdeal.Own.kept c (sm x) j = best c x j := by
  have e : rk (sm x) j = rk x j := by
    unfold rk
    exact Finset.sum_congr rfl fun k _ => by rw [before_sm hx k.val j]
  unfold ReferenceMoeIdeal.Own.kept best
  rw [e]

/-! ## The claims -/

/-- The precondition's arrays hold reals. -/
theorem finite_real (m : (ℓ : Loc Cert.MoeIdeal.nD Cert.MoeIdeal.τ Cert.MoeIdeal.sig) → Buf (Elt Ideal) ℓ)
    (h : Cert.Pre_MoeIdeal_finite_moe m) (c : Dev Cert.MoeIdeal.nD) :
    (∃ X : ℕ → ℕ → EReal, (∀ a b, IsR (X a b)) ∧ (m (c.tc.loc Cert.MoeIdeal.main_arg0) : FVec Ideal MoeIdeal.S16384x1024 .f32) = fun i => X (i 0).val (i 1).val)
    ∧ (∃ P : ℕ → ℕ → EReal, (∀ a b, IsR (P a b)) ∧ (m (c.tc.loc Cert.MoeIdeal.main_arg1) : FVec Ideal MoeIdeal.S1024x4 .f32) = fun i => P (i 0).val (i 1).val)
    ∧ (∃ p : ℕ → EReal, (∀ a, IsR (p a)) ∧ (m (c.tc.loc Cert.MoeIdeal.main_arg2) : FVec Ideal MoeIdeal.S4 .f32) = fun i => p (i 0).val)
    ∧ (∃ Q : ℕ → ℕ → EReal, (∀ a b, IsR (Q a b)) ∧ (m (c.tc.loc Cert.MoeIdeal.main_arg3) : FVec Ideal MoeIdeal.S1024x16 .f32) = fun i => Q (i 0).val (i 1).val)
    ∧ (∃ q : ℕ → EReal, (∀ a, IsR (q a)) ∧ (m (c.tc.loc Cert.MoeIdeal.main_arg4) : FVec Ideal MoeIdeal.S16 .f32) = fun i => q (i 0).val) := by
  have hc := congrFun (h c) (fun a => a.elim0)
  dsimp only [Cert.Pre_finite_moe.fn, Cert.Pre_finite_moe.fn_part1] at hc
  obtain ⟨h0, h1234⟩ := IntOp.andi_eq_one.1 hc
  obtain ⟨h12, h34⟩ := IntOp.andi_eq_one.1 h1234
  obtain ⟨h1, h2⟩ := IntOp.andi_eq_one.1 h12
  obtain ⟨h3, h4⟩ := IntOp.andi_eq_one.1 h34
  exact ⟨of2 (p := 16384) (q := 1024) (φ := .f32) _ fun i => isR_of_abs _ (Host.reduce_andi_all _ _ _ _ _ h0 i),
    of2 (p := 1024) (q := 4) (φ := .f32) _ fun i => isR_of_abs _ (Host.reduce_andi_all _ _ _ _ _ h1 i),
    of1r (n := 4) (φ := .f32) _ fun i => isR_of_abs _ (Host.reduce_andi_all _ _ _ _ _ h2 i),
    of2 (p := 1024) (q := 16) (φ := .f32) _ fun i => isR_of_abs _ (Host.reduce_andi_all _ _ _ _ _ h3 i),
    of1r (n := 16) (φ := .f32) _ fun i => isR_of_abs _ (Host.reduce_andi_all _ _ _ _ _ h4 i)⟩

/-- The reference runs, leaves its arguments and every semaphore at zero. -/
theorem frameR : Cert.quiescent_ReferenceMoeIdeal := fun m ρ _ =>
  (θ_run Cert.ReferenceMoeIdeal.defs _ _).mono (fun r h => ⟨fun c => (h c).2,
      Idealize.ShloMosaic.sem_eq_zero_of_no_sems (by decide) r.2⟩)
    (Cert.ReferenceMoeIdeal.Value.run (F := Ideal) m ρ)

/-- On arguments that hold the same numbers the reference's result is the kernel's. -/
theorem result_eq (m : (ℓ : Loc Cert.MoeIdeal.nD Cert.MoeIdeal.τ Cert.MoeIdeal.sig) → Buf (Elt Ideal) ℓ)
    (h : Cert.Pre_MoeIdeal_finite_moe m) (c : Dev Cert.MoeIdeal.nD)
    (x0 : FVec Ideal ReferenceMoeIdeal.S16384x1024 .f32) (x1 : FVec Ideal ReferenceMoeIdeal.S1024x4 .f32) (x2 : FVec Ideal ReferenceMoeIdeal.S4 .f32) (x3 : FVec Ideal ReferenceMoeIdeal.S1024x16 .f32) (x4 : FVec Ideal ReferenceMoeIdeal.S16 .f32) (x5 x6 : FVec Ideal ReferenceMoeIdeal.S16x1024x256 .f32) (x7 : FVec Ideal ReferenceMoeIdeal.S16x256x1024 .f32) (x8 x9 : FVec Ideal ReferenceMoeIdeal.S1024 .f32)
    (h0 : x0 = m (c.tc.loc Cert.MoeIdeal.main_arg0)) (h1 : x1 = m (c.tc.loc Cert.MoeIdeal.main_arg1)) (h2 : x2 = m (c.tc.loc Cert.MoeIdeal.main_arg2)) (h3 : x3 = m (c.tc.loc Cert.MoeIdeal.main_arg3)) (h4 : x4 = m (c.tc.loc Cert.MoeIdeal.main_arg4)) (h5 : x5 = m (c.tc.loc Cert.MoeIdeal.main_arg5)) (h6 : x6 = m (c.tc.loc Cert.MoeIdeal.main_arg6)) (h7 : x7 = m (c.tc.loc Cert.MoeIdeal.main_arg7)) (h8 : x8 = m (c.tc.loc Cert.MoeIdeal.main_arg8)) (h9 : x9 = m (c.tc.loc Cert.MoeIdeal.main_arg9)) :
    ReferenceMoeIdeal.Own.normR (ReferenceMoeIdeal.Own.ffR x0 (ReferenceMoeIdeal.Own.comb (ReferenceMoeIdeal.Own.bestG (ReferenceMoeIdeal.Own.smG (ReferenceMoeIdeal.Own.gR x0 x1 x2))) (ReferenceMoeIdeal.Own.bestE (ReferenceMoeIdeal.Own.smE (ReferenceMoeIdeal.Own.eR x0 x3 x4)))) x5 x6 x7) x8 x9
      = ((Cert.MoeIdeal.Gen.dats m 0 c).arrAt 8 Cert.MoeIdeal.cfg0.N : FVec Ideal MoeIdeal.S16384x1024 .f32) := by
  obtain ⟨⟨X, rX, hX⟩, ⟨P, rP, hP⟩, ⟨p, rp, hp⟩, ⟨Q, rQ, hQ⟩, ⟨q, rq, hq⟩⟩ := finite_real m h c
  obtain ⟨U, hU⟩ := stack (p := 16) (q := 1024) (n := 256) (φ := .f32) (m (c.tc.loc Cert.MoeIdeal.main_arg5))
  obtain ⟨W, hW⟩ := stack (p := 16) (q := 1024) (n := 256) (φ := .f32) (m (c.tc.loc Cert.MoeIdeal.main_arg6))
  obtain ⟨D, hD⟩ := stack (p := 16) (q := 256) (n := 1024) (φ := .f32) (m (c.tc.loc Cert.MoeIdeal.main_arg7))
  obtain ⟨g, hg⟩ := of1 (n := 1024) (φ := .f32) (m (c.tc.loc Cert.MoeIdeal.main_arg8))
  obtain ⟨b, hb⟩ := of1 (n := 1024) (φ := .f32) (m (c.tc.loc Cert.MoeIdeal.main_arg9))
  have k0 : x0 = ReferenceMoeIdeal.Own.em 1024 X := h0.trans hX
  have k1 : x1 = fun i => P (i 0).val (i 1).val := h1.trans hP
  have k2 : x2 = fun i => p (i 0).val := h2.trans hp
  have k3 : x3 = fun i => Q (i 0).val (i 1).val := h3.trans hQ
  have k4 : x4 = fun i => q (i 0).val := h4.trans hq
  have k5 : x5 = fun i => U (i 0).val (i 1).val (i 2).val := h5.trans hU
  have k6 : x6 = fun i => W (i 0).val (i 1).val (i 2).val := h6.trans hW
  have k7 : x7 = fun i => D (i 0).val (i 1).val (i 2).val := h7.trans hD
  have k8 : x8 = fun i => g (i 0).val := h8.trans hg
  have k9 : x9 = fun i => b (i 0).val := h9.trans hb
  subst k0 k1 k2 k3 k4 k5 k6 k7 k8 k9
  have eg := ReferenceMoeIdeal.Own.gR_em X P p
  have ee := ReferenceMoeIdeal.Own.eR_et X Q q
  have rg : ∀ r k, IsR (lgt P p X r k) := fun r k => (pr_real rX rP r k).add (rp k)
  have re : ∀ r a k, IsR (lgt Q q X r (4 * a + k)) := fun r a k => (pr_real rX rQ r _).add (rq _)
  have ec : ReferenceMoeIdeal.Own.comb (ReferenceMoeIdeal.Own.bestG (ReferenceMoeIdeal.Own.smG (ReferenceMoeIdeal.Own.em 4 (lgt P p X)))) (ReferenceMoeIdeal.Own.bestE (ReferenceMoeIdeal.Own.smE (ReferenceMoeIdeal.Own.et (fun r a j => lgt Q q X r (4 * a + j)))))
      = ReferenceMoeIdeal.Own.em 16 (fun r e => weight (lgt P p X r) (lgt Q q X r) e) := by
    rw [ReferenceMoeIdeal.Own.smG_em, ReferenceMoeIdeal.Own.smE_et, ReferenceMoeIdeal.Own.bestG_em, ReferenceMoeIdeal.Own.bestE_et, funext fun r => funext fun k => kept_sm 1 (rg r) k,
      funext fun r => funext fun a => funext fun k => kept_sm 2 (re r a) k, ReferenceMoeIdeal.Own.comb_em]
    rfl
  have ef := ReferenceMoeIdeal.Own.ffR_em X (fun r e => weight (lgt P p X r) (lgt Q q X r) e) U W D
  have en := ReferenceMoeIdeal.Own.normR_em (fun r p' => alB * X r p' + ff (fun r e => weight (lgt P p X r) (lgt Q q X r) e) U W D X r p') g b
  refine Eq.trans (congrArg (fun y => ReferenceMoeIdeal.Own.normR y _ _) (Eq.trans (congrArg (fun y => ReferenceMoeIdeal.Own.ffR _ y _ _ _) (Eq.trans (congrArg₂ (fun y z => ReferenceMoeIdeal.Own.comb (ReferenceMoeIdeal.Own.bestG (ReferenceMoeIdeal.Own.smG y)) (ReferenceMoeIdeal.Own.bestE (ReferenceMoeIdeal.Own.smE z))) eg ee) ec)) ef)) (en.trans ?_)
  funext i
  obtain ⟨a0, a1, rfl⟩ : ∃ (a0 : Fin 16384) (a1 : Fin 1024), i = ix2 a0 a1 := ⟨i 0, i 1, by funext a; fin_cases a <;> rfl⟩
  refine Eq.trans ?_ (MoeIdeal.Own.out m c X P Q p q g b U W D hX hP hp hQ hq hU hW hD hg hb a0 a1).symm
  exact (res_router rX rP rQ rp rq U W D g b a0.val a1.val).symm

/-- The kernel's result is the reference's. -/
theorem algebraic : Cert.algebraic_MoeIdeal_ReferenceMoeIdeal_pre_finite_moe := by
  intro m g m' g' hpre hag
  refine ⟨fun c => (Cert.MoeIdeal.Gen.dats m 0 c).arrAt 8 Cert.MoeIdeal.cfg0.N, (θ_run Cert.MoeIdeal.defs _ _).mono (fun r h c => h c) (Cert.MoeIdeal.Value.run_blocks (F := Ideal) m g), ?_⟩
  refine (θ_run Cert.ReferenceMoeIdeal.defs _ _).mono (fun r h c => ?_) (Cert.ReferenceMoeIdeal.Value.run (F := Ideal) m' g')
  obtain ⟨a0, a1, a2, a3, a4, a5, a6, a7, a8, a9⟩ := hag c
  obtain ⟨r0, hr⟩ := h c
  exact ⟨(r0.trans (Cert.ReferenceMoeIdeal.Own.res_eq m' c)).trans (result_eq m hpre c _ _ _ _ _ _ _ _ _ _ a0 a1 a2 a3 a4 a5 a6 a7 a8 a9), hr⟩

end Cert.MoeOwn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ReferenceProjIdeal
public import proofs.«01_k».proof.Proof.Gen.ReferenceProjIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.ReferenceMergeIdeal
public import proofs.«01_k».proof.Proof.Gen.ReferenceMergeIdeal.Run
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeIdeal.Value
public import proofs.«01_k».proof.Proof.Gen.ReferenceMoeIdeal
public import proofs.«01_k».proof.Proof.Gen.ReferenceMoeIdeal.Run
public import proofs.«01_k».proof.Proof.Claims
public import proofs.«01_k».proof.Proof.ProjClaims
public import proofs.«01_k».proof.Proof.MergeClaims
public import proofs.«01_k».proof.Proof.MoeClaims
public import Idealize.ShloMosaic.Adequacy
public import Idealize.ShloMosaic.Init

@[expose] public section

noncomputable section

namespace Cert.Proof

open Idealize.ShloMosaic Idealize.SL.Sem Cert.Kernel

/-- Everything claimed, for the delta rule, for its projections, for the merge and for the experts: the frames of the programs, the
    idealizations, and the equality of results. -/
theorem claim : Cert.Claim := ⟨Cert.Kernel.Gen.facts, Cert.KernelIdeal.Gen.facts, Cert.ReferenceIdeal.Gen.facts,
    Cert.Proj.Gen.facts, Cert.ProjIdeal.Gen.facts, Cert.ReferenceProjIdeal.Gen.facts,
    Cert.Merge.Gen.facts, Cert.MergeIdeal.Gen.facts, Cert.ReferenceMergeIdeal.Gen.facts,
    Cert.Moe.Gen.facts, Cert.MoeIdeal.Gen.facts, Cert.ReferenceMoeIdeal.Gen.facts,
    Cert.Own.preFacts, Cert.ProjOwn.preFacts, Cert.MoeOwn.preFacts,
    fun m ρ _ => Cert.Kernel.Gen.frame m ρ, fun m ρ _ => Cert.KernelIdeal.Gen.frame m ρ, fun m ρ _ => Cert.KernelIdeal.Gen.frame m ρ,
    Cert.Own.frameR, fun m ρ _ => Cert.Own.frameR m ρ trivial,
    fun m ρ _ => Cert.Proj.Gen.frame m ρ, fun m ρ _ => Cert.ProjIdeal.Gen.frame m ρ, fun m ρ _ => Cert.ProjIdeal.Gen.frame m ρ,
    Cert.ProjOwn.frameR, fun m ρ _ => Cert.ProjOwn.frameR m ρ trivial,
    fun m ρ _ => Cert.Merge.Gen.frame m ρ, fun m ρ _ => Cert.MergeIdeal.Gen.frame m ρ, Cert.MergeOwn.frameR,
    fun m ρ _ => Cert.Moe.Gen.frame m ρ, fun m ρ _ => Cert.MoeIdeal.Gen.frame m ρ, fun m ρ _ => Cert.MoeIdeal.Gen.frame m ρ,
    Cert.MoeOwn.frameR, fun m ρ _ => Cert.MoeOwn.frameR m ρ trivial,
    trivial, Cert.Own.algebraic, trivial, Cert.ProjOwn.algebraic, trivial, Cert.MergeOwn.algebraic,
    trivial, Cert.MoeOwn.algebraic⟩

end Cert.Proof

end
